-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_entries [hPre_real_entries : Cert.Pre_real_entries.Facts] (m : (ℓ : Loc Cert.KernelIdeal.nD Cert.KernelIdeal.τ Cert.KernelIdeal.sig) → Buf (Elt Ideal) ℓ) : Prop :=
  ∀ c : Dev Cert.KernelIdeal.nD,
    (Cert.Pre_real_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_real_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_real_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_real_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_real_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_real_entries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_entries [hPre_real_entries : Cert.Pre_real_entries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_real_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_real_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_real_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_real_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_real_entries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_KernelGateUp [hPre_device_gate_up : Cert.Pre_device_gate_up.Facts] (m : (ℓ : Loc Cert.KernelGateUp.nD Cert.KernelGateUp.τ Cert.KernelGateUp.sig) → Buf (Elt Bits) ℓ) : Prop :=
  ∀ c : Dev Cert.KernelGateUp.nD,
    (Cert.Pre_device_gate_up.fn (F := Bits) (m ((c.tc : Thread Cert.KernelGateUp.nD Cert.KernelGateUp.τ).loc Cert.KernelGateUp.main_arg0)) (m ((c.tc : Thread Cert.KernelGateUp.nD Cert.KernelGateUp.τ).loc Cert.KernelGateUp.main_arg1)) (m ((c.tc : Thread Cert.KernelGateUp.nD Cert.KernelGateUp.τ).loc Cert.KernelGateUp.main_arg2))) = (fun _ => 1#1)

def Pre_KernelGateUpIdeal [hPre_device_gate_up : Cert.Pre_device_gate_up.Facts] (m : (ℓ : Loc Cert.KernelGateUpIdeal.nD Cert.KernelGateUpIdeal.τ Cert.KernelGateUpIdeal.sig) → Buf (Elt Ideal) ℓ) : Prop :=
  ∀ c : Dev Cert.KernelGateUpIdeal.nD,
    (Cert.Pre_device_gate_up.fn (F := Ideal) (m ((c.tc : Thread Cert.KernelGateUpIdeal.nD Cert.KernelGateUpIdeal.τ).loc Cert.KernelGateUpIdeal.main_arg0)) (m ((c.tc : Thread Cert.KernelGateUpIdeal.nD Cert.KernelGateUpIdeal.τ).loc Cert.KernelGateUpIdeal.main_arg1)) (m ((c.tc : Thread Cert.KernelGateUpIdeal.nD Cert.KernelGateUpIdeal.τ).loc Cert.KernelGateUpIdeal.main_arg2))) = (fun _ => 1#1)

def Pre_ReferenceGateUpIdeal (m : (ℓ : Loc Cert.ReferenceGateUpIdeal.nD Cert.ReferenceGateUpIdeal.τ Cert.ReferenceGateUpIdeal.sig) → Buf (Elt Ideal) ℓ) : Prop :=
  True

def Pre_ReferenceGateUpIdeal_device_gate_up [hPre_device_gate_up : Cert.Pre_device_gate_up.Facts] (m : (ℓ : Loc Cert.ReferenceGateUpIdeal.nD Cert.ReferenceGateUpIdeal.τ Cert.ReferenceGateUpIdeal.sig) → Buf (Elt Ideal) ℓ) : Prop :=
  ∀ c : Dev Cert.ReferenceGateUpIdeal.nD,
    (Cert.Pre_device_gate_up.fn (F := Ideal) (m ((c.tc : Thread Cert.ReferenceGateUpIdeal.nD Cert.ReferenceGateUpIdeal.τ).loc Cert.ReferenceGateUpIdeal.main_arg0)) (m ((c.tc : Thread Cert.ReferenceGateUpIdeal.nD Cert.ReferenceGateUpIdeal.τ).loc Cert.ReferenceGateUpIdeal.main_arg1)) (m ((c.tc : Thread Cert.ReferenceGateUpIdeal.nD Cert.ReferenceGateUpIdeal.τ).loc Cert.ReferenceGateUpIdeal.main_arg2))) = (fun _ => 1#1)

def Pre_KernelDown [hPre_device_down : Cert.Pre_device_down.Facts] (m : (ℓ : Loc Cert.KernelDown.nD Cert.KernelDown.τ Cert.KernelDown.sig) → Buf (Elt Bits) ℓ) : Prop :=
  ∀ c : Dev Cert.KernelDown.nD,
    (Cert.Pre_device_down.fn (F := Bits) (m ((c.tc : Thread Cert.KernelDown.nD Cert.KernelDown.τ).loc Cert.KernelDown.main_arg0)) (m ((c.tc : Thread Cert.KernelDown.nD Cert.KernelDown.τ).loc Cert.KernelDown.main_arg1)) (m ((c.tc : Thread Cert.KernelDown.nD Cert.KernelDown.τ).loc Cert.KernelDown.main_arg2))) = (fun _ => 1#1)

def Pre_KernelDownIdeal [hPre_device_down : Cert.Pre_device_down.Facts] (m : (ℓ : Loc Cert.KernelDownIdeal.nD Cert.KernelDownIdeal.τ Cert.KernelDownIdeal.sig) → Buf (Elt Ideal) ℓ) : Prop :=
  ∀ c : Dev Cert.KernelDownIdeal.nD,
    (Cert.Pre_device_down.fn (F := Ideal) (m ((c.tc : Thread Cert.KernelDownIdeal.nD Cert.KernelDownIdeal.τ).loc Cert.KernelDownIdeal.main_arg0)) (m ((c.tc : Thread Cert.KernelDownIdeal.nD Cert.KernelDownIdeal.τ).loc Cert.KernelDownIdeal.main_arg1)) (m ((c.tc : Thread Cert.KernelDownIdeal.nD Cert.KernelDownIdeal.τ).loc Cert.KernelDownIdeal.main_arg2))) = (fun _ => 1#1)

def Pre_ReferenceDownIdeal (m : (ℓ : Loc Cert.ReferenceDownIdeal.nD Cert.ReferenceDownIdeal.τ Cert.ReferenceDownIdeal.sig) → Buf (Elt Ideal) ℓ) : Prop :=
  True

def Pre_ReferenceDownIdeal_device_down [hPre_device_down : Cert.Pre_device_down.Facts] (m : (ℓ : Loc Cert.ReferenceDownIdeal.nD Cert.ReferenceDownIdeal.τ Cert.ReferenceDownIdeal.sig) → Buf (Elt Ideal) ℓ) : Prop :=
  ∀ c : Dev Cert.ReferenceDownIdeal.nD,
    (Cert.Pre_device_down.fn (F := Ideal) (m ((c.tc : Thread Cert.ReferenceDownIdeal.nD Cert.ReferenceDownIdeal.τ).loc Cert.ReferenceDownIdeal.main_arg0)) (m ((c.tc : Thread Cert.ReferenceDownIdeal.nD Cert.ReferenceDownIdeal.τ).loc Cert.ReferenceDownIdeal.main_arg1)) (m ((c.tc : Thread Cert.ReferenceDownIdeal.nD Cert.ReferenceDownIdeal.τ).loc Cert.ReferenceDownIdeal.main_arg2))) = (fun _ => 1#1)

def Pre_KernelProj [hPre_device_proj : Cert.Pre_device_proj.Facts] (m : (ℓ : Loc Cert.KernelProj.nD Cert.KernelProj.τ Cert.KernelProj.sig) → Buf (Elt Bits) ℓ) : Prop :=
  ∀ c : Dev Cert.KernelProj.nD,
    (Cert.Pre_device_proj.fn (F := Bits) (m ((c.tc : Thread Cert.KernelProj.nD Cert.KernelProj.τ).loc Cert.KernelProj.main_arg0)) (m ((c.tc : Thread Cert.KernelProj.nD Cert.KernelProj.τ).loc Cert.KernelProj.main_arg1)) (m ((c.tc : Thread Cert.KernelProj.nD Cert.KernelProj.τ).loc Cert.KernelProj.main_arg2))) = (fun _ => 1#1)

def Pre_KernelProjIdeal [hPre_device_proj : Cert.Pre_device_proj.Facts] (m : (ℓ : Loc Cert.KernelProjIdeal.nD Cert.KernelProjIdeal.τ Cert.KernelProjIdeal.sig) → Buf (Elt Ideal) ℓ) : Prop :=
  ∀ c : Dev Cert.KernelProjIdeal.nD,
    (Cert.Pre_device_proj.fn (F := Ideal) (m ((c.tc : Thread Cert.KernelProjIdeal.nD Cert.KernelProjIdeal.τ).loc Cert.KernelProjIdeal.main_arg0)) (m ((c.tc : Thread Cert.KernelProjIdeal.nD Cert.KernelProjIdeal.τ).loc Cert.KernelProjIdeal.main_arg1)) (m ((c.tc : Thread Cert.KernelProjIdeal.nD Cert.KernelProjIdeal.τ).loc Cert.KernelProjIdeal.main_arg2))) = (fun _ => 1#1)

def Pre_ReferenceProjIdeal (m : (ℓ : Loc Cert.ReferenceProjIdeal.nD Cert.ReferenceProjIdeal.τ Cert.ReferenceProjIdeal.sig) → Buf (Elt Ideal) ℓ) : Prop :=
  True

def Pre_ReferenceProjIdeal_device_proj [hPre_device_proj : Cert.Pre_device_proj.Facts] (m : (ℓ : Loc Cert.ReferenceProjIdeal.nD Cert.ReferenceProjIdeal.τ Cert.ReferenceProjIdeal.sig) → Buf (Elt Ideal) ℓ) : Prop :=
  ∀ c : Dev Cert.ReferenceProjIdeal.nD,
    (Cert.Pre_device_proj.fn (F := Ideal) (m ((c.tc : Thread Cert.ReferenceProjIdeal.nD Cert.ReferenceProjIdeal.τ).loc Cert.ReferenceProjIdeal.main_arg0)) (m ((c.tc : Thread Cert.ReferenceProjIdeal.nD Cert.ReferenceProjIdeal.τ).loc Cert.ReferenceProjIdeal.main_arg1)) (m ((c.tc : Thread Cert.ReferenceProjIdeal.nD Cert.ReferenceProjIdeal.τ).loc Cert.ReferenceProjIdeal.main_arg2))) = (fun _ => 1#1)

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelAdamConv (m : (ℓ : Loc Cert.KernelAdamConv.nD Cert.KernelAdamConv.τ Cert.KernelAdamConv.sig) → Buf (Elt Bits) ℓ) : Prop :=
  True

def Pre_KernelAdamConvIdeal (m : (ℓ : Loc Cert.KernelAdamConvIdeal.nD Cert.KernelAdamConvIdeal.τ Cert.KernelAdamConvIdeal.sig) → Buf (Elt Ideal) ℓ) : Prop :=
  True

def Pre_ReferenceAdamConvIdeal (m : (ℓ : Loc Cert.ReferenceAdamConvIdeal.nD Cert.ReferenceAdamConvIdeal.τ Cert.ReferenceAdamConvIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamGateUp (m : (ℓ : Loc Cert.KernelAdamGateUp.nD Cert.KernelAdamGateUp.τ Cert.KernelAdamGateUp.sig) → Buf (Elt Bits) ℓ) : Prop :=
  True

def Pre_KernelAdamGateUpIdeal (m : (ℓ : Loc Cert.KernelAdamGateUpIdeal.nD Cert.KernelAdamGateUpIdeal.τ Cert.KernelAdamGateUpIdeal.sig) → Buf (Elt Ideal) ℓ) : Prop :=
  True

def Pre_ReferenceAdamGateUpIdeal (m : (ℓ : Loc Cert.ReferenceAdamGateUpIdeal.nD Cert.ReferenceAdamGateUpIdeal.τ Cert.ReferenceAdamGateUpIdeal.sig) → Buf (Elt Ideal) ℓ) : Prop :=
  True

def Pre_KernelAdamProj (m : (ℓ : Loc Cert.KernelAdamProj.nD Cert.KernelAdamProj.τ Cert.KernelAdamProj.sig) → Buf (Elt Bits) ℓ) : Prop :=
  True

def Pre_KernelAdamProjIdeal (m : (ℓ : Loc Cert.KernelAdamProjIdeal.nD Cert.KernelAdamProjIdeal.τ Cert.KernelAdamProjIdeal.sig) → Buf (Elt Ideal) ℓ) : Prop :=
  True

def Pre_ReferenceAdamProjIdeal (m : (ℓ : Loc Cert.ReferenceAdamProjIdeal.nD Cert.ReferenceAdamProjIdeal.τ Cert.ReferenceAdamProjIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_real_entries [hKernelIdeal : Cert.KernelIdeal.Facts] [hPre_real_entries : Cert.Pre_real_entries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_entries m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_real_entries [hReferenceIdeal : Cert.ReferenceIdeal.Facts] [hPre_real_entries : Cert.Pre_real_entries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_entries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelGateUp [hKernelGateUp : Cert.KernelGateUp.Facts] [hPre_device_gate_up : Cert.Pre_device_gate_up.Facts] : Prop :=
  ∀ (m : (ℓ : Loc Cert.KernelGateUp.nD Cert.KernelGateUp.τ Cert.KernelGateUp.sig) → Buf (Elt Bits) ℓ) (g : Dev Cert.KernelGateUp.nD → PrngReg), Pre_KernelGateUp m →
    θ_run (Cert.KernelGateUp.defs (F := Bits)) (onTc (τ := Cert.KernelGateUp.τ) (Cert.KernelGateUp.main (F := Bits))) ⟨m, fun _ => 0, g⟩ (fun r => (∀ c : Dev Cert.KernelGateUp.nD,
      r.2.mem ((c.tc : Thread Cert.KernelGateUp.nD Cert.KernelGateUp.τ).loc Cert.KernelGateUp.main_arg0) = m ((c.tc : Thread Cert.KernelGateUp.nD Cert.KernelGateUp.τ).loc Cert.KernelGateUp.main_arg0)
      ∧ r.2.mem ((c.tc : Thread Cert.KernelGateUp.nD Cert.KernelGateUp.τ).loc Cert.KernelGateUp.main_arg1) = m ((c.tc : Thread Cert.KernelGateUp.nD Cert.KernelGateUp.τ).loc Cert.KernelGateUp.main_arg1)
      ∧ r.2.mem ((c.tc : Thread Cert.KernelGateUp.nD Cert.KernelGateUp.τ).loc Cert.KernelGateUp.main_arg2) = m ((c.tc : Thread Cert.KernelGateUp.nD Cert.KernelGateUp.τ).loc Cert.KernelGateUp.main_arg2))
      ∧ r.2.sem = fun _ => 0)

def quiescent_KernelGateUpIdeal [hKernelGateUpIdeal : Cert.KernelGateUpIdeal.Facts] [hPre_device_gate_up : Cert.Pre_device_gate_up.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg), Pre_KernelGateUpIdeal m →
    θ_run (Cert.KernelGateUpIdeal.defs (F := Ideal)) (onTc (τ := Cert.KernelGateUpIdeal.τ) (Cert.KernelGateUpIdeal.main (F := Ideal))) ⟨m, fun _ => 0, g⟩ (fun r => (∀ c : Dev Cert.KernelGateUpIdeal.nD,
      r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
      ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
      ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ r.2.sem = fun _ => 0)

def quiescent_ReferenceGateUpIdeal [hReferenceGateUpIdeal : Cert.ReferenceGateUpIdeal.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1)
      ∧ r.2.mem ((c.tc : Thread Cert.ReferenceGateUpIdeal.nD Cert.ReferenceGateUpIdeal.τ).loc Cert.ReferenceGateUpIdeal.main_arg2) = m ((c.tc : Thread Cert.ReferenceGateUpIdeal.nD Cert.ReferenceGateUpIdeal.τ).loc Cert.ReferenceGateUpIdeal.main_arg2))
      ∧ r.2.sem = fun _ => 0)

def quiescent_ReferenceGateUpIdeal_pre_device_gate_up [hReferenceGateUpIdeal : Cert.ReferenceGateUpIdeal.Facts] [hPre_device_gate_up : Cert.Pre_device_gate_up.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal_device_gate_up m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1)
      ∧ r.2.mem ((c.tc : Thread Cert.ReferenceGateUpIdeal.nD Cert.ReferenceGateUpIdeal.τ).loc Cert.ReferenceGateUpIdeal.main_arg2) = m ((c.tc : Thread Cert.ReferenceGateUpIdeal.nD Cert.ReferenceGateUpIdeal.τ).loc Cert.ReferenceGateUpIdeal.main_arg2))
      ∧ r.2.sem = fun _ => 0)

def quiescent_KernelDown [hKernelDown : Cert.KernelDown.Facts] [hPre_device_down : Cert.Pre_device_down.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] [hPre_device_down : Cert.Pre_device_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_ReferenceDownIdeal_pre_device_down [hReferenceDownIdeal : Cert.ReferenceDownIdeal.Facts] [hPre_device_down : Cert.Pre_device_down.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal_device_down m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelProj [hKernelProj : Cert.KernelProj.Facts] [hPre_device_proj : Cert.Pre_device_proj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] [hPre_device_proj : Cert.Pre_device_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_ReferenceProjIdeal_pre_device_proj [hReferenceProjIdeal : Cert.ReferenceProjIdeal.Facts] [hPre_device_proj : Cert.Pre_device_proj.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal_device_proj m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelAdamConv [hKernelAdamConv : Cert.KernelAdamConv.Facts] : Prop :=
  ∀ (m : (ℓ : Loc Cert.KernelAdamConv.nD Cert.KernelAdamConv.τ Cert.KernelAdamConv.sig) → Buf (Elt Bits) ℓ) (g : Dev Cert.KernelAdamConv.nD → PrngReg), Pre_KernelAdamConv m →
    θ_run (Cert.KernelAdamConv.defs (F := Bits)) (onTc (τ := Cert.KernelAdamConv.τ) (Cert.KernelAdamConv.main (F := Bits))) ⟨m, fun _ => 0, g⟩ (fun r => (∀ c : Dev Cert.KernelAdamConv.nD,
      r.2.mem ((c.tc : Thread Cert.KernelAdamConv.nD Cert.KernelAdamConv.τ).loc Cert.KernelAdamConv.main_arg0) = m ((c.tc : Thread Cert.KernelAdamConv.nD Cert.KernelAdamConv.τ).loc Cert.KernelAdamConv.main_arg0)
      ∧ r.2.mem ((c.tc : Thread Cert.KernelAdamConv.nD Cert.KernelAdamConv.τ).loc Cert.KernelAdamConv.main_arg1) = m ((c.tc : Thread Cert.KernelAdamConv.nD Cert.KernelAdamConv.τ).loc Cert.KernelAdamConv.main_arg1)
      ∧ r.2.mem ((c.tc : Thread Cert.KernelAdamConv.nD Cert.KernelAdamConv.τ).loc Cert.KernelAdamConv.main_arg2) = m ((c.tc : Thread Cert.KernelAdamConv.nD Cert.KernelAdamConv.τ).loc Cert.KernelAdamConv.main_arg2)
      ∧ r.2.mem ((c.tc : Thread Cert.KernelAdamConv.nD Cert.KernelAdamConv.τ).loc Cert.KernelAdamConv.main_arg3) = m ((c.tc : Thread Cert.KernelAdamConv.nD Cert.KernelAdamConv.τ).loc Cert.KernelAdamConv.main_arg3))
      ∧ r.2.sem = fun _ => 0)

def quiescent_KernelAdamConvIdeal [hKernelAdamConvIdeal : Cert.KernelAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg), Pre_KernelAdamConvIdeal m →
    θ_run (Cert.KernelAdamConvIdeal.defs (F := Ideal)) (onTc (τ := Cert.KernelAdamConvIdeal.τ) (Cert.KernelAdamConvIdeal.main (F := Ideal))) ⟨m, fun _ => 0, g⟩ (fun r => (∀ c : Dev Cert.KernelAdamConvIdeal.nD,
      r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
      ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
      ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
      ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ r.2.sem = fun _ => 0)

def quiescent_ReferenceAdamConvIdeal [hReferenceAdamConvIdeal : Cert.ReferenceAdamConvIdeal.Facts] : Prop :=
  ∀ (m : (ℓ : Loc Cert.ReferenceAdamConvIdeal.nD Cert.ReferenceAdamConvIdeal.τ Cert.ReferenceAdamConvIdeal.sig) → Buf (Elt Ideal) ℓ) (g : Dev Cert.ReferenceAdamConvIdeal.nD → PrngReg), Pre_ReferenceAdamConvIdeal m →
    θ_run (Cert.ReferenceAdamConvIdeal.defs (F := Ideal)) (onTc (τ := Cert.ReferenceAdamConvIdeal.τ) (Cert.ReferenceAdamConvIdeal.main (F := Ideal))) ⟨m, fun _ => 0, g⟩ (fun r => (∀ c : Dev Cert.ReferenceAdamConvIdeal.nD,
      r.2.mem ((c.tc : Thread Cert.ReferenceAdamConvIdeal.nD Cert.ReferenceAdamConvIdeal.τ).loc Cert.ReferenceAdamConvIdeal.main_arg0) = m ((c.tc : Thread Cert.ReferenceAdamConvIdeal.nD Cert.ReferenceAdamConvIdeal.τ).loc Cert.ReferenceAdamConvIdeal.main_arg0)
      ∧ r.2.mem ((c.tc : Thread Cert.ReferenceAdamConvIdeal.nD Cert.ReferenceAdamConvIdeal.τ).loc Cert.ReferenceAdamConvIdeal.main_arg1) = m ((c.tc : Thread Cert.ReferenceAdamConvIdeal.nD Cert.ReferenceAdamConvIdeal.τ).loc Cert.ReferenceAdamConvIdeal.main_arg1)
      ∧ r.2.mem ((c.tc : Thread Cert.ReferenceAdamConvIdeal.nD Cert.ReferenceAdamConvIdeal.τ).loc Cert.ReferenceAdamConvIdeal.main_arg2) = m ((c.tc : Thread Cert.ReferenceAdamConvIdeal.nD Cert.ReferenceAdamConvIdeal.τ).loc Cert.ReferenceAdamConvIdeal.main_arg2)
      ∧ r.2.mem ((c.tc : Thread Cert.ReferenceAdamConvIdeal.nD Cert.ReferenceAdamConvIdeal.τ).loc Cert.ReferenceAdamConvIdeal.main_arg3) = m ((c.tc : Thread Cert.ReferenceAdamConvIdeal.nD Cert.ReferenceAdamConvIdeal.τ).loc Cert.ReferenceAdamConvIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4)
      ∧ r.2.mem ((c.tc : Thread Cert.KernelAdamDown.nD Cert.KernelAdamDown.τ).loc Cert.KernelAdamDown.main_arg5) = m ((c.tc : Thread Cert.KernelAdamDown.nD Cert.KernelAdamDown.τ).loc Cert.KernelAdamDown.main_arg5))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4)
      ∧ r.2.mem ((c.tc : Thread Cert.KernelAdamDownIdeal.nD Cert.KernelAdamDownIdeal.τ).loc Cert.KernelAdamDownIdeal.main_arg5) = m ((c.tc : Thread Cert.KernelAdamDownIdeal.nD Cert.KernelAdamDownIdeal.τ).loc Cert.KernelAdamDownIdeal.main_arg5))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4)
      ∧ r.2.mem ((c.tc : Thread Cert.ReferenceAdamDownIdeal.nD Cert.ReferenceAdamDownIdeal.τ).loc Cert.ReferenceAdamDownIdeal.main_arg5) = m ((c.tc : Thread Cert.ReferenceAdamDownIdeal.nD Cert.ReferenceAdamDownIdeal.τ).loc Cert.ReferenceAdamDownIdeal.main_arg5))
      ∧ r.2.sem = fun _ => 0)

def quiescent_KernelAdamGateUp [hKernelAdamGateUp : Cert.KernelAdamGateUp.Facts] : Prop :=
  ∀ (m : (ℓ : Loc Cert.KernelAdamGateUp.nD Cert.KernelAdamGateUp.τ Cert.KernelAdamGateUp.sig) → Buf (Elt Bits) ℓ) (g : Dev Cert.KernelAdamGateUp.nD → PrngReg), Pre_KernelAdamGateUp m →
    θ_run (Cert.KernelAdamGateUp.defs (F := Bits)) (onTc (τ := Cert.KernelAdamGateUp.τ) (Cert.KernelAdamGateUp.main (F := Bits))) ⟨m, fun _ => 0, g⟩ (fun r => (∀ c : Dev Cert.KernelAdamGateUp.nD,
      r.2.mem ((c.tc : Thread Cert.KernelAdamGateUp.nD Cert.KernelAdamGateUp.τ).loc Cert.KernelAdamGateUp.main_arg0) = m ((c.tc : Thread Cert.KernelAdamGateUp.nD Cert.KernelAdamGateUp.τ).loc Cert.KernelAdamGateUp.main_arg0)
      ∧ r.2.mem ((c.tc : Thread Cert.KernelAdamGateUp.nD Cert.KernelAdamGateUp.τ).loc Cert.KernelAdamGateUp.main_arg1) = m ((c.tc : Thread Cert.KernelAdamGateUp.nD Cert.KernelAdamGateUp.τ).loc Cert.KernelAdamGateUp.main_arg1)
      ∧ r.2.mem ((c.tc : Thread Cert.KernelAdamGateUp.nD Cert.KernelAdamGateUp.τ).loc Cert.KernelAdamGateUp.main_arg2) = m ((c.tc : Thread Cert.KernelAdamGateUp.nD Cert.KernelAdamGateUp.τ).loc Cert.KernelAdamGateUp.main_arg2)
      ∧ r.2.mem ((c.tc : Thread Cert.KernelAdamGateUp.nD Cert.KernelAdamGateUp.τ).loc Cert.KernelAdamGateUp.main_arg3) = m ((c.tc : Thread Cert.KernelAdamGateUp.nD Cert.KernelAdamGateUp.τ).loc Cert.KernelAdamGateUp.main_arg3)
      ∧ r.2.mem ((c.tc : Thread Cert.KernelAdamGateUp.nD Cert.KernelAdamGateUp.τ).loc Cert.KernelAdamGateUp.main_arg4) = m ((c.tc : Thread Cert.KernelAdamGateUp.nD Cert.KernelAdamGateUp.τ).loc Cert.KernelAdamGateUp.main_arg4)
      ∧ r.2.mem ((c.tc : Thread Cert.KernelAdamGateUp.nD Cert.KernelAdamGateUp.τ).loc Cert.KernelAdamGateUp.main_arg5) = m ((c.tc : Thread Cert.KernelAdamGateUp.nD Cert.KernelAdamGateUp.τ).loc Cert.KernelAdamGateUp.main_arg5))
      ∧ r.2.sem = fun _ => 0)

def quiescent_KernelAdamGateUpIdeal [hKernelAdamGateUpIdeal : Cert.KernelAdamGateUpIdeal.Facts] : Prop :=
  ∀ (m : (ℓ : Loc Cert.KernelAdamGateUpIdeal.nD Cert.KernelAdamGateUpIdeal.τ Cert.KernelAdamGateUpIdeal.sig) → Buf (Elt Ideal) ℓ) (g : Dev Cert.KernelAdamGateUpIdeal.nD → PrngReg), Pre_KernelAdamGateUpIdeal m →
    θ_run (Cert.KernelAdamGateUpIdeal.defs (F := Ideal)) (onTc (τ := Cert.KernelAdamGateUpIdeal.τ) (Cert.KernelAdamGateUpIdeal.main (F := Ideal))) ⟨m, fun _ => 0, g⟩ (fun r => (∀ c : Dev Cert.KernelAdamGateUpIdeal.nD,
      r.2.mem ((c.tc : Thread Cert.KernelAdamGateUpIdeal.nD Cert.KernelAdamGateUpIdeal.τ).loc Cert.KernelAdamGateUpIdeal.main_arg0) = m ((c.tc : Thread Cert.KernelAdamGateUpIdeal.nD Cert.KernelAdamGateUpIdeal.τ).loc Cert.KernelAdamGateUpIdeal.main_arg0)
      ∧ r.2.mem ((c.tc : Thread Cert.KernelAdamGateUpIdeal.nD Cert.KernelAdamGateUpIdeal.τ).loc Cert.KernelAdamGateUpIdeal.main_arg1) = m ((c.tc : Thread Cert.KernelAdamGateUpIdeal.nD Cert.KernelAdamGateUpIdeal.τ).loc Cert.KernelAdamGateUpIdeal.main_arg1)
      ∧ r.2.mem ((c.tc : Thread Cert.KernelAdamGateUpIdeal.nD Cert.KernelAdamGateUpIdeal.τ).loc Cert.KernelAdamGateUpIdeal.main_arg2) = m ((c.tc : Thread Cert.KernelAdamGateUpIdeal.nD Cert.KernelAdamGateUpIdeal.τ).loc Cert.KernelAdamGateUpIdeal.main_arg2)
      ∧ r.2.mem ((c.tc : Thread Cert.KernelAdamGateUpIdeal.nD Cert.KernelAdamGateUpIdeal.τ).loc Cert.KernelAdamGateUpIdeal.main_arg3) = m ((c.tc : Thread Cert.KernelAdamGateUpIdeal.nD Cert.KernelAdamGateUpIdeal.τ).loc Cert.KernelAdamGateUpIdeal.main_arg3)
      ∧ r.2.mem ((c.tc : Thread Cert.KernelAdamGateUpIdeal.nD Cert.KernelAdamGateUpIdeal.τ).loc Cert.KernelAdamGateUpIdeal.main_arg4) = m ((c.tc : Thread Cert.KernelAdamGateUpIdeal.nD Cert.KernelAdamGateUpIdeal.τ).loc Cert.KernelAdamGateUpIdeal.main_arg4)
      ∧ r.2.mem ((c.tc : Thread Cert.KernelAdamGateUpIdeal.nD Cert.KernelAdamGateUpIdeal.τ).loc Cert.KernelAdamGateUpIdeal.main_arg5) = m ((c.tc : Thread Cert.KernelAdamGateUpIdeal.nD Cert.KernelAdamGateUpIdeal.τ).loc Cert.KernelAdamGateUpIdeal.main_arg5))
      ∧ r.2.sem = fun _ => 0)

def quiescent_ReferenceAdamGateUpIdeal [hReferenceAdamGateUpIdeal : Cert.ReferenceAdamGateUpIdeal.Facts] : Prop :=
  ∀ (m : (ℓ : Loc Cert.ReferenceAdamGateUpIdeal.nD Cert.ReferenceAdamGateUpIdeal.τ Cert.ReferenceAdamGateUpIdeal.sig) → Buf (Elt Ideal) ℓ) (g : Dev Cert.ReferenceAdamGateUpIdeal.nD → PrngReg), Pre_ReferenceAdamGateUpIdeal m →
    θ_run (Cert.ReferenceAdamGateUpIdeal.defs (F := Ideal)) (onTc (τ := Cert.ReferenceAdamGateUpIdeal.τ) (Cert.ReferenceAdamGateUpIdeal.main (F := Ideal))) ⟨m, fun _ => 0, g⟩ (fun r => (∀ c : Dev Cert.ReferenceAdamGateUpIdeal.nD,
      r.2.mem ((c.tc : Thread Cert.ReferenceAdamGateUpIdeal.nD Cert.ReferenceAdamGateUpIdeal.τ).loc Cert.ReferenceAdamGateUpIdeal.main_arg0) = m ((c.tc : Thread Cert.ReferenceAdamGateUpIdeal.nD Cert.ReferenceAdamGateUpIdeal.τ).loc Cert.ReferenceAdamGateUpIdeal.main_arg0)
      ∧ r.2.mem ((c.tc : Thread Cert.ReferenceAdamGateUpIdeal.nD Cert.ReferenceAdamGateUpIdeal.τ).loc Cert.ReferenceAdamGateUpIdeal.main_arg1) = m ((c.tc : Thread Cert.ReferenceAdamGateUpIdeal.nD Cert.ReferenceAdamGateUpIdeal.τ).loc Cert.ReferenceAdamGateUpIdeal.main_arg1)
      ∧ r.2.mem ((c.tc : Thread Cert.ReferenceAdamGateUpIdeal.nD Cert.ReferenceAdamGateUpIdeal.τ).loc Cert.ReferenceAdamGateUpIdeal.main_arg2) = m ((c.tc : Thread Cert.ReferenceAdamGateUpIdeal.nD Cert.ReferenceAdamGateUpIdeal.τ).loc Cert.ReferenceAdamGateUpIdeal.main_arg2)
      ∧ r.2.mem ((c.tc : Thread Cert.ReferenceAdamGateUpIdeal.nD Cert.ReferenceAdamGateUpIdeal.τ).loc Cert.ReferenceAdamGateUpIdeal.main_arg3) = m ((c.tc : Thread Cert.ReferenceAdamGateUpIdeal.nD Cert.ReferenceAdamGateUpIdeal.τ).loc Cert.ReferenceAdamGateUpIdeal.main_arg3)
      ∧ r.2.mem ((c.tc : Thread Cert.ReferenceAdamGateUpIdeal.nD Cert.ReferenceAdamGateUpIdeal.τ).loc Cert.ReferenceAdamGateUpIdeal.main_arg4) = m ((c.tc : Thread Cert.ReferenceAdamGateUpIdeal.nD Cert.ReferenceAdamGateUpIdeal.τ).loc Cert.ReferenceAdamGateUpIdeal.main_arg4)
      ∧ r.2.mem ((c.tc : Thread Cert.ReferenceAdamGateUpIdeal.nD Cert.ReferenceAdamGateUpIdeal.τ).loc Cert.ReferenceAdamGateUpIdeal.main_arg5) = m ((c.tc : Thread Cert.ReferenceAdamGateUpIdeal.nD Cert.ReferenceAdamGateUpIdeal.τ).loc Cert.ReferenceAdamGateUpIdeal.main_arg5))
      ∧ r.2.sem = fun _ => 0)

def quiescent_KernelAdamProj [hKernelAdamProj : Cert.KernelAdamProj.Facts] : Prop :=
  ∀ (m : (ℓ : Loc Cert.KernelAdamProj.nD Cert.KernelAdamProj.τ Cert.KernelAdamProj.sig) → Buf (Elt Bits) ℓ) (g : Dev Cert.KernelAdamProj.nD → PrngReg), Pre_KernelAdamProj m →
    θ_run (Cert.KernelAdamProj.defs (F := Bits)) (onTc (τ := Cert.KernelAdamProj.τ) (Cert.KernelAdamProj.main (F := Bits))) ⟨m, fun _ => 0, g⟩ (fun r => (∀ c : Dev Cert.KernelAdamProj.nD,
      r.2.mem ((c.tc : Thread Cert.KernelAdamProj.nD Cert.KernelAdamProj.τ).loc Cert.KernelAdamProj.main_arg0) = m ((c.tc : Thread Cert.KernelAdamProj.nD Cert.KernelAdamProj.τ).loc Cert.KernelAdamProj.main_arg0)
      ∧ r.2.mem ((c.tc : Thread Cert.KernelAdamProj.nD Cert.KernelAdamProj.τ).loc Cert.KernelAdamProj.main_arg1) = m ((c.tc : Thread Cert.KernelAdamProj.nD Cert.KernelAdamProj.τ).loc Cert.KernelAdamProj.main_arg1)
      ∧ r.2.mem ((c.tc : Thread Cert.KernelAdamProj.nD Cert.KernelAdamProj.τ).loc Cert.KernelAdamProj.main_arg2) = m ((c.tc : Thread Cert.KernelAdamProj.nD Cert.KernelAdamProj.τ).loc Cert.KernelAdamProj.main_arg2)
      ∧ r.2.mem ((c.tc : Thread Cert.KernelAdamProj.nD Cert.KernelAdamProj.τ).loc Cert.KernelAdamProj.main_arg3) = m ((c.tc : Thread Cert.KernelAdamProj.nD Cert.KernelAdamProj.τ).loc Cert.KernelAdamProj.main_arg3)
      ∧ r.2.mem ((c.tc : Thread Cert.KernelAdamProj.nD Cert.KernelAdamProj.τ).loc Cert.KernelAdamProj.main_arg4) = m ((c.tc : Thread Cert.KernelAdamProj.nD Cert.KernelAdamProj.τ).loc Cert.KernelAdamProj.main_arg4)
      ∧ r.2.mem ((c.tc : Thread Cert.KernelAdamProj.nD Cert.KernelAdamProj.τ).loc Cert.KernelAdamProj.main_arg5) = m ((c.tc : Thread Cert.KernelAdamProj.nD Cert.KernelAdamProj.τ).loc Cert.KernelAdamProj.main_arg5))
      ∧ r.2.sem = fun _ => 0)

def quiescent_KernelAdamProjIdeal [hKernelAdamProjIdeal : Cert.KernelAdamProjIdeal.Facts] : Prop :=
  ∀ (m : (ℓ : Loc Cert.KernelAdamProjIdeal.nD Cert.KernelAdamProjIdeal.τ Cert.KernelAdamProjIdeal.sig) → Buf (Elt Ideal) ℓ) (g : Dev Cert.KernelAdamProjIdeal.nD → PrngReg), Pre_KernelAdamProjIdeal m →
    θ_run (Cert.KernelAdamProjIdeal.defs (F := Ideal)) (onTc (τ := Cert.KernelAdamProjIdeal.τ) (Cert.KernelAdamProjIdeal.main (F := Ideal))) ⟨m, fun _ => 0, g⟩ (fun r => (∀ c : Dev Cert.KernelAdamProjIdeal.nD,
      r.2.mem ((c.tc : Thread Cert.KernelAdamProjIdeal.nD Cert.KernelAdamProjIdeal.τ).loc Cert.KernelAdamProjIdeal.main_arg0) = m ((c.tc : Thread Cert.KernelAdamProjIdeal.nD Cert.KernelAdamProjIdeal.τ).loc Cert.KernelAdamProjIdeal.main_arg0)
      ∧ r.2.mem ((c.tc : Thread Cert.KernelAdamProjIdeal.nD Cert.KernelAdamProjIdeal.τ).loc Cert.KernelAdamProjIdeal.main_arg1) = m ((c.tc : Thread Cert.KernelAdamProjIdeal.nD Cert.KernelAdamProjIdeal.τ).loc Cert.KernelAdamProjIdeal.main_arg1)
      ∧ r.2.mem ((c.tc : Thread Cert.KernelAdamProjIdeal.nD Cert.KernelAdamProjIdeal.τ).loc Cert.KernelAdamProjIdeal.main_arg2) = m ((c.tc : Thread Cert.KernelAdamProjIdeal.nD Cert.KernelAdamProjIdeal.τ).loc Cert.KernelAdamProjIdeal.main_arg2)
      ∧ r.2.mem ((c.tc : Thread Cert.KernelAdamProjIdeal.nD Cert.KernelAdamProjIdeal.τ).loc Cert.KernelAdamProjIdeal.main_arg3) = m ((c.tc : Thread Cert.KernelAdamProjIdeal.nD Cert.KernelAdamProjIdeal.τ).loc Cert.KernelAdamProjIdeal.main_arg3)
      ∧ r.2.mem ((c.tc : Thread Cert.KernelAdamProjIdeal.nD Cert.KernelAdamProjIdeal.τ).loc Cert.KernelAdamProjIdeal.main_arg4) = m ((c.tc : Thread Cert.KernelAdamProjIdeal.nD Cert.KernelAdamProjIdeal.τ).loc Cert.KernelAdamProjIdeal.main_arg4)
      ∧ r.2.mem ((c.tc : Thread Cert.KernelAdamProjIdeal.nD Cert.KernelAdamProjIdeal.τ).loc Cert.KernelAdamProjIdeal.main_arg5) = m ((c.tc : Thread Cert.KernelAdamProjIdeal.nD Cert.KernelAdamProjIdeal.τ).loc Cert.KernelAdamProjIdeal.main_arg5))
      ∧ r.2.sem = fun _ => 0)

def quiescent_ReferenceAdamProjIdeal [hReferenceAdamProjIdeal : Cert.ReferenceAdamProjIdeal.Facts] : Prop :=
  ∀ (m : (ℓ : Loc Cert.ReferenceAdamProjIdeal.nD Cert.ReferenceAdamProjIdeal.τ Cert.ReferenceAdamProjIdeal.sig) → Buf (Elt Ideal) ℓ) (g : Dev Cert.ReferenceAdamProjIdeal.nD → PrngReg), Pre_ReferenceAdamProjIdeal m →
    θ_run (Cert.ReferenceAdamProjIdeal.defs (F := Ideal)) (onTc (τ := Cert.ReferenceAdamProjIdeal.τ) (Cert.ReferenceAdamProjIdeal.main (F := Ideal))) ⟨m, fun _ => 0, g⟩ (fun r => (∀ c : Dev Cert.ReferenceAdamProjIdeal.nD,
      r.2.mem ((c.tc : Thread Cert.ReferenceAdamProjIdeal.nD Cert.ReferenceAdamProjIdeal.τ).loc Cert.ReferenceAdamProjIdeal.main_arg0) = m ((c.tc : Thread Cert.ReferenceAdamProjIdeal.nD Cert.ReferenceAdamProjIdeal.τ).loc Cert.ReferenceAdamProjIdeal.main_arg0)
      ∧ r.2.mem ((c.tc : Thread Cert.ReferenceAdamProjIdeal.nD Cert.ReferenceAdamProjIdeal.τ).loc Cert.ReferenceAdamProjIdeal.main_arg1) = m ((c.tc : Thread Cert.ReferenceAdamProjIdeal.nD Cert.ReferenceAdamProjIdeal.τ).loc Cert.ReferenceAdamProjIdeal.main_arg1)
      ∧ r.2.mem ((c.tc : Thread Cert.ReferenceAdamProjIdeal.nD Cert.ReferenceAdamProjIdeal.τ).loc Cert.ReferenceAdamProjIdeal.main_arg2) = m ((c.tc : Thread Cert.ReferenceAdamProjIdeal.nD Cert.ReferenceAdamProjIdeal.τ).loc Cert.ReferenceAdamProjIdeal.main_arg2)
      ∧ r.2.mem ((c.tc : Thread Cert.ReferenceAdamProjIdeal.nD Cert.ReferenceAdamProjIdeal.τ).loc Cert.ReferenceAdamProjIdeal.main_arg3) = m ((c.tc : Thread Cert.ReferenceAdamProjIdeal.nD Cert.ReferenceAdamProjIdeal.τ).loc Cert.ReferenceAdamProjIdeal.main_arg3)
      ∧ r.2.mem ((c.tc : Thread Cert.ReferenceAdamProjIdeal.nD Cert.ReferenceAdamProjIdeal.τ).loc Cert.ReferenceAdamProjIdeal.main_arg4) = m ((c.tc : Thread Cert.ReferenceAdamProjIdeal.nD Cert.ReferenceAdamProjIdeal.τ).loc Cert.ReferenceAdamProjIdeal.main_arg4)
      ∧ r.2.mem ((c.tc : Thread Cert.ReferenceAdamProjIdeal.nD Cert.ReferenceAdamProjIdeal.τ).loc Cert.ReferenceAdamProjIdeal.main_arg5) = m ((c.tc : Thread Cert.ReferenceAdamProjIdeal.nD Cert.ReferenceAdamProjIdeal.τ).loc Cert.ReferenceAdamProjIdeal.main_arg5))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4)
      ∧ r.2.mem ((c.tc : Thread Cert.KernelAdamIn.nD Cert.KernelAdamIn.τ).loc Cert.KernelAdamIn.main_arg5) = m ((c.tc : Thread Cert.KernelAdamIn.nD Cert.KernelAdamIn.τ).loc Cert.KernelAdamIn.main_arg5))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
      ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4)
      ∧ r.2.mem ((c.tc : Thread Cert.ReferenceAdamInIdeal.nD Cert.ReferenceAdamInIdeal.τ).loc Cert.ReferenceAdamInIdeal.main_arg5) = m ((c.tc : Thread Cert.ReferenceAdamInIdeal.nD Cert.ReferenceAdamInIdeal.τ).loc Cert.ReferenceAdamInIdeal.main_arg5))
      ∧ r.2.sem = fun _ => 0)

def preserves_Kernel_KernelIdeal : Prop :=
  True

def algebraic_KernelIdeal_ReferenceIdeal_pre_real_entries [hKernelIdeal : Cert.KernelIdeal.Facts] [hReferenceIdeal : Cert.ReferenceIdeal.Facts] [hPre_real_entries : Cert.Pre_real_entries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_entries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v110) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_v116) = v4 c
          ∧ r.2.mem ((c.tc : Thread Cert.ReferenceIdeal.nD Cert.ReferenceIdeal.τ).loc Cert.ReferenceIdeal.main_v117) = v5 c
          ∧ r.2.mem ((c.tc : Thread Cert.ReferenceIdeal.nD Cert.ReferenceIdeal.τ).loc Cert.ReferenceIdeal.main_v108) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelGateUp_KernelGateUpIdeal : Prop :=
  True

def algebraic_KernelGateUpIdeal_ReferenceGateUpIdeal [hKernelGateUpIdeal : Cert.KernelGateUpIdeal.Facts] [hReferenceGateUpIdeal : Cert.ReferenceGateUpIdeal.Facts] [hPre_device_gate_up : Cert.Pre_device_gate_up.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg)
    (m' : (ℓ : Loc Cert.ReferenceGateUpIdeal.nD Cert.ReferenceGateUpIdeal.τ Cert.ReferenceGateUpIdeal.sig) → Buf (Elt Ideal) ℓ) (g' : Dev Cert.ReferenceGateUpIdeal.nD → PrngReg), Pre_KernelGateUpIdeal m →
    (∀ c : Dev Cert.KernelGateUpIdeal.nD,
      m' ((c.tc : Thread Cert.ReferenceGateUpIdeal.nD Cert.ReferenceGateUpIdeal.τ).loc Cert.ReferenceGateUpIdeal.main_arg0) = m ((c.tc : Thread Cert.KernelGateUpIdeal.nD Cert.KernelGateUpIdeal.τ).loc Cert.KernelGateUpIdeal.main_arg0)
      ∧ m' ((c.tc : Thread Cert.ReferenceGateUpIdeal.nD Cert.ReferenceGateUpIdeal.τ).loc Cert.ReferenceGateUpIdeal.main_arg1) = m ((c.tc : Thread Cert.KernelGateUpIdeal.nD Cert.KernelGateUpIdeal.τ).loc Cert.KernelGateUpIdeal.main_arg1)
      ∧ m' ((c.tc : Thread Cert.ReferenceGateUpIdeal.nD Cert.ReferenceGateUpIdeal.τ).loc Cert.ReferenceGateUpIdeal.main_arg2) = m ((c.tc : Thread Cert.KernelGateUpIdeal.nD Cert.KernelGateUpIdeal.τ).loc Cert.KernelGateUpIdeal.main_arg2)) →
    ∃ (v0 : (c : Dev Cert.KernelGateUpIdeal.nD) → Buf (Elt Ideal) ((c.tc : Thread Cert.KernelGateUpIdeal.nD Cert.KernelGateUpIdeal.τ).loc Cert.KernelGateUpIdeal.main_v0_0)) (v1 : (c : Dev Cert.KernelGateUpIdeal.nD) → Buf (Elt Ideal) ((c.tc : Thread Cert.KernelGateUpIdeal.nD Cert.KernelGateUpIdeal.τ).loc Cert.KernelGateUpIdeal.main_v0_1)),
      θ_run (Cert.KernelGateUpIdeal.defs (F := Ideal)) (onTc (τ := Cert.KernelGateUpIdeal.τ) (Cert.KernelGateUpIdeal.main (F := Ideal))) ⟨m, fun _ => 0, g⟩ (fun r => ∀ c : Dev Cert.KernelGateUpIdeal.nD,
          r.2.mem ((c.tc : Thread Cert.KernelGateUpIdeal.nD Cert.KernelGateUpIdeal.τ).loc Cert.KernelGateUpIdeal.main_v0_0) = v0 c
          ∧ r.2.mem ((c.tc : Thread Cert.KernelGateUpIdeal.nD Cert.KernelGateUpIdeal.τ).loc Cert.KernelGateUpIdeal.main_v0_1) = v1 c
          ∧ r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
          ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
          ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ θ_run (Cert.ReferenceGateUpIdeal.defs (F := Ideal)) (onTc (τ := Cert.ReferenceGateUpIdeal.τ) (Cert.ReferenceGateUpIdeal.main (F := Ideal))) ⟨m', fun _ => 0, g'⟩ (fun r => ∀ c : Dev Cert.ReferenceGateUpIdeal.nD,
          r.2.mem ((c.tc : Thread Cert.ReferenceGateUpIdeal.nD Cert.ReferenceGateUpIdeal.τ).loc Cert.ReferenceGateUpIdeal.main_v15) = v0 c
          ∧ r.2.mem ((c.tc : Thread Cert.ReferenceGateUpIdeal.nD Cert.ReferenceGateUpIdeal.τ).loc Cert.ReferenceGateUpIdeal.main_v16) = v1 c
          ∧ r.2.mem ((c.tc : Thread Cert.ReferenceGateUpIdeal.nD Cert.ReferenceGateUpIdeal.τ).loc Cert.ReferenceGateUpIdeal.main_arg0) = m' ((c.tc : Thread Cert.ReferenceGateUpIdeal.nD Cert.ReferenceGateUpIdeal.τ).loc Cert.ReferenceGateUpIdeal.main_arg0)
          ∧ r.2.mem ((c.tc : Thread Cert.ReferenceGateUpIdeal.nD Cert.ReferenceGateUpIdeal.τ).loc Cert.ReferenceGateUpIdeal.main_arg1) = m' ((c.tc : Thread Cert.ReferenceGateUpIdeal.nD Cert.ReferenceGateUpIdeal.τ).loc Cert.ReferenceGateUpIdeal.main_arg1)
          ∧ r.2.mem ((c.tc : Thread Cert.ReferenceGateUpIdeal.nD Cert.ReferenceGateUpIdeal.τ).loc Cert.ReferenceGateUpIdeal.main_arg2) = m' ((c.tc : Thread Cert.ReferenceGateUpIdeal.nD Cert.ReferenceGateUpIdeal.τ).loc Cert.ReferenceGateUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] [hPre_device_down : Cert.Pre_device_down.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0_0)) (v1 : (c : Dev Cert.KernelDownIdeal.nD) → Buf (Elt Ideal) ((c.tc : Thread Cert.KernelDownIdeal.nD Cert.KernelDownIdeal.τ).loc Cert.KernelDownIdeal.main_v0_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0_0) = v0 c
          ∧ r.2.mem ((c.tc : Thread Cert.KernelDownIdeal.nD Cert.KernelDownIdeal.τ).loc Cert.KernelDownIdeal.main_v0_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v14) = v0 c
          ∧ r.2.mem ((c.tc : Thread Cert.ReferenceDownIdeal.nD Cert.ReferenceDownIdeal.τ).loc Cert.ReferenceDownIdeal.main_v16) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelProj_KernelProjIdeal : Prop :=
  True

def algebraic_KernelProjIdeal_ReferenceProjIdeal [hKernelProjIdeal : Cert.KernelProjIdeal.Facts] [hReferenceProjIdeal : Cert.ReferenceProjIdeal.Facts] [hPre_device_proj : Cert.Pre_device_proj.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v0_0)) (v1 : (c : Dev Cert.KernelProjIdeal.nD) → Buf (Elt Ideal) ((c.tc : Thread Cert.KernelProjIdeal.nD Cert.KernelProjIdeal.τ).loc Cert.KernelProjIdeal.main_v0_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0_0) = v0 c
          ∧ r.2.mem ((c.tc : Thread Cert.KernelProjIdeal.nD Cert.KernelProjIdeal.τ).loc Cert.KernelProjIdeal.main_v0_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v12) = v0 c
          ∧ r.2.mem ((c.tc : Thread Cert.ReferenceProjIdeal.nD Cert.ReferenceProjIdeal.τ).loc Cert.ReferenceProjIdeal.main_v14) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelAdamConv_KernelAdamConvIdeal : Prop :=
  True

def algebraic_KernelAdamConvIdeal_ReferenceAdamConvIdeal [hKernelAdamConvIdeal : Cert.KernelAdamConvIdeal.Facts] [hReferenceAdamConvIdeal : Cert.ReferenceAdamConvIdeal.Facts] : Prop :=
  ∀ (m : (ℓ : Loc Cert.KernelAdamConvIdeal.nD Cert.KernelAdamConvIdeal.τ Cert.KernelAdamConvIdeal.sig) → Buf (Elt Ideal) ℓ) (g : Dev Cert.KernelAdamConvIdeal.nD → PrngReg)
    (m' : (ℓ : Loc Cert.ReferenceAdamConvIdeal.nD Cert.ReferenceAdamConvIdeal.τ Cert.ReferenceAdamConvIdeal.sig) → Buf (Elt Ideal) ℓ) (g' : Dev Cert.ReferenceAdamConvIdeal.nD → PrngReg), Pre_KernelAdamConvIdeal m →
    (∀ c : Dev Cert.KernelAdamConvIdeal.nD,
      m' ((c.tc : Thread Cert.ReferenceAdamConvIdeal.nD Cert.ReferenceAdamConvIdeal.τ).loc Cert.ReferenceAdamConvIdeal.main_arg0) = m ((c.tc : Thread Cert.KernelAdamConvIdeal.nD Cert.KernelAdamConvIdeal.τ).loc Cert.KernelAdamConvIdeal.main_arg0)
      ∧ m' ((c.tc : Thread Cert.ReferenceAdamConvIdeal.nD Cert.ReferenceAdamConvIdeal.τ).loc Cert.ReferenceAdamConvIdeal.main_arg1) = m ((c.tc : Thread Cert.KernelAdamConvIdeal.nD Cert.KernelAdamConvIdeal.τ).loc Cert.KernelAdamConvIdeal.main_arg1)
      ∧ m' ((c.tc : Thread Cert.ReferenceAdamConvIdeal.nD Cert.ReferenceAdamConvIdeal.τ).loc Cert.ReferenceAdamConvIdeal.main_arg2) = m ((c.tc : Thread Cert.KernelAdamConvIdeal.nD Cert.KernelAdamConvIdeal.τ).loc Cert.KernelAdamConvIdeal.main_arg2)
      ∧ m' ((c.tc : Thread Cert.ReferenceAdamConvIdeal.nD Cert.ReferenceAdamConvIdeal.τ).loc Cert.ReferenceAdamConvIdeal.main_arg3) = m ((c.tc : Thread Cert.KernelAdamConvIdeal.nD Cert.KernelAdamConvIdeal.τ).loc Cert.KernelAdamConvIdeal.main_arg3)) →
    ∃ (v0 : (c : Dev Cert.KernelAdamConvIdeal.nD) → Buf (Elt Ideal) ((c.tc : Thread Cert.KernelAdamConvIdeal.nD Cert.KernelAdamConvIdeal.τ).loc Cert.KernelAdamConvIdeal.main_v0_0)) (v1 : (c : Dev Cert.KernelAdamConvIdeal.nD) → Buf (Elt Ideal) ((c.tc : Thread Cert.KernelAdamConvIdeal.nD Cert.KernelAdamConvIdeal.τ).loc Cert.KernelAdamConvIdeal.main_v0_1)) (v2 : (c : Dev Cert.KernelAdamConvIdeal.nD) → Buf (Elt Ideal) ((c.tc : Thread Cert.KernelAdamConvIdeal.nD Cert.KernelAdamConvIdeal.τ).loc Cert.KernelAdamConvIdeal.main_v0_2)),
      θ_run (Cert.KernelAdamConvIdeal.defs (F := Ideal)) (onTc (τ := Cert.KernelAdamConvIdeal.τ) (Cert.KernelAdamConvIdeal.main (F := Ideal))) ⟨m, fun _ => 0, g⟩ (fun r => ∀ c : Dev Cert.KernelAdamConvIdeal.nD,
          r.2.mem ((c.tc : Thread Cert.KernelAdamConvIdeal.nD Cert.KernelAdamConvIdeal.τ).loc Cert.KernelAdamConvIdeal.main_v0_0) = v0 c
          ∧ r.2.mem ((c.tc : Thread Cert.KernelAdamConvIdeal.nD Cert.KernelAdamConvIdeal.τ).loc Cert.KernelAdamConvIdeal.main_v0_1) = v1 c
          ∧ r.2.mem ((c.tc : Thread Cert.KernelAdamConvIdeal.nD Cert.KernelAdamConvIdeal.τ).loc Cert.KernelAdamConvIdeal.main_v0_2) = v2 c
          ∧ r.2.mem ((c.tc : Thread Cert.KernelAdamConvIdeal.nD Cert.KernelAdamConvIdeal.τ).loc Cert.KernelAdamConvIdeal.main_arg0) = m ((c.tc : Thread Cert.KernelAdamConvIdeal.nD Cert.KernelAdamConvIdeal.τ).loc Cert.KernelAdamConvIdeal.main_arg0)
          ∧ r.2.mem ((c.tc : Thread Cert.KernelAdamConvIdeal.nD Cert.KernelAdamConvIdeal.τ).loc Cert.KernelAdamConvIdeal.main_arg1) = m ((c.tc : Thread Cert.KernelAdamConvIdeal.nD Cert.KernelAdamConvIdeal.τ).loc Cert.KernelAdamConvIdeal.main_arg1)
          ∧ r.2.mem ((c.tc : Thread Cert.KernelAdamConvIdeal.nD Cert.KernelAdamConvIdeal.τ).loc Cert.KernelAdamConvIdeal.main_arg2) = m ((c.tc : Thread Cert.KernelAdamConvIdeal.nD Cert.KernelAdamConvIdeal.τ).loc Cert.KernelAdamConvIdeal.main_arg2)
          ∧ r.2.mem ((c.tc : Thread Cert.KernelAdamConvIdeal.nD Cert.KernelAdamConvIdeal.τ).loc Cert.KernelAdamConvIdeal.main_arg3) = m ((c.tc : Thread Cert.KernelAdamConvIdeal.nD Cert.KernelAdamConvIdeal.τ).loc Cert.KernelAdamConvIdeal.main_arg3))
      ∧ θ_run (Cert.ReferenceAdamConvIdeal.defs (F := Ideal)) (onTc (τ := Cert.ReferenceAdamConvIdeal.τ) (Cert.ReferenceAdamConvIdeal.main (F := Ideal))) ⟨m', fun _ => 0, g'⟩ (fun r => ∀ c : Dev Cert.ReferenceAdamConvIdeal.nD,
          r.2.mem ((c.tc : Thread Cert.ReferenceAdamConvIdeal.nD Cert.ReferenceAdamConvIdeal.τ).loc Cert.ReferenceAdamConvIdeal.main_v23) = v0 c
          ∧ r.2.mem ((c.tc : Thread Cert.ReferenceAdamConvIdeal.nD Cert.ReferenceAdamConvIdeal.τ).loc Cert.ReferenceAdamConvIdeal.main_v4) = v1 c
          ∧ r.2.mem ((c.tc : Thread Cert.ReferenceAdamConvIdeal.nD Cert.ReferenceAdamConvIdeal.τ).loc Cert.ReferenceAdamConvIdeal.main_v10) = v2 c
          ∧ r.2.mem ((c.tc : Thread Cert.ReferenceAdamConvIdeal.nD Cert.ReferenceAdamConvIdeal.τ).loc Cert.ReferenceAdamConvIdeal.main_arg0) = m' ((c.tc : Thread Cert.ReferenceAdamConvIdeal.nD Cert.ReferenceAdamConvIdeal.τ).loc Cert.ReferenceAdamConvIdeal.main_arg0)
          ∧ r.2.mem ((c.tc : Thread Cert.ReferenceAdamConvIdeal.nD Cert.ReferenceAdamConvIdeal.τ).loc Cert.ReferenceAdamConvIdeal.main_arg1) = m' ((c.tc : Thread Cert.ReferenceAdamConvIdeal.nD Cert.ReferenceAdamConvIdeal.τ).loc Cert.ReferenceAdamConvIdeal.main_arg1)
          ∧ r.2.mem ((c.tc : Thread Cert.ReferenceAdamConvIdeal.nD Cert.ReferenceAdamConvIdeal.τ).loc Cert.ReferenceAdamConvIdeal.main_arg2) = m' ((c.tc : Thread Cert.ReferenceAdamConvIdeal.nD Cert.ReferenceAdamConvIdeal.τ).loc Cert.ReferenceAdamConvIdeal.main_arg2)
          ∧ r.2.mem ((c.tc : Thread Cert.ReferenceAdamConvIdeal.nD Cert.ReferenceAdamConvIdeal.τ).loc Cert.ReferenceAdamConvIdeal.main_arg3) = m' ((c.tc : Thread Cert.ReferenceAdamConvIdeal.nD Cert.ReferenceAdamConvIdeal.τ).loc Cert.ReferenceAdamConvIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)
      ∧ m' ((c.tc : Thread Cert.ReferenceAdamDownIdeal.nD Cert.ReferenceAdamDownIdeal.τ).loc Cert.ReferenceAdamDownIdeal.main_arg5) = m ((c.tc : Thread Cert.KernelAdamDownIdeal.nD Cert.KernelAdamDownIdeal.τ).loc Cert.KernelAdamDownIdeal.main_arg5)) →
    ∃ (v0 : (c : Dev Cert.KernelAdamDownIdeal.nD) → Buf (Elt Ideal) ((c.tc : Thread Cert.KernelAdamDownIdeal.nD Cert.KernelAdamDownIdeal.τ).loc Cert.KernelAdamDownIdeal.main_v7_0)) (v1 : (c : Dev Cert.KernelAdamDownIdeal.nD) → Buf (Elt Ideal) ((c.tc : Thread Cert.KernelAdamDownIdeal.nD Cert.KernelAdamDownIdeal.τ).loc Cert.KernelAdamDownIdeal.main_v7_1)) (v2 : (c : Dev Cert.KernelAdamDownIdeal.nD) → Buf (Elt Ideal) ((c.tc : Thread Cert.KernelAdamDownIdeal.nD Cert.KernelAdamDownIdeal.τ).loc Cert.KernelAdamDownIdeal.main_v7_2)) (v3 : (c : Dev Cert.KernelAdamDownIdeal.nD) → Buf (Elt Ideal) ((c.tc : Thread Cert.KernelAdamDownIdeal.nD Cert.KernelAdamDownIdeal.τ).loc Cert.KernelAdamDownIdeal.main_v7_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v7_0) = v0 c
          ∧ r.2.mem ((c.tc : Thread Cert.KernelAdamDownIdeal.nD Cert.KernelAdamDownIdeal.τ).loc Cert.KernelAdamDownIdeal.main_v7_1) = v1 c
          ∧ r.2.mem ((c.tc : Thread Cert.KernelAdamDownIdeal.nD Cert.KernelAdamDownIdeal.τ).loc Cert.KernelAdamDownIdeal.main_v7_2) = v2 c
          ∧ r.2.mem ((c.tc : Thread Cert.KernelAdamDownIdeal.nD Cert.KernelAdamDownIdeal.τ).loc Cert.KernelAdamDownIdeal.main_v7_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4)
          ∧ r.2.mem ((c.tc : Thread Cert.KernelAdamDownIdeal.nD Cert.KernelAdamDownIdeal.τ).loc Cert.KernelAdamDownIdeal.main_arg5) = m ((c.tc : Thread Cert.KernelAdamDownIdeal.nD Cert.KernelAdamDownIdeal.τ).loc Cert.KernelAdamDownIdeal.main_arg5))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v6) = v0 c
          ∧ r.2.mem ((c.tc : Thread Cert.ReferenceAdamDownIdeal.nD Cert.ReferenceAdamDownIdeal.τ).loc Cert.ReferenceAdamDownIdeal.main_v30) = v1 c
          ∧ r.2.mem ((c.tc : Thread Cert.ReferenceAdamDownIdeal.nD Cert.ReferenceAdamDownIdeal.τ).loc Cert.ReferenceAdamDownIdeal.main_v11) = v2 c
          ∧ r.2.mem ((c.tc : Thread Cert.ReferenceAdamDownIdeal.nD Cert.ReferenceAdamDownIdeal.τ).loc Cert.ReferenceAdamDownIdeal.main_v17) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4)
          ∧ r.2.mem ((c.tc : Thread Cert.ReferenceAdamDownIdeal.nD Cert.ReferenceAdamDownIdeal.τ).loc Cert.ReferenceAdamDownIdeal.main_arg5) = m' ((c.tc : Thread Cert.ReferenceAdamDownIdeal.nD Cert.ReferenceAdamDownIdeal.τ).loc Cert.ReferenceAdamDownIdeal.main_arg5))

def preserves_KernelAdamGateUp_KernelAdamGateUpIdeal : Prop :=
  True

def algebraic_KernelAdamGateUpIdeal_ReferenceAdamGateUpIdeal [hKernelAdamGateUpIdeal : Cert.KernelAdamGateUpIdeal.Facts] [hReferenceAdamGateUpIdeal : Cert.ReferenceAdamGateUpIdeal.Facts] : Prop :=
  ∀ (m : (ℓ : Loc Cert.KernelAdamGateUpIdeal.nD Cert.KernelAdamGateUpIdeal.τ Cert.KernelAdamGateUpIdeal.sig) → Buf (Elt Ideal) ℓ) (g : Dev Cert.KernelAdamGateUpIdeal.nD → PrngReg)
    (m' : (ℓ : Loc Cert.ReferenceAdamGateUpIdeal.nD Cert.ReferenceAdamGateUpIdeal.τ Cert.ReferenceAdamGateUpIdeal.sig) → Buf (Elt Ideal) ℓ) (g' : Dev Cert.ReferenceAdamGateUpIdeal.nD → PrngReg), Pre_KernelAdamGateUpIdeal m →
    (∀ c : Dev Cert.KernelAdamGateUpIdeal.nD,
      m' ((c.tc : Thread Cert.ReferenceAdamGateUpIdeal.nD Cert.ReferenceAdamGateUpIdeal.τ).loc Cert.ReferenceAdamGateUpIdeal.main_arg0) = m ((c.tc : Thread Cert.KernelAdamGateUpIdeal.nD Cert.KernelAdamGateUpIdeal.τ).loc Cert.KernelAdamGateUpIdeal.main_arg0)
      ∧ m' ((c.tc : Thread Cert.ReferenceAdamGateUpIdeal.nD Cert.ReferenceAdamGateUpIdeal.τ).loc Cert.ReferenceAdamGateUpIdeal.main_arg1) = m ((c.tc : Thread Cert.KernelAdamGateUpIdeal.nD Cert.KernelAdamGateUpIdeal.τ).loc Cert.KernelAdamGateUpIdeal.main_arg1)
      ∧ m' ((c.tc : Thread Cert.ReferenceAdamGateUpIdeal.nD Cert.ReferenceAdamGateUpIdeal.τ).loc Cert.ReferenceAdamGateUpIdeal.main_arg2) = m ((c.tc : Thread Cert.KernelAdamGateUpIdeal.nD Cert.KernelAdamGateUpIdeal.τ).loc Cert.KernelAdamGateUpIdeal.main_arg2)
      ∧ m' ((c.tc : Thread Cert.ReferenceAdamGateUpIdeal.nD Cert.ReferenceAdamGateUpIdeal.τ).loc Cert.ReferenceAdamGateUpIdeal.main_arg3) = m ((c.tc : Thread Cert.KernelAdamGateUpIdeal.nD Cert.KernelAdamGateUpIdeal.τ).loc Cert.KernelAdamGateUpIdeal.main_arg3)
      ∧ m' ((c.tc : Thread Cert.ReferenceAdamGateUpIdeal.nD Cert.ReferenceAdamGateUpIdeal.τ).loc Cert.ReferenceAdamGateUpIdeal.main_arg4) = m ((c.tc : Thread Cert.KernelAdamGateUpIdeal.nD Cert.KernelAdamGateUpIdeal.τ).loc Cert.KernelAdamGateUpIdeal.main_arg4)
      ∧ m' ((c.tc : Thread Cert.ReferenceAdamGateUpIdeal.nD Cert.ReferenceAdamGateUpIdeal.τ).loc Cert.ReferenceAdamGateUpIdeal.main_arg5) = m ((c.tc : Thread Cert.KernelAdamGateUpIdeal.nD Cert.KernelAdamGateUpIdeal.τ).loc Cert.KernelAdamGateUpIdeal.main_arg5)) →
    ∃ (v0 : (c : Dev Cert.KernelAdamGateUpIdeal.nD) → Buf (Elt Ideal) ((c.tc : Thread Cert.KernelAdamGateUpIdeal.nD Cert.KernelAdamGateUpIdeal.τ).loc Cert.KernelAdamGateUpIdeal.main_v7_0)) (v1 : (c : Dev Cert.KernelAdamGateUpIdeal.nD) → Buf (Elt Ideal) ((c.tc : Thread Cert.KernelAdamGateUpIdeal.nD Cert.KernelAdamGateUpIdeal.τ).loc Cert.KernelAdamGateUpIdeal.main_v7_1)) (v2 : (c : Dev Cert.KernelAdamGateUpIdeal.nD) → Buf (Elt Ideal) ((c.tc : Thread Cert.KernelAdamGateUpIdeal.nD Cert.KernelAdamGateUpIdeal.τ).loc Cert.KernelAdamGateUpIdeal.main_v7_2)) (v3 : (c : Dev Cert.KernelAdamGateUpIdeal.nD) → Buf (Elt Ideal) ((c.tc : Thread Cert.KernelAdamGateUpIdeal.nD Cert.KernelAdamGateUpIdeal.τ).loc Cert.KernelAdamGateUpIdeal.main_v7_3)),
      θ_run (Cert.KernelAdamGateUpIdeal.defs (F := Ideal)) (onTc (τ := Cert.KernelAdamGateUpIdeal.τ) (Cert.KernelAdamGateUpIdeal.main (F := Ideal))) ⟨m, fun _ => 0, g⟩ (fun r => ∀ c : Dev Cert.KernelAdamGateUpIdeal.nD,
          r.2.mem ((c.tc : Thread Cert.KernelAdamGateUpIdeal.nD Cert.KernelAdamGateUpIdeal.τ).loc Cert.KernelAdamGateUpIdeal.main_v7_0) = v0 c
          ∧ r.2.mem ((c.tc : Thread Cert.KernelAdamGateUpIdeal.nD Cert.KernelAdamGateUpIdeal.τ).loc Cert.KernelAdamGateUpIdeal.main_v7_1) = v1 c
          ∧ r.2.mem ((c.tc : Thread Cert.KernelAdamGateUpIdeal.nD Cert.KernelAdamGateUpIdeal.τ).loc Cert.KernelAdamGateUpIdeal.main_v7_2) = v2 c
          ∧ r.2.mem ((c.tc : Thread Cert.KernelAdamGateUpIdeal.nD Cert.KernelAdamGateUpIdeal.τ).loc Cert.KernelAdamGateUpIdeal.main_v7_3) = v3 c
          ∧ r.2.mem ((c.tc : Thread Cert.KernelAdamGateUpIdeal.nD Cert.KernelAdamGateUpIdeal.τ).loc Cert.KernelAdamGateUpIdeal.main_arg0) = m ((c.tc : Thread Cert.KernelAdamGateUpIdeal.nD Cert.KernelAdamGateUpIdeal.τ).loc Cert.KernelAdamGateUpIdeal.main_arg0)
          ∧ r.2.mem ((c.tc : Thread Cert.KernelAdamGateUpIdeal.nD Cert.KernelAdamGateUpIdeal.τ).loc Cert.KernelAdamGateUpIdeal.main_arg1) = m ((c.tc : Thread Cert.KernelAdamGateUpIdeal.nD Cert.KernelAdamGateUpIdeal.τ).loc Cert.KernelAdamGateUpIdeal.main_arg1)
          ∧ r.2.mem ((c.tc : Thread Cert.KernelAdamGateUpIdeal.nD Cert.KernelAdamGateUpIdeal.τ).loc Cert.KernelAdamGateUpIdeal.main_arg2) = m ((c.tc : Thread Cert.KernelAdamGateUpIdeal.nD Cert.KernelAdamGateUpIdeal.τ).loc Cert.KernelAdamGateUpIdeal.main_arg2)
          ∧ r.2.mem ((c.tc : Thread Cert.KernelAdamGateUpIdeal.nD Cert.KernelAdamGateUpIdeal.τ).loc Cert.KernelAdamGateUpIdeal.main_arg3) = m ((c.tc : Thread Cert.KernelAdamGateUpIdeal.nD Cert.KernelAdamGateUpIdeal.τ).loc Cert.KernelAdamGateUpIdeal.main_arg3)
          ∧ r.2.mem ((c.tc : Thread Cert.KernelAdamGateUpIdeal.nD Cert.KernelAdamGateUpIdeal.τ).loc Cert.KernelAdamGateUpIdeal.main_arg4) = m ((c.tc : Thread Cert.KernelAdamGateUpIdeal.nD Cert.KernelAdamGateUpIdeal.τ).loc Cert.KernelAdamGateUpIdeal.main_arg4)
          ∧ r.2.mem ((c.tc : Thread Cert.KernelAdamGateUpIdeal.nD Cert.KernelAdamGateUpIdeal.τ).loc Cert.KernelAdamGateUpIdeal.main_arg5) = m ((c.tc : Thread Cert.KernelAdamGateUpIdeal.nD Cert.KernelAdamGateUpIdeal.τ).loc Cert.KernelAdamGateUpIdeal.main_arg5))
      ∧ θ_run (Cert.ReferenceAdamGateUpIdeal.defs (F := Ideal)) (onTc (τ := Cert.ReferenceAdamGateUpIdeal.τ) (Cert.ReferenceAdamGateUpIdeal.main (F := Ideal))) ⟨m', fun _ => 0, g'⟩ (fun r => ∀ c : Dev Cert.ReferenceAdamGateUpIdeal.nD,
          r.2.mem ((c.tc : Thread Cert.ReferenceAdamGateUpIdeal.nD Cert.ReferenceAdamGateUpIdeal.τ).loc Cert.ReferenceAdamGateUpIdeal.main_v6) = v0 c
          ∧ r.2.mem ((c.tc : Thread Cert.ReferenceAdamGateUpIdeal.nD Cert.ReferenceAdamGateUpIdeal.τ).loc Cert.ReferenceAdamGateUpIdeal.main_v30) = v1 c
          ∧ r.2.mem ((c.tc : Thread Cert.ReferenceAdamGateUpIdeal.nD Cert.ReferenceAdamGateUpIdeal.τ).loc Cert.ReferenceAdamGateUpIdeal.main_v11) = v2 c
          ∧ r.2.mem ((c.tc : Thread Cert.ReferenceAdamGateUpIdeal.nD Cert.ReferenceAdamGateUpIdeal.τ).loc Cert.ReferenceAdamGateUpIdeal.main_v17) = v3 c
          ∧ r.2.mem ((c.tc : Thread Cert.ReferenceAdamGateUpIdeal.nD Cert.ReferenceAdamGateUpIdeal.τ).loc Cert.ReferenceAdamGateUpIdeal.main_arg0) = m' ((c.tc : Thread Cert.ReferenceAdamGateUpIdeal.nD Cert.ReferenceAdamGateUpIdeal.τ).loc Cert.ReferenceAdamGateUpIdeal.main_arg0)
          ∧ r.2.mem ((c.tc : Thread Cert.ReferenceAdamGateUpIdeal.nD Cert.ReferenceAdamGateUpIdeal.τ).loc Cert.ReferenceAdamGateUpIdeal.main_arg1) = m' ((c.tc : Thread Cert.ReferenceAdamGateUpIdeal.nD Cert.ReferenceAdamGateUpIdeal.τ).loc Cert.ReferenceAdamGateUpIdeal.main_arg1)
          ∧ r.2.mem ((c.tc : Thread Cert.ReferenceAdamGateUpIdeal.nD Cert.ReferenceAdamGateUpIdeal.τ).loc Cert.ReferenceAdamGateUpIdeal.main_arg2) = m' ((c.tc : Thread Cert.ReferenceAdamGateUpIdeal.nD Cert.ReferenceAdamGateUpIdeal.τ).loc Cert.ReferenceAdamGateUpIdeal.main_arg2)
          ∧ r.2.mem ((c.tc : Thread Cert.ReferenceAdamGateUpIdeal.nD Cert.ReferenceAdamGateUpIdeal.τ).loc Cert.ReferenceAdamGateUpIdeal.main_arg3) = m' ((c.tc : Thread Cert.ReferenceAdamGateUpIdeal.nD Cert.ReferenceAdamGateUpIdeal.τ).loc Cert.ReferenceAdamGateUpIdeal.main_arg3)
          ∧ r.2.mem ((c.tc : Thread Cert.ReferenceAdamGateUpIdeal.nD Cert.ReferenceAdamGateUpIdeal.τ).loc Cert.ReferenceAdamGateUpIdeal.main_arg4) = m' ((c.tc : Thread Cert.ReferenceAdamGateUpIdeal.nD Cert.ReferenceAdamGateUpIdeal.τ).loc Cert.ReferenceAdamGateUpIdeal.main_arg4)
          ∧ r.2.mem ((c.tc : Thread Cert.ReferenceAdamGateUpIdeal.nD Cert.ReferenceAdamGateUpIdeal.τ).loc Cert.ReferenceAdamGateUpIdeal.main_arg5) = m' ((c.tc : Thread Cert.ReferenceAdamGateUpIdeal.nD Cert.ReferenceAdamGateUpIdeal.τ).loc Cert.ReferenceAdamGateUpIdeal.main_arg5))

def preserves_KernelAdamProj_KernelAdamProjIdeal : Prop :=
  True

def algebraic_KernelAdamProjIdeal_ReferenceAdamProjIdeal [hKernelAdamProjIdeal : Cert.KernelAdamProjIdeal.Facts] [hReferenceAdamProjIdeal : Cert.ReferenceAdamProjIdeal.Facts] : Prop :=
  ∀ (m : (ℓ : Loc Cert.KernelAdamProjIdeal.nD Cert.KernelAdamProjIdeal.τ Cert.KernelAdamProjIdeal.sig) → Buf (Elt Ideal) ℓ) (g : Dev Cert.KernelAdamProjIdeal.nD → PrngReg)
    (m' : (ℓ : Loc Cert.ReferenceAdamProjIdeal.nD Cert.ReferenceAdamProjIdeal.τ Cert.ReferenceAdamProjIdeal.sig) → Buf (Elt Ideal) ℓ) (g' : Dev Cert.ReferenceAdamProjIdeal.nD → PrngReg), Pre_KernelAdamProjIdeal m →
    (∀ c : Dev Cert.KernelAdamProjIdeal.nD,
      m' ((c.tc : Thread Cert.ReferenceAdamProjIdeal.nD Cert.ReferenceAdamProjIdeal.τ).loc Cert.ReferenceAdamProjIdeal.main_arg0) = m ((c.tc : Thread Cert.KernelAdamProjIdeal.nD Cert.KernelAdamProjIdeal.τ).loc Cert.KernelAdamProjIdeal.main_arg0)
      ∧ m' ((c.tc : Thread Cert.ReferenceAdamProjIdeal.nD Cert.ReferenceAdamProjIdeal.τ).loc Cert.ReferenceAdamProjIdeal.main_arg1) = m ((c.tc : Thread Cert.KernelAdamProjIdeal.nD Cert.KernelAdamProjIdeal.τ).loc Cert.KernelAdamProjIdeal.main_arg1)
      ∧ m' ((c.tc : Thread Cert.ReferenceAdamProjIdeal.nD Cert.ReferenceAdamProjIdeal.τ).loc Cert.ReferenceAdamProjIdeal.main_arg2) = m ((c.tc : Thread Cert.KernelAdamProjIdeal.nD Cert.KernelAdamProjIdeal.τ).loc Cert.KernelAdamProjIdeal.main_arg2)
      ∧ m' ((c.tc : Thread Cert.ReferenceAdamProjIdeal.nD Cert.ReferenceAdamProjIdeal.τ).loc Cert.ReferenceAdamProjIdeal.main_arg3) = m ((c.tc : Thread Cert.KernelAdamProjIdeal.nD Cert.KernelAdamProjIdeal.τ).loc Cert.KernelAdamProjIdeal.main_arg3)
      ∧ m' ((c.tc : Thread Cert.ReferenceAdamProjIdeal.nD Cert.ReferenceAdamProjIdeal.τ).loc Cert.ReferenceAdamProjIdeal.main_arg4) = m ((c.tc : Thread Cert.KernelAdamProjIdeal.nD Cert.KernelAdamProjIdeal.τ).loc Cert.KernelAdamProjIdeal.main_arg4)
      ∧ m' ((c.tc : Thread Cert.ReferenceAdamProjIdeal.nD Cert.ReferenceAdamProjIdeal.τ).loc Cert.ReferenceAdamProjIdeal.main_arg5) = m ((c.tc : Thread Cert.KernelAdamProjIdeal.nD Cert.KernelAdamProjIdeal.τ).loc Cert.KernelAdamProjIdeal.main_arg5)) →
    ∃ (v0 : (c : Dev Cert.KernelAdamProjIdeal.nD) → Buf (Elt Ideal) ((c.tc : Thread Cert.KernelAdamProjIdeal.nD Cert.KernelAdamProjIdeal.τ).loc Cert.KernelAdamProjIdeal.main_v7_0)) (v1 : (c : Dev Cert.KernelAdamProjIdeal.nD) → Buf (Elt Ideal) ((c.tc : Thread Cert.KernelAdamProjIdeal.nD Cert.KernelAdamProjIdeal.τ).loc Cert.KernelAdamProjIdeal.main_v7_1)) (v2 : (c : Dev Cert.KernelAdamProjIdeal.nD) → Buf (Elt Ideal) ((c.tc : Thread Cert.KernelAdamProjIdeal.nD Cert.KernelAdamProjIdeal.τ).loc Cert.KernelAdamProjIdeal.main_v7_2)) (v3 : (c : Dev Cert.KernelAdamProjIdeal.nD) → Buf (Elt Ideal) ((c.tc : Thread Cert.KernelAdamProjIdeal.nD Cert.KernelAdamProjIdeal.τ).loc Cert.KernelAdamProjIdeal.main_v7_3)),
      θ_run (Cert.KernelAdamProjIdeal.defs (F := Ideal)) (onTc (τ := Cert.KernelAdamProjIdeal.τ) (Cert.KernelAdamProjIdeal.main (F := Ideal))) ⟨m, fun _ => 0, g⟩ (fun r => ∀ c : Dev Cert.KernelAdamProjIdeal.nD,
          r.2.mem ((c.tc : Thread Cert.KernelAdamProjIdeal.nD Cert.KernelAdamProjIdeal.τ).loc Cert.KernelAdamProjIdeal.main_v7_0) = v0 c
          ∧ r.2.mem ((c.tc : Thread Cert.KernelAdamProjIdeal.nD Cert.KernelAdamProjIdeal.τ).loc Cert.KernelAdamProjIdeal.main_v7_1) = v1 c
          ∧ r.2.mem ((c.tc : Thread Cert.KernelAdamProjIdeal.nD Cert.KernelAdamProjIdeal.τ).loc Cert.KernelAdamProjIdeal.main_v7_2) = v2 c
          ∧ r.2.mem ((c.tc : Thread Cert.KernelAdamProjIdeal.nD Cert.KernelAdamProjIdeal.τ).loc Cert.KernelAdamProjIdeal.main_v7_3) = v3 c
          ∧ r.2.mem ((c.tc : Thread Cert.KernelAdamProjIdeal.nD Cert.KernelAdamProjIdeal.τ).loc Cert.KernelAdamProjIdeal.main_arg0) = m ((c.tc : Thread Cert.KernelAdamProjIdeal.nD Cert.KernelAdamProjIdeal.τ).loc Cert.KernelAdamProjIdeal.main_arg0)
          ∧ r.2.mem ((c.tc : Thread Cert.KernelAdamProjIdeal.nD Cert.KernelAdamProjIdeal.τ).loc Cert.KernelAdamProjIdeal.main_arg1) = m ((c.tc : Thread Cert.KernelAdamProjIdeal.nD Cert.KernelAdamProjIdeal.τ).loc Cert.KernelAdamProjIdeal.main_arg1)
          ∧ r.2.mem ((c.tc : Thread Cert.KernelAdamProjIdeal.nD Cert.KernelAdamProjIdeal.τ).loc Cert.KernelAdamProjIdeal.main_arg2) = m ((c.tc : Thread Cert.KernelAdamProjIdeal.nD Cert.KernelAdamProjIdeal.τ).loc Cert.KernelAdamProjIdeal.main_arg2)
          ∧ r.2.mem ((c.tc : Thread Cert.KernelAdamProjIdeal.nD Cert.KernelAdamProjIdeal.τ).loc Cert.KernelAdamProjIdeal.main_arg3) = m ((c.tc : Thread Cert.KernelAdamProjIdeal.nD Cert.KernelAdamProjIdeal.τ).loc Cert.KernelAdamProjIdeal.main_arg3)
          ∧ r.2.mem ((c.tc : Thread Cert.KernelAdamProjIdeal.nD Cert.KernelAdamProjIdeal.τ).loc Cert.KernelAdamProjIdeal.main_arg4) = m ((c.tc : Thread Cert.KernelAdamProjIdeal.nD Cert.KernelAdamProjIdeal.τ).loc Cert.KernelAdamProjIdeal.main_arg4)
          ∧ r.2.mem ((c.tc : Thread Cert.KernelAdamProjIdeal.nD Cert.KernelAdamProjIdeal.τ).loc Cert.KernelAdamProjIdeal.main_arg5) = m ((c.tc : Thread Cert.KernelAdamProjIdeal.nD Cert.KernelAdamProjIdeal.τ).loc Cert.KernelAdamProjIdeal.main_arg5))
      ∧ θ_run (Cert.ReferenceAdamProjIdeal.defs (F := Ideal)) (onTc (τ := Cert.ReferenceAdamProjIdeal.τ) (Cert.ReferenceAdamProjIdeal.main (F := Ideal))) ⟨m', fun _ => 0, g'⟩ (fun r => ∀ c : Dev Cert.ReferenceAdamProjIdeal.nD,
          r.2.mem ((c.tc : Thread Cert.ReferenceAdamProjIdeal.nD Cert.ReferenceAdamProjIdeal.τ).loc Cert.ReferenceAdamProjIdeal.main_v6) = v0 c
          ∧ r.2.mem ((c.tc : Thread Cert.ReferenceAdamProjIdeal.nD Cert.ReferenceAdamProjIdeal.τ).loc Cert.ReferenceAdamProjIdeal.main_v30) = v1 c
          ∧ r.2.mem ((c.tc : Thread Cert.ReferenceAdamProjIdeal.nD Cert.ReferenceAdamProjIdeal.τ).loc Cert.ReferenceAdamProjIdeal.main_v11) = v2 c
          ∧ r.2.mem ((c.tc : Thread Cert.ReferenceAdamProjIdeal.nD Cert.ReferenceAdamProjIdeal.τ).loc Cert.ReferenceAdamProjIdeal.main_v17) = v3 c
          ∧ r.2.mem ((c.tc : Thread Cert.ReferenceAdamProjIdeal.nD Cert.ReferenceAdamProjIdeal.τ).loc Cert.ReferenceAdamProjIdeal.main_arg0) = m' ((c.tc : Thread Cert.ReferenceAdamProjIdeal.nD Cert.ReferenceAdamProjIdeal.τ).loc Cert.ReferenceAdamProjIdeal.main_arg0)
          ∧ r.2.mem ((c.tc : Thread Cert.ReferenceAdamProjIdeal.nD Cert.ReferenceAdamProjIdeal.τ).loc Cert.ReferenceAdamProjIdeal.main_arg1) = m' ((c.tc : Thread Cert.ReferenceAdamProjIdeal.nD Cert.ReferenceAdamProjIdeal.τ).loc Cert.ReferenceAdamProjIdeal.main_arg1)
          ∧ r.2.mem ((c.tc : Thread Cert.ReferenceAdamProjIdeal.nD Cert.ReferenceAdamProjIdeal.τ).loc Cert.ReferenceAdamProjIdeal.main_arg2) = m' ((c.tc : Thread Cert.ReferenceAdamProjIdeal.nD Cert.ReferenceAdamProjIdeal.τ).loc Cert.ReferenceAdamProjIdeal.main_arg2)
          ∧ r.2.mem ((c.tc : Thread Cert.ReferenceAdamProjIdeal.nD Cert.ReferenceAdamProjIdeal.τ).loc Cert.ReferenceAdamProjIdeal.main_arg3) = m' ((c.tc : Thread Cert.ReferenceAdamProjIdeal.nD Cert.ReferenceAdamProjIdeal.τ).loc Cert.ReferenceAdamProjIdeal.main_arg3)
          ∧ r.2.mem ((c.tc : Thread Cert.ReferenceAdamProjIdeal.nD Cert.ReferenceAdamProjIdeal.τ).loc Cert.ReferenceAdamProjIdeal.main_arg4) = m' ((c.tc : Thread Cert.ReferenceAdamProjIdeal.nD Cert.ReferenceAdamProjIdeal.τ).loc Cert.ReferenceAdamProjIdeal.main_arg4)
          ∧ r.2.mem ((c.tc : Thread Cert.ReferenceAdamProjIdeal.nD Cert.ReferenceAdamProjIdeal.τ).loc Cert.ReferenceAdamProjIdeal.main_arg5) = m' ((c.tc : Thread Cert.ReferenceAdamProjIdeal.nD Cert.ReferenceAdamProjIdeal.τ).loc Cert.ReferenceAdamProjIdeal.main_arg5))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)
      ∧ m' ((c.tc : Thread Cert.ReferenceAdamInIdeal.nD Cert.ReferenceAdamInIdeal.τ).loc Cert.ReferenceAdamInIdeal.main_arg5) = m ((c.tc : Thread Cert.KernelAdamInIdeal.nD Cert.KernelAdamInIdeal.τ).loc Cert.KernelAdamInIdeal.main_arg5)) →
    ∃ (v0 : (c : Dev Cert.KernelAdamInIdeal.nD) → Buf (Elt Ideal) ((c.tc : Thread Cert.KernelAdamInIdeal.nD Cert.KernelAdamInIdeal.τ).loc Cert.KernelAdamInIdeal.main_v14_0)) (v1 : (c : Dev Cert.KernelAdamInIdeal.nD) → Buf (Elt Ideal) ((c.tc : Thread Cert.KernelAdamInIdeal.nD Cert.KernelAdamInIdeal.τ).loc Cert.KernelAdamInIdeal.main_v14_1)) (v2 : (c : Dev Cert.KernelAdamInIdeal.nD) → Buf (Elt Ideal) ((c.tc : Thread Cert.KernelAdamInIdeal.nD Cert.KernelAdamInIdeal.τ).loc Cert.KernelAdamInIdeal.main_v14_2)) (v3 : (c : Dev Cert.KernelAdamInIdeal.nD) → Buf (Elt Ideal) ((c.tc : Thread Cert.KernelAdamInIdeal.nD Cert.KernelAdamInIdeal.τ).loc Cert.KernelAdamInIdeal.main_v14_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v14_0) = v0 c
          ∧ r.2.mem ((c.tc : Thread Cert.KernelAdamInIdeal.nD Cert.KernelAdamInIdeal.τ).loc Cert.KernelAdamInIdeal.main_v14_1) = v1 c
          ∧ r.2.mem ((c.tc : Thread Cert.KernelAdamInIdeal.nD Cert.KernelAdamInIdeal.τ).loc Cert.KernelAdamInIdeal.main_v14_2) = v2 c
          ∧ r.2.mem ((c.tc : Thread Cert.KernelAdamInIdeal.nD Cert.KernelAdamInIdeal.τ).loc Cert.KernelAdamInIdeal.main_v14_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4)
          ∧ r.2.mem ((c.tc : Thread Cert.KernelAdamInIdeal.nD Cert.KernelAdamInIdeal.τ).loc Cert.KernelAdamInIdeal.main_arg5) = m ((c.tc : Thread Cert.KernelAdamInIdeal.nD Cert.KernelAdamInIdeal.τ).loc Cert.KernelAdamInIdeal.main_arg5))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v16) = v0 c
          ∧ r.2.mem ((c.tc : Thread Cert.ReferenceAdamInIdeal.nD Cert.ReferenceAdamInIdeal.τ).loc Cert.ReferenceAdamInIdeal.main_v40) = v1 c
          ∧ r.2.mem ((c.tc : Thread Cert.ReferenceAdamInIdeal.nD Cert.ReferenceAdamInIdeal.τ).loc Cert.ReferenceAdamInIdeal.main_v21) = v2 c
          ∧ r.2.mem ((c.tc : Thread Cert.ReferenceAdamInIdeal.nD Cert.ReferenceAdamInIdeal.τ).loc Cert.ReferenceAdamInIdeal.main_v27) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4)
          ∧ r.2.mem ((c.tc : Thread Cert.ReferenceAdamInIdeal.nD Cert.ReferenceAdamInIdeal.τ).loc Cert.ReferenceAdamInIdeal.main_arg5) = m' ((c.tc : Thread Cert.ReferenceAdamInIdeal.nD Cert.ReferenceAdamInIdeal.τ).loc Cert.ReferenceAdamInIdeal.main_arg5))

def Claim : Prop :=
  ∃ (hKernel : Cert.Kernel.Facts) (hKernelIdeal : Cert.KernelIdeal.Facts) (hReferenceIdeal : Cert.ReferenceIdeal.Facts) (hKernelGateUp : Cert.KernelGateUp.Facts) (hKernelGateUpIdeal : Cert.KernelGateUpIdeal.Facts) (hReferenceGateUpIdeal : Cert.ReferenceGateUpIdeal.Facts) (hKernelDown : Cert.KernelDown.Facts) (hKernelDownIdeal : Cert.KernelDownIdeal.Facts) (hReferenceDownIdeal : Cert.ReferenceDownIdeal.Facts) (hKernelProj : Cert.KernelProj.Facts) (hKernelProjIdeal : Cert.KernelProjIdeal.Facts) (hReferenceProjIdeal : Cert.ReferenceProjIdeal.Facts) (hKernelAdamSmall : Cert.KernelAdamSmall.Facts) (hKernelAdamSmallIdeal : Cert.KernelAdamSmallIdeal.Facts) (hReferenceAdamSmallIdeal : Cert.ReferenceAdamSmallIdeal.Facts) (hKernelAdamConv : Cert.KernelAdamConv.Facts) (hKernelAdamConvIdeal : Cert.KernelAdamConvIdeal.Facts) (hReferenceAdamConvIdeal : Cert.ReferenceAdamConvIdeal.Facts) (hKernelAdamDown : Cert.KernelAdamDown.Facts) (hKernelAdamDownIdeal : Cert.KernelAdamDownIdeal.Facts) (hReferenceAdamDownIdeal : Cert.ReferenceAdamDownIdeal.Facts) (hKernelAdamGateUp : Cert.KernelAdamGateUp.Facts) (hKernelAdamGateUpIdeal : Cert.KernelAdamGateUpIdeal.Facts) (hReferenceAdamGateUpIdeal : Cert.ReferenceAdamGateUpIdeal.Facts) (hKernelAdamProj : Cert.KernelAdamProj.Facts) (hKernelAdamProjIdeal : Cert.KernelAdamProjIdeal.Facts) (hReferenceAdamProjIdeal : Cert.ReferenceAdamProjIdeal.Facts) (hKernelAdamIn : Cert.KernelAdamIn.Facts) (hKernelAdamInIdeal : Cert.KernelAdamInIdeal.Facts) (hReferenceAdamInIdeal : Cert.ReferenceAdamInIdeal.Facts) (hPre_real_entries : Cert.Pre_real_entries.Facts) (hPre_device_gate_up : Cert.Pre_device_gate_up.Facts) (hPre_device_down : Cert.Pre_device_down.Facts) (hPre_device_proj : Cert.Pre_device_proj.Facts),
    quiescent_Kernel (hKernel := hKernel)
    ∧ quiescent_KernelIdeal (hKernelIdeal := hKernelIdeal)
    ∧ quiescent_KernelIdeal_pre_real_entries (hKernelIdeal := hKernelIdeal) (hPre_real_entries := hPre_real_entries)
    ∧ quiescent_ReferenceIdeal (hReferenceIdeal := hReferenceIdeal)
    ∧ quiescent_ReferenceIdeal_pre_real_entries (hReferenceIdeal := hReferenceIdeal) (hPre_real_entries := hPre_real_entries)
    ∧ quiescent_KernelGateUp (hKernelGateUp := hKernelGateUp) (hPre_device_gate_up := hPre_device_gate_up)
    ∧ quiescent_KernelGateUpIdeal (hKernelGateUpIdeal := hKernelGateUpIdeal) (hPre_device_gate_up := hPre_device_gate_up)
    ∧ quiescent_ReferenceGateUpIdeal (hReferenceGateUpIdeal := hReferenceGateUpIdeal)
    ∧ quiescent_ReferenceGateUpIdeal_pre_device_gate_up (hReferenceGateUpIdeal := hReferenceGateUpIdeal) (hPre_device_gate_up := hPre_device_gate_up)
    ∧ quiescent_KernelDown (hKernelDown := hKernelDown) (hPre_device_down := hPre_device_down)
    ∧ quiescent_KernelDownIdeal (hKernelDownIdeal := hKernelDownIdeal) (hPre_device_down := hPre_device_down)
    ∧ quiescent_ReferenceDownIdeal (hReferenceDownIdeal := hReferenceDownIdeal)
    ∧ quiescent_ReferenceDownIdeal_pre_device_down (hReferenceDownIdeal := hReferenceDownIdeal) (hPre_device_down := hPre_device_down)
    ∧ quiescent_KernelProj (hKernelProj := hKernelProj) (hPre_device_proj := hPre_device_proj)
    ∧ quiescent_KernelProjIdeal (hKernelProjIdeal := hKernelProjIdeal) (hPre_device_proj := hPre_device_proj)
    ∧ quiescent_ReferenceProjIdeal (hReferenceProjIdeal := hReferenceProjIdeal)
    ∧ quiescent_ReferenceProjIdeal_pre_device_proj (hReferenceProjIdeal := hReferenceProjIdeal) (hPre_device_proj := hPre_device_proj)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelAdamConv (hKernelAdamConv := hKernelAdamConv)
    ∧ quiescent_KernelAdamConvIdeal (hKernelAdamConvIdeal := hKernelAdamConvIdeal)
    ∧ quiescent_ReferenceAdamConvIdeal (hReferenceAdamConvIdeal := hReferenceAdamConvIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamGateUp (hKernelAdamGateUp := hKernelAdamGateUp)
    ∧ quiescent_KernelAdamGateUpIdeal (hKernelAdamGateUpIdeal := hKernelAdamGateUpIdeal)
    ∧ quiescent_ReferenceAdamGateUpIdeal (hReferenceAdamGateUpIdeal := hReferenceAdamGateUpIdeal)
    ∧ quiescent_KernelAdamProj (hKernelAdamProj := hKernelAdamProj)
    ∧ quiescent_KernelAdamProjIdeal (hKernelAdamProjIdeal := hKernelAdamProjIdeal)
    ∧ quiescent_ReferenceAdamProjIdeal (hReferenceAdamProjIdeal := hReferenceAdamProjIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ preserves_Kernel_KernelIdeal
    ∧ algebraic_KernelIdeal_ReferenceIdeal_pre_real_entries (hKernelIdeal := hKernelIdeal) (hReferenceIdeal := hReferenceIdeal) (hPre_real_entries := hPre_real_entries)
    ∧ preserves_KernelGateUp_KernelGateUpIdeal
    ∧ algebraic_KernelGateUpIdeal_ReferenceGateUpIdeal (hKernelGateUpIdeal := hKernelGateUpIdeal) (hReferenceGateUpIdeal := hReferenceGateUpIdeal) (hPre_device_gate_up := hPre_device_gate_up)
    ∧ preserves_KernelDown_KernelDownIdeal
    ∧ algebraic_KernelDownIdeal_ReferenceDownIdeal (hKernelDownIdeal := hKernelDownIdeal) (hReferenceDownIdeal := hReferenceDownIdeal) (hPre_device_down := hPre_device_down)
    ∧ preserves_KernelProj_KernelProjIdeal
    ∧ algebraic_KernelProjIdeal_ReferenceProjIdeal (hKernelProjIdeal := hKernelProjIdeal) (hReferenceProjIdeal := hReferenceProjIdeal) (hPre_device_proj := hPre_device_proj)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelAdamConv_KernelAdamConvIdeal
    ∧ algebraic_KernelAdamConvIdeal_ReferenceAdamConvIdeal (hKernelAdamConvIdeal := hKernelAdamConvIdeal) (hReferenceAdamConvIdeal := hReferenceAdamConvIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamGateUp_KernelAdamGateUpIdeal
    ∧ algebraic_KernelAdamGateUpIdeal_ReferenceAdamGateUpIdeal (hKernelAdamGateUpIdeal := hKernelAdamGateUpIdeal) (hReferenceAdamGateUpIdeal := hReferenceAdamGateUpIdeal)
    ∧ preserves_KernelAdamProj_KernelAdamProjIdeal
    ∧ algebraic_KernelAdamProjIdeal_ReferenceAdamProjIdeal (hKernelAdamProjIdeal := hKernelAdamProjIdeal) (hReferenceAdamProjIdeal := hReferenceAdamProjIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
-- ==== Pre_device_down.lean ====
abbrev S1 : Shape := ⟨1, ![1]⟩
abbrev S4x8192x704 : Shape := ⟨3, ![4, 8192, 704]⟩
abbrev S8192x1024 : Shape := ⟨2, ![8192, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x8192x704 .bf16) (main_arg2 : FVec F S8192x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_gate_up.lean ====
abbrev S1 : Shape := ⟨1, ![1]⟩
abbrev S8x8192x704 : Shape := ⟨3, ![8, 8192, 704]⟩
abbrev S8192x1024 : Shape := ⟨2, ![8192, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x8192x704 .bf16) (main_arg2 : FVec F S8192x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_proj.lean ====
abbrev S1 : Shape := ⟨1, ![1]⟩
abbrev S8192x1024 : Shape := ⟨2, ![8192, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8192x1024 .bf16) (main_arg2 : FVec F S8192x1024 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_real_entries.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S8192x1024 .f32) (main_arg2 : FVec F S1024 .f32) (main_arg3 : FVec F S1024 .f32) (main_arg4 : FVec F S1024x5632 .f32) (main_arg5 : FVec F S2816x1024 .f32) : IVec S8192x1024 1 × IVec S8192x1024 1 × IVec S1024 1 × IVec S1024 1 × IVec S1024x5632 1 × IVec S2816x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  (main_v2, main_v5, main_v8, main_v11, main_v14, main_v17)
-- ==== Kernel.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S1024x8x704 : Shape := ⟨3, ![1024, 8, 704]⟩
abbrev S8x1024x704 : Shape := ⟨3, ![8, 1024, 704]⟩
abbrev S4x704x1024 : Shape := ⟨3, ![4, 704, 1024]⟩
abbrev S1x1024 : Shape := ⟨2, ![1, 1024]⟩
abbrev S4x8192x704 : Shape := ⟨3, ![4, 8192, 704]⟩
abbrev S8x8192x704 : Shape := ⟨3, ![8, 8192, 704]⟩
abbrev S8x1024 : Shape := ⟨2, ![8, 1024]⟩
abbrev S256x1024 : Shape := ⟨2, ![256, 1024]⟩
abbrev S4x256x704 : Shape := ⟨3, ![4, 256, 704]⟩
abbrev S8x256x704 : Shape := ⟨3, ![8, 256, 704]⟩
abbrev S3x16x1024 : Shape := ⟨3, ![3, 16, 1024]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S1x704x1024 : Shape := ⟨3, ![1, 704, 1024]⟩
abbrev S704x1024 : Shape := ⟨2, ![704, 1024]⟩
abbrev S1x16x1024 : Shape := ⟨3, ![1, 16, 1024]⟩
abbrev S16x1024 : Shape := ⟨2, ![16, 1024]⟩
abbrev S16x16x1024 : Shape := ⟨3, ![16, 16, 1024]⟩

abbrev nBuf : Space → Nat
  | .hbm => 20
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S4x704x1024, .f32⟩
  | .hbm, ⟨10, _⟩ => ⟨S4x704x1024, .bf16⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S4x8192x704, .bf16⟩
  | .hbm, ⟨17, _⟩ => ⟨S8x8192x704, .bf16⟩
  | .hbm, ⟨18, _⟩ => ⟨S8192x1024, .bf16⟩
  | .hbm, ⟨19, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x1024x704, .bf16⟩
  | .local _ .vmem, ⟨7, _⟩ => ⟨S4x704x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S4x256x704, .bf16⟩
  | .local _ .vmem, ⟨15, _⟩ => ⟨S4x256x704, .bf16⟩
  | .local _ .vmem, ⟨16, _⟩ => ⟨S8x256x704, .bf16⟩
  | .local _ .vmem, ⟨17, _⟩ => ⟨S8x256x704, .bf16⟩
  | .local _ .vmem, ⟨18, _⟩ => ⟨S256x1024, .bf16⟩
  | .local _ .vmem, ⟨19, _⟩ => ⟨S256x1024, .bf16⟩
  | .local _ .vmem, ⟨20, _⟩ => ⟨S8x1024, .f32⟩
  | .local _ .vmem, ⟨21, _⟩ => ⟨S4x256x704, .f32⟩
  | .local _ .vmem, ⟨22, _⟩ => ⟨S4x256x704, .f32⟩
  | .local _ .vmem, ⟨23, _⟩ => ⟨S256x1024, .f32⟩
  | .local _ .vmem, ⟨24, _⟩ => ⟨S3x16x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev main_v7_6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v350 : BitVec 1 := Scalar.cmpi .eq arg0 c31_i32
  let v351 : BitVec 32 := Scalar.extui v350
  let c0_i32_268 : BitVec 32 := 0#32
  let v352 : BitVec 1 := Scalar.cmpi .ne v351 c0_i32_268
  v352

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x704 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S8192x2816 : Shape := ⟨2, ![8192, 2816]⟩
abbrev S5x1024 : Shape := ⟨2, ![5, 1024]⟩
abbrev S8x1024 : Shape := ⟨2, ![8, 1024]⟩
abbrev S8192x4x704 : Shape := ⟨3, ![8192, 4, 704]⟩
abbrev S4x8192x704 : Shape := ⟨3, ![4, 8192, 704]⟩
abbrev S8192x8x704 : Shape := ⟨3, ![8192, 8, 704]⟩
abbrev S8x8192x704 : Shape := ⟨3, ![8, 8192, 704]⟩

abbrev nBuf : Space → Nat
  | .hbm => 167
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024, .f32⟩
  | 4 => ⟨S1024x5632, .f32⟩
  | 5 => ⟨S2816x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S1x1024, .f32⟩
  | 24 => ⟨S8192x1024, .f32⟩
  | 25 => ⟨S8192x1024, .f32⟩
  | 26 => ⟨S8192x5632, .f32⟩
  | 27 => ⟨S8192x2816, .f32⟩
  | 28 => ⟨S8192x2816, .f32⟩
  | 29 => ⟨S8192x2816, .f32⟩
  | 30 => ⟨S8192x2816, .f32⟩
  | 31 => ⟨S_, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S8192x2816, .f32⟩
  | 41 => ⟨S8192x2816, .f32⟩
  | 42 => ⟨S8192x2816, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x2816, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x5632, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S_, .f32⟩
  | 1 => ⟨S1024, .f32⟩
  | 2 => ⟨S8192x1024, .f32⟩
  | 3 => ⟨S_, .f32⟩
  | 4 => ⟨S8192, .f32⟩
  | 5 => ⟨S8192x1, .f32⟩
  | 6 => ⟨S8192x1024, .f32⟩
  | 7 => ⟨S8192x1024, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192, .f32⟩
  | 14 => ⟨S8192x1024, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S1024, .f32⟩
  | 24 => ⟨S1x1024, .f32⟩
  | 25 => ⟨S1x1024, .f32⟩
  | 26 => ⟨S1x1024, .f32⟩
  | 27 => ⟨S_, .f32⟩
  | 28 => ⟨S5x1024, .f32⟩
  | 29 => ⟨S8x1024, .f32⟩
  | 30 => ⟨S8192x1024, .bf16⟩
  | 31 => ⟨S8192x1024, .bf16⟩
  | 32 => ⟨S8192x4x704, .f32⟩
  | 33 => ⟨S4x8192x704, .f32⟩
  | 34 => ⟨S4x8192x704, .bf16⟩
  | 35 => ⟨S8192x8x704, .f32⟩
  | 36 => ⟨S8x8192x704, .f32⟩
  | 37 => ⟨S8x8192x704, .bf16⟩
  | 38 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_cst_9 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_cst_11 : Ref sig .tc := ⟨.hbm, 77, rfl⟩
abbrev main_v47 : Ref sig .tc := ⟨.hbm, 78, rfl⟩
abbrev main_cst_12 : Ref sig .tc := ⟨.hbm, 79, rfl⟩
abbrev main_cst_13 : Ref sig .tc := ⟨.hbm, 80, rfl⟩
abbrev main_v48 : Ref sig .tc := ⟨.hbm, 81, rfl⟩
abbrev main_v49 : Ref sig .tc := ⟨.hbm, 82, rfl⟩
abbrev main_cst_14 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_15 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_16 : Ref sig .tc := ⟨.hbm, 94, rfl⟩
abbrev main_v59 : Ref sig .tc := ⟨.hbm, 95, rfl⟩
abbrev main_v60 : Ref sig .tc := ⟨.hbm, 96, rfl⟩
abbrev main_cst_17 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_18 : Ref sig .tc := ⟨.hbm, 103, rfl⟩
abbrev main_v66 : Ref sig .tc := ⟨.hbm, 104, rfl⟩
abbrev main_v67 : Ref sig .tc := ⟨.hbm, 105, rfl⟩
abbrev main_cst_19 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_20 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_21 : Ref sig .tc := ⟨.hbm, 128, rfl⟩
abbrev main_v85 : Ref sig .tc := ⟨.hbm, 129, rfl⟩
abbrev main_v86 : Ref sig .tc := ⟨.hbm, 130, rfl⟩
abbrev main_cst_22 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_23 : Ref sig .tc := ⟨.hbm, 137, rfl⟩
abbrev main_v92 : Ref sig .tc := ⟨.hbm, 138, rfl⟩
abbrev main_v93 : Ref sig .tc := ⟨.hbm, 139, rfl⟩
abbrev main_cst_24 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_cst_25 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_cst_26 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩

abbrev nD : Nat := 1
abbrev τ : Topo := Topo.v7x

variable {F : FTy → Type} [FloatOps F]
-- ==== KernelGateUp.lean ====
abbrev S1 : Shape := ⟨1, ![1]⟩
abbrev S8x8192x704 : Shape := ⟨3, ![8, 8192, 704]⟩
abbrev S8192x1024 : Shape := ⟨2, ![8192, 1024]⟩
abbrev S704x1024 : Shape := ⟨2, ![704, 1024]⟩
abbrev S8x704x1024 : Shape := ⟨3, ![8, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S4096x704 : Shape := ⟨2, ![4096, 704]⟩

abbrev nBuf : Space → Nat
  | .hbm => 4
  | .vmem => 8
  | .smem => 1
  | _ => 0

abbrev bufTy : (tb : Table) → Fin (tcTables nBuf tb) → BufTy
  | .hbm, ⟨0, _⟩ => ⟨S8x8192x704, .bf16⟩
  | .hbm, ⟨1, _⟩ => ⟨S8192x1024, .bf16⟩
  | .hbm, ⟨2, _⟩ => ⟨S704x1024, .f32⟩
  | .hbm, ⟨3, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S704x1024, .f32⟩
  | .local _ .vmem, ⟨5, _⟩ => ⟨S1x704x1024, .bf16⟩
  | .local _ .vmem, ⟨6, _⟩ => ⟨S1x704x1024, .bf16⟩
  | .local _ .vmem, ⟨7, _⟩ => ⟨S704x1024, .f32⟩
  | .local _ .smem, ⟨0, _⟩ => ⟨S1, .i32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def k0_mult1 (v46 : BitVec 32) : BitVec 32 :=
  let c1_i32_28 : BitVec 32 := 1#32
  let v47 : BitVec 32 := Scalar.remsi v46 c1_i32_28
  let c704_i32 : BitVec 32 := 704#32
  let v48 : BitVec 32 := Scalar.muli v47 c704_i32
  v48
def k0_cond3 (i : grid0.Coords) (v25 : BitVec 32) : BitVec 1 :=
  let arg0 : BitVec 32 := BitVec.ofNat 32 (i 0).val
  let c0_i32_20 : BitVec 32 := 0#32
  let v27 : BitVec 1 := Scalar.cmpi .sgt v25 c0_i32_20
  let v28 : BitVec 32 := Scalar.extui v27
  let c0_i32_21 : BitVec 32 := 0#32
  let v29 : BitVec 1 := Scalar.cmpi .slt v25 c0_i32_21
  let v30 : BitVec 32 := Scalar.extui v29
  let v31 : BitVec 32 := Scalar.subi v28 v30
  let c1_i32_19 : BitVec 32 := 1#32
  let c0_i32_22 : BitVec 32 := 0#32
  let v32 : BitVec 1 := Scalar.cmpi .sgt c1_i32_19 c0_i32_22
  let v33 : BitVec 32 := Scalar.extui v32
  let c0_i32_23 : BitVec 32 := 0#32
  let v34 : BitVec 1 := Scalar.cmpi .slt c1_i32_19 c0_i32_23
  let v35 : BitVec 32 := Scalar.extui v34
  let v36 : BitVec 32 := Scalar.subi v33 v35
  let v37 : BitVec 1 := Scalar.cmpi .ne v31 v36
  let v38 : BitVec 32 := Scalar.remsi v25 c1_i32_19
  let c0_i32_24 : BitVec 32 := 0#32
  let v39 : BitVec 1 := Scalar.cmpi .ne v38 c0_i32_24
  let v40 : BitVec 1 := Scalar.andi v37 v39
  let v26 : BitVec 32 := Scalar.divsi v25 c1_i32_19
  let c1_i32_25 : BitVec 32 := 1#32
  let v41 : BitVec 32 := Scalar.subi v26 c1_i32_25
  let v42 : BitVec 32 := Scalar.select v40 v41 v26
  let v43 : BitVec 1 := Scalar.cmpi .eq arg0 v42
  let v44 : BitVec 32 := Scalar.extui v43
  let c0_i32_26 : BitVec 32 := 0#32
  let v45 : BitVec 1 := Scalar.cmpi .ne v44 c0_i32_26
  v45

def k0_off1 (v46 : BitVec 32) : Fin 2 → Nat :=
  let c1_i32_28 : BitVec 32 := 1#32
  let v47 : BitVec 32 := Scalar.remsi v46 c1_i32_28
  let c704_i32 : BitVec 32 := 704#32
  let v48 : BitVec 32 := Scalar.muli v47 c704_i32
  let v49 : BitVec 32 := v48
  let v50 : Index := Scalar.indexCast v49
  let c0_29 : Index := 0#32
  ![v50.toNat, 0]

def k0_chk1 (i : grid0.Coords) (v25 : BitVec 32) (v46 : BitVec 32) : Prop :=
  (∀ (k0_h2 : k0_cond2 i = 1#1), ∀ (k0_h3 : k0_cond3 i v25 = 1#1), 16 ∣ (k0_mult1 v46).toNat) ∧
  (∀ (k0_h2 : k0_cond2 i = 1#1), ∀ (k0_h3 : k0_cond3 i v25 = 1#1), ∀ a, (k0_off1 v46) a + S704x1024.size a ≤ S704x1024.size a)
theorem k0_mult1_dvd : ∀ (i : grid0.Coords) (v25 : BitVec 32) (v46 : BitVec 32) (k0_hw1 : k0_chk1 i v25 v46), ∀ (k0_h2 : k0_cond2 i = 1#1), ∀ (k0_h3 : k0_cond3 i v25 = 1#1), 16 ∣ (k0_mult1 v46).toNat := fun i v25 v46 k0_hw1 k0_h2 k0_h3 => k0_hw1.1 k0_h2 k0_h3
theorem k0_off1_inb : ∀ (i : grid0.Coords) (v25 : BitVec 32) (v46 : BitVec 32) (k0_hw1 : k0_chk1 i v25 v46), ∀ (k0_h2 : k0_cond2 i = 1#1), ∀ (k0_h3 : k0_cond3 i v25 = 1#1), ∀ a, (k0_off1 v46) a + S704x1024.size a ≤ S704x1024.size a := fun i v25 v46 k0_hw1 k0_h2 k0_h3 => k0_hw1.2 k0_h2 k0_h3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceGateUpIdeal.lean ====
abbrev S1 : Shape := ⟨1, ![1]⟩
abbrev S8x8192x704 : Shape := ⟨3, ![8, 8192, 704]⟩
abbrev S8192x1024 : Shape := ⟨2, ![8192, 1024]⟩
abbrev S8192x8x704 : Shape := ⟨3, ![8192, 8, 704]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩
abbrev S8 : Shape := ⟨1, ![8]⟩
abbrev S8x1x1 : Shape := ⟨3, ![8, 1, 1]⟩
abbrev S704x1024 : Shape := ⟨2, ![704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x8192x704, .bf16⟩
  | .hbm, ⟨2, _⟩ => ⟨S8192x1024, .bf16⟩
  | .hbm, ⟨3, _⟩ => ⟨S8192x8x704, .bf16⟩
  | .hbm, ⟨4, _⟩ => ⟨S8192x5632, .bf16⟩
  | .hbm, ⟨5, _⟩ => ⟨S8192x5632, .f32⟩
  | .hbm, ⟨6, _⟩ => ⟨S_, .f32⟩
  | .hbm, ⟨7, _⟩ => ⟨S1024x5632, .f32⟩
  | .hbm, ⟨8, _⟩ => ⟨S8192x1024, .f32⟩
  | .hbm, ⟨9, _⟩ => ⟨S8192x5632, .f32⟩
  | .hbm, ⟨10, _⟩ => ⟨S5632x1024, .f32⟩
  | .hbm, ⟨11, _⟩ => ⟨S1024x5632, .f32⟩
  | .hbm, ⟨12, _⟩ => ⟨S5632x1024, .f32⟩
  | .hbm, ⟨13, _⟩ => ⟨S8x704x1024, .f32⟩
  | .hbm, ⟨14, _⟩ => ⟨S8, .i32⟩
  | .hbm, ⟨15, _⟩ => ⟨S8, .i32⟩
  | .hbm, ⟨16, _⟩ => ⟨S8, .i1⟩
  | .hbm, ⟨17, _⟩ => ⟨S8x1x1, .i1⟩
  | .hbm, ⟨18, _⟩ => ⟨S_, .f32⟩
  | .hbm, ⟨19, _⟩ => ⟨S_, .f32⟩
  | .hbm, ⟨20, _⟩ => ⟨S8x704x1024, .i1⟩
  | .hbm, ⟨21, _⟩ => ⟨S8x704x1024, .f32⟩
  | .hbm, ⟨22, _⟩ => ⟨S8x704x1024, .f32⟩
  | .hbm, ⟨23, _⟩ => ⟨S_, .f32⟩
  | .hbm, ⟨24, _⟩ => ⟨S704x1024, .f32⟩
  | .hbm, ⟨25, _⟩ => ⟨S8x704x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== KernelDown.lean ====
abbrev S1 : Shape := ⟨1, ![1]⟩
abbrev S4x8192x704 : Shape := ⟨3, ![4, 8192, 704]⟩
abbrev S8192x1024 : Shape := ⟨2, ![8192, 1024]⟩
abbrev S352x1024 : Shape := ⟨2, ![352, 1024]⟩
abbrev S4x704x1024 : Shape := ⟨3, ![4, 704, 1024]⟩
abbrev S1x4096x704 : Shape := ⟨3, ![1, 4096, 704]⟩
abbrev S4096x1024 : Shape := ⟨2, ![4096, 1024]⟩
abbrev S1x704x1024 : Shape := ⟨3, ![1, 704, 1024]⟩
abbrev S704x1024 : Shape := ⟨2, ![704, 1024]⟩
abbrev S4096x704 : Shape := ⟨2, ![4096, 704]⟩

abbrev nBuf : Space → Nat
  | .hbm => 4
  | .vmem => 8
  | .smem => 1
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S352x1024, .f32⟩
  | .hbm, ⟨3, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S352x1024, .f32⟩
  | .local _ .vmem, ⟨5, _⟩ => ⟨S1x704x1024, .bf16⟩
  | .local _ .vmem, ⟨6, _⟩ => ⟨S1x704x1024, .bf16⟩
  | .local _ .vmem, ⟨7, _⟩ => ⟨S704x1024, .f32⟩
  | .local _ .smem, ⟨0, _⟩ => ⟨S1, .i32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_12 : BitVec 32 := 0#32
  let v19 : BitVec 1 := Scalar.cmpi .ne v18 c0_i32_12
  v19

def k0_mult1 (v46 : BitVec 32) : BitVec 32 :=
  let c2_i32_27 : BitVec 32 := 2#32
  let v47 : BitVec 32 := Scalar.remsi v46 c2_i32_27
  let c352_i32 : BitVec 32 := 352#32
  let v48 : BitVec 32 := Scalar.muli v47 c352_i32
  v48
def k0_cond3 (i : grid0.Coords) (v25 : BitVec 32) : BitVec 1 :=
  let arg0 : BitVec 32 := BitVec.ofNat 32 (i 0).val
  let c0_i32_19 : BitVec 32 := 0#32
  let v27 : BitVec 1 := Scalar.cmpi .sgt v25 c0_i32_19
  let v28 : BitVec 32 := Scalar.extui v27
  let c0_i32_20 : BitVec 32 := 0#32
  let v29 : BitVec 1 := Scalar.cmpi .slt v25 c0_i32_20
  let v30 : BitVec 32 := Scalar.extui v29
  let v31 : BitVec 32 := Scalar.subi v28 v30
  let c2_i32 : BitVec 32 := 2#32
  let c0_i32_21 : BitVec 32 := 0#32
  let v32 : BitVec 1 := Scalar.cmpi .sgt c2_i32 c0_i32_21
  let v33 : BitVec 32 := Scalar.extui v32
  let c0_i32_22 : BitVec 32 := 0#32
  let v34 : BitVec 1 := Scalar.cmpi .slt c2_i32 c0_i32_22
  let v35 : BitVec 32 := Scalar.extui v34
  let v36 : BitVec 32 := Scalar.subi v33 v35
  let v37 : BitVec 1 := Scalar.cmpi .ne v31 v36
  let v38 : BitVec 32 := Scalar.remsi v25 c2_i32
  let c0_i32_23 : BitVec 32 := 0#32
  let v39 : BitVec 1 := Scalar.cmpi .ne v38 c0_i32_23
  let v40 : BitVec 1 := Scalar.andi v37 v39
  let v26 : BitVec 32 := Scalar.divsi v25 c2_i32
  let c1_i32_24 : BitVec 32 := 1#32
  let v41 : BitVec 32 := Scalar.subi v26 c1_i32_24
  let v42 : BitVec 32 := Scalar.select v40 v41 v26
  let v43 : BitVec 1 := Scalar.cmpi .eq arg0 v42
  let v44 : BitVec 32 := Scalar.extui v43
  let c0_i32_25 : BitVec 32 := 0#32
  let v45 : BitVec 1 := Scalar.cmpi .ne v44 c0_i32_25
  v45

def k0_off1 (v46 : BitVec 32) : Fin 2 → Nat :=
  let c2_i32_27 : BitVec 32 := 2#32
  let v47 : BitVec 32 := Scalar.remsi v46 c2_i32_27
  let c352_i32 : BitVec 32 := 352#32
  let v48 : BitVec 32 := Scalar.muli v47 c352_i32
  let v49 : BitVec 32 := v48
  let v50 : Index := Scalar.indexCast v49
  let c0_28 : Index := 0#32
  ![v50.toNat, 0]

def k0_chk1 (i : grid0.Coords) (v25 : BitVec 32) (v46 : BitVec 32) : Prop :=
  (∀ (k0_h2 : k0_cond2 i = 1#1), ∀ (k0_h3 : k0_cond3 i v25 = 1#1), 16 ∣ (k0_mult1 v46).toNat) ∧
  (∀ (k0_h2 : k0_cond2 i = 1#1), ∀ (k0_h3 : k0_cond3 i v25 = 1#1), ∀ a, (k0_off1 v46) a + S352x1024.size a ≤ S704x1024.size a)
theorem k0_mult1_dvd : ∀ (i : grid0.Coords) (v25 : BitVec 32) (v46 : BitVec 32) (k0_hw1 : k0_chk1 i v25 v46), ∀ (k0_h2 : k0_cond2 i = 1#1), ∀ (k0_h3 : k0_cond3 i v25 = 1#1), 16 ∣ (k0_mult1 v46).toNat := fun i v25 v46 k0_hw1 k0_h2 k0_h3 => k0_hw1.1 k0_h2 k0_h3
theorem k0_off1_inb : ∀ (i : grid0.Coords) (v25 : BitVec 32) (v46 : BitVec 32) (k0_hw1 : k0_chk1 i v25 v46), ∀ (k0_h2 : k0_cond2 i = 1#1), ∀ (k0_h3 : k0_cond3 i v25 = 1#1), ∀ a, (k0_off1 v46) a + S352x1024.size a ≤ S704x1024.size a := fun i v25 v46 k0_hw1 k0_h2 k0_h3 => k0_hw1.2 k0_h2 k0_h3

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceDownIdeal.lean ====
abbrev S1 : Shape := ⟨1, ![1]⟩
abbrev S4x8192x704 : Shape := ⟨3, ![4, 8192, 704]⟩
abbrev S8192x1024 : Shape := ⟨2, ![8192, 1024]⟩
abbrev S8192x4x704 : Shape := ⟨3, ![8192, 4, 704]⟩
abbrev S8192x2816 : Shape := ⟨2, ![8192, 2816]⟩
abbrev S_ : Shape := ⟨0, ![]⟩
abbrev S2816x1024 : Shape := ⟨2, ![2816, 1024]⟩
abbrev S1024x2816 : Shape := ⟨2, ![1024, 2816]⟩
abbrev S8x352x1024 : Shape := ⟨3, ![8, 352, 1024]⟩
abbrev S8 : Shape := ⟨1, ![8]⟩
abbrev S8x1x1 : Shape := ⟨3, ![8, 1, 1]⟩
abbrev S352x1024 : Shape := ⟨2, ![352, 1024]⟩
abbrev S4x704x1024 : Shape := ⟨3, ![4, 704, 1024]⟩

abbrev nBuf : Space → Nat
  | .hbm => 26
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x8192x704, .bf16⟩
  | .hbm, ⟨2, _⟩ => ⟨S8192x1024, .bf16⟩
  | .hbm, ⟨3, _⟩ => ⟨S8192x4x704, .bf16⟩
  | .hbm, ⟨4, _⟩ => ⟨S8192x2816, .bf16⟩
  | .hbm, ⟨5, _⟩ => ⟨S8192x2816, .f32⟩
  | .hbm, ⟨6, _⟩ => ⟨S_, .f32⟩
  | .hbm, ⟨7, _⟩ => ⟨S2816x1024, .f32⟩
  | .hbm, ⟨8, _⟩ => ⟨S8192x1024, .f32⟩
  | .hbm, ⟨9, _⟩ => ⟨S8192x1024, .f32⟩
  | .hbm, ⟨10, _⟩ => ⟨S1024x2816, .f32⟩
  | .hbm, ⟨11, _⟩ => ⟨S2816x1024, .f32⟩
  | .hbm, ⟨12, _⟩ => ⟨S8x352x1024, .f32⟩
  | .hbm, ⟨13, _⟩ => ⟨S8, .i32⟩
  | .hbm, ⟨14, _⟩ => ⟨S8, .i32⟩
  | .hbm, ⟨15, _⟩ => ⟨S8, .i1⟩
  | .hbm, ⟨16, _⟩ => ⟨S8x1x1, .i1⟩
  | .hbm, ⟨17, _⟩ => ⟨S_, .f32⟩
  | .hbm, ⟨18, _⟩ => ⟨S_, .f32⟩
  | .hbm, ⟨19, _⟩ => ⟨S8x352x1024, .i1⟩
  | .hbm, ⟨20, _⟩ => ⟨S8x352x1024, .f32⟩
  | .hbm, ⟨21, _⟩ => ⟨S8x352x1024, .f32⟩
  | .hbm, ⟨22, _⟩ => ⟨S_, .f32⟩
  | .hbm, ⟨23, _⟩ => ⟨S352x1024, .f32⟩
  | .hbm, ⟨24, _⟩ => ⟨S4x704x1024, .f32⟩
  | .hbm, ⟨25, _⟩ => ⟨S4x704x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== KernelProj.lean ====
abbrev S1 : Shape := ⟨1, ![1]⟩
abbrev S8192x1024 : Shape := ⟨2, ![8192, 1024]⟩
abbrev S128x1024 : Shape := ⟨2, ![128, 1024]⟩
abbrev S1x1024x1024 : Shape := ⟨3, ![1, 1024, 1024]⟩
abbrev S4096x1024 : Shape := ⟨2, ![4096, 1024]⟩
abbrev S1024x1024 : Shape := ⟨2, ![1024, 1024]⟩

abbrev nBuf : Space → Nat
  | .hbm => 4
  | .vmem => 7
  | .smem => 1
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S128x1024, .f32⟩
  | .hbm, ⟨3, _⟩ => ⟨S1x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S128x1024, .f32⟩
  | .local _ .vmem, ⟨5, _⟩ => ⟨S1x1024x1024, .bf16⟩
  | .local _ .vmem, ⟨6, _⟩ => ⟨S1024x1024, .f32⟩
  | .local _ .smem, ⟨0, _⟩ => ⟨S1, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0_0 : Ref sig .tc := ⟨.hbm, 2, rfl⟩
abbrev main_v0_1 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond2 (i : grid0.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_11 : BitVec 32 := 0#32
  let v18 : BitVec 1 := Scalar.cmpi .ne v17 c0_i32_11
  v18

def k0_mult1 (v45 : BitVec 32) : BitVec 32 :=
  let c8_i32_26 : BitVec 32 := 8#32
  let v46 : BitVec 32 := Scalar.remsi v45 c8_i32_26
  let c128_i32 : BitVec 32 := 128#32
  let v47 : BitVec 32 := Scalar.muli v46 c128_i32
  v47
def k0_cond3 (i : grid0.Coords) (v24 : BitVec 32) : BitVec 1 :=
  let arg0 : BitVec 32 := BitVec.ofNat 32 (i 0).val
  let c0_i32_18 : BitVec 32 := 0#32
  let v26 : BitVec 1 := Scalar.cmpi .sgt v24 c0_i32_18
  let v27 : BitVec 32 := Scalar.extui v26
  let c0_i32_19 : BitVec 32 := 0#32
  let v28 : BitVec 1 := Scalar.cmpi .slt v24 c0_i32_19
  let v29 : BitVec 32 := Scalar.extui v28
  let v30 : BitVec 32 := Scalar.subi v27 v29
  let c8_i32 : BitVec 32 := 8#32
  let c0_i32_20 : BitVec 32 := 0#32
  let v31 : BitVec 1 := Scalar.cmpi .sgt c8_i32 c0_i32_20
  let v32 : BitVec 32 := Scalar.extui v31
  let c0_i32_21 : BitVec 32 := 0#32
  let v33 : BitVec 1 := Scalar.cmpi .slt c8_i32 c0_i32_21
  let v34 : BitVec 32 := Scalar.extui v33
  let v35 : BitVec 32 := Scalar.subi v32 v34
  let v36 : BitVec 1 := Scalar.cmpi .ne v30 v35
  let v37 : BitVec 32 := Scalar.remsi v24 c8_i32
  let c0_i32_22 : BitVec 32 := 0#32
  let v38 : BitVec 1 := Scalar.cmpi .ne v37 c0_i32_22
  let v39 : BitVec 1 := Scalar.andi v36 v38
  let v25 : BitVec 32 := Scalar.divsi v24 c8_i32
  let c1_i32_23 : BitVec 32 := 1#32
  let v40 : BitVec 32 := Scalar.subi v25 c1_i32_23
  let v41 : BitVec 32 := Scalar.select v39 v40 v25
  let v42 : BitVec 1 := Scalar.cmpi .eq arg0 v41
  let v43 : BitVec 32 := Scalar.extui v42
  let c0_i32_24 : BitVec 32 := 0#32
  let v44 : BitVec 1 := Scalar.cmpi .ne v43 c0_i32_24
  v44

def k0_off1 (v45 : BitVec 32) : Fin 2 → Nat :=
  let c8_i32_26 : BitVec 32 := 8#32
  let v46 : BitVec 32 := Scalar.remsi v45 c8_i32_26
  let c128_i32 : BitVec 32 := 128#32
  let v47 : BitVec 32 := Scalar.muli v46 c128_i32
  let v48 : BitVec 32 := v47
  let v49 : Index := Scalar.indexCast v48
  let c0_27 : Index := 0#32
  ![v49.toNat, 0]

def k0_chk1 (i : grid0.Coords) (v24 : BitVec 32) (v45 : BitVec 32) : Prop :=
  (∀ (k0_h2 : k0_cond2 i = 1#1), ∀ (k0_h3 : k0_cond3 i v24 = 1#1), 16 ∣ (k0_mult1 v45).toNat) ∧
  (∀ (k0_h2 : k0_cond2 i = 1#1), ∀ (k0_h3 : k0_cond3 i v24 = 1#1), ∀ a, (k0_off1 v45) a + S128x1024.size a ≤ S1024x1024.size a)
theorem k0_mult1_dvd : ∀ (i : grid0.Coords) (v24 : BitVec 32) (v45 : BitVec 32) (k0_hw1 : k0_chk1 i v24 v45), ∀ (k0_h2 : k0_cond2 i = 1#1), ∀ (k0_h3 : k0_cond3 i v24 = 1#1), 16 ∣ (k0_mult1 v45).toNat := fun i v24 v45 k0_hw1 k0_h2 k0_h3 => k0_hw1.1 k0_h2 k0_h3
theorem k0_off1_inb : ∀ (i : grid0.Coords) (v24 : BitVec 32) (v45 : BitVec 32) (k0_hw1 : k0_chk1 i v24 v45), ∀ (k0_h2 : k0_cond2 i = 1#1), ∀ (k0_h3 : k0_cond3 i v24 = 1#1), ∀ a, (k0_off1 v45) a + S128x1024.size a ≤ S1024x1024.size a := fun i v24 v45 k0_hw1 k0_h2 k0_h3 => k0_hw1.2 k0_h2 k0_h3

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== ReferenceProjIdeal.lean ====
abbrev S1 : Shape := ⟨1, ![1]⟩
abbrev S8192x1024 : Shape := ⟨2, ![8192, 1024]⟩
abbrev S_ : Shape := ⟨0, ![]⟩
abbrev S1024x1024 : Shape := ⟨2, ![1024, 1024]⟩
abbrev S8x128x1024 : Shape := ⟨3, ![8, 128, 1024]⟩
abbrev S8 : Shape := ⟨1, ![8]⟩
abbrev S8x1x1 : Shape := ⟨3, ![8, 1, 1]⟩
abbrev S128x1024 : Shape := ⟨2, ![128, 1024]⟩
abbrev S1x1024x1024 : Shape := ⟨3, ![1, 1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1, .i32⟩
  | .hbm, ⟨1, _⟩ => ⟨S8192x1024, .bf16⟩
  | .hbm, ⟨2, _⟩ => ⟨S8192x1024, .bf16⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S8x128x1024, .f32⟩
  | .hbm, ⟨11, _⟩ => ⟨S8, .i32⟩
  | .hbm, ⟨12, _⟩ => ⟨S8, .i32⟩
  | .hbm, ⟨13, _⟩ => ⟨S8, .i1⟩
  | .hbm, ⟨14, _⟩ => ⟨S8x1x1, .i1⟩
  | .hbm, ⟨15, _⟩ => ⟨S_, .f32⟩
  | .hbm, ⟨16, _⟩ => ⟨S_, .f32⟩
  | .hbm, ⟨17, _⟩ => ⟨S8x128x1024, .i1⟩
  | .hbm, ⟨18, _⟩ => ⟨S8x128x1024, .f32⟩
  | .hbm, ⟨19, _⟩ => ⟨S8x128x1024, .f32⟩
  | .hbm, ⟨20, _⟩ => ⟨S_, .f32⟩
  | .hbm, ⟨21, _⟩ => ⟨S128x1024, .f32⟩
  | .hbm, ⟨22, _⟩ => ⟨S1x1024x1024, .f32⟩
  | .hbm, ⟨23, _⟩ => ⟨S1x1024x1024, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== KernelAdamSmall.lean ====
abbrev S320x1024 : Shape := ⟨2, ![320, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S320x1024, .f32⟩
  | .hbm, ⟨5, _⟩ => ⟨S320x1024, .f32⟩
  | .hbm, ⟨6, _⟩ => ⟨S320x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S320x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceAdamSmallIdeal.lean ====
abbrev S320x1024 : Shape := ⟨2, ![320, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S320x1024, .f32⟩
  | .hbm, ⟨1, _⟩ => ⟨S320x1024, .f32⟩
  | .hbm, ⟨2, _⟩ => ⟨S320x1024, .f32⟩
  | .hbm, ⟨3, _⟩ => ⟨S320x1024, .f32⟩
  | .hbm, ⟨4, _⟩ => ⟨S_, .f32⟩
  | .hbm, ⟨5, _⟩ => ⟨S320x1024, .f32⟩
  | .hbm, ⟨6, _⟩ => ⟨S320x1024, .f32⟩
  | .hbm, ⟨7, _⟩ => ⟨S_, .f32⟩
  | .hbm, ⟨8, _⟩ => ⟨S320x1024, .f32⟩
  | .hbm, ⟨9, _⟩ => ⟨S320x1024, .f32⟩
  | .hbm, ⟨10, _⟩ => ⟨S320x1024, .f32⟩
  | .hbm, ⟨11, _⟩ => ⟨S_, .f32⟩
  | .hbm, ⟨12, _⟩ => ⟨S320x1024, .f32⟩
  | .hbm, ⟨13, _⟩ => ⟨S320x1024, .f32⟩
  | .hbm, ⟨14, _⟩ => ⟨S320x1024, .f32⟩
  | .hbm, ⟨15, _⟩ => ⟨S_, .f32⟩
  | .hbm, ⟨16, _⟩ => ⟨S320x1024, .f32⟩
  | .hbm, ⟨17, _⟩ => ⟨S320x1024, .f32⟩
  | .hbm, ⟨18, _⟩ => ⟨S320x1024, .f32⟩
  | .hbm, ⟨19, _⟩ => ⟨S_, .f32⟩
  | .hbm, ⟨20, _⟩ => ⟨S320x1024, .f32⟩
  | .hbm, ⟨21, _⟩ => ⟨S320x1024, .f32⟩
  | .hbm, ⟨22, _⟩ => ⟨S_, .f32⟩
  | .hbm, ⟨23, _⟩ => ⟨S320x1024, .f32⟩
  | .hbm, ⟨24, _⟩ => ⟨S320x1024, .f32⟩
  | .hbm, ⟨25, _⟩ => ⟨S320x1024, .f32⟩
  | .hbm, ⟨26, _⟩ => ⟨S_, .f32⟩
  | .hbm, ⟨27, _⟩ => ⟨S320x1024, .f32⟩
  | .hbm, ⟨28, _⟩ => ⟨S320x1024, .f32⟩
  | .hbm, ⟨29, _⟩ => ⟨S320x1024, .f32⟩
  | .hbm, ⟨30, _⟩ => ⟨S_, .f32⟩
  | .hbm, ⟨31, _⟩ => ⟨S320x1024, .f32⟩
  | .hbm, ⟨32, _⟩ => ⟨S320x1024, .f32⟩
  | .hbm, ⟨33, _⟩ => ⟨S320x1024, .f32⟩
  | .hbm, ⟨34, _⟩ => ⟨S_, .f32⟩
  | .hbm, ⟨35, _⟩ => ⟨S320x1024, .f32⟩
  | .hbm, ⟨36, _⟩ => ⟨S320x1024, .f32⟩
  | _, _ => ⟨S320x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamConv.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamConvIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamDown.lean ====
abbrev S1 : Shape := ⟨1, ![1]⟩
abbrev S352x1024 : Shape := ⟨2, ![352, 1024]⟩
abbrev S8x352x1024 : Shape := ⟨3, ![8, 352, 1024]⟩
abbrev S8 : Shape := ⟨1, ![8]⟩
abbrev S_ : Shape := ⟨0, ![]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 21
  | .vmem => 18
  | .smem => 1
  | _ => 0

abbrev bufTy : (tb : Table) → Fin (tcTables nBuf tb) → BufTy
  | .hbm, ⟨0, _⟩ => ⟨S1, .i32⟩
  | .hbm, ⟨1, _⟩ => ⟨S352x1024, .f32⟩
  | .hbm, ⟨2, _⟩ => ⟨S8x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S8, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamDownIdeal.lean ====
abbrev S1 : Shape := ⟨1, ![1]⟩
abbrev S352x1024 : Shape := ⟨2, ![352, 1024]⟩
abbrev S8x352x1024 : Shape := ⟨3, ![8, 352, 1024]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S352x1024, .f32⟩
  | .hbm, ⟨2, _⟩ => ⟨S8x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x352x1024, .f32⟩
  | .hbm, ⟨11, _⟩ => ⟨S8x352x1024, .i1⟩
  | .hbm, ⟨12, _⟩ => ⟨S8x352x1024, .f32⟩
  | .hbm, ⟨13, _⟩ => ⟨S8x352x1024, .f32⟩
  | .hbm, ⟨14, _⟩ => ⟨S_, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S_, .f32⟩
  | .hbm, ⟨47, _⟩ => ⟨S352x1024, .f32⟩
  | .hbm, ⟨48, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== KernelAdamGateUp.lean ====
abbrev S1 : Shape := ⟨1, ![1]⟩
abbrev S704x1024 : Shape := ⟨2, ![704, 1024]⟩
abbrev S8x704x1024 : Shape := ⟨3, ![8, 704, 1024]⟩
abbrev S8 : Shape := ⟨1, ![8]⟩
abbrev S_ : Shape := ⟨0, ![]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 21
  | .vmem => 18
  | .smem => 1
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S8x704x1024, .bf16⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S8x176x1024, .bf16⟩
  | .local _ .vmem, ⟨3, _⟩ => ⟨S8x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S8, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamGateUpIdeal.lean ====
abbrev S1 : Shape := ⟨1, ![1]⟩
abbrev S704x1024 : Shape := ⟨2, ![704, 1024]⟩
abbrev S8x704x1024 : Shape := ⟨3, ![8, 704, 1024]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S704x1024, .f32⟩
  | .hbm, ⟨2, _⟩ => ⟨S8x704x1024, .bf16⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x704x1024, .f32⟩
  | .hbm, ⟨11, _⟩ => ⟨S8x704x1024, .i1⟩
  | .hbm, ⟨12, _⟩ => ⟨S8x704x1024, .f32⟩
  | .hbm, ⟨13, _⟩ => ⟨S8x704x1024, .f32⟩
  | .hbm, ⟨14, _⟩ => ⟨S_, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | .hbm, ⟨45, _⟩ => ⟨S704x1024, .f32⟩
  | .hbm, ⟨46, _⟩ => ⟨S_, .f32⟩
  | .hbm, ⟨47, _⟩ => ⟨S704x1024, .f32⟩
  | .hbm, ⟨48, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== KernelAdamProj.lean ====
abbrev S1 : Shape := ⟨1, ![1]⟩
abbrev S128x1024 : Shape := ⟨2, ![128, 1024]⟩
abbrev S8x128x1024 : Shape := ⟨3, ![8, 128, 1024]⟩
abbrev S8 : Shape := ⟨1, ![8]⟩
abbrev S_ : Shape := ⟨0, ![]⟩
abbrev S1x128x1024 : Shape := ⟨3, ![1, 128, 1024]⟩

abbrev nBuf : Space → Nat
  | .hbm => 21
  | .vmem => 9
  | .smem => 1
  | _ => 0

abbrev bufTy : (tb : Table) → Fin (tcTables nBuf tb) → BufTy
  | .hbm, ⟨0, _⟩ => ⟨S1, .i32⟩
  | .hbm, ⟨1, _⟩ => ⟨S128x1024, .f32⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S_, .i32⟩
  | .hbm, ⟨13, _⟩ => ⟨S_, .i32⟩
  | .hbm, ⟨14, _⟩ => ⟨S8, .i32⟩
  | .hbm, ⟨15, _⟩ => ⟨S8, .i32⟩
  | .hbm, ⟨16, _⟩ => ⟨S8, .i32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S8, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v6 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdamProjIdeal.lean ====
abbrev S1 : Shape := ⟨1, ![1]⟩
abbrev S128x1024 : Shape := ⟨2, ![128, 1024]⟩
abbrev S8x128x1024 : Shape := ⟨3, ![8, 128, 1024]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S1, .i32⟩
  | .hbm, ⟨1, _⟩ => ⟨S128x1024, .f32⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x128x1024, .f32⟩
  | .hbm, ⟨11, _⟩ => ⟨S8x128x1024, .i1⟩
  | .hbm, ⟨12, _⟩ => ⟨S8x128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S128x1024, .f32⟩
  | .hbm, ⟨46, _⟩ => ⟨S_, .f32⟩
  | .hbm, ⟨47, _⟩ => ⟨S128x1024, .f32⟩
  | .hbm, ⟨48, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== KernelAdamIn.lean ====
abbrev S1 : Shape := ⟨1, ![1]⟩
abbrev S1024x768 : Shape := ⟨2, ![1024, 768]⟩
abbrev S8x1024x768 : Shape := ⟨3, ![8, 1024, 768]⟩
abbrev S8 : Shape := ⟨1, ![8]⟩
abbrev S_ : Shape := ⟨0, ![]⟩
abbrev S256x768 : Shape := ⟨2, ![256, 768]⟩
abbrev S8x256x768 : Shape := ⟨3, ![8, 256, 768]⟩
abbrev S1x256x768 : Shape := ⟨3, ![1, 256, 768]⟩

abbrev nBuf : Space → Nat
  | .hbm => 53
  | .vmem => 18
  | .smem => 1
  | _ => 0

abbrev bufTy : (tb : Table) → Fin (tcTables nBuf tb) → BufTy
  | .hbm, ⟨0, _⟩ => ⟨S1, .i32⟩
  | .hbm, ⟨1, _⟩ => ⟨S1024x768, .f32⟩
  | .hbm, ⟨2, _⟩ => ⟨S8x1024x768, .bf16⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S_, .i32⟩
  | .hbm, ⟨27, _⟩ => ⟨S8, .i32⟩
  | .hbm, ⟨28, _⟩ => ⟨S8, .i1⟩
  | .hbm, ⟨29, _⟩ => ⟨S_, .i32⟩
  | .hbm, ⟨30, _⟩ => ⟨S_, .i1⟩
  | .hbm, ⟨31, _⟩ => ⟨S8, .i1⟩
  | .hbm, ⟨32, _⟩ => ⟨S8, .i1⟩
  | .hbm, ⟨33, _⟩ => ⟨S8, .i1⟩
  | .hbm, ⟨34, _⟩ => ⟨S8, .i32⟩
  | .hbm, ⟨35, _⟩ => ⟨S8, .i32⟩
  | .hbm, ⟨36, _⟩ => ⟨S8, .i32⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S8, .i1⟩
  | .hbm, ⟨41, _⟩ => ⟨S_, .i32⟩
  | .hbm, ⟨42, _⟩ => ⟨S_, .i32⟩
  | .hbm, ⟨43, _⟩ => ⟨S8, .i32⟩
  | .hbm, ⟨44, _⟩ => ⟨S8, .i32⟩
  | .hbm, ⟨45, _⟩ => ⟨S8, .i32⟩
  | .hbm, ⟨46, _⟩ => ⟨S_, .i32⟩
  | .hbm, ⟨47, _⟩ => ⟨S8, .i32⟩
  | .hbm, ⟨48, _⟩ => ⟨S8, .i32⟩
  | .hbm, ⟨49, _⟩ => ⟨S1024x768, .f32⟩
  | .hbm, ⟨50, _⟩ => ⟨S1024x768, .f32⟩
  | .hbm, ⟨51, _⟩ => ⟨S1024x768, .f32⟩
  | .hbm, ⟨52, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S8x256x768, .bf16⟩
  | .local _ .vmem, ⟨3, _⟩ => ⟨S8x256x768, .bf16⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .smem, ⟨0, _⟩ => ⟨S8, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v7 : Ref sig .tc := ⟨.hbm, 36, rfl⟩
abbrev main_c_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_3 : Ref sig .tc := ⟨.hbm, 41, rfl⟩
abbrev main_c_4 : Ref sig .tc := ⟨.hbm, 42, rfl⟩
abbrev main_call1_v0 : Ref sig .tc := ⟨.hbm, 43, rfl⟩
abbrev main_call1_v1 : Ref sig .tc := ⟨.hbm, 44, rfl⟩
abbrev main_v11 : Ref sig .tc := ⟨.hbm, 45, rfl⟩
abbrev main_c_5 : Ref sig .tc := ⟨.hbm, 46, rfl⟩
abbrev main_call2_v0 : Ref sig .tc := ⟨.hbm, 47, rfl⟩
abbrev main_v12 : Ref sig .tc := ⟨.hbm, 48, rfl⟩
abbrev main_v14_0 : Ref sig .tc := ⟨.hbm, 49, rfl⟩
abbrev main_v14_1 : Ref sig .tc := ⟨.hbm, 50, rfl⟩
abbrev main_v14_2 : Ref sig .tc := ⟨.hbm, 51, rfl⟩
abbrev main_v14_3 : Ref sig .tc := ⟨.hbm, 52, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamInIdeal.lean ====
abbrev S1 : Shape := ⟨1, ![1]⟩
abbrev S1024x768 : Shape := ⟨2, ![1024, 768]⟩
abbrev S8x1024x768 : Shape := ⟨3, ![8, 1024, 768]⟩
abbrev S8 : Shape := ⟨1, ![8]⟩
abbrev S_ : Shape := ⟨0, ![]⟩
abbrev S8x1x1 : Shape := ⟨3, ![8, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x768, .f32⟩
  | .hbm, ⟨2, _⟩ => ⟨S8x1024x768, .bf16⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8x1x1, .i1⟩
  | .hbm, ⟨13, _⟩ => ⟨S_, .i32⟩
  | .hbm, ⟨14, _⟩ => ⟨S8, .i32⟩
  | .hbm, ⟨15, _⟩ => ⟨S8, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i1⟩
  | .hbm, ⟨30, _⟩ => ⟨S_, .i32⟩
  | .hbm, ⟨31, _⟩ => ⟨S_, .i1⟩
  | .hbm, ⟨32, _⟩ => ⟨S8, .i1⟩
  | .hbm, ⟨33, _⟩ => ⟨S8, .i1⟩
  | .hbm, ⟨34, _⟩ => ⟨S8, .i1⟩
  | .hbm, ⟨35, _⟩ => ⟨S8, .i32⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i1⟩
  | .hbm, ⟨41, _⟩ => ⟨S8, .i1⟩
  | .hbm, ⟨42, _⟩ => ⟨S8x1x1, .i1⟩
  | .hbm, ⟨43, _⟩ => ⟨S8x1024x768, .f32⟩
  | .hbm, ⟨44, _⟩ => ⟨S_, .f32⟩
  | .hbm, ⟨45, _⟩ => ⟨S_, .f32⟩
  | .hbm, ⟨46, _⟩ => ⟨S8x1024x768, .i1⟩
  | .hbm, ⟨47, _⟩ => ⟨S8x1024x768, .f32⟩
  | .hbm, ⟨48, _⟩ => ⟨S8x1024x768, .f32⟩
  | .hbm, ⟨49, _⟩ => ⟨S8x1024x768, .i1⟩
  | .hbm, ⟨50, _⟩ => ⟨S8x1024x768, .f32⟩
  | .hbm, ⟨51, _⟩ => ⟨S8x1024x768, .f32⟩
  | .hbm, ⟨52, _⟩ => ⟨S_, .f32⟩
  | .hbm, ⟨53, _⟩ => ⟨S1024x768, .f32⟩
  | .hbm, ⟨54, _⟩ => ⟨S_, .f32⟩
  | .hbm, ⟨55, _⟩ => ⟨S1024x768, .f32⟩
  | .hbm, ⟨56, _⟩ => ⟨S1024x768, .f32⟩
  | .hbm, ⟨57, _⟩ => ⟨S_, .f32⟩
  | .hbm, ⟨58, _⟩ => ⟨S1024x768, .f32⟩
  | .hbm, ⟨59, _⟩ => ⟨S1024x768, .f32⟩
  | .hbm, ⟨60, _⟩ => ⟨S1024x768, .f32⟩
  | .hbm, ⟨61, _⟩ => ⟨S_, .f32⟩
  | .hbm, ⟨62, _⟩ => ⟨S1024x768, .f32⟩
  | .hbm, ⟨63, _⟩ => ⟨S1024x768, .f32⟩
  | .hbm, ⟨64, _⟩ => ⟨S1024x768, .f32⟩
  | .hbm, ⟨65, _⟩ => ⟨S_, .f32⟩
  | .hbm, ⟨66, _⟩ => ⟨S1024x768, .f32⟩
  | .hbm, ⟨67, _⟩ => ⟨S1024x768, .f32⟩
  | .hbm, ⟨68, _⟩ => ⟨S1024x768, .f32⟩
  | .hbm, ⟨69, _⟩ => ⟨S_, .f32⟩
  | .hbm, ⟨70, _⟩ => ⟨S1024x768, .f32⟩
  | .hbm, ⟨71, _⟩ => ⟨S1024x768, .f32⟩
  | .hbm, ⟨72, _⟩ => ⟨S_, .f32⟩
  | .hbm, ⟨73, _⟩ => ⟨S1024x768, .f32⟩
  | .hbm, ⟨74, _⟩ => ⟨S1024x768, .f32⟩
  | .hbm, ⟨75, _⟩ => ⟨S1024x768, .f32⟩
  | .hbm, ⟨76, _⟩ => ⟨S_, .f32⟩
  | .hbm, ⟨77, _⟩ => ⟨S1024x768, .f32⟩
  | .hbm, ⟨78, _⟩ => ⟨S1024x768, .f32⟩
  | .hbm, ⟨79, _⟩ => ⟨S1024x768, .f32⟩
  | .hbm, ⟨80, _⟩ => ⟨S_, .f32⟩
  | .hbm, ⟨81, _⟩ => ⟨S1024x768, .f32⟩
  | .hbm, ⟨82, _⟩ => ⟨S1024x768, .f32⟩
  | .hbm, ⟨83, _⟩ => ⟨S1024x768, .f32⟩
  | .hbm, ⟨84, _⟩ => ⟨S_, .f32⟩
  | .hbm, ⟨85, _⟩ => ⟨S1024x768, .f32⟩
  | .hbm, ⟨86, _⟩ => ⟨S1024x768, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v8 : Ref sig .tc := ⟨.hbm, 37, rfl⟩
abbrev main_c_2 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_cst : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v14 : Ref sig .tc := ⟨.hbm, 48, rfl⟩
abbrev main_call2_v0 : Ref sig .tc := ⟨.hbm, 49, rfl⟩
abbrev main_call2_v1 : Ref sig .tc := ⟨.hbm, 50, rfl⟩
abbrev main_v15 : Ref sig .tc := ⟨.hbm, 51, rfl⟩
abbrev main_cst_3 : Ref sig .tc := ⟨.hbm, 52, rfl⟩
abbrev main_v16 : Ref sig .tc := ⟨.hbm, 53, rfl⟩
abbrev main_cst_4 : Ref sig .tc := ⟨.hbm, 54, rfl⟩
abbrev main_v17 : Ref sig .tc := ⟨.hbm, 55, rfl⟩
abbrev main_v18 : Ref sig .tc := ⟨.hbm, 56, rfl⟩
abbrev main_cst_5 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_cst_6 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_cst_7 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_cst_8 : Ref sig .tc := ⟨.hbm, 69, rfl⟩
abbrev main_v28 : Ref sig .tc := ⟨.hbm, 70, rfl⟩
abbrev main_v29 : Ref sig .tc := ⟨.hbm, 71, rfl⟩
abbrev main_cst_9 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_cst_10 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_cst_11 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_12 : Ref sig .tc := ⟨.hbm, 84, rfl⟩
abbrev main_v39 : Ref sig .tc := ⟨.hbm, 85, rfl⟩
abbrev main_v40 : Ref sig .tc := ⟨.hbm, 86, rfl⟩

abbrev nD : Nat := 1
abbrev τ : Topo := Topo.v7x

variable {F : FTy → Type} [FloatOps F]
-- ==== Proof.RowModel.lean ====
/- The step on one token's row over the real numbers, and the passage between real arithmetic and the
   extended reals of the idealized programs. -/
module

public import Idealize.ShloMosaic.Lib.Pointwise
public import Idealize.ShloMosaic.Lib.Pipeline.ValueKit
public import Idealize.ShloMosaic.PureOps.Ideal.Laws

@[expose] public section

noncomputable section

open Idealize.ShloMosaic

namespace Cert.Row

/-! ### Extended reals that are real -/

/-- A finite sum of reals, read as extended reals. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem one_real : (1 : EReal) = ((1 : ℝ) : EReal) := rfl

/-- Division of reals by a real that is not zero. -/
theorem div_real (x : ℝ) {y : ℝ} (hy : y ≠ 0) : Ideal.div (x : EReal) (y : EReal) = ((x / y : ℝ) : EReal) := by
  rw [Ideal.div_coe hy, ← EReal.coe_mul, mul_one_div]

/-- The reciprocal square root of a positive real. -/
theorem rsqrt_real {x : ℝ} (hx : 0 < x) : Ideal.rsqrt (x : EReal) = (((√x)⁻¹ : ℝ) : EReal) := by
  rw [Ideal.rsqrt_coe, if_neg (not_lt.mpr hx.le), if_neg hx.ne']

/-- The kernel's and the reference's `1e-6`, rounded to 32 bits. -/
def eps : ℝ := 8796093 / 8796093022208

theorem eps_pos : 0 < eps := by norm_num [eps]

theorem bits_eps : (Ideal.ofBits .f32 0x358637BD#32 : EReal) = ((eps : ℝ) : EReal) := by
  simp [Ideal.ofBits, Ideal.ieee, eps, -EReal.coe_mul]; norm_num
theorem bits_1024 : (Ideal.ofBits .f32 0x44800000#32 : EReal) = ((1024 : ℝ) : EReal) := by
  simp [Ideal.ofBits, Ideal.ieee, -EReal.coe_mul]; norm_num
theorem bits_inv1024 : (Ideal.ofBits .f32 0x3A800000#32 : EReal) = ((1 / 1024 : ℝ) : EReal) := by
  simp [Ideal.ofBits, Ideal.ieee, -EReal.coe_mul]; norm_num
theorem bits_zero : (Ideal.ofBits .f32 0x00000000#32 : EReal) = ((0 : ℝ) : EReal) := by
  simp [Ideal.ofBits, Ideal.ieee, -EReal.coe_mul]
theorem bits_one : (Ideal.ofBits .f32 0x3F800000#32 : EReal) = ((1 : ℝ) : EReal) := by
  simp [Ideal.ofBits, Ideal.ieee, -EReal.coe_mul]; norm_num
theorem bits_half : (Ideal.ofBits .f32 0x3F000000#32 : EReal) = ((1 / 2 : ℝ) : EReal) := by
  simp [Ideal.ofBits, Ideal.ieee, -EReal.coe_mul]; norm_num
theorem bits_neg_half : (Ideal.ofBits .f32 0xBF000000#32 : EReal) = ((-(1 / 2) : ℝ) : EReal) := by
  simp [Ideal.ofBits, Ideal.ieee, -EReal.coe_mul]; norm_num
theorem bits_two : (Ideal.ofBits .f32 0x40000000#32 : EReal) = ((2 : ℝ) : EReal) := by
  simp [Ideal.ofBits, Ideal.ieee, -EReal.coe_mul]; norm_num

/-! ### The row's arithmetic -/

/-- The mean square of a row, with `eps` added. -/
def ms (x : Fin 1024 → ℝ) : ℝ := (∑ k, x k * x k) / 1024 + eps
theorem ms_pos (x : Fin 1024 → ℝ) : 0 < ms x :=
  add_pos_of_nonneg_of_pos (div_nonneg (Finset.sum_nonneg fun k _ => mul_self_nonneg _) (by norm_num)) eps_pos
/-- The reciprocal root mean square. -/
def inv (x : Fin 1024 → ℝ) : ℝ := (√(ms x))⁻¹
/-- The normalized row. -/
def xhat (x : Fin 1024 → ℝ) (k : Fin 1024) : ℝ := x k * inv x
/-- The normalized row times the gain. -/
def hid (x g : Fin 1024 → ℝ) (k : Fin 1024) : ℝ := xhat x k * g k
/-- The logistic function. -/
def sg (v : ℝ) : ℝ := (1 + Real.exp (-v))⁻¹
/-- A row times a matrix. -/
def rowMul {n : ℕ} (h : Fin 1024 → ℝ) (w : Fin 1024 → Fin n → ℝ) (j : Fin n) : ℝ := ∑ k, h k * w k j
/-- The gated unit, from the gate's and the up projection's entry. -/
def gateOf (g u : ℝ) : ℝ := g * sg g * u
/-- The gate's cotangent. -/
def dgate (da g u : ℝ) : ℝ := da * u * (sg g * (1 + g * (1 - sg g)))
/-- The up projection's cotangent. -/
def dup (da g : ℝ) : ℝ := da * (g * sg g)
/-- The row's error after the final norm. -/
def err (x g t : Fin 1024 → ℝ) (k : Fin 1024) : ℝ := xhat x k * g k - t k
/-- The cotangent of half the mean square of the error. -/
def dyOf (e : Fin 1024 → ℝ) (k : Fin 1024) : ℝ := e k * (1 / 1024)
/-- The norm's cotangent with respect to the row. -/
def nback (x g d : Fin 1024 → ℝ) (k : Fin 1024) : ℝ :=
  inv x * (d k * g k - xhat x k * ((∑ l, d l * g l * xhat x l) / 1024))

/-- The gate's column of the joined projection. -/
def lo (j : Fin 2816) : Fin 5632 := ⟨j.val, by omega⟩
/-- The up projection's column of the joined projection. -/
def hi (j : Fin 2816) : Fin 5632 := ⟨2816 + j.val, by omega⟩

/-- The gated row. -/
def actOf (gu : Fin 5632 → ℝ) (j : Fin 2816) : ℝ := gateOf (gu (lo j)) (gu (hi j))
/-- The row after the down projection. -/
def x2Of (x : Fin 1024 → ℝ) (a : Fin 2816 → ℝ) (wd : Fin 2816 → Fin 1024 → ℝ) (k : Fin 1024) : ℝ := x k + ∑ j, a j * wd j k
/-- The cotangent of the gated row. -/
def daOf (d : Fin 1024 → ℝ) (wd : Fin 2816 → Fin 1024 → ℝ) (j : Fin 2816) : ℝ := ∑ k, d k * wd j k
/-- The cotangent of the joined projection. -/
def dguOf (gu : Fin 5632 → ℝ) (da : Fin 2816 → ℝ) (j : Fin 5632) : ℝ :=
  if h : j.val < 2816 then dgate (da ⟨j.val, h⟩) (gu j) (gu ⟨2816 + j.val, by omega⟩)
  else dup (da ⟨j.val - 2816, by omega⟩) (gu ⟨j.val - 2816, by omega⟩)
/-- The cotangent of the normalized row. -/
def dhOf (d : Fin 5632 → ℝ) (w : Fin 1024 → Fin 5632 → ℝ) (k : Fin 1024) : ℝ := ∑ j, d j * w k j

/-- The step's real inputs, a row of tokens and a row of targets, and the four weights. -/
structure In where
  x : Fin 1024 → ℝ
  t : Fin 1024 → ℝ
  gf : Fin 1024 → ℝ
  gl : Fin 1024 → ℝ
  w : Fin 1024 → Fin 5632 → ℝ
  wd : Fin 2816 → Fin 1024 → ℝ

namespace In
variable (I : In)
/-- The normalized row, with the first norm's gain. -/
def h2 : Fin 1024 → ℝ := hid I.x I.gf
/-- The joined projection. -/
def gu : Fin 5632 → ℝ := rowMul I.h2 I.w
/-- The gated row. -/
def act : Fin 2816 → ℝ := actOf I.gu
/-- The row after the down projection. -/
def x2 : Fin 1024 → ℝ := x2Of I.x I.act I.wd
/-- The error. -/
def er : Fin 1024 → ℝ := err I.x2 I.gl I.t
/-- The error's cotangent. -/
def dy : Fin 1024 → ℝ := dyOf I.er
/-- The cotangent of the row after the down projection. -/
def dx2 : Fin 1024 → ℝ := nback I.x2 I.gl I.dy
/-- The cotangent of the gated row. -/
def da : Fin 2816 → ℝ := daOf I.dx2 I.wd
/-- The cotangent of the joined projection. -/
def dgu : Fin 5632 → ℝ := dguOf I.gu I.da
/-- The cotangent of the normalized row. -/
def dh2 : Fin 1024 → ℝ := dhOf I.dgu I.w
/-- The cotangent of the row. -/
def dx1 (k : Fin 1024) : ℝ := I.dx2 k + nback I.x I.gf I.dh2 k
/-- The row's part of the first norm's gain gradient. -/
def part0 (k : Fin 1024) : ℝ := xhat I.x k * I.dh2 k
/-- The row's part of the final norm's gain gradient. -/
def part1 (k : Fin 1024) : ℝ := xhat I.x2 k * I.dy k
/-- The row's part of the squared error. -/
def part2 (k : Fin 1024) : ℝ := I.er k * I.er k
end In

/-! ### Columns in blocks of 704 -/

/-- Column `j` of block `b` of the joined projection. -/
def col8 (b : Fin 8) (j : Fin 704) : Fin 5632 := ⟨b.val * 704 + j.val, by omega⟩
/-- Column `j` of block `b` of the gated row. -/
def col4 (b : Fin 4) (j : Fin 704) : Fin 2816 := ⟨b.val * 704 + j.val, by omega⟩

theorem lo_col4 (b : Fin 4) (j : Fin 704) : lo (col4 b j) = col8 ⟨b.val, by omega⟩ j := rfl
theorem hi_col4 (b : Fin 4) (j : Fin 704) : hi (col4 b j) = col8 ⟨b.val + 4, by omega⟩ j :=
  Fin.ext (by simp only [hi, col4, col8]; omega)

/-- A sum over the gated row's columns, block by block. -/
theorem sum_col4 (f : Fin 2816 → ℝ) : ∑ j, f j = (∑ j, f (col4 0 j)) + (∑ j, f (col4 1 j)) + (∑ j, f (col4 2 j)) + (∑ j, f (col4 3 j)) := by
  have h : ∑ j, f j = ∑ p : Fin 4 × Fin 704, f (col4 p.1 p.2) := by
    refine (Fintype.sum_equiv finProdFinEquiv (fun p : Fin 4 × Fin 704 => f (col4 p.1 p.2)) f fun p => ?_).symm
    exact congrArg f (Fin.ext (by simp only [finProdFinEquiv_apply_val, col4]; omega))
  rw [h, Fintype.sum_prod_type, Fin.sum_univ_four]

/-- A sum over the joined projection's columns, block by block. -/
theorem sum_col8 (f : Fin 5632 → ℝ) : ∑ j, f j = (∑ j, f (col8 0 j)) + (∑ j, f (col8 1 j)) + (∑ j, f (col8 2 j)) + (∑ j, f (col8 3 j))
    + (∑ j, f (col8 4 j)) + (∑ j, f (col8 5 j)) + (∑ j, f (col8 6 j)) + (∑ j, f (col8 7 j)) := by
  have h : ∑ j, f j = ∑ p : Fin 8 × Fin 704, f (col8 p.1 p.2) := by
    refine (Fintype.sum_equiv finProdFinEquiv (fun p : Fin 8 × Fin 704 => f (col8 p.1 p.2)) f fun p => ?_).symm
    exact congrArg f (Fin.ext (by simp only [finProdFinEquiv_apply_val, col8]; omega))
  rw [h, Fintype.sum_prod_type, Fin.sum_univ_eight]

namespace In
variable (I : In)
theorem act_col (b : Fin 4) (j : Fin 704) :
    I.act (col4 b j) = gateOf (I.gu (col8 ⟨b.val, by omega⟩ j)) (I.gu (col8 ⟨b.val + 4, by omega⟩ j)) := by
  rw [act, actOf, lo_col4, hi_col4]
theorem dgu_lo (b : Fin 4) (j : Fin 704) : I.dgu (col8 ⟨b.val, by omega⟩ j)
    = dgate (I.da (col4 b j)) (I.gu (col8 ⟨b.val, by omega⟩ j)) (I.gu (col8 ⟨b.val + 4, by omega⟩ j)) := by
  have hj : (col8 ⟨b.val, by omega⟩ j).val < 2816 := (col4 b j).isLt
  rw [dgu, dguOf, dif_pos hj]
  exact congrArg _ (congrArg _ (hi_col4 b j))
theorem dgu_hi (b : Fin 4) (j : Fin 704) : I.dgu (col8 ⟨b.val + 4, by omega⟩ j)
    = dup (I.da (col4 b j)) (I.gu (col8 ⟨b.val, by omega⟩ j)) := by
  have hj : ¬ (col8 ⟨b.val + 4, by omega⟩ j).val < 2816 := by simp only [col8]; omega
  have e : (⟨(col8 ⟨b.val + 4, by omega⟩ j).val - 2816, by have := (col8 ⟨b.val + 4, by omega⟩ j).isLt; omega⟩ : Fin 2816) = col4 b j :=
    Fin.ext (by simp only [col8, col4]; omega)
  rw [dgu, dguOf, dif_neg hj]
  exact congrArg₂ dup (congrArg _ e) (congrArg _ (Fin.ext (by simp only [col8]; omega)))
end In

/-! ### All the rows -/

/-- The step's real arrays. -/
structure Arr where
  xs : Fin 8192 → Fin 1024 → ℝ
  ts : Fin 8192 → Fin 1024 → ℝ
  gf : Fin 1024 → ℝ
  gl : Fin 1024 → ℝ
  w : Fin 1024 → Fin 5632 → ℝ
  wd : Fin 2816 → Fin 1024 → ℝ

/-- One row of the step's arrays, with the weights. -/
def Arr.row (A : Arr) (i : Fin 8192) : In := ⟨A.xs i, A.ts i, A.gf, A.gl, A.w, A.wd⟩

/-! ### The two ways of writing the norm's cotangent -/

theorem inv_mul_inv (x : Fin 1024 → ℝ) : inv x * inv x = (ms x)⁻¹ := by
  rw [inv, ← mul_inv, Real.mul_self_sqrt (ms_pos x).le]

/-- The sum rule and the chain rule through the reciprocal root give the projected form. -/
theorem nback_eq (x g d : Fin 1024 → ℝ) (k : Fin 1024) :
    d k * g k * inv x + x k * ((∑ l, x l * (d l * g l)) * (-(1 / 2) * (inv x / ms x)) / 1024)
      + ((∑ l, x l * (d l * g l)) * (-(1 / 2) * (inv x / ms x)) / 1024) * x k = nback x g d k := by
  have hs : (∑ l, d l * g l * xhat x l) = (∑ l, x l * (d l * g l)) * inv x := by
    rw [Finset.sum_mul]; exact Finset.sum_congr rfl fun l _ => by rw [xhat]; ring
  rw [nback, hs, xhat, div_eq_mul_inv (inv x) (ms x), ← inv_mul_inv]; ring

end Cert.Row
-- ==== Proof.Shard.lean ====
/- What the three products share: the word that names a device, a sum over all rows in two halves, and the masked sum that
   keeps one device's shard. -/
module

public import proofs.«01_k».proof.Proof.RowModel

@[expose] public section

set_option maxRecDepth 16384

noncomputable section

open Idealize.ShloMosaic

namespace Cert.Shard

/-- A word that a signed comparison finds at least 0 and less than 8 is a device's. -/
theorem word_lt (w : BitVec 32) (h : IntOp.andi (IntOp.cmpi .sge w 0#32) (IntOp.cmpi .slt w 8#32) = 1#1) : w.toNat < 8 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true] at h
  obtain ⟨hge, hlt⟩ := h
  simp only [BitVec.sle, BitVec.slt, decide_eq_true_eq, BitVec.toInt, BitVec.toNat_ofNat] at hge hlt
  omega

/-- A table of one word is that word everywhere. -/
theorem table_eq (x : (⟨1, ![1]⟩ : Shape).Idx → BitVec 32) (h : ∀ y, IntOp.andi (IntOp.cmpi .sge (x y) 0#32) (IntOp.cmpi .slt (x y) 8#32) = 1#1) :
    ∃ me : Fin 8, x = fun _ => BitVec.ofNat 32 me.val := by
  have u1 : ∀ y z : (⟨1, ![1]⟩ : Shape).Idx, y = z := by decide
  let y0 : (⟨1, ![1]⟩ : Shape).Idx := fun a => ⟨0, by fin_cases a; decide⟩
  refine ⟨⟨(x y0).toNat, word_lt _ (h y0)⟩, funext fun y => ?_⟩
  rw [u1 y y0]
  show x y0 = BitVec.ofNat 32 (x y0).toNat
  rw [BitVec.ofNat_toNat, BitVec.setWidth_eq]

/-- A sum over all rows is the sum over the first half and the sum over the second. -/
theorem sum_halves (f : Fin 8192 → EReal) :
    ∑ s, f s = (∑ s : Fin 4096, f ⟨1 * 4096 + s.val, by omega⟩) + ∑ s : Fin 4096, f ⟨0 * 4096 + s.val, by omega⟩ := by
  rw [add_comm]
  refine (Fin.sum_univ_add (a := 4096) (b := 4096) f).trans (congrArg₂ _ (Finset.sum_congr rfl fun s _ => congrArg f (Fin.ext ?_)) (Finset.sum_congr rfl fun s _ => congrArg f (Fin.ext ?_)))
  · show s.val = 0 * 4096 + s.val; omega
  · show 4096 + s.val = 1 * 4096 + s.val; omega

/-- The shards masked to one device's sum to its own. -/
theorem sum_own (me : Fin 8) (f : Fin 8 → EReal) : ∑ d : Fin 8, Scalar.select (IntOp.cmpi .eq (BitVec.ofNat 32 d.val) (BitVec.ofNat 32 me.val)) (f d) 0 = f me := by
  have h : ∀ d me : Fin 8, IntOp.cmpi .eq (BitVec.ofNat 32 d.val) (BitVec.ofNat 32 me.val) = if d = me then 1#1 else 0#1 := by decide
  refine (Finset.sum_eq_single me (fun d _ hd => ?_) (fun hn => absurd (Finset.mem_univ _) hn)).trans ?_
  · rw [h, if_neg hd]; rfl
  · rw [h, if_pos rfl]; rfl

end Cert.Shard
-- ==== Proof.DnRuns.lean ====
/- One grid point of the down product: what the body leaves in the accumulator and in the two outputs, at each
   of the four kinds of point, over any float values. -/
module

public import proofs.«01_k».proof.Proof.Gen.KernelDownIdeal.Skeleton
public import proofs.«01_k».proof.Proof.Gen.KernelDownIdeal.Launch
public import Idealize.ShloMosaic.Lib.Pipeline.ReadBack
public import Idealize.ShloMosaic.Lib.VecWindow
public import Idealize.ShloMosaic.Lib.Pipeline.ValueKit
public import proofs.«01_k».proof.Proof.Gen.KernelDownIdeal.Flash.Pins
@[expose] public section

set_option maxRecDepth 16384
set_option Elab.async false

noncomputable section

namespace Cert.Down

open Cert.KernelDownIdeal Cert.KernelDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-- The table of the device's word. -/
abbrev tb : Memref sig .tc .smem S1 .i32 := Memref.whole main_arg0
/-- The accumulator. -/
abbrev sc : Memref sig .tc .vmem S704x1024 .f32 := Memref.whole cc0_scratch0

/-- The kernel body at the grid point `i`, on the staging buffers it is handed. -/
abbrev body (i : grid0.Coords) (arg3 : Memref sig .tc .vmem S1x4096x704 .bf16) (harg3 : arg3.IsWhole) (arg4 : Memref sig .tc .vmem S4096x1024 .bf16) (harg4 : arg4.IsWhole) (arg5 : Memref sig .tc .vmem S352x1024 .f32) (harg5 : arg5.IsWhole) (arg6 : Memref sig .tc .vmem S1x704x1024 .bf16) (harg6 : arg6.IsWhole) :
    Prog (TpuEff nD τ sig (Elt F) Λ₀ .tc) PUnit :=
  cc0_dw_down i tb (Memref.isWhole_whole _) arg3 harg3 arg4 harg4 arg5 harg5 arg6 harg6 sc (Memref.isWhole_whole _)

/-- Whether the body clears its accumulator first: at the very first point. -/
abbrev First (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1

/-- The word the table holds, as the body reads it. -/
abbrev wordOf (T : Vec F S1 .i32) : BitVec 32 := View.readAt (Elt F) tb.view (Rect.unit (s := S1) ![0] S1.size inb_S1_S1_0).toLoadRect T (Shape.Idx.first (numel1_S1.symm ▸ Nat.one_pos))

/-- The accumulator stored whole: what the whole buffer holds is the last value stored. -/
theorem sc_writes (f : sc.view.ty.Contents (Elt F)) (w : Vec F S704x1024 .f32) (L : List (View.Piece (Elt F) S704x1024 .f32)) :
    sc.view.writes (Elt F) f (⟨Rect.unit ![0, 0] S704x1024.size inb_S704x1024_S704x1024_0_0, w⟩ :: L) = w :=
  (View.read_whole (Val := Elt F) cc0_scratch0 (sc.view.writes (Elt F) f (⟨Rect.unit ![0, 0] S704x1024.size inb_S704x1024_S704x1024_0_0, w⟩ :: L))).symm.trans
    (View.read_writes_full sc.view f inb_S704x1024_S704x1024_0_0 w L)

/-- The accumulator read back after being stored whole. -/
theorem sc_readCov (w : Vec F S704x1024 .f32) (L : List (View.Piece (Elt F) S704x1024 .f32)) :
    sc.view.readCov (⟨Rect.unit ![0, 0] S704x1024.size inb_S704x1024_S704x1024_0_0, w⟩ :: L) (Rect.unit ![0, 0] S704x1024.size inb_S704x1024_S704x1024_0_0).toLoadRect = w := by
  rw [View.readCov_fill sc.view _ w L _ (by decide)]
  exact View.ld_unit_lit _ w (by decide)

/-- The whole accumulator loaded. -/
theorem sc_readAt (a : Vec F S704x1024 .f32) :
    sc.view.readAt (Elt F) (Rect.unit ![0, 0] S704x1024.size inb_S704x1024_S704x1024_0_0).toLoadRect a = a :=
  View.ld_unit_lit _ a (by decide)

section Runs
variable (c : Dev nD) (i : grid0.Coords) (arg3 : Memref sig .tc .vmem S1x4096x704 .bf16) (harg3 : arg3.IsWhole) (arg4 : Memref sig .tc .vmem S4096x1024 .bf16) (harg4 : arg4.IsWhole) (arg5 : Memref sig .tc .vmem S352x1024 .f32) (harg5 : arg5.IsWhole) (arg6 : Memref sig .tc .vmem S1x704x1024 .bf16) (harg6 : arg6.IsWhole)
    (x0 : Vec F S1x4096x704 .bf16) (x1 : Vec F S4096x1024 .bf16) (a : Vec F S704x1024 .f32) (T : Vec F S1 .i32)

set_option maxHeartbeats 8000000 in
/-- The first point: the accumulator is cleared, then holds the first half of the rows' product. -/
theorem run_first (h1 : First i) (h2 : ¬(k0_cond2 i = 1#1)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (sc.view.loc (c : Thread nD τ) ↦{fullShare} k0_pay2 i x0 x1 (k0_pay1 (F := F)))) -∗ K ⟨⟩))
      ⊢ wp frame (wpE (defs₀ (F := F)) Variants.none c none) Set.univ (body i arg3 harg3 arg4 harg4 arg5 harg5 arg6 harg6) K := by
  unfold body
  rw [cc0_dw_down_eq_skeleton]; unfold cc0_dw_down_skel
  iintro ⟨H0, H1, HS0, Hk⟩
  have hS0 : sc.IsWhole := Memref.isWhole_whole _
  sl_exec! (disch := first | (guard_target = Scalar.cmpi = _; exact h1) | (guard_target = ¬(k0_cond2 _ = _); exact h2))
  sl_step
  iapply Hk
  isplitl [H0]; · iexact H0
  isplitl [H1]; · iexact H1
  have e : sc.view.writes (Elt F) sc.view.junk (run_first.sl.HS0_2 i arg3 arg4 x0 x1) = k0_pay2 i x0 x1 (k0_pay1 (F := F)) := by
    frame_open
    rw [sc_writes, sc_readCov, View.readAt_rep_full, View.readAt_rep_full]
  rw [e]; iexact HS0

set_option maxHeartbeats 8000000 in
/-- Any later point of the first half of the rows: the accumulator moves on, nothing else is stored. -/
theorem run_half (h1 : ¬First i) (h2 : ¬(k0_cond2 i = 1#1)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (sc.view.loc (c : Thread nD τ) ↦{fullShare} k0_pay2 i x0 x1 a)) -∗ K ⟨⟩))
      ⊢ wp frame (wpE (defs₀ (F := F)) Variants.none c none) Set.univ (body i arg3 harg3 arg4 harg4 arg5 harg5 arg6 harg6) K := by
  unfold body
  rw [cc0_dw_down_eq_skeleton]; unfold cc0_dw_down_skel
  iintro ⟨H0, H1, HS0, Hk⟩
  have hS0 : sc.IsWhole := Memref.isWhole_whole _
  sl_exec! (disch := first | (guard_target = ¬(Scalar.cmpi = _); exact h1) | (guard_target = ¬(k0_cond2 _ = _); exact h2))
  sl_step
  iapply Hk
  isplitl [H0]; · iexact H0
  isplitl [H1]; · iexact H1
  have e : sc.view.writes (Elt F) sc.view.junk (run_half.sl.HS0_1 i arg3 arg4 x0 x1 a) = k0_pay2 i x0 x1 a := by
    frame_open
    rw [sc_writes, sc_readAt, View.readAt_rep_full, View.readAt_rep_full]
  rw [e]
  iexact HS0

set_option maxHeartbeats 8000000 in
/-- A point of the second half, of a block the device doesn't own: the block's product is stored in the shards sent. -/
theorem run_part (h1 : ¬First i) (h2 : k0_cond2 i = 1#1) (h3 : ¬(k0_cond3 i (wordOf T) = 1#1)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (tb.view.loc (c : Thread nD τ) ↦{fullShare.right} T)
        ∗ (∃ d, owns (c : Thread nD τ) arg6 fullShare d)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (tb.view.loc (c : Thread nD τ) ↦{fullShare.right} T)
            ∗ owns (c : Thread nD τ) arg6 fullShare (k0_pay3 (k0_pay2 i x0 x1 a))
            ∗ (sc.view.loc (c : Thread nD τ) ↦{fullShare} k0_pay2 i x0 x1 a)) -∗ K ⟨⟩))
      ⊢ wp frame (wpE (defs₀ (F := F)) Variants.none c none) Set.univ (body i arg3 harg3 arg4 harg4 arg5 harg5 arg6 harg6) K := by
  unfold body owns
  rw [cc0_dw_down_eq_skeleton]; unfold cc0_dw_down_skel
  iintro ⟨H0, H1, HT0, ⟨%d3, %f3, -, HO3⟩, HS0, Hk⟩
  have hS0 : sc.IsWhole := Memref.isWhole_whole _
  have hT0 : tb.IsWhole := Memref.isWhole_whole _
  sl_exec! (disch := first | (guard_target = ¬(Scalar.cmpi = _); exact h1) | (guard_target = k0_cond2 _ = _; exact h2) | (guard_target = ¬(k0_cond3 _ _ = _); exact h3))
  sl_step
  iapply Hk
  isplitl [H0]; · iexact H0
  isplitl [H1]; · iexact H1
  isplitl [HT0]; · iexact HT0
  isplitl [HO3]
  · iexists _; isplitr; swap
    · iexact HO3
    ipureintro
    frame_open
    rw [View.read_writes_full, sc_readCov, sc_readAt, View.readAt_rep_full, View.readAt_rep_full]
  have e : sc.view.writes (Elt F) sc.view.junk (run_part.sl.HS0_1 i arg3 arg4 x0 x1 a) = k0_pay2 i x0 x1 a := by
    frame_open
    rw [sc_writes, sc_readAt, View.readAt_rep_full, View.readAt_rep_full]
  rw [e]
  iexact HS0

set_option maxHeartbeats 8000000 in
/-- A point of the second half, of the block the device owns: its own rows are stored too. -/
theorem run_own (h1 : ¬First i) (h2 : k0_cond2 i = 1#1) (h3 : k0_cond3 i (wordOf T) = 1#1) (h4 : k0_chk1 i (wordOf T) (wordOf T)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (tb.view.loc (c : Thread nD τ) ↦{fullShare.right} T)
        ∗ (∃ d, owns (c : Thread nD τ) arg5 fullShare d)
        ∗ (∃ d, owns (c : Thread nD τ) arg6 fullShare d)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (tb.view.loc (c : Thread nD τ) ↦{fullShare.right} T)
            ∗ owns (c : Thread nD τ) arg5 fullShare (View.ld (k0_pay2 i x0 x1 a) (Rect.unit (s := S704x1024) (k0_off1 (wordOf T)) S352x1024.size (k0_off1_inb i (wordOf T) (wordOf T) h4 h2 h3)))
            ∗ owns (c : Thread nD τ) arg6 fullShare (k0_pay3 (k0_pay2 i x0 x1 a))
            ∗ (sc.view.loc (c : Thread nD τ) ↦{fullShare} k0_pay2 i x0 x1 a)) -∗ K ⟨⟩))
      ⊢ wp frame (wpE (defs₀ (F := F)) Variants.none c none) Set.univ (body i arg3 harg3 arg4 harg4 arg5 harg5 arg6 harg6) K := by
  unfold body owns
  rw [cc0_dw_down_eq_skeleton]; unfold cc0_dw_down_skel
  iintro ⟨H0, H1, HT0, ⟨%d2, %f2, -, HO2⟩, ⟨%d3, %f3, -, HO3⟩, HS0, Hk⟩
  have hS0 : sc.IsWhole := Memref.isWhole_whole _
  have hT0 : tb.IsWhole := Memref.isWhole_whole _
  sl_exec! (disch := first | (guard_target = ¬(Scalar.cmpi = _); exact h1) | (guard_target = k0_cond2 _ = _; exact h2) | (guard_target = k0_cond3 _ _ = _; exact h3) | (guard_target = k0_chk1 _ _ _; exact h4))
  sl_step
  iapply Hk
  isplitl [H0]; · iexact H0
  isplitl [H1]; · iexact H1
  isplitl [HT0]; · iexact HT0
  isplitl [HO2]
  · iexists _; isplitr; swap
    · iexact HO2
    ipureintro
    frame_open
    rw [View.read_writes_full, View.readAt_eq_ld, View.read_writes_full, sc_readAt, View.readAt_rep_full, View.readAt_rep_full]
  isplitl [HO3]
  · iexists _; isplitr; swap
    · iexact HO3
    ipureintro
    frame_open
    rw [View.read_writes_full, sc_readCov, sc_readAt, View.readAt_rep_full, View.readAt_rep_full]
  have e : sc.view.writes (Elt F) sc.view.junk (run_own.sl.HS0_1 i arg3 arg4 x0 x1 a) = k0_pay2 i x0 x1 a := by
    frame_open
    rw [sc_writes, sc_readAt, View.readAt_rep_full, View.readAt_rep_full]
  rw [e]
  iexact HS0
end Runs

end Cert.Down
-- ==== Proof.DnCert.lean ====
/- The down product at the word of any of the eight devices, over any float values: the table it is handed, what
   the accumulator and the two outputs hold from point to point, the obligation of the body, and the launch. -/
module

public import proofs.«01_k».proof.Proof.DnRuns
public import Idealize.ShloMosaic.Lib.Pipeline
public import Idealize.ShloMosaic.Lib.Ring
public import Idealize.ShloMosaic.Adequacy
public import Idealize.ShloMosaic.Init

@[expose] public section

set_option maxRecDepth 16384
set_option Elab.async false

noncomputable section

namespace Cert.Down

open Cert.KernelDownIdeal Cert.KernelDownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-! ## The table and the schedule -/

/-- The word of device `me`. -/
abbrev word (me : Fin 8) : BitVec 32 := BitVec.ofNat 32 me.val

/-- The table that holds the word of device `me`. -/
def tab (F : FTy → Type) (me : Fin 8) : Vec F S1 .i32 := fun _ => word me

/-- The tables' contents. -/
def tabs (F : FTy → Type) (me : Fin 8) : pre0.Contents (Elt F) := fun | ⟨0, _⟩ => tab F me | ⟨_ + 1, h⟩ => absurd h (by simp)

variable (F) in
/-- The contents are admitted: no block depends on them. -/
def adm (me : Fin 8) : (pcfg0 (F := F)).Adm := ⟨tabs F me, show ok0 (F := F) (tabs F me) by unfold ok0; trivial⟩

variable (F) in
/-- The pipeline at them. -/
abbrev cfgA (me : Fin 8) : Pipeline.Cfg sig Λ₀ := cfg0 (F := F) (adm F me)

variable (F) in
/-- The program's one pipeline. -/
abbrev pcs (me : Fin 8) : Fin 1 → Pipeline.Cfg sig Λ₀ := Pipeline.pin (pcfgs (F := F)) fun _ => adm F me

/-- The point, of the second half of the rows, at which the device's own block is complete. -/
abbrev mine (me : Fin 8) (n : ℕ) : Prop := n = 2 * (me.val / 2) + 1

/-- The control of the body at point `t`: the accumulator is cleared at point 0, the block is complete at the odd points,
    and it is the device's own at one of them. -/
theorem control : ∀ (me : Fin 8) (t : Fin grid0.N),
    (First (grid0.coords t) ↔ t.val = 0) ∧ (k0_cond2 (grid0.coords t) = 1#1 ↔ t.val % 2 = 1)
      ∧ (t.val % 2 = 1 → (k0_cond3 (grid0.coords t) (word me) = 1#1 ↔ mine me t.val))
      ∧ (mine me t.val → k0_chk1 (grid0.coords t) (word me) (word me)) := by decide +kernel

/-- Where the rows the device keeps start. -/
theorem own_inb : ∀ (me : Fin 8) (a : Fin 2), k0_off1 (word me) a + S352x1024.size a ≤ S704x1024.size a := by decide +kernel

/-- Where each output is stored and written back, at the exact values. -/
theorem sched_ideal : ∀ (me : Fin 8) (t : Fin (cfgA Ideal me).N),
    (cfgA Ideal me).idle (2 : Fin 4) ((cfgA Ideal me).grid.coords t) = decide (¬mine me t.val)
      ∧ ((cfgA Ideal me).win (2 : Fin 4)).flush t = decide (t.val = 7)
      ∧ (cfgA Ideal me).idle (3 : Fin 4) ((cfgA Ideal me).grid.coords t) = decide (¬t.val % 2 = 1)
      ∧ ((cfgA Ideal me).win (3 : Fin 4)).flush t = decide (t.val % 2 = 1) := by decide +kernel

/-- Where each output is stored and written back: the own rows once, and written back at the end; the shards sent at every
    odd point. -/
theorem sched (me : Fin 8) (t : Fin (cfgA F me).N) :
    (cfgA F me).idle (2 : Fin 4) ((cfgA F me).grid.coords t) = decide (¬mine me t.val)
      ∧ ((cfgA F me).win (2 : Fin 4)).flush t = decide (t.val = 7)
      ∧ (cfgA F me).idle (3 : Fin 4) ((cfgA F me).grid.coords t) = decide (¬t.val % 2 = 1)
      ∧ ((cfgA F me).win (3 : Fin 4)).flush t = decide (t.val % 2 = 1) := sched_ideal me t

/-- Before position `n`, nothing has been stored in the own rows since they were last written back. -/
theorem fresh2 (me : Fin 8) (t : Fin (cfgA F me).N) : (cfgA F me).fresh (2 : Fin 4) t.val = decide (t.val ≤ 2 * (me.val / 2) + 1 ∨ t.val = 8) := by
  refine Pipeline.Cfg.fresh_tab (cfgA F me) (2 : Fin 4) (fun n => decide (n ≤ 2 * (me.val / 2) + 1 ∨ n = 8)) (by simp) (fun t => ?_) t.val (Nat.le_of_lt t.isLt)
  obtain ⟨i2, f2, -, -⟩ := sched (F := F) me t
  have h8 := me.isLt
  have ht : t.val < 8 := t.isLt
  rw [i2, f2, ← Bool.decide_and, ← Bool.decide_or]
  exact decide_eq_decide.2 (by omega)

/-- The shards sent are written back as soon as they are stored. -/
theorem fresh3 (me : Fin 8) (t : Fin (cfgA F me).N) : (cfgA F me).fresh (3 : Fin 4) t.val = true := by
  refine Pipeline.Cfg.fresh_tab (cfgA F me) (3 : Fin 4) (fun _ => true) rfl (fun t => ?_) t.val (Nat.le_of_lt t.isLt)
  obtain ⟨-, -, i3, f3⟩ := sched (F := F) me t
  rw [i3, f3, Bool.and_true, ← Bool.decide_or]
  exact (decide_eq_true (by omega)).symm

/-! ## What is held from point to point -/

variable (me : Fin 8) (m : (ℓ : Loc nD τ sig) → Buf (Elt F) ℓ) (ρ : Dev nD → PrngReg)

/-- Point `t`'s coordinates. -/
abbrev crd (t : Fin (cfgA F me).N) : (cfgA F me).grid.Coords := (cfgA F me).grid.coords t

/-- The staging memrefs the body is handed at point `t`. -/
abbrev ms0 (t : Fin (cfgA F me).N) : Memref sig .tc .vmem S1x4096x704 .bf16 := spec0_0.stage ((cfgA F me).slots t (0 : Fin 4))
abbrev hs0 (t : Fin (cfgA F me).N) : (ms0 me t).IsWhole := hstage0_0 (((cfgA F me).slots t (0 : Fin 4)).cast nbuf0_0)
abbrev ms1 (t : Fin (cfgA F me).N) : Memref sig .tc .vmem S4096x1024 .bf16 := spec0_1.stage ((cfgA F me).slots t (1 : Fin 4))
abbrev hs1 (t : Fin (cfgA F me).N) : (ms1 me t).IsWhole := hstage0_1 (((cfgA F me).slots t (1 : Fin 4)).cast nbuf0_1)
abbrev ms2 (t : Fin (cfgA F me).N) : Memref sig .tc .vmem S352x1024 .f32 := spec0_2.stage ((cfgA F me).slots t (2 : Fin 4))
abbrev hs2 (t : Fin (cfgA F me).N) : (ms2 me t).IsWhole := hstage0_2 (((cfgA F me).slots t (2 : Fin 4)).cast nbuf0_2)
abbrev ms3 (t : Fin (cfgA F me).N) : Memref sig .tc .vmem S1x704x1024 .bf16 := spec0_3.stage ((cfgA F me).slots t (3 : Fin 4))
abbrev hs3 (t : Fin (cfgA F me).N) : (ms3 me t).IsWhole := hstage0_3 (((cfgA F me).slots t (3 : Fin 4)).cast nbuf0_3)

/-- Window `w`'s block at point `t`, read off its array at launch. -/
def iblk (c : Dev nD) (w : Fin (cfgA F me).W) (t : Fin (cfgA F me).N) : (((cfgA F me).win w).xblock (crd me t)).Idx → Elt F ((cfgA F me).win w).elt :=
  (((cfgA F me).win w).blk t).view.read (Elt F) ((s₀ m ρ).mem (((cfgA F me).win w).arr.view.loc (c : Thread nD τ)))

/-- What point `t` leaves in the accumulator, from what it held. -/
def step (c : Dev nD) (t : Fin (cfgA F me).N) (a : Vec F S704x1024 .f32) : Vec F S704x1024 .f32 :=
  k0_pay2 (crd me t) (iblk me m ρ c (0 : Fin 4) t) (iblk me m ρ c (1 : Fin 4) t) a

/-- What the accumulator holds before position `n`: zeros once cleared, then point after point. -/
def acc (c : Dev nD) : ℕ → Vec F S704x1024 .f32
  | 0 => k0_pay1 (F := F)
  | n + 1 => if h : n < (cfgA F me).N then step me m ρ c ⟨n, h⟩ (acc c n) else acc c n

theorem acc_succ (c : Dev nD) (t : Fin (cfgA F me).N) : acc me m ρ c (t.val + 1) = step me m ρ c t (acc me m ρ c t.val) := by
  rw [acc, dif_pos t.isLt]

/-- The rows the device keeps, of its own block once complete. -/
def own (c : Dev nD) : Vec F S352x1024 .f32 :=
  View.ld (acc me m ρ c (2 * (me.val / 2) + 2)) (Rect.unit (s := S704x1024) (k0_off1 (word me)) S352x1024.size (own_inb me))

/-- Before point `t`: the accumulator at what it holds once a point has run, and the body's half of the table. -/
def Phi (c : Dev nD) (t : Fin ((cfgA F me).N + 1)) : sProp 𝕄 :=
  iprop((∃ a, ⌜t.val ≠ 0 → a = acc me m ρ c t.val⌝ ∗ (sc.view.loc (c : Thread nD τ) ↦{fullShare} a)) ∗ (tb.view.loc (c : Thread nD τ) ↦{fullShare.right} tab F me))

/-- The proof data of the pipeline on a device. -/
def dats (_ : Fin 1) (c : Dev nD) : Dat τ (Elt F) Unit ℕ (UR sig nD τ) ℕ (cfgA F me) c where
  A w := (s₀ m ρ).mem (((cfgA F me).win w).arr.view.loc (c : Thread nD τ))
  after w t := match w with
    | ⟨0, _⟩ => iblk me m ρ c (0 : Fin 4) t
    | ⟨1, _⟩ => iblk me m ρ c (1 : Fin 4) t
    | ⟨2, _⟩ => own me m ρ c
    | ⟨3, _⟩ => k0_pay3 (acc me m ρ c (t.val + 1))
  Φ t := Phi me m ρ c t
  q _ := fullShare
  owed _ := 0

theorem after_0 (c : Dev nD) (t : Fin (cfgA F me).N) : (dats me m ρ 0 c).after (0 : Fin 4) t = iblk me m ρ c (0 : Fin 4) t := rfl
theorem after_1 (c : Dev nD) (t : Fin (cfgA F me).N) : (dats me m ρ 0 c).after (1 : Fin 4) t = iblk me m ρ c (1 : Fin 4) t := rfl
theorem after_2 (c : Dev nD) (t : Fin (cfgA F me).N) : (dats me m ρ 0 c).after (2 : Fin 4) t = own me m ρ c := rfl
theorem after_3 (c : Dev nD) (t : Fin (cfgA F me).N) : (dats me m ρ 0 c).after (3 : Fin 4) t = k0_pay3 (acc me m ρ c (t.val + 1)) := rfl

/-- The inputs hold their blocks. -/
theorem before_0 (c : Dev nD) (t : Fin (cfgA F me).N) (d) : (dats me m ρ 0 c).before (0 : Fin 4) t d = iblk me m ρ c (0 : Fin 4) t :=
  ((dats me m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F me).N) (d) : (dats me m ρ 0 c).before (1 : Fin 4) t d = iblk me m ρ c (1 : Fin 4) t :=
  ((dats me m ρ 0 c).before_in_eq_fetched (1 : Fin 4) rfl (fun _ => rfl) (fun _ _ _ => rfl) (fun t => by rw [after_1]; unfold Dat.blockOf iblk; rfl) t d).trans
    (by unfold Dat.fetched Dat.blockOf iblk; rfl)

/-- The own rows are held from the point that stores them on. -/
theorem before_2 (c : Dev nD) (t : Fin (cfgA F me).N) (d) (h : 2 * (me.val / 2) + 1 < t.val) : (dats me m ρ 0 c).before (2 : Fin 4) t d = own me m ρ c := by
  have ht : t.val < 8 := t.isLt
  rw [(dats me m ρ 0 c).before_out_traj (2 : Fin 4) rfl (fun _ _ => rfl) (fun _ _ _ _ => rfl) t.val t rfl d]
  have h0 : t.val ≠ 0 := by omega
  rw [fresh2, if_neg (by rw [decide_eq_true_eq]; omega)]
  first | rfl | (rw [dif_neg h0]; rfl) | (split; · omega
                                          · rfl)

/-! ## The obligation of the body -/

/-- At a point that is not the device's own, the own rows' buffer is handed back as it was found: on the last point, the
    rows stored before. -/
theorem keep_2 (c : Dev nD) (t : Fin (cfgA F me).N) (h : ¬mine me t.val) (d) :
    (owns (c : Thread nD τ) (ms2 me t) fullShare ((dats me m ρ 0 c).before (2 : Fin 4) t d) : sProp 𝕄)
      ⊢ match ((cfgA F me).win (2 : Fin 4)).flush t with
        | false => iprop(∃ d, owns (c : Thread nD τ) (ms2 me t) fullShare ((dats me m ρ 0 c).before (2 : Fin 4) t d))
        | true => owns (c : Thread nD τ) (ms2 me t) fullShare ((dats me m ρ 0 c).after (2 : Fin 4) t) := by
  obtain ⟨-, f2, -, -⟩ := sched (F := F) me t
  have h8 := me.isLt
  by_cases q : t.val = 7
  · rw [f2, decide_eq_true q, before_2 me m ρ c t d (by omega), after_2]
  · rw [f2, decide_eq_false q]
    iintro H; iexists d; iexact H

theorem wordOf_tab : wordOf (tab F me) = word me := rfl

set_option maxHeartbeats 4000000 in
/-- The body at point `t`, on what is held there, leaves what is held after it. -/
theorem sound_body (c : Dev nD) (t : Fin (cfgA F me).N) :
    iprop((dats me m ρ 0 c).Φ t.castSucc ∗ (dats me m ρ 0 c).owesAt () t.castSucc
        ∗ (∃ d, owns (c : Thread nD τ) (ms0 me t) fullShare ((dats me m ρ 0 c).before (0 : Fin 4) t d))
        ∗ (∃ d, owns (c : Thread nD τ) (ms1 me t) fullShare ((dats me m ρ 0 c).before (1 : Fin 4) t d))
        ∗ (∃ d, owns (c : Thread nD τ) (ms2 me t) fullShare ((dats me m ρ 0 c).before (2 : Fin 4) t d))
        ∗ (∃ d, owns (c : Thread nD τ) (ms3 me t) fullShare ((dats me m ρ 0 c).before (3 : Fin 4) t d)))
      ⊢ wp frame (wpE (defs₀ (F := F)) Variants.none c none) Set.univ (body (crd me t) (ms0 me t) (hs0 me t) (ms1 me t) (hs1 me t) (ms2 me t) (hs2 me t) (ms3 me t) (hs3 me t)) fun _ =>
          iprop((dats me m ρ 0 c).Φ t.succ ∗ (dats me m ρ 0 c).owesAt () t.succ
            ∗ bigSep Finset.univ fun w : Fin (cfgA F me).W =>
                match (cfgA F me).idle w ((cfgA F me).grid.coords t) with
                | true =>
                  match ((cfgA F me).win w).flush t with
                  | false => iprop(∃ d, owns (c : Thread nD τ) (((cfgA F me).win w).stage ((cfgA F me).slots t w)) fullShare ((dats me m ρ 0 c).before w t d))
                  | true => owns (c : Thread nD τ) (((cfgA F me).win w).stage ((cfgA F me).slots t w)) fullShare ((dats me m ρ 0 c).after w t)
                | false => owns (c : Thread nD τ) (((cfgA F me).win w).stage ((cfgA F me).slots t w)) fullShare ((dats me m ρ 0 c).after w t)) := by
  have ht : t.val < 8 := t.isLt
  obtain ⟨c1, c2, c3, c4⟩ := control me t
  obtain ⟨i2, -, i3, f3⟩ := sched (F := F) me t
  rw [bigSep_W0]
  rewrite [i2, i3, f3, show (dats me m ρ 0 c).Φ t.succ = Phi me m ρ c t.succ from rfl, show (dats me m ρ 0 c).Φ t.castSucc = Phi me m ρ c t.castSucc from rfl,
    show (dats me m ρ 0 c).owesAt () t.succ = (dats me m ρ 0 c).owesAt () t.castSucc from rfl]
  simp only [before_0, before_1, after_0, after_1]
  unfold Phi
  simp only [Fin.val_castSucc, Fin.val_succ, acc_succ]
  by_cases q1 : t.val % 2 = 1
  · have h1 : ¬First (crd me t) := fun h => by have := c1.1 h; omega
    have h2 : k0_cond2 (crd me t) = 1#1 := c2.2 q1
    have h0 : t.val ≠ 0 := by omega
    rewrite [decide_eq_false (show ¬¬t.val % 2 = 1 from fun h => h q1)]
    by_cases q2 : mine me t.val
    · rewrite [decide_eq_false (show ¬¬mine me t.val from fun h => h q2)]
      iintro ⟨⟨⟨%a, %ha, HS⟩, HT⟩, Ho, ⟨%d0, H0⟩, ⟨%d1, H1⟩, ⟨%d2, H2⟩, ⟨%d3, H3⟩⟩
      obtain rfl := ha h0
      iapply (run_own c (crd me t) (ms0 me t) (hs0 me t) (ms1 me t) (hs1 me t) (ms2 me t) (hs2 me t) (ms3 me t) (hs3 me t) (iblk me m ρ c (0 : Fin 4) t) (iblk me m ρ c (1 : Fin 4) t) (acc me m ρ c t.val) (tab F me) h1 h2 ((c3 q1).2 q2) (c4 q2) _)
      isplitl [H0]; · iapply rep_of_owns; iexact H0
      isplitl [H1]; · iapply rep_of_owns; iexact H1
      isplitl [HT]; · iexact HT
      isplitl [H2]; · iexists _; iexact H2
      isplitl [H3]; · iexists _; iexact H3
      isplitl [HS]; · iexact HS
      iintro ⟨H0, H1, HT, H2, H3, HS⟩
      isplitl [HS HT]
      · isplitl [HS]
        · iexists _; isplitr; swap
          · iexact HS
          · ipureintro; intro _; rfl
        iexact HT
      isplitl [Ho]; · iexact Ho
      isplitl [H0]; · iapply owns_of_rep; iexact H0
      isplitl [H1]; · iapply owns_of_rep; iexact H1
      isplitl [H2]
      · have e : View.ld (k0_pay2 (crd me t) (iblk me m ρ c (0 : Fin 4) t) (iblk me m ρ c (1 : Fin 4) t) (acc me m ρ c t.val)) (Rect.unit (s := S704x1024) (k0_off1 (wordOf (tab F me))) S352x1024.size (k0_off1_inb (crd me t) (wordOf (tab F me)) (wordOf (tab F me)) (c4 q2) h2 ((c3 q1).2 q2))) = own me m ρ c := by
          unfold own
          rw [show 2 * (me.val / 2) + 2 = t.val + 1 by omega, acc_succ]
          rfl
        rw [after_2, ← e]; iexact H2
      rw [after_3, acc_succ]; iexact H3
    · rewrite [decide_eq_true (show ¬mine me t.val from q2)]
      iintro ⟨⟨⟨%a, %ha, HS⟩, HT⟩, Ho, ⟨%d0, H0⟩, ⟨%d1, H1⟩, ⟨%d2, H2⟩, ⟨%d3, H3⟩⟩
      obtain rfl := ha h0
      iapply (run_part c (crd me t) (ms0 me t) (hs0 me t) (ms1 me t) (hs1 me t) (ms2 me t) (hs2 me t) (ms3 me t) (hs3 me t) (iblk me m ρ c (0 : Fin 4) t) (iblk me m ρ c (1 : Fin 4) t) (acc me m ρ c t.val) (tab F me) h1 h2 (fun h => q2 ((c3 q1).1 h)) _)
      isplitl [H0]; · iapply rep_of_owns; iexact H0
      isplitl [H1]; · iapply rep_of_owns; iexact H1
      isplitl [HT]; · iexact HT
      isplitl [H3]; · iexists _; iexact H3
      isplitl [HS]; · iexact HS
      iintro ⟨H0, H1, HT, H3, HS⟩
      isplitl [HS HT]
      · isplitl [HS]
        · iexists _; isplitr; swap
          · iexact HS
          · ipureintro; intro _; rfl
        iexact HT
      isplitl [Ho]; · iexact Ho
      isplitl [H0]; · iapply owns_of_rep; iexact H0
      isplitl [H1]; · iapply owns_of_rep; iexact H1
      isplitl [H2]; · iapply (keep_2 me m ρ c t q2 d2); iexact H2
      rw [after_3, acc_succ]; iexact H3
  · have h2 : ¬(k0_cond2 (crd me t) = 1#1) := fun h => q1 (c2.1 h)
    have q2 : ¬mine me t.val := by omega
    rewrite [decide_eq_true (show ¬t.val % 2 = 1 from q1), decide_eq_true (show ¬mine me t.val from q2), decide_eq_false (show ¬t.val % 2 = 1 from q1)]
    by_cases q0 : t.val = 0
    · iintro ⟨⟨⟨%a, %ha, HS⟩, HT⟩, Ho, ⟨%d0, H0⟩, ⟨%d1, H1⟩, ⟨%d2, H2⟩, ⟨%d3, H3⟩⟩
      iapply (run_first c (crd me t) (ms0 me t) (hs0 me t) (ms1 me t) (hs1 me t) (ms2 me t) (hs2 me t) (ms3 me t) (hs3 me t) (iblk me m ρ c (0 : Fin 4) t) (iblk me m ρ c (1 : Fin 4) t) a (c1.2 q0) h2 _)
      isplitl [H0]; · iapply rep_of_owns; iexact H0
      isplitl [H1]; · iapply rep_of_owns; iexact H1
      isplitl [HS]; · iexact HS
      iintro ⟨H0, H1, HS⟩
      isplitl [HS HT]
      · isplitl [HS]
        · iexists _; isplitr; swap
          · iexact HS
          · ipureintro; intro _; rw [q0]; rfl
        iexact HT
      isplitl [Ho]; · iexact Ho
      isplitl [H0]; · iapply owns_of_rep; iexact H0
      isplitl [H1]; · iapply owns_of_rep; iexact H1
      isplitl [H2]; · iapply (keep_2 me m ρ c t q2 d2); iexact H2
      iexists d3; iexact H3
    · iintro ⟨⟨⟨%a, %ha, HS⟩, HT⟩, Ho, ⟨%d0, H0⟩, ⟨%d1, H1⟩, ⟨%d2, H2⟩, ⟨%d3, H3⟩⟩
      obtain rfl := ha q0
      iapply (run_half c (crd me t) (ms0 me t) (hs0 me t) (ms1 me t) (hs1 me t) (ms2 me t) (hs2 me t) (ms3 me t) (hs3 me t) (iblk me m ρ c (0 : Fin 4) t) (iblk me m ρ c (1 : Fin 4) t) (acc me m ρ c t.val) (fun h => q0 (c1.1 h)) h2 _)
      isplitl [H0]; · iapply rep_of_owns; iexact H0
      isplitl [H1]; · iapply rep_of_owns; iexact H1
      isplitl [HS]; · iexact HS
      iintro ⟨H0, H1, HS⟩
      isplitl [HS HT]
      · isplitl [HS]
        · iexists _; isplitr; swap
          · iexact HS
          · ipureintro; intro _; rfl
        iexact HT
      isplitl [Ho]; · iexact Ho
      isplitl [H0]; · iapply owns_of_rep; iexact H0
      isplitl [H1]; · iapply owns_of_rep; iexact H1
      isplitl [H2]; · iapply (keep_2 me m ρ c t q2 d2); iexact H2
      iexists d3; iexact H3

/-- The library's obligation, at every point. -/
theorem body_obligation (c : Dev nD) : BodyObligation (dats me m ρ 0 c) (defs₀ (F := F)) Variants.none () Set.univ := fun t => by
  rw [bigSep_W0]
  exact sound_body me m ρ c t

/-! ## The launch -/

/-- The proof's resource algebra: the rounds library's, for the pipeline's staging cells. -/
abbrev EP : Emb (UR sig nD τ) 𝕄 := emb₁

variable (F) in
/-- The rounds library's launch element. -/
def u₀ : UR sig nD τ :=
  initOf (Pipeline.cells (pcs F me) ((launch0 (F := F)).cellOf_inj fun _ => adm F me))
    (Pipeline.launchToks (pcs F me) ((launch0 (F := F)).cellOf_inj fun _ => adm F me))

theorem share_eq (c : Dev nD) (w : Fin (cfgA F me).W) : (dats me m ρ 0 c).share w = fullShare := by unfold Dat.share; split <;> rfl

/-- The table as the launch hands it over. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi0_intro (c : Dev nD) :
    iprop(BI.emp ∗ Pipeline.prefHeld pre0 c (fun _ => fullShare.right) (adm F me).1 ∗ Pipeline.scopedRest spec0 c) ⊢ (dats me m ρ 0 c).Φ 0 := by
  rw [prefHeld_eq, scopedRest0_eq, show (dats me m ρ 0 c).Φ 0 = Phi me m ρ c 0 from rfl]
  unfold Phi
  iintro ⟨-, ⟨HT⟩, ⟨%a, HS⟩⟩
  isplitl [HS]
  · iexists a; isplitr; swap
    · iexact HS
    · ipureintro; intro h; exact absurd rfl h
  iexact HT

theorem phiN_exit (c : Dev nD) : (dats me m ρ 0 c).Φ (Fin.last (cfgA F me).N) ⊢ iprop(BI.emp ∗ Pipeline.scopedRest spec0 c) := by
  rw [scopedRest0_eq, show (dats me m ρ 0 c).Φ (Fin.last (cfgA F me).N) = Phi me m ρ c (Fin.last _) from rfl]
  unfold Phi
  iintro ⟨⟨%a, -, HS⟩, -⟩
  isplitr; · iempintro
  iexists a; iexact HS

/-- Every array at what the pipeline computes, the table at what it ran at. -/
def Post : PUnit × MemSt nD τ sig (Elt F) → Prop := fun r =>
  ∀ c : Dev nD, (∀ w : Fin (cfgA F me).W, r.2.mem (((cfgA F me).win w).arr.view.loc (c : Thread nD τ)) = (dats me m ρ 0 c).arrAt w (cfgA F me).N)
    ∧ ∀ j, r.2.mem ((c : Thread nD τ).loc (pre0.ref j)) = (adm F me).1 j

/-- The memory hands every device the word of device `me`. -/
def Pinned : Prop := ∀ c : Dev nD, m ((c : Thread nD τ).loc main_arg0) = tab F me

theorem V_pre (hp : Pinned me m) (c : Dev nD) (j : Fin 1) : m ((c : Thread nD τ).loc (pre0.ref j)) = (adm F me).1 j := by
  fin_cases j
  · exact hp c

set_option backward.isDefEq.respectTransparency.types false in
set_option maxHeartbeats 4000000 in
/-- From any memory with zero counters that hands the devices that word, every execution ends with each array at what the
    pipeline computes and every counter at zero. -/
theorem run_main (hp : Pinned me m) : θ_run (defs (F := F)) (onTc (τ := τ) (main (F := F))) (s₀ m ρ) (fun r => Post me m ρ r ∧ r.2.sem = fun _ => 0) :=
  Pipeline.θ_run_region_noSem_pf_quiescent pcfgs (fun _ => adm F me) (dats me m ρ) () ((launch0 (F := F)).cellOf_inj fun _ => adm F me) (0 : Fin 1)
    (launch0 (F := F)).win.to₀ (launch0 (F := F)).pre EP defs₀ Variants.none m ρ main
    (hbody := fun c => (body_obligation me m ρ c).loose) (hne := (launch0 (F := F)).block_pos)
    (harr := (launch0 (F := F)).arr_whole) (hstage := (launch0 (F := F)).stage_whole) (howed := fun _ _ => rfl)
    (u₀ := u₀ F me) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F me) (dats me m ρ) 0 (launch0 (F := F)).win.arr_inj c (launch0 (F := F)).arr_whole
      (share_eq me m ρ c) _ _ fun _ => rfl)
    (hpf := V_pre me m hp)
    (X := fun _ => iprop(emp)) (Y := fun _ => iprop(emp)) (Z := fun _ => iprop(emp))
    (hX := fun c => by rw [unscopedRestP0_eq]; iintro -; isplitr <;> iempintro)
    (hin := phi0_intro me m ρ)
    (hout := phiN_exit me m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged and every counter at zero. -/
theorem frame_run (hp : Pinned me m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 0).trans (hp c).symm, ((h.1 c).1 (0 : Fin 4)).trans ((dats me m ρ 0 c).arrAt_in (0 : Fin 4) rfl _), ((h.1 c).1 (1 : Fin 4)).trans ((dats me m ρ 0 c).arrAt_in (1 : Fin 4) rfl _)⟩, h.2⟩) (run_main me m ρ hp)

end Cert.Down
-- ==== Proof.GuRuns.lean ====
/- One grid point of the gate-and-up product: what the body leaves in the accumulator and in the two outputs, at each
   of the four kinds of point, over any float values. -/
module

public import proofs.«01_k».proof.Proof.Gen.KernelGateUpIdeal.Skeleton
public import proofs.«01_k».proof.Proof.Gen.KernelGateUpIdeal.Launch
public import Idealize.ShloMosaic.Lib.Pipeline.ReadBack
public import Idealize.ShloMosaic.Lib.VecWindow
public import Idealize.ShloMosaic.Lib.Pipeline.ValueKit
public import proofs.«01_k».proof.Proof.Gen.KernelGateUpIdeal.Flash.Pins
@[expose] public section

set_option maxRecDepth 16384
set_option Elab.async false

noncomputable section

namespace Cert.GateUp

open Cert.KernelGateUpIdeal Cert.KernelGateUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-- The table of the device's word. -/
abbrev tb : Memref sig .tc .smem S1 .i32 := Memref.whole main_arg0
/-- The accumulator. -/
abbrev sc : Memref sig .tc .vmem S704x1024 .f32 := Memref.whole cc0_scratch0

/-- The kernel body at the grid point `i`, on the staging buffers it is handed. -/
abbrev body (i : grid0.Coords) (arg3 : Memref sig .tc .vmem S1x4096x704 .bf16) (harg3 : arg3.IsWhole) (arg4 : Memref sig .tc .vmem S4096x1024 .bf16) (harg4 : arg4.IsWhole) (arg5 : Memref sig .tc .vmem S704x1024 .f32) (harg5 : arg5.IsWhole) (arg6 : Memref sig .tc .vmem S1x704x1024 .bf16) (harg6 : arg6.IsWhole) :
    Prog (TpuEff nD τ sig (Elt F) Λ₀ .tc) PUnit :=
  cc0_dw_gate_up i tb (Memref.isWhole_whole _) arg3 harg3 arg4 harg4 arg5 harg5 arg6 harg6 sc (Memref.isWhole_whole _)

/-- Whether the body clears its accumulator first: at the very first point. -/
abbrev First (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1

/-- The word the table holds, as the body reads it. -/
abbrev wordOf (T : Vec F S1 .i32) : BitVec 32 := View.readAt (Elt F) tb.view (Rect.unit (s := S1) ![0] S1.size inb_S1_S1_0).toLoadRect T (Shape.Idx.first (numel1_S1.symm ▸ Nat.one_pos))

/-- The accumulator stored whole: what the whole buffer holds is the last value stored. -/
theorem sc_writes (f : sc.view.ty.Contents (Elt F)) (w : Vec F S704x1024 .f32) (L : List (View.Piece (Elt F) S704x1024 .f32)) :
    sc.view.writes (Elt F) f (⟨Rect.unit ![0, 0] S704x1024.size inb_S704x1024_S704x1024_0_0, w⟩ :: L) = w :=
  (View.read_whole (Val := Elt F) cc0_scratch0 (sc.view.writes (Elt F) f (⟨Rect.unit ![0, 0] S704x1024.size inb_S704x1024_S704x1024_0_0, w⟩ :: L))).symm.trans
    (View.read_writes_full sc.view f inb_S704x1024_S704x1024_0_0 w L)

/-- The accumulator read back after being stored whole. -/
theorem sc_readCov (w : Vec F S704x1024 .f32) (L : List (View.Piece (Elt F) S704x1024 .f32)) :
    sc.view.readCov (⟨Rect.unit ![0, 0] S704x1024.size inb_S704x1024_S704x1024_0_0, w⟩ :: L) (Rect.unit ![0, 0] S704x1024.size inb_S704x1024_S704x1024_0_0).toLoadRect = w := by
  rw [View.readCov_fill sc.view _ w L _ (by decide)]
  exact View.ld_unit_lit _ w (by decide)

/-- The whole accumulator loaded. -/
theorem sc_readAt (a : Vec F S704x1024 .f32) :
    sc.view.readAt (Elt F) (Rect.unit ![0, 0] S704x1024.size inb_S704x1024_S704x1024_0_0).toLoadRect a = a :=
  View.ld_unit_lit _ a (by decide)

section Runs
variable (c : Dev nD) (i : grid0.Coords) (arg3 : Memref sig .tc .vmem S1x4096x704 .bf16) (harg3 : arg3.IsWhole) (arg4 : Memref sig .tc .vmem S4096x1024 .bf16) (harg4 : arg4.IsWhole) (arg5 : Memref sig .tc .vmem S704x1024 .f32) (harg5 : arg5.IsWhole) (arg6 : Memref sig .tc .vmem S1x704x1024 .bf16) (harg6 : arg6.IsWhole)
    (x0 : Vec F S1x4096x704 .bf16) (x1 : Vec F S4096x1024 .bf16) (a : Vec F S704x1024 .f32) (T : Vec F S1 .i32)

set_option maxHeartbeats 8000000 in
/-- The first point: the accumulator is cleared, then holds the first half of the rows' product. -/
theorem run_first (h1 : First i) (h2 : ¬(k0_cond2 i = 1#1)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (sc.view.loc (c : Thread nD τ) ↦{fullShare} k0_pay2 i x0 x1 (k0_pay1 (F := F)))) -∗ K ⟨⟩))
      ⊢ wp frame (wpE (defs₀ (F := F)) Variants.none c none) Set.univ (body i arg3 harg3 arg4 harg4 arg5 harg5 arg6 harg6) K := by
  unfold body
  rw [cc0_dw_gate_up_eq_skeleton]; unfold cc0_dw_gate_up_skel
  iintro ⟨H0, H1, HS0, Hk⟩
  have hS0 : sc.IsWhole := Memref.isWhole_whole _
  sl_exec! (disch := first | (guard_target = Scalar.cmpi = _; exact h1) | (guard_target = ¬(k0_cond2 _ = _); exact h2))
  sl_step
  iapply Hk
  isplitl [H0]; · iexact H0
  isplitl [H1]; · iexact H1
  have e : sc.view.writes (Elt F) sc.view.junk (run_first.sl.HS0_2 i arg3 arg4 x0 x1) = k0_pay2 i x0 x1 (k0_pay1 (F := F)) := by
    frame_open
    rw [sc_writes, sc_readCov, View.readAt_rep_full, View.readAt_rep_full]
  rw [e]; iexact HS0

set_option maxHeartbeats 8000000 in
/-- Any later point of the first half of the rows: the accumulator moves on, nothing else is stored. -/
theorem run_half (h1 : ¬First i) (h2 : ¬(k0_cond2 i = 1#1)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (sc.view.loc (c : Thread nD τ) ↦{fullShare} k0_pay2 i x0 x1 a)) -∗ K ⟨⟩))
      ⊢ wp frame (wpE (defs₀ (F := F)) Variants.none c none) Set.univ (body i arg3 harg3 arg4 harg4 arg5 harg5 arg6 harg6) K := by
  unfold body
  rw [cc0_dw_gate_up_eq_skeleton]; unfold cc0_dw_gate_up_skel
  iintro ⟨H0, H1, HS0, Hk⟩
  have hS0 : sc.IsWhole := Memref.isWhole_whole _
  sl_exec! (disch := first | (guard_target = ¬(Scalar.cmpi = _); exact h1) | (guard_target = ¬(k0_cond2 _ = _); exact h2))
  sl_step
  iapply Hk
  isplitl [H0]; · iexact H0
  isplitl [H1]; · iexact H1
  have e : sc.view.writes (Elt F) sc.view.junk (run_half.sl.HS0_1 i arg3 arg4 x0 x1 a) = k0_pay2 i x0 x1 a := by
    frame_open
    rw [sc_writes, sc_readAt, View.readAt_rep_full, View.readAt_rep_full]
  rw [e]
  iexact HS0

set_option maxHeartbeats 8000000 in
/-- A point of the second half, of a block the device doesn't own: the block's product is stored in the shards sent. -/
theorem run_part (h1 : ¬First i) (h2 : k0_cond2 i = 1#1) (h3 : ¬(k0_cond3 i (wordOf T) = 1#1)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (tb.view.loc (c : Thread nD τ) ↦{fullShare.right} T)
        ∗ (∃ d, owns (c : Thread nD τ) arg6 fullShare d)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (tb.view.loc (c : Thread nD τ) ↦{fullShare.right} T)
            ∗ owns (c : Thread nD τ) arg6 fullShare (k0_pay3 (k0_pay2 i x0 x1 a))
            ∗ (sc.view.loc (c : Thread nD τ) ↦{fullShare} k0_pay2 i x0 x1 a)) -∗ K ⟨⟩))
      ⊢ wp frame (wpE (defs₀ (F := F)) Variants.none c none) Set.univ (body i arg3 harg3 arg4 harg4 arg5 harg5 arg6 harg6) K := by
  unfold body owns
  rw [cc0_dw_gate_up_eq_skeleton]; unfold cc0_dw_gate_up_skel
  iintro ⟨H0, H1, HT0, ⟨%d3, %f3, -, HO3⟩, HS0, Hk⟩
  have hS0 : sc.IsWhole := Memref.isWhole_whole _
  have hT0 : tb.IsWhole := Memref.isWhole_whole _
  sl_exec! (disch := first | (guard_target = ¬(Scalar.cmpi = _); exact h1) | (guard_target = k0_cond2 _ = _; exact h2) | (guard_target = ¬(k0_cond3 _ _ = _); exact h3))
  sl_step
  iapply Hk
  isplitl [H0]; · iexact H0
  isplitl [H1]; · iexact H1
  isplitl [HT0]; · iexact HT0
  isplitl [HO3]
  · iexists _; isplitr; swap
    · iexact HO3
    ipureintro
    frame_open
    rw [View.read_writes_full, sc_readCov, sc_readAt, View.readAt_rep_full, View.readAt_rep_full]
  have e : sc.view.writes (Elt F) sc.view.junk (run_part.sl.HS0_1 i arg3 arg4 x0 x1 a) = k0_pay2 i x0 x1 a := by
    frame_open
    rw [sc_writes, sc_readAt, View.readAt_rep_full, View.readAt_rep_full]
  rw [e]
  iexact HS0

set_option maxHeartbeats 8000000 in
/-- A point of the second half, of the block the device owns: its own rows are stored too. -/
theorem run_own (h1 : ¬First i) (h2 : k0_cond2 i = 1#1) (h3 : k0_cond3 i (wordOf T) = 1#1) (h4 : k0_chk1 i (wordOf T) (wordOf T)) (K : PUnit → sProp 𝕄) :
    iprop((arg3.view.loc (c : Thread nD τ) ↦[arg3.view.set]{fullShare} arg3.view.rep x0)
        ∗ (arg4.view.loc (c : Thread nD τ) ↦[arg4.view.set]{fullShare} arg4.view.rep x1)
        ∗ (tb.view.loc (c : Thread nD τ) ↦{fullShare.right} T)
        ∗ (∃ d, owns (c : Thread nD τ) arg5 fullShare d)
        ∗ (∃ d, owns (c : Thread nD τ) arg6 fullShare d)
        ∗ (sc.view.loc (c : Thread nD τ) ↦{fullShare} a)
        ∗ (iprop((arg3.view.loc (c : Thread nD τ) ↦[arg3.view.set]{fullShare} arg3.view.rep x0)
            ∗ (arg4.view.loc (c : Thread nD τ) ↦[arg4.view.set]{fullShare} arg4.view.rep x1)
            ∗ (tb.view.loc (c : Thread nD τ) ↦{fullShare.right} T)
            ∗ owns (c : Thread nD τ) arg5 fullShare (View.ld (k0_pay2 i x0 x1 a) (Rect.unit (s := S704x1024) (k0_off1 (wordOf T)) S704x1024.size (k0_off1_inb i (wordOf T) (wordOf T) h4 h2 h3)))
            ∗ owns (c : Thread nD τ) arg6 fullShare (k0_pay3 (k0_pay2 i x0 x1 a))
            ∗ (sc.view.loc (c : Thread nD τ) ↦{fullShare} k0_pay2 i x0 x1 a)) -∗ K ⟨⟩))
      ⊢ wp frame (wpE (defs₀ (F := F)) Variants.none c none) Set.univ (body i arg3 harg3 arg4 harg4 arg5 harg5 arg6 harg6) K := by
  unfold body owns
  rw [cc0_dw_gate_up_eq_skeleton]; unfold cc0_dw_gate_up_skel
  iintro ⟨H0, H1, HT0, ⟨%d2, %f2, -, HO2⟩, ⟨%d3, %f3, -, HO3⟩, HS0, Hk⟩
  have hS0 : sc.IsWhole := Memref.isWhole_whole _
  have hT0 : tb.IsWhole := Memref.isWhole_whole _
  sl_exec! (disch := first | (guard_target = ¬(Scalar.cmpi = _); exact h1) | (guard_target = k0_cond2 _ = _; exact h2) | (guard_target = k0_cond3 _ _ = _; exact h3) | (guard_target = k0_chk1 _ _ _; exact h4))
  sl_step
  iapply Hk
  isplitl [H0]; · iexact H0
  isplitl [H1]; · iexact H1
  isplitl [HT0]; · iexact HT0
  isplitl [HO2]
  · iexists _; isplitr; swap
    · iexact HO2
    ipureintro
    frame_open
    rw [View.read_writes_full, View.readAt_eq_ld, View.read_writes_full, sc_readAt, View.readAt_rep_full, View.readAt_rep_full]
  isplitl [HO3]
  · iexists _; isplitr; swap
    · iexact HO3
    ipureintro
    frame_open
    rw [View.read_writes_full, sc_readCov, sc_readAt, View.readAt_rep_full, View.readAt_rep_full]
  have e : sc.view.writes (Elt F) sc.view.junk (run_own.sl.HS0_1 i arg3 arg4 x0 x1 a) = k0_pay2 i x0 x1 a := by
    frame_open
    rw [sc_writes, sc_readAt, View.readAt_rep_full, View.readAt_rep_full]
  rw [e]
  iexact HS0
end Runs

end Cert.GateUp
-- ==== Proof.GuCert.lean ====
/- The gate-and-up product at the word of any of the eight devices, over any float values: the table it is handed, what
   the accumulator and the two outputs hold from point to point, the obligation of the body, and the launch. -/
module

public import proofs.«01_k».proof.Proof.GuRuns
public import Idealize.ShloMosaic.Lib.Pipeline
public import Idealize.ShloMosaic.Lib.Ring
public import Idealize.ShloMosaic.Adequacy
public import Idealize.ShloMosaic.Init

@[expose] public section

set_option maxRecDepth 16384
set_option Elab.async false

noncomputable section

namespace Cert.GateUp

open Cert.KernelGateUpIdeal Cert.KernelGateUpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
local notation "𝕄" => MT nD τ sig Unit (Elt F) ℕ (UR sig nD τ) ℕ

/-! ## The table and the schedule -/

/-- The word of device `me`. -/
abbrev word (me : Fin 8) : BitVec 32 := BitVec.ofNat 32 me.val

/-- The table that holds the word of device `me`. -/
def tab (F : FTy → Type) (me : Fin 8) : Vec F S1 .i32 := fun _ => word me

/-- The tables' contents. -/
def tabs (F : FTy → Type) (me : Fin 8) : pre0.Contents (Elt F) := fun | ⟨0, _⟩ => tab F me | ⟨_ + 1, h⟩ => absurd h (by simp)

variable (F) in
/-- The contents are admitted: no block depends on them. -/
def adm (me : Fin 8) : (pcfg0 (F := F)).Adm := ⟨tabs F me, show ok0 (F := F) (tabs F me) by unfold ok0; trivial⟩

variable (F) in
/-- The pipeline at them. -/
abbrev cfgA (me : Fin 8) : Pipeline.Cfg sig Λ₀ := cfg0 (F := F) (adm F me)

variable (F) in
/-- The program's one pipeline. -/
abbrev pcs (me : Fin 8) : Fin 1 → Pipeline.Cfg sig Λ₀ := Pipeline.pin (pcfgs (F := F)) fun _ => adm F me

/-- The point, of the second half of the rows, at which the device's own block is complete. -/
abbrev mine (me : Fin 8) (n : ℕ) : Prop := n = 2 * me.val + 1

/-- The control of the body at point `t`: the accumulator is cleared at point 0, the block is complete at the odd points,
    and it is the device's own at one of them. -/
theorem control : ∀ (me : Fin 8) (t : Fin grid0.N),
    (First (grid0.coords t) ↔ t.val = 0) ∧ (k0_cond2 (grid0.coords t) = 1#1 ↔ t.val % 2 = 1)
      ∧ (t.val % 2 = 1 → (k0_cond3 (grid0.coords t) (word me) = 1#1 ↔ mine me t.val))
      ∧ (mine me t.val → k0_chk1 (grid0.coords t) (word me) (word me)) := by decide +kernel

/-- Where the rows the device keeps start. -/
theorem own_inb : ∀ (me : Fin 8) (a : Fin 2), k0_off1 (word me) a + S704x1024.size a ≤ S704x1024.size a := by decide +kernel

/-- Where each output is stored and written back, at the exact values. -/
theorem sched_ideal : ∀ (me : Fin 8) (t : Fin (cfgA Ideal me).N),
    (cfgA Ideal me).idle (2 : Fin 4) ((cfgA Ideal me).grid.coords t) = decide (¬mine me t.val)
      ∧ ((cfgA Ideal me).win (2 : Fin 4)).flush t = decide (t.val = 15)
      ∧ (cfgA Ideal me).idle (3 : Fin 4) ((cfgA Ideal me).grid.coords t) = decide (¬t.val % 2 = 1)
      ∧ ((cfgA Ideal me).win (3 : Fin 4)).flush t = decide (t.val % 2 = 1) := by decide +kernel

/-- Where each output is stored and written back: the own rows once, and written back at the end; the shards sent at every
    odd point. -/
theorem sched (me : Fin 8) (t : Fin (cfgA F me).N) :
    (cfgA F me).idle (2 : Fin 4) ((cfgA F me).grid.coords t) = decide (¬mine me t.val)
      ∧ ((cfgA F me).win (2 : Fin 4)).flush t = decide (t.val = 15)
      ∧ (cfgA F me).idle (3 : Fin 4) ((cfgA F me).grid.coords t) = decide (¬t.val % 2 = 1)
      ∧ ((cfgA F me).win (3 : Fin 4)).flush t = decide (t.val % 2 = 1) := sched_ideal me t

/-- Before position `n`, nothing has been stored in the own rows since they were last written back. -/
theorem fresh2 (me : Fin 8) (t : Fin (cfgA F me).N) : (cfgA F me).fresh (2 : Fin 4) t.val = decide (t.val ≤ 2 * me.val + 1 ∨ t.val = 16) := by
  refine Pipeline.Cfg.fresh_tab (cfgA F me) (2 : Fin 4) (fun n => decide (n ≤ 2 * me.val + 1 ∨ n = 16)) (by simp) (fun t => ?_) t.val (Nat.le_of_lt t.isLt)
  obtain ⟨i2, f2, -, -⟩ := sched (F := F) me t
  have h8 := me.isLt
  have ht : t.val < 16 := t.isLt
  rw [i2, f2, ← Bool.decide_and, ← Bool.decide_or]
  exact decide_eq_decide.2 (by omega)

/-- The shards sent are written back as soon as they are stored. -/
theorem fresh3 (me : Fin 8) (t : Fin (cfgA F me).N) : (cfgA F me).fresh (3 : Fin 4) t.val = true := by
  refine Pipeline.Cfg.fresh_tab (cfgA F me) (3 : Fin 4) (fun _ => true) rfl (fun t => ?_) t.val (Nat.le_of_lt t.isLt)
  obtain ⟨-, -, i3, f3⟩ := sched (F := F) me t
  rw [i3, f3, Bool.and_true, ← Bool.decide_or]
  exact (decide_eq_true (by omega)).symm

/-! ## What is held from point to point -/

variable (me : Fin 8) (m : (ℓ : Loc nD τ sig) → Buf (Elt F) ℓ) (ρ : Dev nD → PrngReg)

/-- Point `t`'s coordinates. -/
abbrev crd (t : Fin (cfgA F me).N) : (cfgA F me).grid.Coords := (cfgA F me).grid.coords t

/-- The staging memrefs the body is handed at point `t`. -/
abbrev ms0 (t : Fin (cfgA F me).N) : Memref sig .tc .vmem S1x4096x704 .bf16 := spec0_0.stage ((cfgA F me).slots t (0 : Fin 4))
abbrev hs0 (t : Fin (cfgA F me).N) : (ms0 me t).IsWhole := hstage0_0 (((cfgA F me).slots t (0 : Fin 4)).cast nbuf0_0)
abbrev ms1 (t : Fin (cfgA F me).N) : Memref sig .tc .vmem S4096x1024 .bf16 := spec0_1.stage ((cfgA F me).slots t (1 : Fin 4))
abbrev hs1 (t : Fin (cfgA F me).N) : (ms1 me t).IsWhole := hstage0_1 (((cfgA F me).slots t (1 : Fin 4)).cast nbuf0_1)
abbrev ms2 (t : Fin (cfgA F me).N) : Memref sig .tc .vmem S704x1024 .f32 := spec0_2.stage ((cfgA F me).slots t (2 : Fin 4))
abbrev hs2 (t : Fin (cfgA F me).N) : (ms2 me t).IsWhole := hstage0_2 (((cfgA F me).slots t (2 : Fin 4)).cast nbuf0_2)
abbrev ms3 (t : Fin (cfgA F me).N) : Memref sig .tc .vmem S1x704x1024 .bf16 := spec0_3.stage ((cfgA F me).slots t (3 : Fin 4))
abbrev hs3 (t : Fin (cfgA F me).N) : (ms3 me t).IsWhole := hstage0_3 (((cfgA F me).slots t (3 : Fin 4)).cast nbuf0_3)

/-- Window `w`'s block at point `t`, read off its array at launch. -/
def iblk (c : Dev nD) (w : Fin (cfgA F me).W) (t : Fin (cfgA F me).N) : (((cfgA F me).win w).xblock (crd me t)).Idx → Elt F ((cfgA F me).win w).elt :=
  (((cfgA F me).win w).blk t).view.read (Elt F) ((s₀ m ρ).mem (((cfgA F me).win w).arr.view.loc (c : Thread nD τ)))

/-- What point `t` leaves in the accumulator, from what it held. -/
def step (c : Dev nD) (t : Fin (cfgA F me).N) (a : Vec F S704x1024 .f32) : Vec F S704x1024 .f32 :=
  k0_pay2 (crd me t) (iblk me m ρ c (0 : Fin 4) t) (iblk me m ρ c (1 : Fin 4) t) a

/-- What the accumulator holds before position `n`: zeros once cleared, then point after point. -/
def acc (c : Dev nD) : ℕ → Vec F S704x1024 .f32
  | 0 => k0_pay1 (F := F)
  | n + 1 => if h : n < (cfgA F me).N then step me m ρ c ⟨n, h⟩ (acc c n) else acc c n

theorem acc_succ (c : Dev nD) (t : Fin (cfgA F me).N) : acc me m ρ c (t.val + 1) = step me m ρ c t (acc me m ρ c t.val) := by
  rw [acc, dif_pos t.isLt]

/-- The rows the device keeps, of its own block once complete. -/
def own (c : Dev nD) : Vec F S704x1024 .f32 :=
  View.ld (acc me m ρ c (2 * me.val + 2)) (Rect.unit (s := S704x1024) (k0_off1 (word me)) S704x1024.size (own_inb me))

/-- Before point `t`: the accumulator at what it holds once a point has run, and the body's half of the table. -/
def Phi (c : Dev nD) (t : Fin ((cfgA F me).N + 1)) : sProp 𝕄 :=
  iprop((∃ a, ⌜t.val ≠ 0 → a = acc me m ρ c t.val⌝ ∗ (sc.view.loc (c : Thread nD τ) ↦{fullShare} a)) ∗ (tb.view.loc (c : Thread nD τ) ↦{fullShare.right} tab F me))

/-- The proof data of the pipeline on a device. -/
def dats (_ : Fin 1) (c : Dev nD) : Dat τ (Elt F) Unit ℕ (UR sig nD τ) ℕ (cfgA F me) c where
  A w := (s₀ m ρ).mem (((cfgA F me).win w).arr.view.loc (c : Thread nD τ))
  after w t := match w with
    | ⟨0, _⟩ => iblk me m ρ c (0 : Fin 4) t
    | ⟨1, _⟩ => iblk me m ρ c (1 : Fin 4) t
    | ⟨2, _⟩ => own me m ρ c
    | ⟨3, _⟩ => k0_pay3 (acc me m ρ c (t.val + 1))
  Φ t := Phi me m ρ c t
  q _ := fullShare
  owed _ := 0

theorem after_0 (c : Dev nD) (t : Fin (cfgA F me).N) : (dats me m ρ 0 c).after (0 : Fin 4) t = iblk me m ρ c (0 : Fin 4) t := rfl
theorem after_1 (c : Dev nD) (t : Fin (cfgA F me).N) : (dats me m ρ 0 c).after (1 : Fin 4) t = iblk me m ρ c (1 : Fin 4) t := rfl
theorem after_2 (c : Dev nD) (t : Fin (cfgA F me).N) : (dats me m ρ 0 c).after (2 : Fin 4) t = own me m ρ c := rfl
theorem after_3 (c : Dev nD) (t : Fin (cfgA F me).N) : (dats me m ρ 0 c).after (3 : Fin 4) t = k0_pay3 (acc me m ρ c (t.val + 1)) := rfl

/-- The inputs hold their blocks. -/
theorem before_0 (c : Dev nD) (t : Fin (cfgA F me).N) (d) : (dats me m ρ 0 c).before (0 : Fin 4) t d = iblk me m ρ c (0 : Fin 4) t :=
  ((dats me m ρ 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA F me).N) (d) : (dats me m ρ 0 c).before (1 : Fin 4) t d = iblk me m ρ c (1 : Fin 4) t :=
  ((dats me m ρ 0 c).before_in_eq_fetched (1 : Fin 4) rfl (fun _ => rfl) (fun _ _ _ => rfl) (fun t => by rw [after_1]; unfold Dat.blockOf iblk; rfl) t d).trans
    (by unfold Dat.fetched Dat.blockOf iblk; rfl)

/-- The own rows are held from the point that stores them on. -/
theorem before_2 (c : Dev nD) (t : Fin (cfgA F me).N) (d) (h : 2 * me.val + 1 < t.val) : (dats me m ρ 0 c).before (2 : Fin 4) t d = own me m ρ c := by
  have ht : t.val < 16 := t.isLt
  rw [(dats me m ρ 0 c).before_out_traj (2 : Fin 4) rfl (fun _ _ => rfl) (fun _ _ _ _ => rfl) t.val t rfl d]
  have h0 : t.val ≠ 0 := by omega
  rw [fresh2, if_neg (by rw [decide_eq_true_eq]; omega)]
  first | rfl | (rw [dif_neg h0]; rfl) | (split; · omega
                                          · rfl)

/-! ## The obligation of the body -/

/-- At a point that is not the device's own, the own rows' buffer is handed back as it was found: on the last point, the
    rows stored before. -/
theorem keep_2 (c : Dev nD) (t : Fin (cfgA F me).N) (h : ¬mine me t.val) (d) :
    (owns (c : Thread nD τ) (ms2 me t) fullShare ((dats me m ρ 0 c).before (2 : Fin 4) t d) : sProp 𝕄)
      ⊢ match ((cfgA F me).win (2 : Fin 4)).flush t with
        | false => iprop(∃ d, owns (c : Thread nD τ) (ms2 me t) fullShare ((dats me m ρ 0 c).before (2 : Fin 4) t d))
        | true => owns (c : Thread nD τ) (ms2 me t) fullShare ((dats me m ρ 0 c).after (2 : Fin 4) t) := by
  obtain ⟨-, f2, -, -⟩ := sched (F := F) me t
  have h8 := me.isLt
  by_cases q : t.val = 15
  · rw [f2, decide_eq_true q, before_2 me m ρ c t d (by omega), after_2]
  · rw [f2, decide_eq_false q]
    iintro H; iexists d; iexact H

theorem wordOf_tab : wordOf (tab F me) = word me := rfl

set_option maxHeartbeats 4000000 in
/-- The body at point `t`, on what is held there, leaves what is held after it. -/
theorem sound_body (c : Dev nD) (t : Fin (cfgA F me).N) :
    iprop((dats me m ρ 0 c).Φ t.castSucc ∗ (dats me m ρ 0 c).owesAt () t.castSucc
        ∗ (∃ d, owns (c : Thread nD τ) (ms0 me t) fullShare ((dats me m ρ 0 c).before (0 : Fin 4) t d))
        ∗ (∃ d, owns (c : Thread nD τ) (ms1 me t) fullShare ((dats me m ρ 0 c).before (1 : Fin 4) t d))
        ∗ (∃ d, owns (c : Thread nD τ) (ms2 me t) fullShare ((dats me m ρ 0 c).before (2 : Fin 4) t d))
        ∗ (∃ d, owns (c : Thread nD τ) (ms3 me t) fullShare ((dats me m ρ 0 c).before (3 : Fin 4) t d)))
      ⊢ wp frame (wpE (defs₀ (F := F)) Variants.none c none) Set.univ (body (crd me t) (ms0 me t) (hs0 me t) (ms1 me t) (hs1 me t) (ms2 me t) (hs2 me t) (ms3 me t) (hs3 me t)) fun _ =>
          iprop((dats me m ρ 0 c).Φ t.succ ∗ (dats me m ρ 0 c).owesAt () t.succ
            ∗ bigSep Finset.univ fun w : Fin (cfgA F me).W =>
                match (cfgA F me).idle w ((cfgA F me).grid.coords t) with
                | true =>
                  match ((cfgA F me).win w).flush t with
                  | false => iprop(∃ d, owns (c : Thread nD τ) (((cfgA F me).win w).stage ((cfgA F me).slots t w)) fullShare ((dats me m ρ 0 c).before w t d))
                  | true => owns (c : Thread nD τ) (((cfgA F me).win w).stage ((cfgA F me).slots t w)) fullShare ((dats me m ρ 0 c).after w t)
                | false => owns (c : Thread nD τ) (((cfgA F me).win w).stage ((cfgA F me).slots t w)) fullShare ((dats me m ρ 0 c).after w t)) := by
  have ht : t.val < 16 := t.isLt
  obtain ⟨c1, c2, c3, c4⟩ := control me t
  obtain ⟨i2, -, i3, f3⟩ := sched (F := F) me t
  rw [bigSep_W0]
  rewrite [i2, i3, f3, show (dats me m ρ 0 c).Φ t.succ = Phi me m ρ c t.succ from rfl, show (dats me m ρ 0 c).Φ t.castSucc = Phi me m ρ c t.castSucc from rfl,
    show (dats me m ρ 0 c).owesAt () t.succ = (dats me m ρ 0 c).owesAt () t.castSucc from rfl]
  simp only [before_0, before_1, after_0, after_1]
  unfold Phi
  simp only [Fin.val_castSucc, Fin.val_succ, acc_succ]
  by_cases q1 : t.val % 2 = 1
  · have h1 : ¬First (crd me t) := fun h => by have := c1.1 h; omega
    have h2 : k0_cond2 (crd me t) = 1#1 := c2.2 q1
    have h0 : t.val ≠ 0 := by omega
    rewrite [decide_eq_false (show ¬¬t.val % 2 = 1 from fun h => h q1)]
    by_cases q2 : mine me t.val
    · rewrite [decide_eq_false (show ¬¬mine me t.val from fun h => h q2)]
      iintro ⟨⟨⟨%a, %ha, HS⟩, HT⟩, Ho, ⟨%d0, H0⟩, ⟨%d1, H1⟩, ⟨%d2, H2⟩, ⟨%d3, H3⟩⟩
      obtain rfl := ha h0
      iapply (run_own c (crd me t) (ms0 me t) (hs0 me t) (ms1 me t) (hs1 me t) (ms2 me t) (hs2 me t) (ms3 me t) (hs3 me t) (iblk me m ρ c (0 : Fin 4) t) (iblk me m ρ c (1 : Fin 4) t) (acc me m ρ c t.val) (tab F me) h1 h2 ((c3 q1).2 q2) (c4 q2) _)
      isplitl [H0]; · iapply rep_of_owns; iexact H0
      isplitl [H1]; · iapply rep_of_owns; iexact H1
      isplitl [HT]; · iexact HT
      isplitl [H2]; · iexists _; iexact H2
      isplitl [H3]; · iexists _; iexact H3
      isplitl [HS]; · iexact HS
      iintro ⟨H0, H1, HT, H2, H3, HS⟩
      isplitl [HS HT]
      · isplitl [HS]
        · iexists _; isplitr; swap
          · iexact HS
          · ipureintro; intro _; rfl
        iexact HT
      isplitl [Ho]; · iexact Ho
      isplitl [H0]; · iapply owns_of_rep; iexact H0
      isplitl [H1]; · iapply owns_of_rep; iexact H1
      isplitl [H2]
      · have e : View.ld (k0_pay2 (crd me t) (iblk me m ρ c (0 : Fin 4) t) (iblk me m ρ c (1 : Fin 4) t) (acc me m ρ c t.val)) (Rect.unit (s := S704x1024) (k0_off1 (wordOf (tab F me))) S704x1024.size (k0_off1_inb (crd me t) (wordOf (tab F me)) (wordOf (tab F me)) (c4 q2) h2 ((c3 q1).2 q2))) = own me m ρ c := by
          unfold own
          rw [show 2 * me.val + 2 = t.val + 1 by omega, acc_succ]
          rfl
        rw [after_2, ← e]; iexact H2
      rw [after_3, acc_succ]; iexact H3
    · rewrite [decide_eq_true (show ¬mine me t.val from q2)]
      iintro ⟨⟨⟨%a, %ha, HS⟩, HT⟩, Ho, ⟨%d0, H0⟩, ⟨%d1, H1⟩, ⟨%d2, H2⟩, ⟨%d3, H3⟩⟩
      obtain rfl := ha h0
      iapply (run_part c (crd me t) (ms0 me t) (hs0 me t) (ms1 me t) (hs1 me t) (ms2 me t) (hs2 me t) (ms3 me t) (hs3 me t) (iblk me m ρ c (0 : Fin 4) t) (iblk me m ρ c (1 : Fin 4) t) (acc me m ρ c t.val) (tab F me) h1 h2 (fun h => q2 ((c3 q1).1 h)) _)
      isplitl [H0]; · iapply rep_of_owns; iexact H0
      isplitl [H1]; · iapply rep_of_owns; iexact H1
      isplitl [HT]; · iexact HT
      isplitl [H3]; · iexists _; iexact H3
      isplitl [HS]; · iexact HS
      iintro ⟨H0, H1, HT, H3, HS⟩
      isplitl [HS HT]
      · isplitl [HS]
        · iexists _; isplitr; swap
          · iexact HS
          · ipureintro; intro _; rfl
        iexact HT
      isplitl [Ho]; · iexact Ho
      isplitl [H0]; · iapply owns_of_rep; iexact H0
      isplitl [H1]; · iapply owns_of_rep; iexact H1
      isplitl [H2]; · iapply (keep_2 me m ρ c t q2 d2); iexact H2
      rw [after_3, acc_succ]; iexact H3
  · have h2 : ¬(k0_cond2 (crd me t) = 1#1) := fun h => q1 (c2.1 h)
    have q2 : ¬mine me t.val := by omega
    rewrite [decide_eq_true (show ¬t.val % 2 = 1 from q1), decide_eq_true (show ¬mine me t.val from q2), decide_eq_false (show ¬t.val % 2 = 1 from q1)]
    by_cases q0 : t.val = 0
    · iintro ⟨⟨⟨%a, %ha, HS⟩, HT⟩, Ho, ⟨%d0, H0⟩, ⟨%d1, H1⟩, ⟨%d2, H2⟩, ⟨%d3, H3⟩⟩
      iapply (run_first c (crd me t) (ms0 me t) (hs0 me t) (ms1 me t) (hs1 me t) (ms2 me t) (hs2 me t) (ms3 me t) (hs3 me t) (iblk me m ρ c (0 : Fin 4) t) (iblk me m ρ c (1 : Fin 4) t) a (c1.2 q0) h2 _)
      isplitl [H0]; · iapply rep_of_owns; iexact H0
      isplitl [H1]; · iapply rep_of_owns; iexact H1
      isplitl [HS]; · iexact HS
      iintro ⟨H0, H1, HS⟩
      isplitl [HS HT]
      · isplitl [HS]
        · iexists _; isplitr; swap
          · iexact HS
          · ipureintro; intro _; rw [q0]; rfl
        iexact HT
      isplitl [Ho]; · iexact Ho
      isplitl [H0]; · iapply owns_of_rep; iexact H0
      isplitl [H1]; · iapply owns_of_rep; iexact H1
      isplitl [H2]; · iapply (keep_2 me m ρ c t q2 d2); iexact H2
      iexists d3; iexact H3
    · iintro ⟨⟨⟨%a, %ha, HS⟩, HT⟩, Ho, ⟨%d0, H0⟩, ⟨%d1, H1⟩, ⟨%d2, H2⟩, ⟨%d3, H3⟩⟩
      obtain rfl := ha q0
      iapply (run_half c (crd me t) (ms0 me t) (hs0 me t) (ms1 me t) (hs1 me t) (ms2 me t) (hs2 me t) (ms3 me t) (hs3 me t) (iblk me m ρ c (0 : Fin 4) t) (iblk me m ρ c (1 : Fin 4) t) (acc me m ρ c t.val) (fun h => q0 (c1.1 h)) h2 _)
      isplitl [H0]; · iapply rep_of_owns; iexact H0
      isplitl [H1]; · iapply rep_of_owns; iexact H1
      isplitl [HS]; · iexact HS
      iintro ⟨H0, H1, HS⟩
      isplitl [HS HT]
      · isplitl [HS]
        · iexists _; isplitr; swap
          · iexact HS
          · ipureintro; intro _; rfl
        iexact HT
      isplitl [Ho]; · iexact Ho
      isplitl [H0]; · iapply owns_of_rep; iexact H0
      isplitl [H1]; · iapply owns_of_rep; iexact H1
      isplitl [H2]; · iapply (keep_2 me m ρ c t q2 d2); iexact H2
      iexists d3; iexact H3

/-- The library's obligation, at every point. -/
theorem body_obligation (c : Dev nD) : BodyObligation (dats me m ρ 0 c) (defs₀ (F := F)) Variants.none () Set.univ := fun t => by
  rw [bigSep_W0]
  exact sound_body me m ρ c t

/-! ## The launch -/

/-- The proof's resource algebra: the rounds library's, for the pipeline's staging cells. -/
abbrev EP : Emb (UR sig nD τ) 𝕄 := emb₁

variable (F) in
/-- The rounds library's launch element. -/
def u₀ : UR sig nD τ :=
  initOf (Pipeline.cells (pcs F me) ((launch0 (F := F)).cellOf_inj fun _ => adm F me))
    (Pipeline.launchToks (pcs F me) ((launch0 (F := F)).cellOf_inj fun _ => adm F me))

theorem share_eq (c : Dev nD) (w : Fin (cfgA F me).W) : (dats me m ρ 0 c).share w = fullShare := by unfold Dat.share; split <;> rfl

/-- The table as the launch hands it over. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0)) := by
  unfold Pipeline.prefHeld
  rw [show (Finset.univ : Finset (Fin 1)) = {(0 : Fin 1)} from by decide, bigSep_singleton]
  rfl

theorem phi0_intro (c : Dev nD) :
    iprop(BI.emp ∗ Pipeline.prefHeld pre0 c (fun _ => fullShare.right) (adm F me).1 ∗ Pipeline.scopedRest spec0 c) ⊢ (dats me m ρ 0 c).Φ 0 := by
  rw [prefHeld_eq, scopedRest0_eq, show (dats me m ρ 0 c).Φ 0 = Phi me m ρ c 0 from rfl]
  unfold Phi
  iintro ⟨-, ⟨HT⟩, ⟨%a, HS⟩⟩
  isplitl [HS]
  · iexists a; isplitr; swap
    · iexact HS
    · ipureintro; intro h; exact absurd rfl h
  iexact HT

theorem phiN_exit (c : Dev nD) : (dats me m ρ 0 c).Φ (Fin.last (cfgA F me).N) ⊢ iprop(BI.emp ∗ Pipeline.scopedRest spec0 c) := by
  rw [scopedRest0_eq, show (dats me m ρ 0 c).Φ (Fin.last (cfgA F me).N) = Phi me m ρ c (Fin.last _) from rfl]
  unfold Phi
  iintro ⟨⟨%a, -, HS⟩, -⟩
  isplitr; · iempintro
  iexists a; iexact HS

/-- Every array at what the pipeline computes, the table at what it ran at. -/
def Post : PUnit × MemSt nD τ sig (Elt F) → Prop := fun r =>
  ∀ c : Dev nD, (∀ w : Fin (cfgA F me).W, r.2.mem (((cfgA F me).win w).arr.view.loc (c : Thread nD τ)) = (dats me m ρ 0 c).arrAt w (cfgA F me).N)
    ∧ ∀ j, r.2.mem ((c : Thread nD τ).loc (pre0.ref j)) = (adm F me).1 j

/-- The memory hands every device the word of device `me`. -/
def Pinned : Prop := ∀ c : Dev nD, m ((c : Thread nD τ).loc main_arg0) = tab F me

theorem V_pre (hp : Pinned me m) (c : Dev nD) (j : Fin 1) : m ((c : Thread nD τ).loc (pre0.ref j)) = (adm F me).1 j := by
  fin_cases j
  · exact hp c

set_option backward.isDefEq.respectTransparency.types false in
set_option maxHeartbeats 4000000 in
/-- From any memory with zero counters that hands the devices that word, every execution ends with each array at what the
    pipeline computes and every counter at zero. -/
theorem run_main (hp : Pinned me m) : θ_run (defs (F := F)) (onTc (τ := τ) (main (F := F))) (s₀ m ρ) (fun r => Post me m ρ r ∧ r.2.sem = fun _ => 0) :=
  Pipeline.θ_run_region_noSem_pf_quiescent pcfgs (fun _ => adm F me) (dats me m ρ) () ((launch0 (F := F)).cellOf_inj fun _ => adm F me) (0 : Fin 1)
    (launch0 (F := F)).win.to₀ (launch0 (F := F)).pre EP defs₀ Variants.none m ρ main
    (hbody := fun c => (body_obligation me m ρ c).loose) (hne := (launch0 (F := F)).block_pos)
    (harr := (launch0 (F := F)).arr_whole) (hstage := (launch0 (F := F)).stage_whole) (howed := fun _ _ => rfl)
    (u₀ := u₀ F me) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs F me) (dats me m ρ) 0 (launch0 (F := F)).win.arr_inj c (launch0 (F := F)).arr_whole
      (share_eq me m ρ c) _ _ fun _ => rfl)
    (hpf := V_pre me m hp)
    (X := fun _ => iprop(emp)) (Y := fun _ => iprop(emp)) (Z := fun _ => iprop(emp))
    (hX := fun c => by rw [unscopedRestP0_eq]; iintro -; isplitr <;> iempintro)
    (hin := phi0_intro me m ρ)
    (hout := phiN_exit me m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged and every counter at zero. -/
theorem frame_run (hp : Pinned me m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 0).trans (hp c).symm, ((h.1 c).1 (0 : Fin 4)).trans ((dats me m ρ 0 c).arrAt_in (0 : Fin 4) rfl _), ((h.1 c).1 (1 : Fin 4)).trans ((dats me m ρ 0 c).arrAt_in (1 : Fin 4) rfl _)⟩, h.2⟩) (run_main me m ρ hp)

end Cert.GateUp
-- ==== Proof.KRow.lean ====
/- What each stored or reused value of the kernel's body is, entry by entry, when the values it is computed from are real. -/
module

public import proofs.«01_k».proof.Proof.Gen.KernelIdeal.Skeleton
public import proofs.«01_k».proof.Proof.RowModel

@[expose] public section

set_option maxRecDepth 16384

noncomputable section

open Idealize.ShloMosaic

namespace Cert.KRow
open Cert.KernelIdeal Cert.KernelIdeal.Gen Cert.Row

/-- The gain row. -/
theorem pay6_at (v3 : Vec Ideal S1x1024 .f32) {X0 : Fin 1024 → ℝ} (h0 : ∀ p, v3 (ix2 0 p) = ((X0 p : ℝ) : EReal)) (p : Fin 1024) :
    (k0_pay6 (F := Ideal) v3) (ix2 0 p) = ((X0 p : ℝ) : EReal) := by
  pointwise [k0_pay6]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The gain row. -/
theorem pay7_at (v5 : Vec Ideal S1x1024 .f32) {X0 : Fin 1024 → ℝ} (h0 : ∀ p, v5 (ix2 0 p) = ((X0 p : ℝ) : EReal)) (p : Fin 1024) :
    (k0_pay7 (F := Ideal) v5) (ix2 0 p) = ((X0 p : ℝ) : EReal) := by
  pointwise [k0_pay7]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The reciprocal root mean square of a row. -/
theorem pay8_at (v7 : Vec Ideal S256x1024 .f32) {X0 : Fin 256 → Fin 1024 → ℝ} (h0 : ∀ p q, v7 (ix2 p q) = ((X0 p q : ℝ) : EReal)) (p : Fin 256) :
    (k0_pay8 (F := Ideal) v7) (ix2 p 0) = ((inv (X0 p) : ℝ) : EReal) := by
  pointwise [k0_pay8]
  simp only [h0, ← EReal.coe_mul, ← EReal.coe_add, ← EReal.coe_sub, coe_sum, div_real _ (by norm_num : (1024:ℝ) ≠ 0), bits_zero, bits_eps, bits_1024, bits_inv1024, bits_one, Ideal.logistic_coe, rsqrt_real (ms_pos _)]
  rw [show (∑ k, X0 p k * X0 p k) / 1024 + eps = ms (X0 p) from rfl, rsqrt_real (ms_pos _)]; rfl

/-- The normalized row. -/
theorem pay9_at (v7 : Vec Ideal S256x1024 .f32) {X0 : Fin 256 → Fin 1024 → ℝ} (h0 : ∀ p q, v7 (ix2 p q) = ((X0 p q : ℝ) : EReal)) (p : Fin 256) (q : Fin 1024) :
    (k0_pay9 (F := Ideal) v7) (ix2 p q) = ((xhat (X0 p) q : ℝ) : EReal) := by
  pointwise [k0_pay9]
  simp only [h0, ← EReal.coe_mul, ← EReal.coe_add, ← EReal.coe_sub, coe_sum, div_real _ (by norm_num : (1024:ℝ) ≠ 0), bits_zero, bits_eps, bits_1024, bits_inv1024, bits_one, Ideal.logistic_coe, pay8_at _ h0]
  try rfl

/-- The normalized row with the first norm's gain. -/
theorem pay10_at (v3 : Vec Ideal S1x1024 .f32) (v7 : Vec Ideal S256x1024 .f32) {X0 : Fin 1024 → ℝ} {X1 : Fin 256 → Fin 1024 → ℝ} (h0 : ∀ p, v3 (ix2 0 p) = ((X0 p : ℝ) : EReal)) (h1 : ∀ p q, v7 (ix2 p q) = ((X1 p q : ℝ) : EReal)) (p : Fin 256) (q : Fin 1024) :
    (k0_pay10 (F := Ideal) v3 v7) (ix2 p q) = ((hid (X1 p) X0 q : ℝ) : EReal) := by
  pointwise [k0_pay10]
  simp only [h0, h1, ← EReal.coe_mul, ← EReal.coe_add, ← EReal.coe_sub, coe_sum, div_real _ (by norm_num : (1024:ℝ) ≠ 0), bits_zero, bits_eps, bits_1024, bits_inv1024, bits_one, Ideal.logistic_coe, pay9_at _ h1, pay6_at _ h0]
  try rfl

/-- A block's columns of the joined projection. -/
theorem pay11_at (v3 : Vec Ideal S1x1024 .f32) (v7 : Vec Ideal S256x1024 .f32) (v22 : Vec Ideal S1x1024x704 .bf16) {X0 : Fin 1024 → ℝ} {X1 : Fin 256 → Fin 1024 → ℝ} {X2 : Fin 1024 → Fin 704 → ℝ} (h0 : ∀ p, v3 (ix2 0 p) = ((X0 p : ℝ) : EReal)) (h1 : ∀ p q, v7 (ix2 p q) = ((X1 p q : ℝ) : EReal)) (h2 : ∀ p q, v22 (ix3 0 p q) = ((X2 p q : ℝ) : EReal)) (p : Fin 256) (q : Fin 704) :
    (k0_pay11 (F := Ideal) v3 v7 v22) (ix2 p q) = ((rowMul (hid (X1 p) X0) X2 q : ℝ) : EReal) := by
  pointwise [k0_pay11]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay10_at _ _ h0 h1]
  try rfl

/-- A block's columns of the joined projection. -/
theorem pay12_at (v3 : Vec Ideal S1x1024 .f32) (v7 : Vec Ideal S256x1024 .f32) (v25 : Vec Ideal S1x1024x704 .bf16) {X0 : Fin 1024 → ℝ} {X1 : Fin 256 → Fin 1024 → ℝ} {X2 : Fin 1024 → Fin 704 → ℝ} (h0 : ∀ p, v3 (ix2 0 p) = ((X0 p : ℝ) : EReal)) (h1 : ∀ p q, v7 (ix2 p q) = ((X1 p q : ℝ) : EReal)) (h2 : ∀ p q, v25 (ix3 0 p q) = ((X2 p q : ℝ) : EReal)) (p : Fin 256) (q : Fin 704) :
    (k0_pay12 (F := Ideal) v3 v7 v25) (ix2 p q) = ((rowMul (hid (X1 p) X0) X2 q : ℝ) : EReal) := by
  pointwise [k0_pay12]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay10_at _ _ h0 h1]
  try rfl

/-- A block's columns of the joined projection, stored. -/
theorem pay13_at (v3 : Vec Ideal S1x1024 .f32) (v7 : Vec Ideal S256x1024 .f32) (v22 : Vec Ideal S1x1024x704 .bf16) {X0 : Fin 1024 → ℝ} {X1 : Fin 256 → Fin 1024 → ℝ} {X2 : Fin 1024 → Fin 704 → ℝ} (h0 : ∀ p, v3 (ix2 0 p) = ((X0 p : ℝ) : EReal)) (h1 : ∀ p q, v7 (ix2 p q) = ((X1 p q : ℝ) : EReal)) (h2 : ∀ p q, v22 (ix3 0 p q) = ((X2 p q : ℝ) : EReal)) (p : Fin 256) (q : Fin 704) :
    (k0_pay13 (F := Ideal) v3 v7 v22) (ix3 0 p q) = ((rowMul (hid (X1 p) X0) X2 q : ℝ) : EReal) := by
  pointwise [k0_pay13]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay11_at _ _ _ h0 h1 h2]
  try rfl

/-- A block's columns of the up projection, stored. -/
theorem pay14_at (v27 : FVec Ideal S256x704 .f32) {X0 : Fin 256 → Fin 704 → ℝ} (h0 : ∀ p q, v27 (ix2 p q) = ((X0 p q : ℝ) : EReal)) (p : Fin 256) (q : Fin 704) :
    (k0_pay14 (F := Ideal) v27) (ix3 0 p q) = ((X0 p q : ℝ) : EReal) := by
  pointwise [k0_pay14]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- A block's columns of the up projection, stored. -/
theorem pay29_at (v84 : FVec Ideal S256x704 .f32) {X0 : Fin 256 → Fin 704 → ℝ} (h0 : ∀ p q, v84 (ix2 p q) = ((X0 p q : ℝ) : EReal)) (p : Fin 256) (q : Fin 704) :
    (k0_pay29 (F := Ideal) v84) (ix3 0 p q) = ((X0 p q : ℝ) : EReal) := by
  pointwise [k0_pay29]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- A block's columns of the gated row. -/
theorem pay15_at (v24 : FVec Ideal S256x704 .f32) (v27 : FVec Ideal S256x704 .f32) {X0 : Fin 256 → Fin 704 → ℝ} {X1 : Fin 256 → Fin 704 → ℝ} (h0 : ∀ p q, v24 (ix2 p q) = ((X0 p q : ℝ) : EReal)) (h1 : ∀ p q, v27 (ix2 p q) = ((X1 p q : ℝ) : EReal)) (p : Fin 256) (q : Fin 704) :
    (k0_pay15 (F := Ideal) v24 v27) (ix3 0 p q) = ((gateOf (X0 p q) (X1 p q) : ℝ) : EReal) := by
  pointwise [k0_pay15]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the gated row. -/
theorem pay30_at (v81 : FVec Ideal S256x704 .f32) (v84 : FVec Ideal S256x704 .f32) {X0 : Fin 256 → Fin 704 → ℝ} {X1 : Fin 256 → Fin 704 → ℝ} (h0 : ∀ p q, v81 (ix2 p q) = ((X0 p q : ℝ) : EReal)) (h1 : ∀ p q, v84 (ix2 p q) = ((X1 p q : ℝ) : EReal)) (p : Fin 256) (q : Fin 704) :
    (k0_pay30 (F := Ideal) v81 v84) (ix3 0 p q) = ((gateOf (X0 p q) (X1 p q) : ℝ) : EReal) := by
  pointwise [k0_pay30]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the joined projection. -/
theorem pay16_at (v20 : FVec Ideal S256x1024 .bf16) (v41 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v41 (ix3 0 p q) = ((X1 p q : ℝ) : EReal)) (p : Fin 256) (q : Fin 704) :
    (k0_pay16 (F := Ideal) v20 v41) (ix2 p q) = ((rowMul (X0 p) X1 q : ℝ) : EReal) := by
  pointwise [k0_pay16]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the joined projection. -/
theorem pay17_at (v20 : FVec Ideal S256x1024 .bf16) (v44 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v44 (ix3 0 p q) = ((X1 p q : ℝ) : EReal)) (p : Fin 256) (q : Fin 704) :
    (k0_pay17 (F := Ideal) v20 v44) (ix2 p q) = ((rowMul (X0 p) X1 q : ℝ) : EReal) := by
  pointwise [k0_pay17]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the joined projection. -/
theorem pay21_at (v20 : FVec Ideal S256x1024 .bf16) (v60 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v60 (ix3 0 p q) = ((X1 p q : ℝ) : EReal)) (p : Fin 256) (q : Fin 704) :
    (k0_pay21 (F := Ideal) v20 v60) (ix2 p q) = ((rowMul (X0 p) X1 q : ℝ) : EReal) := by
  pointwise [k0_pay21]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the joined projection. -/
theorem pay22_at (v20 : FVec Ideal S256x1024 .bf16) (v63 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v63 (ix3 0 p q) = ((X1 p q : ℝ) : EReal)) (p : Fin 256) (q : Fin 704) :
    (k0_pay22 (F := Ideal) v20 v63) (ix2 p q) = ((rowMul (X0 p) X1 q : ℝ) : EReal) := by
  pointwise [k0_pay22]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the joined projection. -/
theorem pay26_at (v20 : FVec Ideal S256x1024 .bf16) (v79 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v79 (ix3 0 p q) = ((X1 p q : ℝ) : EReal)) (p : Fin 256) (q : Fin 704) :
    (k0_pay26 (F := Ideal) v20 v79) (ix2 p q) = ((rowMul (X0 p) X1 q : ℝ) : EReal) := by
  pointwise [k0_pay26]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the joined projection. -/
theorem pay27_at (v20 : FVec Ideal S256x1024 .bf16) (v82 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v82 (ix3 0 p q) = ((X1 p q : ℝ) : EReal)) (p : Fin 256) (q : Fin 704) :
    (k0_pay27 (F := Ideal) v20 v82) (ix2 p q) = ((rowMul (X0 p) X1 q : ℝ) : EReal) := by
  pointwise [k0_pay27]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the joined projection, stored. -/
theorem pay18_at (v20 : FVec Ideal S256x1024 .bf16) (v41 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v41 (ix3 0 p q) = ((X1 p q : ℝ) : EReal)) (p : Fin 256) (q : Fin 704) :
    (k0_pay18 (F := Ideal) v20 v41) (ix3 0 p q) = ((rowMul (X0 p) X1 q : ℝ) : EReal) := by
  pointwise [k0_pay18]
  simp only [h0, h1, ← EReal.coe_mul, ← EReal.coe_add, ← EReal.coe_sub, coe_sum, div_real _ (by norm_num : (1024:ℝ) ≠ 0), bits_zero, bits_eps, bits_1024, bits_inv1024, bits_one, Ideal.logistic_coe, pay16_at _ _ h0 h1]
  try rfl

/-- A block's columns of the joined projection, stored. -/
theorem pay19_at (v20 : FVec Ideal S256x1024 .bf16) (v44 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v44 (ix3 0 p q) = ((X1 p q : ℝ) : EReal)) (p : Fin 256) (q : Fin 704) :
    (k0_pay19 (F := Ideal) v20 v44) (ix3 0 p q) = ((rowMul (X0 p) X1 q : ℝ) : EReal) := by
  pointwise [k0_pay19]
  simp only [h0, h1, ← EReal.coe_mul, ← EReal.coe_add, ← EReal.coe_sub, coe_sum, div_real _ (by norm_num : (1024:ℝ) ≠ 0), bits_zero, bits_eps, bits_1024, bits_inv1024, bits_one, Ideal.logistic_coe, pay17_at _ _ h0 h1]
  try rfl

/-- A block's columns of the joined projection, stored. -/
theorem pay23_at (v20 : FVec Ideal S256x1024 .bf16) (v60 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v60 (ix3 0 p q) = ((X1 p q : ℝ) : EReal)) (p : Fin 256) (q : Fin 704) :
    (k0_pay23 (F := Ideal) v20 v60) (ix3 0 p q) = ((rowMul (X0 p) X1 q : ℝ) : EReal) := by
  pointwise [k0_pay23]
  simp only [h0, h1, ← EReal.coe_mul, ← EReal.coe_add, ← EReal.coe_sub, coe_sum, div_real _ (by norm_num : (1024:ℝ) ≠ 0), bits_zero, bits_eps, bits_1024, bits_inv1024, bits_one, Ideal.logistic_coe, pay21_at _ _ h0 h1]
  try rfl

/-- A block's columns of the joined projection, stored. -/
theorem pay24_at (v20 : FVec Ideal S256x1024 .bf16) (v63 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v63 (ix3 0 p q) = ((X1 p q : ℝ) : EReal)) (p : Fin 256) (q : Fin 704) :
    (k0_pay24 (F := Ideal) v20 v63) (ix3 0 p q) = ((rowMul (X0 p) X1 q : ℝ) : EReal) := by
  pointwise [k0_pay24]
  simp only [h0, h1, ← EReal.coe_mul, ← EReal.coe_add, ← EReal.coe_sub, coe_sum, div_real _ (by norm_num : (1024:ℝ) ≠ 0), bits_zero, bits_eps, bits_1024, bits_inv1024, bits_one, Ideal.logistic_coe, pay22_at _ _ h0 h1]
  try rfl

/-- A block's columns of the joined projection, stored. -/
theorem pay28_at (v20 : FVec Ideal S256x1024 .bf16) (v79 : Vec Ideal S1x1024x704 .bf16) {X0 : Fin 256 → Fin 1024 → ℝ} {X1 : Fin 1024 → Fin 704 → ℝ} (h0 : ∀ p q, v20 (ix2 p q) = ((X0 p q : ℝ) : EReal)) (h1 : ∀ p q, v79 (ix3 0 p q) = ((X1 p q : ℝ) : EReal)) (p : Fin 256) (q : Fin 704) :
    (k0_pay28 (F := Ideal) v20 v79) (ix3 0 p q) = ((rowMul (X0 p) X1 q : ℝ) : EReal) := by
  pointwise [k0_pay28]
  simp only [h0, h1, ← EReal.coe_mul, ← EReal.coe_add, ← EReal.coe_sub, coe_sum, div_real _ (by norm_num : (1024:ℝ) ≠ 0), bits_zero, bits_eps, bits_1024, bits_inv1024, bits_one, Ideal.logistic_coe, pay26_at _ _ h0 h1]
  try rfl

/-- A block's columns of the gated row. -/
theorem pay20_at (v20 : FVec Ideal S256x1024 .bf16) (v41 : Vec Ideal S1x1024x704 .bf16) (v44 : Vec Ideal S1x1024x704 .bf16) {X0 : Fin 256 → Fin 1024 → ℝ} {X1 : Fin 1024 → Fin 704 → ℝ} {X2 : Fin 1024 → Fin 704 → ℝ} (h0 : ∀ p q, v20 (ix2 p q) = ((X0 p q : ℝ) : EReal)) (h1 : ∀ p q, v41 (ix3 0 p q) = ((X1 p q : ℝ) : EReal)) (h2 : ∀ p q, v44 (ix3 0 p q) = ((X2 p q : ℝ) : EReal)) (p : Fin 256) (q : Fin 704) :
    (k0_pay20 (F := Ideal) v20 v41 v44) (ix3 0 p q) = ((gateOf (rowMul (X0 p) X1 q) (rowMul (X0 p) X2 q) : ℝ) : EReal) := by
  pointwise [k0_pay20]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay16_at _ _ h0 h1, pay17_at _ _ h0 h2]
  try rfl

/-- A block's columns of the gated row. -/
theorem pay25_at (v20 : FVec Ideal S256x1024 .bf16) (v60 : Vec Ideal S1x1024x704 .bf16) (v63 : Vec Ideal S1x1024x704 .bf16) {X0 : Fin 256 → Fin 1024 → ℝ} {X1 : Fin 1024 → Fin 704 → ℝ} {X2 : Fin 1024 → Fin 704 → ℝ} (h0 : ∀ p q, v20 (ix2 p q) = ((X0 p q : ℝ) : EReal)) (h1 : ∀ p q, v60 (ix3 0 p q) = ((X1 p q : ℝ) : EReal)) (h2 : ∀ p q, v63 (ix3 0 p q) = ((X2 p q : ℝ) : EReal)) (p : Fin 256) (q : Fin 704) :
    (k0_pay25 (F := Ideal) v20 v60 v63) (ix3 0 p q) = ((gateOf (rowMul (X0 p) X1 q) (rowMul (X0 p) X2 q) : ℝ) : EReal) := by
  pointwise [k0_pay25]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay21_at _ _ h0 h1, pay22_at _ _ h0 h2]
  try rfl

/-- The row after three blocks of the down projection. -/
theorem pay31_at (v7 : Vec Ideal S256x1024 .f32) (v98 : Vec Ideal S1x256x704 .bf16) (v100 : Vec Ideal S1x704x1024 .bf16) (v104 : Vec Ideal S1x256x704 .bf16) (v106 : Vec Ideal S1x704x1024 .bf16) (v110 : Vec Ideal S1x256x704 .bf16) (v112 : Vec Ideal S1x704x1024 .bf16) {X0 : Fin 256 → Fin 1024 → ℝ} {X1 : Fin 256 → Fin 704 → ℝ} {X2 : Fin 704 → Fin 1024 → ℝ} {X3 : Fin 256 → Fin 704 → ℝ} {X4 : Fin 704 → Fin 1024 → ℝ} {X5 : Fin 256 → Fin 704 → ℝ} {X6 : Fin 704 → Fin 1024 → ℝ} (h0 : ∀ p q, v7 (ix2 p q) = ((X0 p q : ℝ) : EReal)) (h1 : ∀ p q, v98 (ix3 0 p q) = ((X1 p q : ℝ) : EReal)) (h2 : ∀ p q, v100 (ix3 0 p q) = ((X2 p q : ℝ) : EReal)) (h3 : ∀ p q, v104 (ix3 0 p q) = ((X3 p q : ℝ) : EReal)) (h4 : ∀ p q, v106 (ix3 0 p q) = ((X4 p q : ℝ) : EReal)) (h5 : ∀ p q, v110 (ix3 0 p q) = ((X5 p q : ℝ) : EReal)) (h6 : ∀ p q, v112 (ix3 0 p q) = ((X6 p q : ℝ) : EReal)) (p : Fin 256) (q : Fin 1024) :
    (k0_pay31 (F := Ideal) v7 v98 v100 v104 v106 v110 v112) (ix2 p q) = ((X0 p q + (∑ j, X1 p j * X2 j q) + (∑ j, X3 p j * X4 j q) + (∑ j, X5 p j * X6 j q) : ℝ) : EReal) := by
  pointwise [k0_pay31]
  simp only [h0, h1, h2, h3, h4, h5, h6, ← EReal.coe_mul, ← EReal.coe_add, ← EReal.coe_sub, coe_sum, div_real _ (by norm_num : (1024:ℝ) ≠ 0), bits_zero, bits_eps, bits_1024, bits_inv1024, bits_one, Ideal.logistic_coe]
  try rfl

/-- The last block of the gated row. -/
theorem pay32_at (v116 : Vec Ideal S1x256x704 .bf16) {X0 : Fin 256 → Fin 704 → ℝ} (h0 : ∀ p q, v116 (ix3 0 p q) = ((X0 p q : ℝ) : EReal)) (p : Fin 256) (q : Fin 704) :
    (k0_pay32 (F := Ideal) v116) (ix2 p q) = ((X0 p q : ℝ) : EReal) := by
  pointwise [k0_pay32]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The row after the down projection. -/
theorem pay33_at (v115 : FVec Ideal S256x1024 .f32) (v117 : FVec Ideal S256x704 .bf16) (v118 : Vec Ideal S1x704x1024 .bf16) {X0 : Fin 256 → Fin 1024 → ℝ} {X1 : Fin 256 → Fin 704 → ℝ} {X2 : Fin 704 → Fin 1024 → ℝ} (h0 : ∀ p q, v115 (ix2 p q) = ((X0 p q : ℝ) : EReal)) (h1 : ∀ p q, v117 (ix2 p q) = ((X1 p q : ℝ) : EReal)) (h2 : ∀ p q, v118 (ix3 0 p q) = ((X2 p q : ℝ) : EReal)) (p : Fin 256) (q : Fin 1024) :
    (k0_pay33 (F := Ideal) v115 v117 v118) (ix2 p q) = ((X0 p q + ∑ j, X1 p j * X2 j q : ℝ) : EReal) := by
  pointwise [k0_pay33]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe]
  try rfl

/-- The reciprocal root mean square of the row after the down projection. -/
theorem pay34_at (v115 : FVec Ideal S256x1024 .f32) (v117 : FVec Ideal S256x704 .bf16) (v118 : Vec Ideal S1x704x1024 .bf16) {X0 : Fin 256 → Fin 1024 → ℝ} {X1 : Fin 256 → Fin 704 → ℝ} {X2 : Fin 704 → Fin 1024 → ℝ} (h0 : ∀ p q, v115 (ix2 p q) = ((X0 p q : ℝ) : EReal)) (h1 : ∀ p q, v117 (ix2 p q) = ((X1 p q : ℝ) : EReal)) (h2 : ∀ p q, v118 (ix3 0 p q) = ((X2 p q : ℝ) : EReal)) (p : Fin 256) :
    (k0_pay34 (F := Ideal) v115 v117 v118) (ix2 p 0) = ((inv (fun k => X0 p k + ∑ j, X1 p j * X2 j k) : ℝ) : EReal) := by
  pointwise [k0_pay34]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay33_at _ _ _ h0 h1 h2]
  erw [rsqrt_real (ms_pos (fun k => X0 p k + ∑ j, X1 p j * X2 j k))]; rfl

/-- That row normalized. -/
theorem pay35_at (v115 : FVec Ideal S256x1024 .f32) (v117 : FVec Ideal S256x704 .bf16) (v118 : Vec Ideal S1x704x1024 .bf16) {X0 : Fin 256 → Fin 1024 → ℝ} {X1 : Fin 256 → Fin 704 → ℝ} {X2 : Fin 704 → Fin 1024 → ℝ} (h0 : ∀ p q, v115 (ix2 p q) = ((X0 p q : ℝ) : EReal)) (h1 : ∀ p q, v117 (ix2 p q) = ((X1 p q : ℝ) : EReal)) (h2 : ∀ p q, v118 (ix3 0 p q) = ((X2 p q : ℝ) : EReal)) (p : Fin 256) (q : Fin 1024) :
    (k0_pay35 (F := Ideal) v115 v117 v118) (ix2 p q) = ((xhat (fun k => X0 p k + ∑ j, X1 p j * X2 j k) q : ℝ) : EReal) := by
  pointwise [k0_pay35]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay33_at _ _ _ h0 h1 h2, pay34_at _ _ _ h0 h1 h2]
  try rfl

/-- The error. -/
theorem pay36_at (v6 : FVec Ideal S1x1024 .f32) (v115 : FVec Ideal S256x1024 .f32) (v117 : FVec Ideal S256x704 .bf16) (v118 : Vec Ideal S1x704x1024 .bf16) (v134 : Vec Ideal S256x1024 .f32) {X0 : Fin 1024 → ℝ} {X1 : Fin 256 → Fin 1024 → ℝ} {X2 : Fin 256 → Fin 704 → ℝ} {X3 : Fin 704 → Fin 1024 → ℝ} {X4 : Fin 256 → Fin 1024 → ℝ} (h0 : ∀ p, v6 (ix2 0 p) = ((X0 p : ℝ) : EReal)) (h1 : ∀ p q, v115 (ix2 p q) = ((X1 p q : ℝ) : EReal)) (h2 : ∀ p q, v117 (ix2 p q) = ((X2 p q : ℝ) : EReal)) (h3 : ∀ p q, v118 (ix3 0 p q) = ((X3 p q : ℝ) : EReal)) (h4 : ∀ p q, v134 (ix2 p q) = ((X4 p q : ℝ) : EReal)) (p : Fin 256) (q : Fin 1024) :
    (k0_pay36 (F := Ideal) v6 v115 v117 v118 v134) (ix2 p q) = ((err (fun k => X1 p k + ∑ j, X2 p j * X3 j k) X0 (X4 p) q : ℝ) : EReal) := by
  pointwise [k0_pay36]
  simp only [h0, h1, h2, h3, h4, ← EReal.coe_mul, ← EReal.coe_add, ← EReal.coe_sub, coe_sum, div_real _ (by norm_num : (1024:ℝ) ≠ 0), bits_zero, bits_eps, bits_1024, bits_inv1024, bits_one, Ideal.logistic_coe, pay35_at _ _ _ h1 h2 h3]
  try rfl

/-- The folded squared errors added to what was there. -/
theorem pay37_at (v6 : FVec Ideal S1x1024 .f32) (v115 : FVec Ideal S256x1024 .f32) (v117 : FVec Ideal S256x704 .bf16) (v118 : Vec Ideal S1x704x1024 .bf16) (v134 : Vec Ideal S256x1024 .f32) (v136 : Vec Ideal S1x16x1024 .f32) {X0 : Fin 1024 → ℝ} {X1 : Fin 256 → Fin 1024 → ℝ} {X2 : Fin 256 → Fin 704 → ℝ} {X3 : Fin 704 → Fin 1024 → ℝ} {X4 : Fin 256 → Fin 1024 → ℝ} {X5 : Fin 16 → Fin 1024 → ℝ} (h0 : ∀ p, v6 (ix2 0 p) = ((X0 p : ℝ) : EReal)) (h1 : ∀ p q, v115 (ix2 p q) = ((X1 p q : ℝ) : EReal)) (h2 : ∀ p q, v117 (ix2 p q) = ((X2 p q : ℝ) : EReal)) (h3 : ∀ p q, v118 (ix3 0 p q) = ((X3 p q : ℝ) : EReal)) (h4 : ∀ p q, v134 (ix2 p q) = ((X4 p q : ℝ) : EReal)) (h5 : ∀ p q, v136 (ix3 0 p q) = ((X5 p q : ℝ) : EReal)) (p : Fin 16) (q : Fin 1024) :
    (k0_pay37 (F := Ideal) v6 v115 v117 v118 v134 v136) (ix3 0 p q) = ((X5 p q + ∑ b : Fin 16, (fun r : Fin 256 => err (fun k => X1 r k + ∑ j, X2 r j * X3 j k) X0 (X4 r) q * err (fun k => X1 r k + ∑ j, X2 r j * X3 j k) X0 (X4 r) q) ⟨b.val * 16 + p.val, by omega⟩ : ℝ) : EReal) := by
  pointwise [k0_pay37]
  simp only [h0, h1, h2, h3, h4, h5, ← EReal.coe_mul, ← EReal.coe_add, ← EReal.coe_sub, coe_sum, div_real _ (by norm_num : (1024:ℝ) ≠ 0), bits_zero, bits_eps, bits_1024, bits_inv1024, bits_one, Ideal.logistic_coe, pay36_at _ _ _ _ _ h0 h1 h2 h3 h4]
  try rfl

/-- The error's cotangent. -/
theorem pay38_at (v6 : FVec Ideal S1x1024 .f32) (v115 : FVec Ideal S256x1024 .f32) (v117 : FVec Ideal S256x704 .bf16) (v118 : Vec Ideal S1x704x1024 .bf16) (v134 : Vec Ideal S256x1024 .f32) {X0 : Fin 1024 → ℝ} {X1 : Fin 256 → Fin 1024 → ℝ} {X2 : Fin 256 → Fin 704 → ℝ} {X3 : Fin 704 → Fin 1024 → ℝ} {X4 : Fin 256 → Fin 1024 → ℝ} (h0 : ∀ p, v6 (ix2 0 p) = ((X0 p : ℝ) : EReal)) (h1 : ∀ p q, v115 (ix2 p q) = ((X1 p q : ℝ) : EReal)) (h2 : ∀ p q, v117 (ix2 p q) = ((X2 p q : ℝ) : EReal)) (h3 : ∀ p q, v118 (ix3 0 p q) = ((X3 p q : ℝ) : EReal)) (h4 : ∀ p q, v134 (ix2 p q) = ((X4 p q : ℝ) : EReal)) (p : Fin 256) (q : Fin 1024) :
    (k0_pay38 (F := Ideal) v6 v115 v117 v118 v134) (ix2 p q) = ((dyOf (err (fun k => X1 p k + ∑ j, X2 p j * X3 j k) X0 (X4 p)) q : ℝ) : EReal) := by
  pointwise [k0_pay38]
  simp only [h0, h1, h2, h3, h4, ← EReal.coe_mul, ← EReal.coe_add, ← EReal.coe_sub, coe_sum, div_real _ (by norm_num : (1024:ℝ) ≠ 0), bits_zero, bits_eps, bits_1024, bits_inv1024, bits_one, Ideal.logistic_coe, pay36_at _ _ _ _ _ h0 h1 h2 h3 h4]
  try rfl

/-- The folded products for the final gain added to what was there. -/
theorem pay39_at (v6 : FVec Ideal S1x1024 .f32) (v115 : FVec Ideal S256x1024 .f32) (v117 : FVec Ideal S256x704 .bf16) (v118 : Vec Ideal S1x704x1024 .bf16) (v134 : Vec Ideal S256x1024 .f32) (v147 : Vec Ideal S1x16x1024 .f32) {X0 : Fin 1024 → ℝ} {X1 : Fin 256 → Fin 1024 → ℝ} {X2 : Fin 256 → Fin 704 → ℝ} {X3 : Fin 704 → Fin 1024 → ℝ} {X4 : Fin 256 → Fin 1024 → ℝ} {X5 : Fin 16 → Fin 1024 → ℝ} (h0 : ∀ p, v6 (ix2 0 p) = ((X0 p : ℝ) : EReal)) (h1 : ∀ p q, v115 (ix2 p q) = ((X1 p q : ℝ) : EReal)) (h2 : ∀ p q, v117 (ix2 p q) = ((X2 p q : ℝ) : EReal)) (h3 : ∀ p q, v118 (ix3 0 p q) = ((X3 p q : ℝ) : EReal)) (h4 : ∀ p q, v134 (ix2 p q) = ((X4 p q : ℝ) : EReal)) (h5 : ∀ p q, v147 (ix3 0 p q) = ((X5 p q : ℝ) : EReal)) (p : Fin 16) (q : Fin 1024) :
    (k0_pay39 (F := Ideal) v6 v115 v117 v118 v134 v147) (ix2 p q) = ((X5 p q + ∑ b : Fin 16, (fun r : Fin 256 => dyOf (err (fun k => X1 r k + ∑ j, X2 r j * X3 j k) X0 (X4 r)) q * xhat (fun k => X1 r k + ∑ j, X2 r j * X3 j k) q) ⟨b.val * 16 + p.val, by omega⟩ : ℝ) : EReal) := by
  pointwise [k0_pay39]
  simp only [h0, h1, h2, h3, h4, h5, ← EReal.coe_mul, ← EReal.coe_add, ← EReal.coe_sub, coe_sum, div_real _ (by norm_num : (1024:ℝ) ≠ 0), bits_zero, bits_eps, bits_1024, bits_inv1024, bits_one, Ideal.logistic_coe, pay38_at _ _ _ _ _ h0 h1 h2 h3 h4, pay35_at _ _ _ h1 h2 h3]
  try rfl

/-- The accumulator, stored. -/
theorem pay40_at (v152 : FVec Ideal S16x1024 .f32) {X0 : Fin 16 → Fin 1024 → ℝ} (h0 : ∀ p q, v152 (ix2 p q) = ((X0 p q : ℝ) : EReal)) (p : Fin 16) (q : Fin 1024) :
    (k0_pay40 (F := Ideal) v152) (ix3 0 p q) = ((X0 p q : ℝ) : EReal) := by
  pointwise [k0_pay40]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The cotangent of the row after the down projection. -/
theorem pay41_at (v6 : FVec Ideal S1x1024 .f32) (v129 : FVec Ideal S256x1 .f32) (v131 : FVec Ideal S256x1024 .f32) (v146 : FVec Ideal S256x1024 .f32) {X0 : Fin 1024 → ℝ} {X1 : Fin 256 → ℝ} {X2 : Fin 256 → Fin 1024 → ℝ} {X3 : Fin 256 → Fin 1024 → ℝ} (h0 : ∀ p, v6 (ix2 0 p) = ((X0 p : ℝ) : EReal)) (h1 : ∀ p, v129 (ix2 p 0) = ((X1 p : ℝ) : EReal)) (h2 : ∀ p q, v131 (ix2 p q) = ((X2 p q : ℝ) : EReal)) (h3 : ∀ p q, v146 (ix2 p q) = ((X3 p q : ℝ) : EReal)) (p : Fin 256) (q : Fin 1024) :
    (k0_pay41 (F := Ideal) v6 v129 v131 v146) (ix2 p q) = ((X1 p * (X3 p q * X0 q - X2 p q * ((∑ l, X3 p l * X0 l * X2 p l) / 1024)) : ℝ) : EReal) := by
  pointwise [k0_pay41]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe]
  try rfl

/-- The same, stored. -/
theorem pay42_at (v6 : FVec Ideal S1x1024 .f32) (v129 : FVec Ideal S256x1 .f32) (v131 : FVec Ideal S256x1024 .f32) (v146 : FVec Ideal S256x1024 .f32) {X0 : Fin 1024 → ℝ} {X1 : Fin 256 → ℝ} {X2 : Fin 256 → Fin 1024 → ℝ} {X3 : Fin 256 → Fin 1024 → ℝ} (h0 : ∀ p, v6 (ix2 0 p) = ((X0 p : ℝ) : EReal)) (h1 : ∀ p, v129 (ix2 p 0) = ((X1 p : ℝ) : EReal)) (h2 : ∀ p q, v131 (ix2 p q) = ((X2 p q : ℝ) : EReal)) (h3 : ∀ p q, v146 (ix2 p q) = ((X3 p q : ℝ) : EReal)) (p : Fin 256) (q : Fin 1024) :
    (k0_pay42 (F := Ideal) v6 v129 v131 v146) (ix2 p q) = ((X1 p * (X3 p q * X0 q - X2 p q * ((∑ l, X3 p l * X0 l * X2 p l) / 1024)) : ℝ) : EReal) := by
  pointwise [k0_pay42]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe, pay41_at _ _ _ _ h0 h1 h2 h3]
  try rfl

/-- The same, in half the width. -/
theorem pay43_at (v6 : FVec Ideal S1x1024 .f32) (v129 : FVec Ideal S256x1 .f32) (v131 : FVec Ideal S256x1024 .f32) (v146 : FVec Ideal S256x1024 .f32) {X0 : Fin 1024 → ℝ} {X1 : Fin 256 → ℝ} {X2 : Fin 256 → Fin 1024 → ℝ} {X3 : Fin 256 → Fin 1024 → ℝ} (h0 : ∀ p, v6 (ix2 0 p) = ((X0 p : ℝ) : EReal)) (h1 : ∀ p, v129 (ix2 p 0) = ((X1 p : ℝ) : EReal)) (h2 : ∀ p q, v131 (ix2 p q) = ((X2 p q : ℝ) : EReal)) (h3 : ∀ p q, v146 (ix2 p q) = ((X3 p q : ℝ) : EReal)) (p : Fin 256) (q : Fin 1024) :
    (k0_pay43 (F := Ideal) v6 v129 v131 v146) (ix2 p q) = ((X1 p * (X3 p q * X0 q - X2 p q * ((∑ l, X3 p l * X0 l * X2 p l) / 1024)) : ℝ) : EReal) := by
  pointwise [k0_pay43]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe, pay41_at _ _ _ _ h0 h1 h2 h3]
  try rfl

/-- A block's columns of the gated row's cotangent. -/
theorem pay44_at (v6 : FVec Ideal S1x1024 .f32) (v129 : FVec Ideal S256x1 .f32) (v131 : FVec Ideal S256x1024 .f32) (v146 : FVec Ideal S256x1024 .f32) (v173 : Vec Ideal S1x704x1024 .bf16) {X0 : Fin 1024 → ℝ} {X1 : Fin 256 → ℝ} {X2 : Fin 256 → Fin 1024 → ℝ} {X3 : Fin 256 → Fin 1024 → ℝ} {X4 : Fin 704 → Fin 1024 → ℝ} (h0 : ∀ p, v6 (ix2 0 p) = ((X0 p : ℝ) : EReal)) (h1 : ∀ p, v129 (ix2 p 0) = ((X1 p : ℝ) : EReal)) (h2 : ∀ p q, v131 (ix2 p q) = ((X2 p q : ℝ) : EReal)) (h3 : ∀ p q, v146 (ix2 p q) = ((X3 p q : ℝ) : EReal)) (h4 : ∀ p q, v173 (ix3 0 p q) = ((X4 p q : ℝ) : EReal)) (p : Fin 256) (q : Fin 704) :
    (k0_pay44 (F := Ideal) v6 v129 v131 v146 v173) (ix2 p q) = (((∑ k, (fun k => X1 p * (X3 p k * X0 k - X2 p k * ((∑ l, X3 p l * X0 l * X2 p l) / 1024))) k * X4 q k) : ℝ) : EReal) := by
  pointwise [k0_pay44]
  simp only [h0, h1, h2, h3, h4, ← EReal.coe_mul, ← EReal.coe_add, ← EReal.coe_sub, coe_sum, div_real _ (by norm_num : (1024:ℝ) ≠ 0), bits_zero, bits_eps, bits_1024, bits_inv1024, bits_one, Ideal.logistic_coe, pay43_at _ _ _ _ h0 h1 h2 h3]
  try rfl

/-- The gate, loaded. -/
theorem pay45_at (v176 : Vec Ideal S1x256x704 .f32) {X0 : Fin 256 → Fin 704 → ℝ} (h0 : ∀ p q, v176 (ix3 0 p q) = ((X0 p q : ℝ) : EReal)) (p : Fin 256) (q : Fin 704) :
    (k0_pay45 (F := Ideal) v176) (ix2 p q) = ((X0 p q : ℝ) : EReal) := by
  pointwise [k0_pay45]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The gate, loaded. -/
theorem pay51_at (v202 : Vec Ideal S1x256x704 .f32) {X0 : Fin 256 → Fin 704 → ℝ} (h0 : ∀ p q, v202 (ix3 0 p q) = ((X0 p q : ℝ) : EReal)) (p : Fin 256) (q : Fin 704) :
    (k0_pay51 (F := Ideal) v202) (ix2 p q) = ((X0 p q : ℝ) : EReal) := by
  pointwise [k0_pay51]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The gate, loaded. -/
theorem pay56_at (v228 : Vec Ideal S1x256x704 .f32) {X0 : Fin 256 → Fin 704 → ℝ} (h0 : ∀ p q, v228 (ix3 0 p q) = ((X0 p q : ℝ) : EReal)) (p : Fin 256) (q : Fin 704) :
    (k0_pay56 (F := Ideal) v228) (ix2 p q) = ((X0 p q : ℝ) : EReal) := by
  pointwise [k0_pay56]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The gate, loaded. -/
theorem pay61_at (v254 : Vec Ideal S1x256x704 .f32) {X0 : Fin 256 → Fin 704 → ℝ} (h0 : ∀ p q, v254 (ix3 0 p q) = ((X0 p q : ℝ) : EReal)) (p : Fin 256) (q : Fin 704) :
    (k0_pay61 (F := Ideal) v254) (ix2 p q) = ((X0 p q : ℝ) : EReal) := by
  pointwise [k0_pay61]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- The logistic of the gate. -/
theorem pay46_at (v176 : Vec Ideal S1x256x704 .f32) {X0 : Fin 256 → Fin 704 → ℝ} (h0 : ∀ p q, v176 (ix3 0 p q) = ((X0 p q : ℝ) : EReal)) (p : Fin 256) (q : Fin 704) :
    (k0_pay46 (F := Ideal) v176) (ix2 p q) = ((sg (X0 p q) : ℝ) : EReal) := by
  pointwise [k0_pay46]
  simp only [h0, ← EReal.coe_mul, ← EReal.coe_add, ← EReal.coe_sub, coe_sum, div_real _ (by norm_num : (1024:ℝ) ≠ 0), bits_zero, bits_eps, bits_1024, bits_inv1024, bits_one, Ideal.logistic_coe, pay45_at _ h0]
  try rfl

/-- The logistic of the gate. -/
theorem pay52_at (v202 : Vec Ideal S1x256x704 .f32) {X0 : Fin 256 → Fin 704 → ℝ} (h0 : ∀ p q, v202 (ix3 0 p q) = ((X0 p q : ℝ) : EReal)) (p : Fin 256) (q : Fin 704) :
    (k0_pay52 (F := Ideal) v202) (ix2 p q) = ((sg (X0 p q) : ℝ) : EReal) := by
  pointwise [k0_pay52]
  simp only [h0, ← EReal.coe_mul, ← EReal.coe_add, ← EReal.coe_sub, coe_sum, div_real _ (by norm_num : (1024:ℝ) ≠ 0), bits_zero, bits_eps, bits_1024, bits_inv1024, bits_one, Ideal.logistic_coe, pay51_at _ h0]
  try rfl

/-- The logistic of the gate. -/
theorem pay57_at (v228 : Vec Ideal S1x256x704 .f32) {X0 : Fin 256 → Fin 704 → ℝ} (h0 : ∀ p q, v228 (ix3 0 p q) = ((X0 p q : ℝ) : EReal)) (p : Fin 256) (q : Fin 704) :
    (k0_pay57 (F := Ideal) v228) (ix2 p q) = ((sg (X0 p q) : ℝ) : EReal) := by
  pointwise [k0_pay57]
  simp only [h0, ← EReal.coe_mul, ← EReal.coe_add, ← EReal.coe_sub, coe_sum, div_real _ (by norm_num : (1024:ℝ) ≠ 0), bits_zero, bits_eps, bits_1024, bits_inv1024, bits_one, Ideal.logistic_coe, pay56_at _ h0]
  try rfl

/-- The logistic of the gate. -/
theorem pay62_at (v254 : Vec Ideal S1x256x704 .f32) {X0 : Fin 256 → Fin 704 → ℝ} (h0 : ∀ p q, v254 (ix3 0 p q) = ((X0 p q : ℝ) : EReal)) (p : Fin 256) (q : Fin 704) :
    (k0_pay62 (F := Ideal) v254) (ix2 p q) = ((sg (X0 p q) : ℝ) : EReal) := by
  pointwise [k0_pay62]
  simp only [h0, ← EReal.coe_mul, ← EReal.coe_add, ← EReal.coe_sub, coe_sum, div_real _ (by norm_num : (1024:ℝ) ≠ 0), bits_zero, bits_eps, bits_1024, bits_inv1024, bits_one, Ideal.logistic_coe, pay61_at _ h0]
  try rfl

/-- A block's columns of the gate's cotangent. -/
theorem pay47_at (v6 : FVec Ideal S1x1024 .f32) (v129 : FVec Ideal S256x1 .f32) (v131 : FVec Ideal S256x1024 .f32) (v146 : FVec Ideal S256x1024 .f32) (v173 : Vec Ideal S1x704x1024 .bf16) (v176 : Vec Ideal S1x256x704 .f32) (v179 : Vec Ideal S1x256x704 .f32) {X0 : Fin 1024 → ℝ} {X1 : Fin 256 → ℝ} {X2 : Fin 256 → Fin 1024 → ℝ} {X3 : Fin 256 → Fin 1024 → ℝ} {X4 : Fin 704 → Fin 1024 → ℝ} {X5 : Fin 256 → Fin 704 → ℝ} {X6 : Fin 256 → Fin 704 → ℝ} (h0 : ∀ p, v6 (ix2 0 p) = ((X0 p : ℝ) : EReal)) (h1 : ∀ p, v129 (ix2 p 0) = ((X1 p : ℝ) : EReal)) (h2 : ∀ p q, v131 (ix2 p q) = ((X2 p q : ℝ) : EReal)) (h3 : ∀ p q, v146 (ix2 p q) = ((X3 p q : ℝ) : EReal)) (h4 : ∀ p q, v173 (ix3 0 p q) = ((X4 p q : ℝ) : EReal)) (h5 : ∀ p q, v176 (ix3 0 p q) = ((X5 p q : ℝ) : EReal)) (h6 : ∀ p q, v179 (ix3 0 p q) = ((X6 p q : ℝ) : EReal)) (p : Fin 256) (q : Fin 704) :
    (k0_pay47 (F := Ideal) v6 v129 v131 v146 v173 v176 v179) (ix2 p q) = ((dgate (∑ k, (fun k => X1 p * (X3 p k * X0 k - X2 p k * ((∑ l, X3 p l * X0 l * X2 p l) / 1024))) k * X4 q k) (X5 p q) (X6 p q) : ℝ) : EReal) := by
  pointwise [k0_pay47]
  simp only [h0, h1, h2, h3, h4, h5, h6, ← EReal.coe_mul, ← EReal.coe_add, ← EReal.coe_sub, coe_sum, div_real _ (by norm_num : (1024:ℝ) ≠ 0), bits_zero, bits_eps, bits_1024, bits_inv1024, bits_one, Ideal.logistic_coe, pay44_at _ _ _ _ _ h0 h1 h2 h3 h4, pay45_at _ h5, pay46_at _ h5]
  try rfl

/-- A block's columns of the gate's cotangent, stored. -/
theorem pay48_at (v189 : FVec Ideal S256x704 .bf16) {X0 : Fin 256 → Fin 704 → ℝ} (h0 : ∀ p q, v189 (ix2 p q) = ((X0 p q : ℝ) : EReal)) (p : Fin 256) (q : Fin 704) :
    (k0_pay48 (F := Ideal) v189) (ix3 0 p q) = ((X0 p q : ℝ) : EReal) := by
  pointwise [k0_pay48]
  simp only [h0, ← EReal.coe_mul, ← EReal.coe_add, ← EReal.coe_sub, coe_sum, div_real _ (by norm_num : (1024:ℝ) ≠ 0), bits_zero, bits_eps, bits_1024, bits_inv1024, bits_one, Ideal.logistic_coe]

/-- A block's columns of the up projection's cotangent. -/
theorem pay49_at (v175 : FVec Ideal S256x704 .f32) (v177 : FVec Ideal S256x704 .f32) (v178 : FVec Ideal S256x704 .f32) {X0 : Fin 256 → Fin 704 → ℝ} {X1 : Fin 256 → Fin 704 → ℝ} {X2 : Fin 256 → Fin 704 → ℝ} (h0 : ∀ p q, v175 (ix2 p q) = ((X0 p q : ℝ) : EReal)) (h1 : ∀ p q, v177 (ix2 p q) = ((X1 p q : ℝ) : EReal)) (h2 : ∀ p q, v178 (ix2 p q) = ((X2 p q : ℝ) : EReal)) (p : Fin 256) (q : Fin 704) :
    (k0_pay49 (F := Ideal) v175 v177 v178) (ix3 0 p q) = ((X0 p q * (X1 p q * X2 p q) : ℝ) : EReal) := by
  pointwise [k0_pay49]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the up projection's cotangent. -/
theorem pay64_at (v253 : FVec Ideal S256x704 .f32) (v255 : FVec Ideal S256x704 .f32) (v256 : FVec Ideal S256x704 .f32) {X0 : Fin 256 → Fin 704 → ℝ} {X1 : Fin 256 → Fin 704 → ℝ} {X2 : Fin 256 → Fin 704 → ℝ} (h0 : ∀ p q, v253 (ix2 p q) = ((X0 p q : ℝ) : EReal)) (h1 : ∀ p q, v255 (ix2 p q) = ((X1 p q : ℝ) : EReal)) (h2 : ∀ p q, v256 (ix2 p q) = ((X2 p q : ℝ) : EReal)) (p : Fin 256) (q : Fin 704) :
    (k0_pay64 (F := Ideal) v253 v255 v256) (ix3 0 p q) = ((X0 p q * (X1 p q * X2 p q) : ℝ) : EReal) := by
  pointwise [k0_pay64]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the gated row's cotangent. -/
theorem pay50_at (v171 : FVec Ideal S256x1024 .bf16) (v199 : Vec Ideal S1x704x1024 .bf16) {X0 : Fin 256 → Fin 1024 → ℝ} {X1 : Fin 704 → Fin 1024 → ℝ} (h0 : ∀ p q, v171 (ix2 p q) = ((X0 p q : ℝ) : EReal)) (h1 : ∀ p q, v199 (ix3 0 p q) = ((X1 p q : ℝ) : EReal)) (p : Fin 256) (q : Fin 704) :
    (k0_pay50 (F := Ideal) v171 v199) (ix2 p q) = ((∑ k, X0 p k * X1 q k : ℝ) : EReal) := by
  pointwise [k0_pay50]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the gated row's cotangent. -/
theorem pay55_at (v171 : FVec Ideal S256x1024 .bf16) (v225 : Vec Ideal S1x704x1024 .bf16) {X0 : Fin 256 → Fin 1024 → ℝ} {X1 : Fin 704 → Fin 1024 → ℝ} (h0 : ∀ p q, v171 (ix2 p q) = ((X0 p q : ℝ) : EReal)) (h1 : ∀ p q, v225 (ix3 0 p q) = ((X1 p q : ℝ) : EReal)) (p : Fin 256) (q : Fin 704) :
    (k0_pay55 (F := Ideal) v171 v225) (ix2 p q) = ((∑ k, X0 p k * X1 q k : ℝ) : EReal) := by
  pointwise [k0_pay55]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the gated row's cotangent. -/
theorem pay60_at (v171 : FVec Ideal S256x1024 .bf16) (v251 : Vec Ideal S1x704x1024 .bf16) {X0 : Fin 256 → Fin 1024 → ℝ} {X1 : Fin 704 → Fin 1024 → ℝ} (h0 : ∀ p q, v171 (ix2 p q) = ((X0 p q : ℝ) : EReal)) (h1 : ∀ p q, v251 (ix3 0 p q) = ((X1 p q : ℝ) : EReal)) (p : Fin 256) (q : Fin 704) :
    (k0_pay60 (F := Ideal) v171 v251) (ix2 p q) = ((∑ k, X0 p k * X1 q k : ℝ) : EReal) := by
  pointwise [k0_pay60]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- A block's columns of the gate's cotangent. -/
theorem pay53_at (v171 : FVec Ideal S256x1024 .bf16) (v199 : Vec Ideal S1x704x1024 .bf16) (v202 : Vec Ideal S1x256x704 .f32) (v205 : Vec Ideal S1x256x704 .f32) {X0 : Fin 256 → Fin 1024 → ℝ} {X1 : Fin 704 → Fin 1024 → ℝ} {X2 : Fin 256 → Fin 704 → ℝ} {X3 : Fin 256 → Fin 704 → ℝ} (h0 : ∀ p q, v171 (ix2 p q) = ((X0 p q : ℝ) : EReal)) (h1 : ∀ p q, v199 (ix3 0 p q) = ((X1 p q : ℝ) : EReal)) (h2 : ∀ p q, v202 (ix3 0 p q) = ((X2 p q : ℝ) : EReal)) (h3 : ∀ p q, v205 (ix3 0 p q) = ((X3 p q : ℝ) : EReal)) (p : Fin 256) (q : Fin 704) :
    (k0_pay53 (F := Ideal) v171 v199 v202 v205) (ix3 0 p q) = ((dgate (∑ k, X0 p k * X1 q k) (X2 p q) (X3 p q) : ℝ) : EReal) := by
  pointwise [k0_pay53]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe, pay50_at _ _ h0 h1, pay51_at _ h2, pay52_at _ h2]
  try rfl

/-- A block's columns of the gate's cotangent. -/
theorem pay58_at (v171 : FVec Ideal S256x1024 .bf16) (v225 : Vec Ideal S1x704x1024 .bf16) (v228 : Vec Ideal S1x256x704 .f32) (v231 : Vec Ideal S1x256x704 .f32) {X0 : Fin 256 → Fin 1024 → ℝ} {X1 : Fin 704 → Fin 1024 → ℝ} {X2 : Fin 256 → Fin 704 → ℝ} {X3 : Fin 256 → Fin 704 → ℝ} (h0 : ∀ p q, v171 (ix2 p q) = ((X0 p q : ℝ) : EReal)) (h1 : ∀ p q, v225 (ix3 0 p q) = ((X1 p q : ℝ) : EReal)) (h2 : ∀ p q, v228 (ix3 0 p q) = ((X2 p q : ℝ) : EReal)) (h3 : ∀ p q, v231 (ix3 0 p q) = ((X3 p q : ℝ) : EReal)) (p : Fin 256) (q : Fin 704) :
    (k0_pay58 (F := Ideal) v171 v225 v228 v231) (ix3 0 p q) = ((dgate (∑ k, X0 p k * X1 q k) (X2 p q) (X3 p q) : ℝ) : EReal) := by
  pointwise [k0_pay58]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe, pay55_at _ _ h0 h1, pay56_at _ h2, pay57_at _ h2]
  try rfl

/-- A block's columns of the up projection's cotangent. -/
theorem pay54_at (v171 : FVec Ideal S256x1024 .bf16) (v199 : Vec Ideal S1x704x1024 .bf16) (v202 : Vec Ideal S1x256x704 .f32) {X0 : Fin 256 → Fin 1024 → ℝ} {X1 : Fin 704 → Fin 1024 → ℝ} {X2 : Fin 256 → Fin 704 → ℝ} (h0 : ∀ p q, v171 (ix2 p q) = ((X0 p q : ℝ) : EReal)) (h1 : ∀ p q, v199 (ix3 0 p q) = ((X1 p q : ℝ) : EReal)) (h2 : ∀ p q, v202 (ix3 0 p q) = ((X2 p q : ℝ) : EReal)) (p : Fin 256) (q : Fin 704) :
    (k0_pay54 (F := Ideal) v171 v199 v202) (ix3 0 p q) = ((dup (∑ k, X0 p k * X1 q k) (X2 p q) : ℝ) : EReal) := by
  pointwise [k0_pay54]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay50_at _ _ h0 h1, pay51_at _ h2, pay52_at _ h2]
  try rfl

/-- A block's columns of the up projection's cotangent. -/
theorem pay59_at (v171 : FVec Ideal S256x1024 .bf16) (v225 : Vec Ideal S1x704x1024 .bf16) (v228 : Vec Ideal S1x256x704 .f32) {X0 : Fin 256 → Fin 1024 → ℝ} {X1 : Fin 704 → Fin 1024 → ℝ} {X2 : Fin 256 → Fin 704 → ℝ} (h0 : ∀ p q, v171 (ix2 p q) = ((X0 p q : ℝ) : EReal)) (h1 : ∀ p q, v225 (ix3 0 p q) = ((X1 p q : ℝ) : EReal)) (h2 : ∀ p q, v228 (ix3 0 p q) = ((X2 p q : ℝ) : EReal)) (p : Fin 256) (q : Fin 704) :
    (k0_pay59 (F := Ideal) v171 v225 v228) (ix3 0 p q) = ((dup (∑ k, X0 p k * X1 q k) (X2 p q) : ℝ) : EReal) := by
  pointwise [k0_pay59]
  simp only [h0, h1, h2, ← EReal.coe_mul, ← EReal.coe_add, ← EReal.coe_sub, coe_sum, div_real _ (by norm_num : (1024:ℝ) ≠ 0), bits_zero, bits_eps, bits_1024, bits_inv1024, bits_one, Ideal.logistic_coe, pay55_at _ _ h0 h1, pay56_at _ h2, pay57_at _ h2]
  try rfl

/-- A block's columns of the gate's cotangent. -/
theorem pay63_at (v253 : FVec Ideal S256x704 .f32) (v255 : FVec Ideal S256x704 .f32) (v256 : FVec Ideal S256x704 .f32) (v257 : Vec Ideal S1x256x704 .f32) {X0 : Fin 256 → Fin 704 → ℝ} {X1 : Fin 256 → Fin 704 → ℝ} {X2 : Fin 256 → Fin 704 → ℝ} {X3 : Fin 256 → Fin 704 → ℝ} (h0 : ∀ p q, v253 (ix2 p q) = ((X0 p q : ℝ) : EReal)) (h1 : ∀ p q, v255 (ix2 p q) = ((X1 p q : ℝ) : EReal)) (h2 : ∀ p q, v256 (ix2 p q) = ((X2 p q : ℝ) : EReal)) (h3 : ∀ p q, v257 (ix3 0 p q) = ((X3 p q : ℝ) : EReal)) (p : Fin 256) (q : Fin 704) :
    (k0_pay63 (F := Ideal) v253 v255 v256 v257) (ix3 0 p q) = ((X0 p q * X3 p q * (X2 p q * (1 + X1 p q * (1 - X2 p q))) : ℝ) : EReal) := by
  pointwise [k0_pay63]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe]
  try rfl

/-- Two blocks of the normalized row's cotangent. -/
theorem pay65_at (v277 : Vec Ideal S1x256x704 .bf16) (v279 : Vec Ideal S1x1024x704 .bf16) (v282 : Vec Ideal S1x256x704 .bf16) (v284 : Vec Ideal S1x1024x704 .bf16) {X0 : Fin 256 → Fin 704 → ℝ} {X1 : Fin 1024 → Fin 704 → ℝ} {X2 : Fin 256 → Fin 704 → ℝ} {X3 : Fin 1024 → Fin 704 → ℝ} (h0 : ∀ p q, v277 (ix3 0 p q) = ((X0 p q : ℝ) : EReal)) (h1 : ∀ p q, v279 (ix3 0 p q) = ((X1 p q : ℝ) : EReal)) (h2 : ∀ p q, v282 (ix3 0 p q) = ((X2 p q : ℝ) : EReal)) (h3 : ∀ p q, v284 (ix3 0 p q) = ((X3 p q : ℝ) : EReal)) (p : Fin 256) (q : Fin 1024) :
    (k0_pay65 (F := Ideal) v277 v279 v282 v284) (ix2 p q) = (((∑ j, X0 p j * X1 q j) + (∑ j, X2 p j * X3 q j) : ℝ) : EReal) := by
  pointwise [k0_pay65]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe]
  try rfl

/-- Four more blocks of the normalized row's cotangent. -/
theorem pay66_at (v287 : FVec Ideal S256x1024 .f32) (v288 : Vec Ideal S1x256x704 .bf16) (v290 : Vec Ideal S1x1024x704 .bf16) (v294 : Vec Ideal S1x256x704 .bf16) (v296 : Vec Ideal S1x1024x704 .bf16) (v300 : Vec Ideal S1x256x704 .bf16) (v302 : Vec Ideal S1x1024x704 .bf16) (v306 : Vec Ideal S1x256x704 .bf16) (v308 : Vec Ideal S1x1024x704 .bf16) {X0 : Fin 256 → Fin 1024 → ℝ} {X1 : Fin 256 → Fin 704 → ℝ} {X2 : Fin 1024 → Fin 704 → ℝ} {X3 : Fin 256 → Fin 704 → ℝ} {X4 : Fin 1024 → Fin 704 → ℝ} {X5 : Fin 256 → Fin 704 → ℝ} {X6 : Fin 1024 → Fin 704 → ℝ} {X7 : Fin 256 → Fin 704 → ℝ} {X8 : Fin 1024 → Fin 704 → ℝ} (h0 : ∀ p q, v287 (ix2 p q) = ((X0 p q : ℝ) : EReal)) (h1 : ∀ p q, v288 (ix3 0 p q) = ((X1 p q : ℝ) : EReal)) (h2 : ∀ p q, v290 (ix3 0 p q) = ((X2 p q : ℝ) : EReal)) (h3 : ∀ p q, v294 (ix3 0 p q) = ((X3 p q : ℝ) : EReal)) (h4 : ∀ p q, v296 (ix3 0 p q) = ((X4 p q : ℝ) : EReal)) (h5 : ∀ p q, v300 (ix3 0 p q) = ((X5 p q : ℝ) : EReal)) (h6 : ∀ p q, v302 (ix3 0 p q) = ((X6 p q : ℝ) : EReal)) (h7 : ∀ p q, v306 (ix3 0 p q) = ((X7 p q : ℝ) : EReal)) (h8 : ∀ p q, v308 (ix3 0 p q) = ((X8 p q : ℝ) : EReal)) (p : Fin 256) (q : Fin 1024) :
    (k0_pay66 (F := Ideal) v287 v288 v290 v294 v296 v300 v302 v306 v308) (ix2 p q) = ((X0 p q + (∑ j, X1 p j * X2 q j) + (∑ j, X3 p j * X4 q j) + (∑ j, X5 p j * X6 q j) + (∑ j, X7 p j * X8 q j) : ℝ) : EReal) := by
  pointwise [k0_pay66]
  simp only [h0, h1, h2, h3, h4, h5, h6, h7, h8, ← EReal.coe_mul, ← EReal.coe_add, ← EReal.coe_sub, coe_sum, div_real _ (by norm_num : (1024:ℝ) ≠ 0), bits_zero, bits_eps, bits_1024, bits_inv1024, bits_one, Ideal.logistic_coe]
  try rfl

/-- One more block of the normalized row's cotangent. -/
theorem pay67_at (v312 : Vec Ideal S1x256x704 .bf16) (v314 : Vec Ideal S1x1024x704 .bf16) {X0 : Fin 256 → Fin 704 → ℝ} {X1 : Fin 1024 → Fin 704 → ℝ} (h0 : ∀ p q, v312 (ix3 0 p q) = ((X0 p q : ℝ) : EReal)) (h1 : ∀ p q, v314 (ix3 0 p q) = ((X1 p q : ℝ) : EReal)) (p : Fin 256) (q : Fin 1024) :
    (k0_pay67 (F := Ideal) v312 v314) (ix2 p q) = (((∑ j, X0 p j * X1 q j) : ℝ) : EReal) := by
  pointwise [k0_pay67]
  simp only [h0, h1, ← EReal.coe_mul, ← EReal.coe_add, ← EReal.coe_sub, coe_sum, div_real _ (by norm_num : (1024:ℝ) ≠ 0), bits_zero, bits_eps, bits_1024, bits_inv1024, bits_one, Ideal.logistic_coe]
  try rfl

/-- The normalized row's cotangent. -/
theorem pay68_at (v311 : FVec Ideal S256x1024 .f32) (v316 : FVec Ideal S256x1024 .f32) (v318 : Vec Ideal S1x256x704 .bf16) (v320 : Vec Ideal S1x1024x704 .bf16) {X0 : Fin 256 → Fin 1024 → ℝ} {X1 : Fin 256 → Fin 1024 → ℝ} {X2 : Fin 256 → Fin 704 → ℝ} {X3 : Fin 1024 → Fin 704 → ℝ} (h0 : ∀ p q, v311 (ix2 p q) = ((X0 p q : ℝ) : EReal)) (h1 : ∀ p q, v316 (ix2 p q) = ((X1 p q : ℝ) : EReal)) (h2 : ∀ p q, v318 (ix3 0 p q) = ((X2 p q : ℝ) : EReal)) (h3 : ∀ p q, v320 (ix3 0 p q) = ((X3 p q : ℝ) : EReal)) (p : Fin 256) (q : Fin 1024) :
    (k0_pay68 (F := Ideal) v311 v316 v318 v320) (ix2 p q) = ((X0 p q + X1 p q + (∑ j, X2 p j * X3 q j) : ℝ) : EReal) := by
  pointwise [k0_pay68]
  simp only [h0, h1, h2, h3, ← EReal.coe_mul, ← EReal.coe_add, ← EReal.coe_sub, coe_sum, div_real _ (by norm_num : (1024:ℝ) ≠ 0), bits_zero, bits_eps, bits_1024, bits_inv1024, bits_one, Ideal.logistic_coe]
  try rfl

/-- The folded products for the first gain added to what was there. -/
theorem pay69_at (v17 : FVec Ideal S256x1024 .f32) (v311 : FVec Ideal S256x1024 .f32) (v316 : FVec Ideal S256x1024 .f32) (v318 : Vec Ideal S1x256x704 .bf16) (v320 : Vec Ideal S1x1024x704 .bf16) (v324 : Vec Ideal S1x16x1024 .f32) {X0 : Fin 256 → Fin 1024 → ℝ} {X1 : Fin 256 → Fin 1024 → ℝ} {X2 : Fin 256 → Fin 1024 → ℝ} {X3 : Fin 256 → Fin 704 → ℝ} {X4 : Fin 1024 → Fin 704 → ℝ} {X5 : Fin 16 → Fin 1024 → ℝ} (h0 : ∀ p q, v17 (ix2 p q) = ((X0 p q : ℝ) : EReal)) (h1 : ∀ p q, v311 (ix2 p q) = ((X1 p q : ℝ) : EReal)) (h2 : ∀ p q, v316 (ix2 p q) = ((X2 p q : ℝ) : EReal)) (h3 : ∀ p q, v318 (ix3 0 p q) = ((X3 p q : ℝ) : EReal)) (h4 : ∀ p q, v320 (ix3 0 p q) = ((X4 p q : ℝ) : EReal)) (h5 : ∀ p q, v324 (ix3 0 p q) = ((X5 p q : ℝ) : EReal)) (p : Fin 16) (q : Fin 1024) :
    (k0_pay69 (F := Ideal) v17 v311 v316 v318 v320 v324) (ix3 0 p q) = ((X5 p q + ∑ b : Fin 16, (fun r : Fin 256 => (X1 r q + X2 r q + (∑ j, X3 r j * X4 q j)) * X0 r q) ⟨b.val * 16 + p.val, by omega⟩ : ℝ) : EReal) := by
  pointwise [k0_pay69]
  simp only [h0, h1, h2, h3, h4, h5, ← EReal.coe_mul, ← EReal.coe_add, ← EReal.coe_sub, coe_sum, div_real _ (by norm_num : (1024:ℝ) ≠ 0), bits_zero, bits_eps, bits_1024, bits_inv1024, bits_one, Ideal.logistic_coe, pay68_at _ _ _ _ h1 h2 h3 h4]
  try rfl

/-- The cotangent of the row. -/
theorem pay70_at (v4 : FVec Ideal S1x1024 .f32) (v15 : FVec Ideal S256x1 .f32) (v17 : FVec Ideal S256x1024 .f32) (v311 : FVec Ideal S256x1024 .f32) (v316 : FVec Ideal S256x1024 .f32) (v318 : Vec Ideal S1x256x704 .bf16) (v320 : Vec Ideal S1x1024x704 .bf16) (v335 : Vec Ideal S256x1024 .f32) {X0 : Fin 1024 → ℝ} {X1 : Fin 256 → ℝ} {X2 : Fin 256 → Fin 1024 → ℝ} {X3 : Fin 256 → Fin 1024 → ℝ} {X4 : Fin 256 → Fin 1024 → ℝ} {X5 : Fin 256 → Fin 704 → ℝ} {X6 : Fin 1024 → Fin 704 → ℝ} {X7 : Fin 256 → Fin 1024 → ℝ} (h0 : ∀ p, v4 (ix2 0 p) = ((X0 p : ℝ) : EReal)) (h1 : ∀ p, v15 (ix2 p 0) = ((X1 p : ℝ) : EReal)) (h2 : ∀ p q, v17 (ix2 p q) = ((X2 p q : ℝ) : EReal)) (h3 : ∀ p q, v311 (ix2 p q) = ((X3 p q : ℝ) : EReal)) (h4 : ∀ p q, v316 (ix2 p q) = ((X4 p q : ℝ) : EReal)) (h5 : ∀ p q, v318 (ix3 0 p q) = ((X5 p q : ℝ) : EReal)) (h6 : ∀ p q, v320 (ix3 0 p q) = ((X6 p q : ℝ) : EReal)) (h7 : ∀ p q, v335 (ix2 p q) = ((X7 p q : ℝ) : EReal)) (p : Fin 256) (q : Fin 1024) :
    (k0_pay70 (F := Ideal) v4 v15 v17 v311 v316 v318 v320 v335) (ix2 p q) = ((X7 p q + X1 p * ((fun k => X3 p k + X4 p k + (∑ j, X5 p j * X6 k j)) q * X0 q - X2 p q * ((∑ l, (fun k => X3 p k + X4 p k + (∑ j, X5 p j * X6 k j)) l * X0 l * X2 p l) / 1024)) : ℝ) : EReal) := by
  pointwise [k0_pay70]
  simp only [h0, h1, h2, h3, h4, h5, h6, h7, ← EReal.coe_mul, ← EReal.coe_add, ← EReal.coe_sub, coe_sum, div_real _ (by norm_num : (1024:ℝ) ≠ 0), bits_zero, bits_eps, bits_1024, bits_inv1024, bits_one, Ideal.logistic_coe, pay68_at _ _ _ _ h3 h4 h5 h6]
  try rfl

/-- The same, in half the width. -/
theorem pay71_at (v4 : FVec Ideal S1x1024 .f32) (v15 : FVec Ideal S256x1 .f32) (v17 : FVec Ideal S256x1024 .f32) (v311 : FVec Ideal S256x1024 .f32) (v316 : FVec Ideal S256x1024 .f32) (v318 : Vec Ideal S1x256x704 .bf16) (v320 : Vec Ideal S1x1024x704 .bf16) (v335 : Vec Ideal S256x1024 .f32) {X0 : Fin 1024 → ℝ} {X1 : Fin 256 → ℝ} {X2 : Fin 256 → Fin 1024 → ℝ} {X3 : Fin 256 → Fin 1024 → ℝ} {X4 : Fin 256 → Fin 1024 → ℝ} {X5 : Fin 256 → Fin 704 → ℝ} {X6 : Fin 1024 → Fin 704 → ℝ} {X7 : Fin 256 → Fin 1024 → ℝ} (h0 : ∀ p, v4 (ix2 0 p) = ((X0 p : ℝ) : EReal)) (h1 : ∀ p, v15 (ix2 p 0) = ((X1 p : ℝ) : EReal)) (h2 : ∀ p q, v17 (ix2 p q) = ((X2 p q : ℝ) : EReal)) (h3 : ∀ p q, v311 (ix2 p q) = ((X3 p q : ℝ) : EReal)) (h4 : ∀ p q, v316 (ix2 p q) = ((X4 p q : ℝ) : EReal)) (h5 : ∀ p q, v318 (ix3 0 p q) = ((X5 p q : ℝ) : EReal)) (h6 : ∀ p q, v320 (ix3 0 p q) = ((X6 p q : ℝ) : EReal)) (h7 : ∀ p q, v335 (ix2 p q) = ((X7 p q : ℝ) : EReal)) (p : Fin 256) (q : Fin 1024) :
    (k0_pay71 (F := Ideal) v4 v15 v17 v311 v316 v318 v320 v335) (ix2 p q) = ((X7 p q + X1 p * ((fun k => X3 p k + X4 p k + (∑ j, X5 p j * X6 k j)) q * X0 q - X2 p q * ((∑ l, (fun k => X3 p k + X4 p k + (∑ j, X5 p j * X6 k j)) l * X0 l * X2 p l) / 1024)) : ℝ) : EReal) := by
  pointwise [k0_pay71]
  simp only [h0, h1, h2, h3, h4, h5, h6, h7, ← EReal.coe_mul, ← EReal.coe_add, ← EReal.coe_sub, coe_sum, div_real _ (by norm_num : (1024:ℝ) ≠ 0), bits_zero, bits_eps, bits_1024, bits_inv1024, bits_one, Ideal.logistic_coe, pay70_at _ _ _ _ _ _ _ _ h0 h1 h2 h3 h4 h5 h6 h7]
  try rfl

/-- The sum over the sixteen folded rows. -/
theorem pay2_at (v355 : Vec Ideal S1x16x1024 .f32) {X0 : Fin 16 → Fin 1024 → ℝ} (h0 : ∀ p q, v355 (ix3 0 p q) = ((X0 p q : ℝ) : EReal)) (p : Fin 1024) :
    (k0_pay2 (F := Ideal) v355) (ix2 0 p) = ((∑ r, X0 r p : ℝ) : EReal) := by
  pointwise [k0_pay2]
  simp only [h0, ← EReal.coe_mul, ← EReal.coe_add, ← EReal.coe_sub, coe_sum, div_real _ (by norm_num : (1024:ℝ) ≠ 0), bits_zero, bits_eps, bits_1024, bits_inv1024, bits_one, Ideal.logistic_coe]
  try rfl

/-- The sum over the sixteen folded rows. -/
theorem pay3_at (v360 : Vec Ideal S1x16x1024 .f32) {X0 : Fin 16 → Fin 1024 → ℝ} (h0 : ∀ p q, v360 (ix3 0 p q) = ((X0 p q : ℝ) : EReal)) (p : Fin 1024) :
    (k0_pay3 (F := Ideal) v360) (ix2 0 p) = ((∑ r, X0 r p : ℝ) : EReal) := by
  pointwise [k0_pay3]
  simp only [h0, ← EReal.coe_mul, ← EReal.coe_add, ← EReal.coe_sub, coe_sum, div_real _ (by norm_num : (1024:ℝ) ≠ 0), bits_zero, bits_eps, bits_1024, bits_inv1024, bits_one, Ideal.logistic_coe]
  try rfl

/-- The sum over the sixteen folded rows. -/
theorem pay4_at (v365 : Vec Ideal S1x16x1024 .f32) {X0 : Fin 16 → Fin 1024 → ℝ} (h0 : ∀ p q, v365 (ix3 0 p q) = ((X0 p q : ℝ) : EReal)) (p : Fin 1024) :
    (k0_pay4 (F := Ideal) v365) (ix2 0 p) = ((∑ r, X0 r p : ℝ) : EReal) := by
  pointwise [k0_pay4]
  simp only [h0, ← EReal.coe_mul, ← EReal.coe_add, ← EReal.coe_sub, coe_sum, div_real _ (by norm_num : (1024:ℝ) ≠ 0), bits_zero, bits_eps, bits_1024, bits_inv1024, bits_one, Ideal.logistic_coe]
  try rfl

/-- Zeros. -/
theorem pay1_at    (p : Fin 8) (q : Fin 1024) :
    (k0_pay1 (F := Ideal) ) (ix2 p q) = ((0 : ℝ) : EReal) := by
  pointwise [k0_pay1]
  exact EReal.coe_zero.symm

/-- Zeros. -/
theorem pay5_at    (p : Fin 3) (q : Fin 16) (r : Fin 1024) :
    (k0_pay5 (F := Ideal) ) (ix3 p q r) = ((0 : ℝ) : EReal) := by
  pointwise [k0_pay5]
  exact EReal.coe_zero.symm

end Cert.KRow
-- ==== Proof.Point.lean ====
/- One grid point: the body's values over the point's blocks, named, and each the row model's value when the blocks are real. -/
module

public import proofs.«01_k».proof.Proof.KRow

@[expose] public section

set_option maxRecDepth 16384

noncomputable section

open Idealize.ShloMosaic

namespace Cert.Pt
open Cert.KernelIdeal Cert.KernelIdeal.Gen Cert.Row Cert.KRow

section Defs
variable (x0 x1 : Vec Ideal S256x1024 .f32) (x2 x3 : Vec Ideal S1x1024 .f32) (x4 : Vec Ideal S8x1024x704 .bf16) (x5 : Vec Ideal S4x704x1024 .bf16)

/-- The eight blocks of the joined projection's weight. -/
def W0 : Vec Ideal S1x1024x704 .bf16 := View.ld x4 (Rect.unit ![0, 0, 0] ![1, 1024, 704] inb_S8x1024x704_S1x1024x704_0_0_0)
def W1 : Vec Ideal S1x1024x704 .bf16 := View.ld x4 (Rect.unit ![1, 0, 0] ![1, 1024, 704] inb_S8x1024x704_S1x1024x704_1_0_0)
def W2 : Vec Ideal S1x1024x704 .bf16 := View.ld x4 (Rect.unit ![2, 0, 0] ![1, 1024, 704] inb_S8x1024x704_S1x1024x704_2_0_0)
def W3 : Vec Ideal S1x1024x704 .bf16 := View.ld x4 (Rect.unit ![3, 0, 0] ![1, 1024, 704] inb_S8x1024x704_S1x1024x704_3_0_0)
def W4 : Vec Ideal S1x1024x704 .bf16 := View.ld x4 (Rect.unit ![4, 0, 0] ![1, 1024, 704] inb_S8x1024x704_S1x1024x704_4_0_0)
def W5 : Vec Ideal S1x1024x704 .bf16 := View.ld x4 (Rect.unit ![5, 0, 0] ![1, 1024, 704] inb_S8x1024x704_S1x1024x704_5_0_0)
def W6 : Vec Ideal S1x1024x704 .bf16 := View.ld x4 (Rect.unit ![6, 0, 0] ![1, 1024, 704] inb_S8x1024x704_S1x1024x704_6_0_0)
def W7 : Vec Ideal S1x1024x704 .bf16 := View.ld x4 (Rect.unit ![7, 0, 0] ![1, 1024, 704] inb_S8x1024x704_S1x1024x704_7_0_0)
/-- The four blocks of the down projection's weight. -/
def V0 : Vec Ideal S1x704x1024 .bf16 := View.ld x5 (Rect.unit ![0, 0, 0] ![1, 704, 1024] inb_S4x704x1024_S1x704x1024_0_0_0)
def V1 : Vec Ideal S1x704x1024 .bf16 := View.ld x5 (Rect.unit ![1, 0, 0] ![1, 704, 1024] inb_S4x704x1024_S1x704x1024_1_0_0)
def V2 : Vec Ideal S1x704x1024 .bf16 := View.ld x5 (Rect.unit ![2, 0, 0] ![1, 704, 1024] inb_S4x704x1024_S1x704x1024_2_0_0)
def V3 : Vec Ideal S1x704x1024 .bf16 := View.ld x5 (Rect.unit ![3, 0, 0] ![1, 704, 1024] inb_S4x704x1024_S1x704x1024_3_0_0)

/-- The normalized rows. -/
def H : FVec Ideal S256x1024 .bf16 := k0_pay10 x2 x0
/-- The gated rows, a block of columns at a time. -/
def a0 : FVec Ideal S1x256x704 .bf16 := k0_pay15 (k0_pay11 x2 x0 (W0 x4)) (k0_pay12 x2 x0 (W4 x4))
def a1 : FVec Ideal S1x256x704 .bf16 := k0_pay20 (H x0 x2) (W1 x4) (W5 x4)
def a2 : FVec Ideal S1x256x704 .bf16 := k0_pay25 (H x0 x2) (W2 x4) (W6 x4)
def a3 : FVec Ideal S1x256x704 .bf16 := k0_pay30 (k0_pay26 (H x0 x2) (W3 x4)) (k0_pay27 (H x0 x2) (W7 x4))
/-- The rows after three blocks of the down projection, and the last block. -/
def p115 : FVec Ideal S256x1024 .f32 := k0_pay31 x0 (a0 x0 x2 x4) (V0 x5) (a1 x0 x2 x4) (V1 x5) (a2 x0 x2 x4) (V2 x5)
def p117 : FVec Ideal S256x704 .bf16 := k0_pay32 (a3 x0 x2 x4)
/-- The final norm's reciprocal root, its normalized rows, the error's cotangent. -/
def r3 : FVec Ideal S256x1 .f32 := k0_pay34 (p115 x0 x2 x4 x5) (p117 x0 x2 x4) (V3 x5)
def xh : FVec Ideal S256x1024 .f32 := k0_pay35 (p115 x0 x2 x4 x5) (p117 x0 x2 x4) (V3 x5)
def dy : FVec Ideal S256x1024 .f32 := k0_pay38 (k0_pay7 x3) (p115 x0 x2 x4 x5) (p117 x0 x2 x4) (V3 x5) x1
/-- The cotangent after the down projection, in two widths. -/
def d2s : FVec Ideal S256x1024 .f32 := k0_pay42 (k0_pay7 x3) (r3 x0 x2 x4 x5) (xh x0 x2 x4 x5) (dy x0 x1 x2 x3 x4 x5)
def db : FVec Ideal S256x1024 .bf16 := k0_pay43 (k0_pay7 x3) (r3 x0 x2 x4 x5) (xh x0 x2 x4 x5) (dy x0 x1 x2 x3 x4 x5)
/-- The joined projection, a block of columns at a time: gate, then up. -/
def g0 : FVec Ideal S1x256x704 .f32 := k0_pay13 x2 x0 (W0 x4)
def g1 : FVec Ideal S1x256x704 .f32 := k0_pay18 (H x0 x2) (W1 x4)
def g2 : FVec Ideal S1x256x704 .f32 := k0_pay23 (H x0 x2) (W2 x4)
def g3 : FVec Ideal S1x256x704 .f32 := k0_pay28 (H x0 x2) (W3 x4)
def u0 : FVec Ideal S1x256x704 .f32 := k0_pay14 (k0_pay12 x2 x0 (W4 x4))
def u1 : FVec Ideal S1x256x704 .f32 := k0_pay19 (H x0 x2) (W5 x4)
def u2 : FVec Ideal S1x256x704 .f32 := k0_pay24 (H x0 x2) (W6 x4)
def u3 : FVec Ideal S1x256x704 .f32 := k0_pay29 (k0_pay27 (H x0 x2) (W7 x4))
/-- The joined projection's cotangent, a block of columns at a time: gate, then up. -/
def G0 : FVec Ideal S1x256x704 .bf16 := k0_pay48 (k0_pay47 (k0_pay7 x3) (r3 x0 x2 x4 x5) (xh x0 x2 x4 x5) (dy x0 x1 x2 x3 x4 x5) (V0 x5) (g0 x0 x2 x4) (u0 x0 x2 x4))
def U0 : FVec Ideal S1x256x704 .bf16 := k0_pay49 (k0_pay44 (k0_pay7 x3) (r3 x0 x2 x4 x5) (xh x0 x2 x4 x5) (dy x0 x1 x2 x3 x4 x5) (V0 x5)) (k0_pay45 (g0 x0 x2 x4)) (k0_pay46 (g0 x0 x2 x4))
def G1 : FVec Ideal S1x256x704 .bf16 := k0_pay53 (db x0 x1 x2 x3 x4 x5) (V1 x5) (g1 x0 x2 x4) (u1 x0 x2 x4)
def U1 : FVec Ideal S1x256x704 .bf16 := k0_pay54 (db x0 x1 x2 x3 x4 x5) (V1 x5) (g1 x0 x2 x4)
def G2 : FVec Ideal S1x256x704 .bf16 := k0_pay58 (db x0 x1 x2 x3 x4 x5) (V2 x5) (g2 x0 x2 x4) (u2 x0 x2 x4)
def U2 : FVec Ideal S1x256x704 .bf16 := k0_pay59 (db x0 x1 x2 x3 x4 x5) (V2 x5) (g2 x0 x2 x4)
def G3 : FVec Ideal S1x256x704 .bf16 := k0_pay63 (k0_pay60 (db x0 x1 x2 x3 x4 x5) (V3 x5)) (k0_pay61 (g3 x0 x2 x4)) (k0_pay62 (g3 x0 x2 x4)) (u3 x0 x2 x4)
def U3 : FVec Ideal S1x256x704 .bf16 := k0_pay64 (k0_pay60 (db x0 x1 x2 x3 x4 x5) (V3 x5)) (k0_pay61 (g3 x0 x2 x4)) (k0_pay62 (g3 x0 x2 x4))
/-- The first six blocks of the normalized rows' cotangent, and the seventh. -/
def p311 : FVec Ideal S256x1024 .f32 :=
  k0_pay66 (k0_pay65 (G0 x0 x1 x2 x3 x4 x5) (W0 x4) (G1 x0 x1 x2 x3 x4 x5) (W1 x4)) (G2 x0 x1 x2 x3 x4 x5) (W2 x4) (G3 x0 x1 x2 x3 x4 x5) (W3 x4)
    (U0 x0 x1 x2 x3 x4 x5) (W4 x4) (U1 x0 x1 x2 x3 x4 x5) (W5 x4)
def p316 : FVec Ideal S256x1024 .f32 := k0_pay67 (U2 x0 x1 x2 x3 x4 x5) (W6 x4)
/-- The rows' cotangent, in two widths. -/
def d1 : FVec Ideal S256x1024 .f32 :=
  k0_pay70 (k0_pay6 x2) (k0_pay8 x0) (k0_pay9 x0) (p311 x0 x1 x2 x3 x4 x5) (p316 x0 x1 x2 x3 x4 x5) (U3 x0 x1 x2 x3 x4 x5) (W7 x4) (d2s x0 x1 x2 x3 x4 x5)
def d1b : FVec Ideal S256x1024 .bf16 :=
  k0_pay71 (k0_pay6 x2) (k0_pay8 x0) (k0_pay9 x0) (p311 x0 x1 x2 x3 x4 x5) (p316 x0 x1 x2 x3 x4 x5) (U3 x0 x1 x2 x3 x4 x5) (W7 x4) (d2s x0 x1 x2 x3 x4 x5)
/-- The three accumulators after the point, over what was there. -/
def c0 (s : Vec Ideal S1x16x1024 .f32) : FVec Ideal S1x16x1024 .f32 :=
  k0_pay69 (k0_pay9 x0) (p311 x0 x1 x2 x3 x4 x5) (p316 x0 x1 x2 x3 x4 x5) (U3 x0 x1 x2 x3 x4 x5) (W7 x4) s
def c1 (s : Vec Ideal S1x16x1024 .f32) : FVec Ideal S1x16x1024 .f32 :=
  k0_pay40 (k0_pay39 (k0_pay7 x3) (p115 x0 x2 x4 x5) (p117 x0 x2 x4) (V3 x5) x1 s)
def c2 (s : Vec Ideal S1x16x1024 .f32) : FVec Ideal S1x16x1024 .f32 :=
  k0_pay37 (k0_pay7 x3) (p115 x0 x2 x4 x5) (p117 x0 x2 x4) (V3 x5) x1 s
end Defs

/-- The point's blocks hold 256 rows and the weights shared by all of them. -/
structure Blk (xs ts : Fin 256 → Fin 1024 → ℝ) (gf gl : Fin 1024 → ℝ) (w : Fin 1024 → Fin 5632 → ℝ) (wd : Fin 2816 → Fin 1024 → ℝ)
    (x0 x1 : Vec Ideal S256x1024 .f32) (x2 x3 : Vec Ideal S1x1024 .f32) (x4 : Vec Ideal S8x1024x704 .bf16) (x5 : Vec Ideal S4x704x1024 .bf16) : Prop where
  h0 : ∀ p k, x0 (ix2 p k) = ((xs p k : ℝ) : EReal)
  h1 : ∀ p k, x1 (ix2 p k) = ((ts p k : ℝ) : EReal)
  h2 : ∀ k, x2 (ix2 0 k) = ((gf k : ℝ) : EReal)
  h3 : ∀ k, x3 (ix2 0 k) = ((gl k : ℝ) : EReal)
  h4 : ∀ b k j, x4 (ix3 b k j) = ((w k (col8 b j) : ℝ) : EReal)
  h5 : ∀ b j k, x5 (ix3 b j k) = ((wd (col4 b j) k : ℝ) : EReal)

section Vals
variable {xs ts : Fin 256 → Fin 1024 → ℝ} {gf gl : Fin 1024 → ℝ} {w : Fin 1024 → Fin 5632 → ℝ} {wd : Fin 2816 → Fin 1024 → ℝ}
  {x0 x1 : Vec Ideal S256x1024 .f32} {x2 x3 : Vec Ideal S1x1024 .f32} {x4 : Vec Ideal S8x1024x704 .bf16} {x5 : Vec Ideal S4x704x1024 .bf16}
  (h : Blk xs ts gf gl w wd x0 x1 x2 x3 x4 x5)
include h

theorem W0_at (k : Fin 1024) (j : Fin 704) : W0 x4 (ix3 0 k j) = ((w k (col8 0 j) : ℝ) : EReal) := by
  rw [← h.h4 0 k j, W0]
  exact congrArg x4 (by funext a; fin_cases a <;> apply Fin.ext <;> simp [Rect.unit])
theorem W1_at (k : Fin 1024) (j : Fin 704) : W1 x4 (ix3 0 k j) = ((w k (col8 1 j) : ℝ) : EReal) := by
  rw [← h.h4 1 k j, W1]
  exact congrArg x4 (by funext a; fin_cases a <;> apply Fin.ext <;> simp [Rect.unit])
theorem W2_at (k : Fin 1024) (j : Fin 704) : W2 x4 (ix3 0 k j) = ((w k (col8 2 j) : ℝ) : EReal) := by
  rw [← h.h4 2 k j, W2]
  exact congrArg x4 (by funext a; fin_cases a <;> apply Fin.ext <;> simp [Rect.unit])
theorem W3_at (k : Fin 1024) (j : Fin 704) : W3 x4 (ix3 0 k j) = ((w k (col8 3 j) : ℝ) : EReal) := by
  rw [← h.h4 3 k j, W3]
  exact congrArg x4 (by funext a; fin_cases a <;> apply Fin.ext <;> simp [Rect.unit])
theorem W4_at (k : Fin 1024) (j : Fin 704) : W4 x4 (ix3 0 k j) = ((w k (col8 4 j) : ℝ) : EReal) := by
  rw [← h.h4 4 k j, W4]
  exact congrArg x4 (by funext a; fin_cases a <;> apply Fin.ext <;> simp [Rect.unit])
theorem W5_at (k : Fin 1024) (j : Fin 704) : W5 x4 (ix3 0 k j) = ((w k (col8 5 j) : ℝ) : EReal) := by
  rw [← h.h4 5 k j, W5]
  exact congrArg x4 (by funext a; fin_cases a <;> apply Fin.ext <;> simp [Rect.unit])
theorem W6_at (k : Fin 1024) (j : Fin 704) : W6 x4 (ix3 0 k j) = ((w k (col8 6 j) : ℝ) : EReal) := by
  rw [← h.h4 6 k j, W6]
  exact congrArg x4 (by funext a; fin_cases a <;> apply Fin.ext <;> simp [Rect.unit])
theorem W7_at (k : Fin 1024) (j : Fin 704) : W7 x4 (ix3 0 k j) = ((w k (col8 7 j) : ℝ) : EReal) := by
  rw [← h.h4 7 k j, W7]
  exact congrArg x4 (by funext a; fin_cases a <;> apply Fin.ext <;> simp [Rect.unit])
theorem V0_at (j : Fin 704) (k : Fin 1024) : V0 x5 (ix3 0 j k) = ((wd (col4 0 j) k : ℝ) : EReal) := by
  rw [← h.h5 0 j k, V0]
  exact congrArg x5 (by funext a; fin_cases a <;> apply Fin.ext <;> simp [Rect.unit])
theorem V1_at (j : Fin 704) (k : Fin 1024) : V1 x5 (ix3 0 j k) = ((wd (col4 1 j) k : ℝ) : EReal) := by
  rw [← h.h5 1 j k, V1]
  exact congrArg x5 (by funext a; fin_cases a <;> apply Fin.ext <;> simp [Rect.unit])
theorem V2_at (j : Fin 704) (k : Fin 1024) : V2 x5 (ix3 0 j k) = ((wd (col4 2 j) k : ℝ) : EReal) := by
  rw [← h.h5 2 j k, V2]
  exact congrArg x5 (by funext a; fin_cases a <;> apply Fin.ext <;> simp [Rect.unit])
theorem V3_at (j : Fin 704) (k : Fin 1024) : V3 x5 (ix3 0 j k) = ((wd (col4 3 j) k : ℝ) : EReal) := by
  rw [← h.h5 3 j k, V3]
  exact congrArg x5 (by funext a; fin_cases a <;> apply Fin.ext <;> simp [Rect.unit])
theorem H_at (p : Fin 256) (k : Fin 1024) : H x0 x2 (ix2 p k) = (((In.mk (xs p) (ts p) gf gl w wd).h2 k : ℝ) : EReal) :=
  pay10_at _ _ h.h2 h.h0 p k
theorem a0_at (p : Fin 256) (j : Fin 704) : a0 x0 x2 x4 (ix3 0 p j) = (((In.mk (xs p) (ts p) gf gl w wd).act (col4 0 j) : ℝ) : EReal) := by
  rw [In.act_col]
  exact pay15_at _ _ (pay11_at _ _ _ h.h2 h.h0 (W0_at h)) (pay12_at _ _ _ h.h2 h.h0 (W4_at h)) p j
theorem a1_at (p : Fin 256) (j : Fin 704) : a1 x0 x2 x4 (ix3 0 p j) = (((In.mk (xs p) (ts p) gf gl w wd).act (col4 1 j) : ℝ) : EReal) := by
  rw [In.act_col]
  exact pay20_at _ _ _ (H_at h) (W1_at h) (W5_at h) p j
theorem a2_at (p : Fin 256) (j : Fin 704) : a2 x0 x2 x4 (ix3 0 p j) = (((In.mk (xs p) (ts p) gf gl w wd).act (col4 2 j) : ℝ) : EReal) := by
  rw [In.act_col]
  exact pay25_at _ _ _ (H_at h) (W2_at h) (W6_at h) p j
theorem a3_at (p : Fin 256) (j : Fin 704) : a3 x0 x2 x4 (ix3 0 p j) = (((In.mk (xs p) (ts p) gf gl w wd).act (col4 3 j) : ℝ) : EReal) := by
  rw [In.act_col]
  exact pay30_at _ _ (pay26_at _ _ (H_at h) (W3_at h)) (pay27_at _ _ (H_at h) (W7_at h)) p j
theorem g0_at (p : Fin 256) (j : Fin 704) : g0 x0 x2 x4 (ix3 0 p j) = (((In.mk (xs p) (ts p) gf gl w wd).gu (col8 0 j) : ℝ) : EReal) :=
  pay13_at _ _ _ h.h2 h.h0 (W0_at h) p j
theorem u0_at (p : Fin 256) (j : Fin 704) : u0 x0 x2 x4 (ix3 0 p j) = (((In.mk (xs p) (ts p) gf gl w wd).gu (col8 4 j) : ℝ) : EReal) :=
  pay14_at _ (pay12_at _ _ _ h.h2 h.h0 (W4_at h)) p j
theorem g1_at (p : Fin 256) (j : Fin 704) : g1 x0 x2 x4 (ix3 0 p j) = (((In.mk (xs p) (ts p) gf gl w wd).gu (col8 1 j) : ℝ) : EReal) :=
  pay18_at _ _ (H_at h) (W1_at h) p j
theorem u1_at (p : Fin 256) (j : Fin 704) : u1 x0 x2 x4 (ix3 0 p j) = (((In.mk (xs p) (ts p) gf gl w wd).gu (col8 5 j) : ℝ) : EReal) :=
  pay19_at _ _ (H_at h) (W5_at h) p j
theorem g2_at (p : Fin 256) (j : Fin 704) : g2 x0 x2 x4 (ix3 0 p j) = (((In.mk (xs p) (ts p) gf gl w wd).gu (col8 2 j) : ℝ) : EReal) :=
  pay23_at _ _ (H_at h) (W2_at h) p j
theorem u2_at (p : Fin 256) (j : Fin 704) : u2 x0 x2 x4 (ix3 0 p j) = (((In.mk (xs p) (ts p) gf gl w wd).gu (col8 6 j) : ℝ) : EReal) :=
  pay24_at _ _ (H_at h) (W6_at h) p j
theorem g3_at (p : Fin 256) (j : Fin 704) : g3 x0 x2 x4 (ix3 0 p j) = (((In.mk (xs p) (ts p) gf gl w wd).gu (col8 3 j) : ℝ) : EReal) :=
  pay28_at _ _ (H_at h) (W3_at h) p j
theorem u3_at (p : Fin 256) (j : Fin 704) : u3 x0 x2 x4 (ix3 0 p j) = (((In.mk (xs p) (ts p) gf gl w wd).gu (col8 7 j) : ℝ) : EReal) :=
  pay29_at _ (pay27_at _ _ (H_at h) (W7_at h)) p j
theorem p115_at (p : Fin 256) (k : Fin 1024) : p115 x0 x2 x4 x5 (ix2 p k)
    = ((xs p k + (∑ j, (In.mk (xs p) (ts p) gf gl w wd).act (col4 0 j) * wd (col4 0 j) k) + (∑ j, (In.mk (xs p) (ts p) gf gl w wd).act (col4 1 j) * wd (col4 1 j) k)
        + (∑ j, (In.mk (xs p) (ts p) gf gl w wd).act (col4 2 j) * wd (col4 2 j) k) : ℝ) : EReal) :=
  pay31_at _ _ _ _ _ _ _ h.h0 (a0_at h) (V0_at h) (a1_at h) (V1_at h) (a2_at h) (V2_at h) p k
theorem p117_at (p : Fin 256) (j : Fin 704) : p117 x0 x2 x4 (ix2 p j) = (((In.mk (xs p) (ts p) gf gl w wd).act (col4 3 j) : ℝ) : EReal) :=
  pay32_at _ (a3_at h) p j
omit h in
theorem x2_eq (p : Fin 256) : (fun k => xs p k + (∑ j, (In.mk (xs p) (ts p) gf gl w wd).act (col4 0 j) * wd (col4 0 j) k) + (∑ j, (In.mk (xs p) (ts p) gf gl w wd).act (col4 1 j) * wd (col4 1 j) k)
        + (∑ j, (In.mk (xs p) (ts p) gf gl w wd).act (col4 2 j) * wd (col4 2 j) k) + ∑ j, (In.mk (xs p) (ts p) gf gl w wd).act (col4 3 j) * wd (col4 3 j) k) = (In.mk (xs p) (ts p) gf gl w wd).x2 := by
  funext k
  rw [In.x2, x2Of, sum_col4]
  ring
theorem r3_at (p : Fin 256) : r3 x0 x2 x4 x5 (ix2 p 0) = ((inv (In.mk (xs p) (ts p) gf gl w wd).x2 : ℝ) : EReal) := by
  rw [← x2_eq]
  exact pay34_at _ _ _ (p115_at h) (p117_at h) (V3_at h) p
theorem xh_at (p : Fin 256) (k : Fin 1024) : xh x0 x2 x4 x5 (ix2 p k) = ((xhat (In.mk (xs p) (ts p) gf gl w wd).x2 k : ℝ) : EReal) := by
  rw [← x2_eq]
  exact pay35_at _ _ _ (p115_at h) (p117_at h) (V3_at h) p k
theorem gl_at (k : Fin 1024) : k0_pay7 (F := Ideal) x3 (ix2 0 k) = ((gl k : ℝ) : EReal) := pay7_at _ h.h3 k
theorem dy_at (p : Fin 256) (k : Fin 1024) : dy x0 x1 x2 x3 x4 x5 (ix2 p k) = (((In.mk (xs p) (ts p) gf gl w wd).dy k : ℝ) : EReal) := by
  rw [In.dy, In.er, ← x2_eq]
  exact pay38_at _ _ _ _ _ (gl_at h) (p115_at h) (p117_at h) (V3_at h) h.h1 p k
theorem d2s_at (p : Fin 256) (k : Fin 1024) : d2s x0 x1 x2 x3 x4 x5 (ix2 p k) = (((In.mk (xs p) (ts p) gf gl w wd).dx2 k : ℝ) : EReal) :=
  pay42_at _ _ _ _ (gl_at h) (r3_at h) (xh_at h) (dy_at h) p k
theorem db_at (p : Fin 256) (k : Fin 1024) : db x0 x1 x2 x3 x4 x5 (ix2 p k) = (((In.mk (xs p) (ts p) gf gl w wd).dx2 k : ℝ) : EReal) :=
  pay43_at _ _ _ _ (gl_at h) (r3_at h) (xh_at h) (dy_at h) p k
theorem G0_at (p : Fin 256) (j : Fin 704) : G0 x0 x1 x2 x3 x4 x5 (ix3 0 p j) = (((In.mk (xs p) (ts p) gf gl w wd).dgu (col8 0 j) : ℝ) : EReal) := by
  refine Eq.trans ?_ (congrArg _ (In.dgu_lo (In.mk (xs p) (ts p) gf gl w wd) 0 j).symm)
  exact pay48_at _ (pay47_at _ _ _ _ _ _ _ (gl_at h) (r3_at h) (xh_at h) (dy_at h) (V0_at h) (g0_at h) (u0_at h)) p j
theorem U0_at (p : Fin 256) (j : Fin 704) : U0 x0 x1 x2 x3 x4 x5 (ix3 0 p j) = (((In.mk (xs p) (ts p) gf gl w wd).dgu (col8 4 j) : ℝ) : EReal) := by
  refine Eq.trans ?_ (congrArg _ (In.dgu_hi (In.mk (xs p) (ts p) gf gl w wd) 0 j).symm)
  exact pay49_at _ _ _ (pay44_at _ _ _ _ _ (gl_at h) (r3_at h) (xh_at h) (dy_at h) (V0_at h)) (pay45_at _ (g0_at h)) (pay46_at _ (g0_at h)) p j
theorem G1_at (p : Fin 256) (j : Fin 704) : G1 x0 x1 x2 x3 x4 x5 (ix3 0 p j) = (((In.mk (xs p) (ts p) gf gl w wd).dgu (col8 1 j) : ℝ) : EReal) := by
  refine Eq.trans ?_ (congrArg _ (In.dgu_lo (In.mk (xs p) (ts p) gf gl w wd) 1 j).symm)
  exact pay53_at _ _ _ _ (db_at h) (V1_at h) (g1_at h) (u1_at h) p j
theorem U1_at (p : Fin 256) (j : Fin 704) : U1 x0 x1 x2 x3 x4 x5 (ix3 0 p j) = (((In.mk (xs p) (ts p) gf gl w wd).dgu (col8 5 j) : ℝ) : EReal) := by
  refine Eq.trans ?_ (congrArg _ (In.dgu_hi (In.mk (xs p) (ts p) gf gl w wd) 1 j).symm)
  exact pay54_at _ _ _ (db_at h) (V1_at h) (g1_at h) p j
theorem G2_at (p : Fin 256) (j : Fin 704) : G2 x0 x1 x2 x3 x4 x5 (ix3 0 p j) = (((In.mk (xs p) (ts p) gf gl w wd).dgu (col8 2 j) : ℝ) : EReal) := by
  refine Eq.trans ?_ (congrArg _ (In.dgu_lo (In.mk (xs p) (ts p) gf gl w wd) 2 j).symm)
  exact pay58_at _ _ _ _ (db_at h) (V2_at h) (g2_at h) (u2_at h) p j
theorem U2_at (p : Fin 256) (j : Fin 704) : U2 x0 x1 x2 x3 x4 x5 (ix3 0 p j) = (((In.mk (xs p) (ts p) gf gl w wd).dgu (col8 6 j) : ℝ) : EReal) := by
  refine Eq.trans ?_ (congrArg _ (In.dgu_hi (In.mk (xs p) (ts p) gf gl w wd) 2 j).symm)
  exact pay59_at _ _ _ (db_at h) (V2_at h) (g2_at h) p j
theorem G3_at (p : Fin 256) (j : Fin 704) : G3 x0 x1 x2 x3 x4 x5 (ix3 0 p j) = (((In.mk (xs p) (ts p) gf gl w wd).dgu (col8 3 j) : ℝ) : EReal) := by
  refine Eq.trans ?_ (congrArg _ (In.dgu_lo (In.mk (xs p) (ts p) gf gl w wd) 3 j).symm)
  exact pay63_at _ _ _ _ (pay60_at _ _ (db_at h) (V3_at h)) (pay61_at _ (g3_at h)) (pay62_at _ (g3_at h)) (u3_at h) p j
theorem U3_at (p : Fin 256) (j : Fin 704) : U3 x0 x1 x2 x3 x4 x5 (ix3 0 p j) = (((In.mk (xs p) (ts p) gf gl w wd).dgu (col8 7 j) : ℝ) : EReal) := by
  refine Eq.trans ?_ (congrArg _ (In.dgu_hi (In.mk (xs p) (ts p) gf gl w wd) 3 j).symm)
  exact pay64_at _ _ _ (pay60_at _ _ (db_at h) (V3_at h)) (pay61_at _ (g3_at h)) (pay62_at _ (g3_at h)) p j
theorem p311_at (p : Fin 256) (k : Fin 1024) : p311 x0 x1 x2 x3 x4 x5 (ix2 p k)
    = (((∑ j, (In.mk (xs p) (ts p) gf gl w wd).dgu (col8 0 j) * w k (col8 0 j)) + (∑ j, (In.mk (xs p) (ts p) gf gl w wd).dgu (col8 1 j) * w k (col8 1 j)) + (∑ j, (In.mk (xs p) (ts p) gf gl w wd).dgu (col8 2 j) * w k (col8 2 j)) + (∑ j, (In.mk (xs p) (ts p) gf gl w wd).dgu (col8 3 j) * w k (col8 3 j)) + (∑ j, (In.mk (xs p) (ts p) gf gl w wd).dgu (col8 4 j) * w k (col8 4 j)) + (∑ j, (In.mk (xs p) (ts p) gf gl w wd).dgu (col8 5 j) * w k (col8 5 j)) : ℝ) : EReal) :=
  (pay66_at _ _ _ _ _ _ _ _ _ (pay65_at _ _ _ _ (G0_at h) (W0_at h) (G1_at h) (W1_at h)) (G2_at h) (W2_at h) (G3_at h) (W3_at h)
    (U0_at h) (W4_at h) (U1_at h) (W5_at h) p k).trans (congrArg _ (by ring))
theorem p316_at (p : Fin 256) (k : Fin 1024) : p316 x0 x1 x2 x3 x4 x5 (ix2 p k) = (((∑ j, (In.mk (xs p) (ts p) gf gl w wd).dgu (col8 6 j) * w k (col8 6 j)) : ℝ) : EReal) :=
  pay67_at _ _ (U2_at h) (W6_at h) p k
omit h in
theorem dh2_eq (p : Fin 256) : (fun k => ((∑ j, (In.mk (xs p) (ts p) gf gl w wd).dgu (col8 0 j) * w k (col8 0 j)) + (∑ j, (In.mk (xs p) (ts p) gf gl w wd).dgu (col8 1 j) * w k (col8 1 j)) + (∑ j, (In.mk (xs p) (ts p) gf gl w wd).dgu (col8 2 j) * w k (col8 2 j)) + (∑ j, (In.mk (xs p) (ts p) gf gl w wd).dgu (col8 3 j) * w k (col8 3 j)) + (∑ j, (In.mk (xs p) (ts p) gf gl w wd).dgu (col8 4 j) * w k (col8 4 j)) + (∑ j, (In.mk (xs p) (ts p) gf gl w wd).dgu (col8 5 j) * w k (col8 5 j))) + (∑ j, (In.mk (xs p) (ts p) gf gl w wd).dgu (col8 6 j) * w k (col8 6 j)) + (∑ j, (In.mk (xs p) (ts p) gf gl w wd).dgu (col8 7 j) * w k (col8 7 j))) = (In.mk (xs p) (ts p) gf gl w wd).dh2 := by
  funext k
  rw [In.dh2, dhOf, sum_col8]
theorem d1_at (p : Fin 256) (k : Fin 1024) : d1 x0 x1 x2 x3 x4 x5 (ix2 p k) = (((In.mk (xs p) (ts p) gf gl w wd).dx1 k : ℝ) : EReal) := by
  rw [In.dx1, ← dh2_eq]
  exact pay70_at _ _ _ _ _ _ _ _ (pay6_at _ h.h2) (pay8_at _ h.h0) (pay9_at _ h.h0) (p311_at h) (p316_at h) (U3_at h) (W7_at h) (d2s_at h) p k
theorem d1b_at (p : Fin 256) (k : Fin 1024) : d1b x0 x1 x2 x3 x4 x5 (ix2 p k) = (((In.mk (xs p) (ts p) gf gl w wd).dx1 k : ℝ) : EReal) := by
  rw [In.dx1, ← dh2_eq]
  exact pay71_at _ _ _ _ _ _ _ _ (pay6_at _ h.h2) (pay8_at _ h.h0) (pay9_at _ h.h0) (p311_at h) (p316_at h) (U3_at h) (W7_at h) (d2s_at h) p k
theorem c0_at (s : Vec Ideal S1x16x1024 .f32) {f : Fin 16 → Fin 1024 → ℝ} (hs : ∀ p k, s (ix3 0 p k) = ((f p k : ℝ) : EReal)) (p : Fin 16) (k : Fin 1024) :
    c0 x0 x1 x2 x3 x4 x5 s (ix3 0 p k)
      = ((f p k + ∑ b : Fin 16, (fun r : Fin 256 => (In.mk (xs r) (ts r) gf gl w wd).part0 k) ⟨b.val * 16 + p.val, by omega⟩ : ℝ) : EReal) := by
  refine Eq.trans (pay69_at _ _ _ _ _ _ (pay9_at _ h.h0) (p311_at h) (p316_at h) (U3_at h) (W7_at h) hs p k) (congrArg _ (congrArg _ (Finset.sum_congr rfl fun b _ => ?_)))
  simp only [In.part0, ← dh2_eq]; ring
theorem c1_at (s : Vec Ideal S1x16x1024 .f32) {f : Fin 16 → Fin 1024 → ℝ} (hs : ∀ p k, s (ix3 0 p k) = ((f p k : ℝ) : EReal)) (p : Fin 16) (k : Fin 1024) :
    c1 x0 x1 x2 x3 x4 x5 s (ix3 0 p k)
      = ((f p k + ∑ b : Fin 16, (fun r : Fin 256 => (In.mk (xs r) (ts r) gf gl w wd).part1 k) ⟨b.val * 16 + p.val, by omega⟩ : ℝ) : EReal) := by
  refine Eq.trans (pay40_at _ (pay39_at _ _ _ _ _ _ (gl_at h) (p115_at h) (p117_at h) (V3_at h) h.h1 hs) p k) (congrArg _ (congrArg _ (Finset.sum_congr rfl fun b _ => ?_)))
  simp only [In.part1, In.dy, In.er, ← x2_eq]; ring
theorem c2_at (s : Vec Ideal S1x16x1024 .f32) {f : Fin 16 → Fin 1024 → ℝ} (hs : ∀ p k, s (ix3 0 p k) = ((f p k : ℝ) : EReal)) (p : Fin 16) (k : Fin 1024) :
    c2 x0 x1 x2 x3 x4 x5 s (ix3 0 p k)
      = ((f p k + ∑ b : Fin 16, (fun r : Fin 256 => (In.mk (xs r) (ts r) gf gl w wd).part2 k) ⟨b.val * 16 + p.val, by omega⟩ : ℝ) : EReal) := by
  refine Eq.trans (pay37_at _ _ _ _ _ _ (gl_at h) (p115_at h) (p117_at h) (V3_at h) h.h1 hs p k) (congrArg _ (congrArg _ (Finset.sum_congr rfl fun b _ => ?_)))
  simp only [In.part2, In.er, ← x2_eq]

end Vals
end Cert.Pt
-- ==== Proof.Open.lean ====
/- What each grid point leaves in its output blocks and in the carried accumulators, in the names of `Point`. -/
module

public import proofs.«01_k».proof.Proof.Gen.KernelIdeal.Value
public import proofs.«01_k».proof.Proof.Point
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KOut
open Cert.KernelIdeal Cert.KernelIdeal.Gen Cert.Row Cert.Pt

section Blocks
variable (x0 x1 : Vec Ideal S256x1024 .f32) (x2 x3 : Vec Ideal S1x1024 .f32) (x4 : Vec Ideal S8x1024x704 .bf16) (x5 : Vec Ideal S4x704x1024 .bf16)

/-- The gated rows' block, from the four stores that fill it. -/
def act : Vec Ideal S4x256x704 .bf16 := View.canon [⟨Rect.unit ![3, 0, 0] ![1, 256, 704] inb_S4x256x704_S1x256x704_3_0_0, a3 x0 x2 x4⟩, ⟨Rect.unit ![2, 0, 0] ![1, 256, 704] inb_S4x256x704_S1x256x704_2_0_0, a2 x0 x2 x4⟩, ⟨Rect.unit ![1, 0, 0] ![1, 256, 704] inb_S4x256x704_S1x256x704_1_0_0, a1 x0 x2 x4⟩, ⟨Rect.unit ![0, 0, 0] ![1, 256, 704] inb_S4x256x704_S1x256x704_0_0_0, a0 x0 x2 x4⟩]
/-- The joined projection's cotangent's block, from the eight stores that fill it. -/
def dgu : Vec Ideal S8x256x704 .bf16 := View.canon [⟨Rect.unit ![7, 0, 0] ![1, 256, 704] inb_S8x256x704_S1x256x704_7_0_0, U3 x0 x1 x2 x3 x4 x5⟩, ⟨Rect.unit ![3, 0, 0] ![1, 256, 704] inb_S8x256x704_S1x256x704_3_0_0, G3 x0 x1 x2 x3 x4 x5⟩, ⟨Rect.unit ![6, 0, 0] ![1, 256, 704] inb_S8x256x704_S1x256x704_6_0_0, U2 x0 x1 x2 x3 x4 x5⟩, ⟨Rect.unit ![2, 0, 0] ![1, 256, 704] inb_S8x256x704_S1x256x704_2_0_0, G2 x0 x1 x2 x3 x4 x5⟩, ⟨Rect.unit ![5, 0, 0] ![1, 256, 704] inb_S8x256x704_S1x256x704_5_0_0, U1 x0 x1 x2 x3 x4 x5⟩, ⟨Rect.unit ![1, 0, 0] ![1, 256, 704] inb_S8x256x704_S1x256x704_1_0_0, G1 x0 x1 x2 x3 x4 x5⟩, ⟨Rect.unit ![4, 0, 0] ![1, 256, 704] inb_S8x256x704_S1x256x704_4_0_0, U0 x0 x1 x2 x3 x4 x5⟩, ⟨Rect.unit ![0, 0, 0] ![1, 256, 704] inb_S8x256x704_S1x256x704_0_0_0, G0 x0 x1 x2 x3 x4 x5⟩]
/-- The accumulators after the point, over what the point found in them. -/
def accs (s : Vec Ideal S3x16x1024 .f32) (L : List (View.Piece (Elt Ideal) S3x16x1024 .f32)) : Vec Ideal S3x16x1024 .f32 :=
  View.canon (⟨(Rect.unit ![0, 0, 0] ![1, 16, 1024] inb_S3x16x1024_S1x16x1024_0_0_0), c0 x0 x1 x2 x3 x4 x5 (View.ld s (Rect.unit ![0, 0, 0] ![1, 16, 1024] inb_S3x16x1024_S1x16x1024_0_0_0))⟩ :: ⟨(Rect.unit ![1, 0, 0] ![1, 16, 1024] inb_S3x16x1024_S1x16x1024_1_0_0), c1 x0 x1 x2 x3 x4 x5 (View.ld s (Rect.unit ![1, 0, 0] ![1, 16, 1024] inb_S3x16x1024_S1x16x1024_1_0_0))⟩ :: ⟨(Rect.unit ![2, 0, 0] ![1, 16, 1024] inb_S3x16x1024_S1x16x1024_2_0_0), c2 x0 x1 x2 x3 x4 x5 (View.ld s (Rect.unit ![2, 0, 0] ![1, 16, 1024] inb_S3x16x1024_S1x16x1024_2_0_0))⟩ :: L)
/-- The accumulators' result block, from the fill and the three rows stored over it. -/
def accOut (s : Vec Ideal S3x16x1024 .f32) : Vec Ideal S8x1024 .f32 :=
  View.canon [⟨Rect.unit ![2, 0] ![1, 1024] inb_S8x1024_S1x1024_2_0, k0_pay4 (F := Ideal) (c2 x0 x1 x2 x3 x4 x5 (View.ld s (Rect.unit ![2, 0, 0] ![1, 16, 1024] inb_S3x16x1024_S1x16x1024_2_0_0)))⟩, ⟨Rect.unit ![1, 0] ![1, 1024] inb_S8x1024_S1x1024_1_0, k0_pay3 (F := Ideal) (c1 x0 x1 x2 x3 x4 x5 (View.ld s (Rect.unit ![1, 0, 0] ![1, 16, 1024] inb_S3x16x1024_S1x16x1024_1_0_0)))⟩, ⟨Rect.unit ![0, 0] ![1, 1024] inb_S8x1024_S1x1024_0_0, k0_pay2 (F := Ideal) (c0 x0 x1 x2 x3 x4 x5 (View.ld s (Rect.unit ![0, 0, 0] ![1, 16, 1024] inb_S3x16x1024_S1x16x1024_0_0_0)))⟩, ⟨Rect.unit ![0, 0] ![8, 1024] inb_S8x1024_S8x1024_0_0, k0_pay1 (F := Ideal)⟩]
end Blocks

variable (m : (ℓ : Loc nD τ sig) → Buf (Elt Ideal) ℓ)

theorem out6_A (c : Dev nD) (t : Fin cfg0.N) (h0 : t.val % 32 = 0) (h1 : ¬t.val % 32 = 31) :
    (outsAt0 m c t.val t.isLt).1 = d1 (iblk m c 0 t) (iblk m c 1 t) (iblk m c 2 t) (iblk m c 3 t) (iblk m c 4 t) (iblk m c 5 t) := by
  rw [outsAt0_A m c t h0 h1]
  frame_open
  simp (disch := decide) only [↓ View.readCov_skip, ↓ View.readCov_cons_toLoadRect, ↓ View.readCov_fill]
  frame_out
  rfl

theorem out6_B (c : Dev nD) (t : Fin cfg0.N) (h0 : ¬t.val % 32 = 0) (h1 : ¬t.val % 32 = 31) :
    (outsAt0 m c t.val t.isLt).1 = d1 (iblk m c 0 t) (iblk m c 1 t) (iblk m c 2 t) (iblk m c 3 t) (iblk m c 4 t) (iblk m c 5 t) := by
  rw [outsAt0_B m c t h0 h1]
  frame_open
  simp (disch := decide) only [↓ View.readCov_skip, ↓ View.readCov_cons_toLoadRect, ↓ View.readCov_fill]
  frame_out
  rfl

theorem out6_C (c : Dev nD) (t : Fin cfg0.N) (h0 : ¬t.val % 32 = 0) (h1 : t.val % 32 = 31) :
    (outsAt0 m c t.val t.isLt).1 = d1 (iblk m c 0 t) (iblk m c 1 t) (iblk m c 2 t) (iblk m c 3 t) (iblk m c 4 t) (iblk m c 5 t) := by
  rw [outsAt0_C m c t h0 h1]
  frame_open
  simp (disch := decide) only [↓ View.readCov_skip, ↓ View.readCov_cons_toLoadRect, ↓ View.readCov_fill]
  frame_out
  rfl

/-- Every point leaves this in output 6's block. -/
theorem out6 (c : Dev nD) (t : Fin cfg0.N) : (outsAt0 m c t.val t.isLt).1 = d1 (iblk m c 0 t) (iblk m c 1 t) (iblk m c 2 t) (iblk m c 3 t) (iblk m c 4 t) (iblk m c 5 t) := by
  by_cases h0 : t.val % 32 = 0
  · exact out6_A m c t h0 (by omega)
  · by_cases h1 : t.val % 32 = 31
    · exact out6_C m c t h0 h1
    · exact out6_B m c t h0 h1

theorem out7_A (c : Dev nD) (t : Fin cfg0.N) (h0 : t.val % 32 = 0) (h1 : ¬t.val % 32 = 31) :
    (outsAt0 m c t.val t.isLt).2.1 = d1b (iblk m c 0 t) (iblk m c 1 t) (iblk m c 2 t) (iblk m c 3 t) (iblk m c 4 t) (iblk m c 5 t) := by
  rw [outsAt0_A m c t h0 h1]
  frame_open
  simp (disch := decide) only [↓ View.readCov_skip, ↓ View.readCov_cons_toLoadRect, ↓ View.readCov_fill]
  frame_out
  rfl

theorem out7_B (c : Dev nD) (t : Fin cfg0.N) (h0 : ¬t.val % 32 = 0) (h1 : ¬t.val % 32 = 31) :
    (outsAt0 m c t.val t.isLt).2.1 = d1b (iblk m c 0 t) (iblk m c 1 t) (iblk m c 2 t) (iblk m c 3 t) (iblk m c 4 t) (iblk m c 5 t) := by
  rw [outsAt0_B m c t h0 h1]
  frame_open
  simp (disch := decide) only [↓ View.readCov_skip, ↓ View.readCov_cons_toLoadRect, ↓ View.readCov_fill]
  frame_out
  rfl

theorem out7_C (c : Dev nD) (t : Fin cfg0.N) (h0 : ¬t.val % 32 = 0) (h1 : t.val % 32 = 31) :
    (outsAt0 m c t.val t.isLt).2.1 = d1b (iblk m c 0 t) (iblk m c 1 t) (iblk m c 2 t) (iblk m c 3 t) (iblk m c 4 t) (iblk m c 5 t) := by
  rw [outsAt0_C m c t h0 h1]
  frame_open
  simp (disch := decide) only [↓ View.readCov_skip, ↓ View.readCov_cons_toLoadRect, ↓ View.readCov_fill]
  frame_out
  rfl

/-- Every point leaves this in output 7's block. -/
theorem out7 (c : Dev nD) (t : Fin cfg0.N) : (outsAt0 m c t.val t.isLt).2.1 = d1b (iblk m c 0 t) (iblk m c 1 t) (iblk m c 2 t) (iblk m c 3 t) (iblk m c 4 t) (iblk m c 5 t) := by
  by_cases h0 : t.val % 32 = 0
  · exact out7_A m c t h0 (by omega)
  · by_cases h1 : t.val % 32 = 31
    · exact out7_C m c t h0 h1
    · exact out7_B m c t h0 h1

theorem out8_A (c : Dev nD) (t : Fin cfg0.N) (h0 : t.val % 32 = 0) (h1 : ¬t.val % 32 = 31) :
    (outsAt0 m c t.val t.isLt).2.2.1 = H (iblk m c 0 t) (iblk m c 2 t) := by
  rw [outsAt0_A m c t h0 h1]
  frame_open
  simp (disch := decide) only [↓ View.readCov_skip, ↓ View.readCov_cons_toLoadRect, ↓ View.readCov_fill]
  frame_out
  rfl

theorem out8_B (c : Dev nD) (t : Fin cfg0.N) (h0 : ¬t.val % 32 = 0) (h1 : ¬t.val % 32 = 31) :
    (outsAt0 m c t.val t.isLt).2.2.1 = H (iblk m c 0 t) (iblk m c 2 t) := by
  rw [outsAt0_B m c t h0 h1]
  frame_open
  simp (disch := decide) only [↓ View.readCov_skip, ↓ View.readCov_cons_toLoadRect, ↓ View.readCov_fill]
  frame_out
  rfl

theorem out8_C (c : Dev nD) (t : Fin cfg0.N) (h0 : ¬t.val % 32 = 0) (h1 : t.val % 32 = 31) :
    (outsAt0 m c t.val t.isLt).2.2.1 = H (iblk m c 0 t) (iblk m c 2 t) := by
  rw [outsAt0_C m c t h0 h1]
  frame_open
  simp (disch := decide) only [↓ View.readCov_skip, ↓ View.readCov_cons_toLoadRect, ↓ View.readCov_fill]
  frame_out
  rfl

/-- Every point leaves this in output 8's block. -/
theorem out8 (c : Dev nD) (t : Fin cfg0.N) : (outsAt0 m c t.val t.isLt).2.2.1 = H (iblk m c 0 t) (iblk m c 2 t) := by
  by_cases h0 : t.val % 32 = 0
  · exact out8_A m c t h0 (by omega)
  · by_cases h1 : t.val % 32 = 31
    · exact out8_C m c t h0 h1
    · exact out8_B m c t h0 h1

theorem out9_A (c : Dev nD) (t : Fin cfg0.N) (h0 : t.val % 32 = 0) (h1 : ¬t.val % 32 = 31) :
    (outsAt0 m c t.val t.isLt).2.2.2.1 = act (iblk m c 0 t) (iblk m c 2 t) (iblk m c 4 t) := by
  rw [outsAt0_A m c t h0 h1]
  frame_open
  simp (disch := decide) only [↓ View.readCov_skip, ↓ View.readCov_cons_toLoadRect, ↓ View.readCov_fill]
  frame_out
  rfl

theorem out9_B (c : Dev nD) (t : Fin cfg0.N) (h0 : ¬t.val % 32 = 0) (h1 : ¬t.val % 32 = 31) :
    (outsAt0 m c t.val t.isLt).2.2.2.1 = act (iblk m c 0 t) (iblk m c 2 t) (iblk m c 4 t) := by
  rw [outsAt0_B m c t h0 h1]
  frame_open
  simp (disch := decide) only [↓ View.readCov_skip, ↓ View.readCov_cons_toLoadRect, ↓ View.readCov_fill]
  frame_out
  rfl

theorem out9_C (c : Dev nD) (t : Fin cfg0.N) (h0 : ¬t.val % 32 = 0) (h1 : t.val % 32 = 31) :
    (outsAt0 m c t.val t.isLt).2.2.2.1 = act (iblk m c 0 t) (iblk m c 2 t) (iblk m c 4 t) := by
  rw [outsAt0_C m c t h0 h1]
  frame_open
  simp (disch := decide) only [↓ View.readCov_skip, ↓ View.readCov_cons_toLoadRect, ↓ View.readCov_fill]
  frame_out
  rfl

/-- Every point leaves this in output 9's block. -/
theorem out9 (c : Dev nD) (t : Fin cfg0.N) : (outsAt0 m c t.val t.isLt).2.2.2.1 = act (iblk m c 0 t) (iblk m c 2 t) (iblk m c 4 t) := by
  by_cases h0 : t.val % 32 = 0
  · exact out9_A m c t h0 (by omega)
  · by_cases h1 : t.val % 32 = 31
    · exact out9_C m c t h0 h1
    · exact out9_B m c t h0 h1

theorem out10_A (c : Dev nD) (t : Fin cfg0.N) (h0 : t.val % 32 = 0) (h1 : ¬t.val % 32 = 31) :
    (outsAt0 m c t.val t.isLt).2.2.2.2.1 = dgu (iblk m c 0 t) (iblk m c 1 t) (iblk m c 2 t) (iblk m c 3 t) (iblk m c 4 t) (iblk m c 5 t) := by
  rw [outsAt0_A m c t h0 h1]
  frame_open
  simp (disch := decide) only [↓ View.readCov_skip, ↓ View.readCov_cons_toLoadRect, ↓ View.readCov_fill]
  frame_out
  rfl

theorem out10_B (c : Dev nD) (t : Fin cfg0.N) (h0 : ¬t.val % 32 = 0) (h1 : ¬t.val % 32 = 31) :
    (outsAt0 m c t.val t.isLt).2.2.2.2.1 = dgu (iblk m c 0 t) (iblk m c 1 t) (iblk m c 2 t) (iblk m c 3 t) (iblk m c 4 t) (iblk m c 5 t) := by
  rw [outsAt0_B m c t h0 h1]
  frame_open
  simp (disch := decide) only [↓ View.readCov_skip, ↓ View.readCov_cons_toLoadRect, ↓ View.readCov_fill]
  frame_out
  rfl

theorem out10_C (c : Dev nD) (t : Fin cfg0.N) (h0 : ¬t.val % 32 = 0) (h1 : t.val % 32 = 31) :
    (outsAt0 m c t.val t.isLt).2.2.2.2.1 = dgu (iblk m c 0 t) (iblk m c 1 t) (iblk m c 2 t) (iblk m c 3 t) (iblk m c 4 t) (iblk m c 5 t) := by
  rw [outsAt0_C m c t h0 h1]
  frame_open
  simp (disch := decide) only [↓ View.readCov_skip, ↓ View.readCov_cons_toLoadRect, ↓ View.readCov_fill]
  frame_out
  rfl

/-- Every point leaves this in output 10's block. -/
theorem out10 (c : Dev nD) (t : Fin cfg0.N) : (outsAt0 m c t.val t.isLt).2.2.2.2.1 = dgu (iblk m c 0 t) (iblk m c 1 t) (iblk m c 2 t) (iblk m c 3 t) (iblk m c 4 t) (iblk m c 5 t) := by
  by_cases h0 : t.val % 32 = 0
  · exact out10_A m c t h0 (by omega)
  · by_cases h1 : t.val % 32 = 31
    · exact out10_C m c t h0 h1
    · exact out10_B m c t h0 h1

theorem out11_A (c : Dev nD) (t : Fin cfg0.N) (h0 : t.val % 32 = 0) (h1 : ¬t.val % 32 = 31) :
    (outsAt0 m c t.val t.isLt).2.2.2.2.2.1 = db (iblk m c 0 t) (iblk m c 1 t) (iblk m c 2 t) (iblk m c 3 t) (iblk m c 4 t) (iblk m c 5 t) := by
  rw [outsAt0_A m c t h0 h1]
  frame_open
  simp (disch := decide) only [↓ View.readCov_skip, ↓ View.readCov_cons_toLoadRect, ↓ View.readCov_fill]
  frame_out
  rfl

theorem out11_B (c : Dev nD) (t : Fin cfg0.N) (h0 : ¬t.val % 32 = 0) (h1 : ¬t.val % 32 = 31) :
    (outsAt0 m c t.val t.isLt).2.2.2.2.2.1 = db (iblk m c 0 t) (iblk m c 1 t) (iblk m c 2 t) (iblk m c 3 t) (iblk m c 4 t) (iblk m c 5 t) := by
  rw [outsAt0_B m c t h0 h1]
  frame_open
  simp (disch := decide) only [↓ View.readCov_skip, ↓ View.readCov_cons_toLoadRect, ↓ View.readCov_fill]
  frame_out
  rfl

theorem out11_C (c : Dev nD) (t : Fin cfg0.N) (h0 : ¬t.val % 32 = 0) (h1 : t.val % 32 = 31) :
    (outsAt0 m c t.val t.isLt).2.2.2.2.2.1 = db (iblk m c 0 t) (iblk m c 1 t) (iblk m c 2 t) (iblk m c 3 t) (iblk m c 4 t) (iblk m c 5 t) := by
  rw [outsAt0_C m c t h0 h1]
  frame_open
  simp (disch := decide) only [↓ View.readCov_skip, ↓ View.readCov_cons_toLoadRect, ↓ View.readCov_fill]
  frame_out
  rfl

/-- Every point leaves this in output 11's block. -/
theorem out11 (c : Dev nD) (t : Fin cfg0.N) : (outsAt0 m c t.val t.isLt).2.2.2.2.2.1 = db (iblk m c 0 t) (iblk m c 1 t) (iblk m c 2 t) (iblk m c 3 t) (iblk m c 4 t) (iblk m c 5 t) := by
  by_cases h0 : t.val % 32 = 0
  · exact out11_A m c t h0 (by omega)
  · by_cases h1 : t.val % 32 = 31
    · exact out11_C m c t h0 h1
    · exact out11_B m c t h0 h1

theorem out13_A (c : Dev nD) (t : Fin cfg0.N) (h0 : t.val % 32 = 0) (h1 : ¬t.val % 32 = 31) :
    (outsAt0 m c t.val t.isLt).2.2.2.2.2.2.2 = accs (iblk m c 0 t) (iblk m c 1 t) (iblk m c 2 t) (iblk m c 3 t) (iblk m c 4 t) (iblk m c 5 t) (k0_pay5 (F := Ideal)) [⟨Rect.unit ![0, 0, 0] ![3, 16, 1024] inb_S3x16x1024_S3x16x1024_0_0_0, k0_pay5 (F := Ideal)⟩] := by
  rw [outsAt0_A m c t h0 h1]
  frame_open
  simp (disch := decide) only [↓ View.readCov_skip, ↓ View.readCov_cons_toLoadRect, ↓ View.readCov_fill]
  frame_out
  rfl

theorem out13_B (c : Dev nD) (t : Fin cfg0.N) (h0 : ¬t.val % 32 = 0) (h1 : ¬t.val % 32 = 31) :
    (outsAt0 m c t.val t.isLt).2.2.2.2.2.2.2 = accs (iblk m c 0 t) (iblk m c 1 t) (iblk m c 2 t) (iblk m c 3 t) (iblk m c 4 t) (iblk m c 5 t) (outsAt0 m c (t.val - 1) (by have := t.isLt; omega)).2.2.2.2.2.2.2 [] := by
  rw [outsAt0_B m c t h0 h1]
  frame_open
  simp (disch := decide) only [↓ View.readCov_skip, ↓ View.readCov_cons_toLoadRect, ↓ View.readCov_fill]
  frame_out
  simp only [read_unread_whole]
  rfl

theorem out13_C (c : Dev nD) (t : Fin cfg0.N) (h0 : ¬t.val % 32 = 0) (h1 : t.val % 32 = 31) :
    (outsAt0 m c t.val t.isLt).2.2.2.2.2.2.2 = accs (iblk m c 0 t) (iblk m c 1 t) (iblk m c 2 t) (iblk m c 3 t) (iblk m c 4 t) (iblk m c 5 t) (outsAt0 m c (t.val - 1) (by have := t.isLt; omega)).2.2.2.2.2.2.2 [] := by
  rw [outsAt0_C m c t h0 h1]
  frame_open
  simp (disch := decide) only [↓ View.readCov_skip, ↓ View.readCov_cons_toLoadRect, ↓ View.readCov_fill]
  frame_out
  simp only [read_unread_whole]
  rfl

theorem out12_C (c : Dev nD) (t : Fin cfg0.N) (h0 : ¬t.val % 32 = 0) (h1 : t.val % 32 = 31) :
    (outsAt0 m c t.val t.isLt).2.2.2.2.2.2.1 = accOut (iblk m c 0 t) (iblk m c 1 t) (iblk m c 2 t) (iblk m c 3 t) (iblk m c 4 t) (iblk m c 5 t) (outsAt0 m c (t.val - 1) (by have := t.isLt; omega)).2.2.2.2.2.2.2 := by
  rw [outsAt0_C m c t h0 h1]
  frame_open
  simp (disch := decide) only [↓ View.readCov_skip, ↓ View.readCov_cons_toLoadRect, ↓ View.readCov_fill]
  frame_out
  simp only [read_unread_whole]
  rfl

end Cert.KOut
-- ==== Proof.Tile.lean ====
/- The blocks filled by several stores, read at an entry. -/
module

public import proofs.«01_k».proof.Proof.Open
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KTile
open Cert.KernelIdeal Cert.KernelIdeal.Gen Cert.Row Cert.Pt Cert.KRow Cert.KOut

/-- Under a store of a box, an entry outside the box is as the stores before it left it. -/
theorem skip {S : Shape} {e : EltTy} {off size : Fin S.rank → ℕ} (inb : ∀ a, off a + size a ≤ S.size a)
    (w : (Rect.unit off size inb).shape.Idx → Elt Ideal e) (L : List (View.Piece (Elt Ideal) S e)) (y : S.Idx) (a : Fin S.rank)
    (hy : (y a).val < off a ∨ off a + size a ≤ (y a).val) : View.canon (⟨Rect.unit off size inb, w⟩ :: L) y = View.canon L y :=
  View.canon_cons_of_not_mem _ L (fun hm => by have := (Rect.mem_set_unit (inb := inb)).mp hm a; omega)

/-- Under a store of a box, an entry of the box is the stored one. -/
theorem hit {S : Shape} {e : EltTy} {off size : Fin S.rank → ℕ} (inb : ∀ a, off a + size a ≤ S.size a)
    (w : (Rect.unit off size inb).shape.Idx → Elt Ideal e) (L : List (View.Piece (Elt Ideal) S e)) (y : S.Idx) (x : (Rect.unit off size inb).shape.Idx)
    (hy : ∀ a, (y a).val = off a + 1 * (x a).val) : View.canon (⟨Rect.unit off size inb, w⟩ :: L) y = w x := by
  have e : y = (Rect.unit off size inb).emb x := by funext a; exact Fin.ext (hy a)
  rw [e, View.canon_cons_emb]

variable {xs ts : Fin 256 → Fin 1024 → ℝ} {gf gl : Fin 1024 → ℝ} {w : Fin 1024 → Fin 5632 → ℝ} {wd : Fin 2816 → Fin 1024 → ℝ}
  {x0 x1 : Vec Ideal S256x1024 .f32} {x2 x3 : Vec Ideal S1x1024 .f32} {x4 : Vec Ideal S8x1024x704 .bf16} {x5 : Vec Ideal S4x704x1024 .bf16}
  (h : Blk xs ts gf gl w wd x0 x1 x2 x3 x4 x5)
include h

theorem act_at (b : Fin 4) (p : Fin 256) (j : Fin 704) : act x0 x2 x4 (ix3 b p j) = (((In.mk (xs p) (ts p) gf gl w wd).act (col4 b j) : ℝ) : EReal) := by
  unfold act
  canon_tiles x hx
  · have e : x = ix3 0 p j := by
      funext a; apply Fin.ext
      match a with
      | ⟨0, _⟩ => show (x 0).val = 0; omega
      | ⟨1, _⟩ => exact hx1.symm
      | ⟨2, _⟩ => exact hx2.symm
    have eb : b = 3 := by apply Fin.ext; show b.val = 3; have h0 : b.val = 3 + (x 0).val := hx0; omega
    subst eb; rw [e]; exact a3_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 2 := by apply Fin.ext; show b.val = 2; have h0 : b.val = 2 + (x 0).val := hx0; omega
    subst eb; rw [e]; exact a2_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 1 := by apply Fin.ext; show b.val = 1; have h0 : b.val = 1 + (x 0).val := hx0; omega
    subst eb; rw [e]; exact a1_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 0 := by apply Fin.ext; show b.val = 0; have h0 : b.val = 0 + (x 0).val := hx0.trans (Nat.zero_add _).symm; omega
    subst eb; rw [e]; exact a0_at h p j

theorem dgu_at (b : Fin 8) (p : Fin 256) (j : Fin 704) : dgu x0 x1 x2 x3 x4 x5 (ix3 b p j) = (((In.mk (xs p) (ts p) gf gl w wd).dgu (col8 b j) : ℝ) : EReal) := by
  unfold dgu
  canon_tiles x hx
  · have e : x = ix3 0 p j := by
      funext a; apply Fin.ext
      match a with
      | ⟨0, _⟩ => show (x 0).val = 0; omega
      | ⟨1, _⟩ => exact hx1.symm
      | ⟨2, _⟩ => exact hx2.symm
    have eb : b = 7 := by apply Fin.ext; show b.val = 7; have h0 : b.val = 7 + (x 0).val := hx0; omega
    subst eb; rw [e]; exact U3_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 3 := by apply Fin.ext; show b.val = 3; have h0 : b.val = 3 + (x 0).val := hx0; omega
    subst eb; rw [e]; exact G3_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 6 := by apply Fin.ext; show b.val = 6; have h0 : b.val = 6 + (x 0).val := hx0; omega
    subst eb; rw [e]; exact U2_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 2 := by apply Fin.ext; show b.val = 2; have h0 : b.val = 2 + (x 0).val := hx0; omega
    subst eb; rw [e]; exact G2_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 5 := by apply Fin.ext; show b.val = 5; have h0 : b.val = 5 + (x 0).val := hx0; omega
    subst eb; rw [e]; exact U1_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 1 := by apply Fin.ext; show b.val = 1; have h0 : b.val = 1 + (x 0).val := hx0; omega
    subst eb; rw [e]; exact G1_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 4 := by apply Fin.ext; show b.val = 4; have h0 : b.val = 4 + (x 0).val := hx0; omega
    subst eb; rw [e]; exact U0_at h p j
  · have e : x = ix3 0 p j := by
      funext a; apply Fin.ext
      match a with
      | ⟨0, _⟩ => show (x 0).val = 0; omega
      | ⟨1, _⟩ => exact hx1.symm
      | ⟨2, _⟩ => exact hx2.symm
    have eb : b = 0 := by apply Fin.ext; show b.val = 0; have h0 : b.val = 0 + (x 0).val := hx0.trans (Nat.zero_add _).symm; omega
    subst eb; rw [e]; exact G0_at h p j

theorem accs0_at (s : Vec Ideal S3x16x1024 .f32) (L : List (View.Piece (Elt Ideal) S3x16x1024 .f32)) {f : Fin 16 → Fin 1024 → ℝ}
    (hs : ∀ p k, s (ix3 0 p k) = ((f p k : ℝ) : EReal)) (p : Fin 16) (k : Fin 1024) :
    accs x0 x1 x2 x3 x4 x5 s L (ix3 0 p k)
      = ((f p k + ∑ b : Fin 16, (fun r : Fin 256 => (In.mk (xs r) (ts r) gf gl w wd).part0 k) ⟨b.val * 16 + p.val, by omega⟩ : ℝ) : EReal) := by
  unfold accs
  refine (hit _ _ _ _ (ix3 0 p k) (fun a => match a with
    | ⟨0, _⟩ => rfl
    | ⟨1, _⟩ => by show p.val = 0 + 1 * p.val; omega
    | ⟨2, _⟩ => by show k.val = 0 + 1 * k.val; omega)).trans ?_
  refine c0_at h _ (fun p k => ?_) p k
  rw [← hs p k]
  show s _ = s _
  refine congrArg s ?_
  funext a; apply Fin.ext
  match a with
  | ⟨0, _⟩ => rfl
  | ⟨1, _⟩ => show 0 + 1 * p.val = p.val; omega
  | ⟨2, _⟩ => show 0 + 1 * k.val = k.val; omega

theorem accs1_at (s : Vec Ideal S3x16x1024 .f32) (L : List (View.Piece (Elt Ideal) S3x16x1024 .f32)) {f : Fin 16 → Fin 1024 → ℝ}
    (hs : ∀ p k, s (ix3 1 p k) = ((f p k : ℝ) : EReal)) (p : Fin 16) (k : Fin 1024) :
    accs x0 x1 x2 x3 x4 x5 s L (ix3 1 p k)
      = ((f p k + ∑ b : Fin 16, (fun r : Fin 256 => (In.mk (xs r) (ts r) gf gl w wd).part1 k) ⟨b.val * 16 + p.val, by omega⟩ : ℝ) : EReal) := by
  unfold accs
  refine (skip _ _ _ _ (0 : Fin 3) (Or.inr (show 0 + 1 ≤ 1 by decide))).trans ?_
  refine (hit _ _ _ _ (ix3 0 p k) (fun a => match a with
    | ⟨0, _⟩ => rfl
    | ⟨1, _⟩ => by show p.val = 0 + 1 * p.val; omega
    | ⟨2, _⟩ => by show k.val = 0 + 1 * k.val; omega)).trans ?_
  refine c1_at h _ (fun p k => ?_) p k
  rw [← hs p k]
  show s _ = s _
  refine congrArg s ?_
  funext a; apply Fin.ext
  match a with
  | ⟨0, _⟩ => rfl
  | ⟨1, _⟩ => show 0 + 1 * p.val = p.val; omega
  | ⟨2, _⟩ => show 0 + 1 * k.val = k.val; omega

theorem accs2_at (s : Vec Ideal S3x16x1024 .f32) (L : List (View.Piece (Elt Ideal) S3x16x1024 .f32)) {f : Fin 16 → Fin 1024 → ℝ}
    (hs : ∀ p k, s (ix3 2 p k) = ((f p k : ℝ) : EReal)) (p : Fin 16) (k : Fin 1024) :
    accs x0 x1 x2 x3 x4 x5 s L (ix3 2 p k)
      = ((f p k + ∑ b : Fin 16, (fun r : Fin 256 => (In.mk (xs r) (ts r) gf gl w wd).part2 k) ⟨b.val * 16 + p.val, by omega⟩ : ℝ) : EReal) := by
  unfold accs
  refine (skip _ _ _ _ (0 : Fin 3) (Or.inr (show 0 + 1 ≤ 2 by decide))).trans ?_
  refine (skip _ _ _ _ (0 : Fin 3) (Or.inr (show 1 + 1 ≤ 2 by decide))).trans ?_
  refine (hit _ _ _ _ (ix3 0 p k) (fun a => match a with
    | ⟨0, _⟩ => rfl
    | ⟨1, _⟩ => by show p.val = 0 + 1 * p.val; omega
    | ⟨2, _⟩ => by show k.val = 0 + 1 * k.val; omega)).trans ?_
  refine c2_at h _ (fun p k => ?_) p k
  rw [← hs p k]
  show s _ = s _
  refine congrArg s ?_
  funext a; apply Fin.ext
  match a with
  | ⟨0, _⟩ => rfl
  | ⟨1, _⟩ => show 0 + 1 * p.val = p.val; omega
  | ⟨2, _⟩ => show 0 + 1 * k.val = k.val; omega

theorem accOut0_at (s : Vec Ideal S3x16x1024 .f32) {f : Fin 16 → Fin 1024 → ℝ}
    (hs : ∀ p k, s (ix3 0 p k) = ((f p k : ℝ) : EReal)) (k : Fin 1024) :
    accOut x0 x1 x2 x3 x4 x5 s (ix2 0 k)
      = ((∑ p : Fin 16, (f p k + ∑ b : Fin 16, (fun r : Fin 256 => (In.mk (xs r) (ts r) gf gl w wd).part0 k) ⟨b.val * 16 + p.val, by omega⟩) : ℝ) : EReal) := by
  unfold accOut
  refine (skip _ _ _ _ (0 : Fin 2) (Or.inl (show 0 < 2 by decide))).trans ?_
  refine (skip _ _ _ _ (0 : Fin 2) (Or.inl (show 0 < 1 by decide))).trans ?_
  refine (hit _ _ _ _ (ix2 0 k) (fun a => match a with
    | ⟨0, _⟩ => rfl
    | ⟨1, _⟩ => by show k.val = 0 + 1 * k.val; omega)).trans ?_
  refine pay2_at _ (X0 := fun p k => f p k + ∑ b : Fin 16, (fun r : Fin 256 => (In.mk (xs r) (ts r) gf gl w wd).part0 k) ⟨b.val * 16 + p.val, by omega⟩) (fun p k => ?_) k
  refine c0_at h _ (fun p k => ?_) p k
  rw [← hs p k]
  show s _ = s _
  refine congrArg s ?_
  funext a; apply Fin.ext
  match a with
  | ⟨0, _⟩ => rfl
  | ⟨1, _⟩ => show 0 + 1 * p.val = p.val; omega
  | ⟨2, _⟩ => show 0 + 1 * k.val = k.val; omega

theorem accOut1_at (s : Vec Ideal S3x16x1024 .f32) {f : Fin 16 → Fin 1024 → ℝ}
    (hs : ∀ p k, s (ix3 1 p k) = ((f p k : ℝ) : EReal)) (k : Fin 1024) :
    accOut x0 x1 x2 x3 x4 x5 s (ix2 1 k)
      = ((∑ p : Fin 16, (f p k + ∑ b : Fin 16, (fun r : Fin 256 => (In.mk (xs r) (ts r) gf gl w wd).part1 k) ⟨b.val * 16 + p.val, by omega⟩) : ℝ) : EReal) := by
  unfold accOut
  refine (skip _ _ _ _ (0 : Fin 2) (Or.inl (show 1 < 2 by decide))).trans ?_
  refine (hit _ _ _ _ (ix2 0 k) (fun a => match a with
    | ⟨0, _⟩ => rfl
    | ⟨1, _⟩ => by show k.val = 0 + 1 * k.val; omega)).trans ?_
  refine pay3_at _ (X0 := fun p k => f p k + ∑ b : Fin 16, (fun r : Fin 256 => (In.mk (xs r) (ts r) gf gl w wd).part1 k) ⟨b.val * 16 + p.val, by omega⟩) (fun p k => ?_) k
  refine c1_at h _ (fun p k => ?_) p k
  rw [← hs p k]
  show s _ = s _
  refine congrArg s ?_
  funext a; apply Fin.ext
  match a with
  | ⟨0, _⟩ => rfl
  | ⟨1, _⟩ => show 0 + 1 * p.val = p.val; omega
  | ⟨2, _⟩ => show 0 + 1 * k.val = k.val; omega

theorem accOut2_at (s : Vec Ideal S3x16x1024 .f32) {f : Fin 16 → Fin 1024 → ℝ}
    (hs : ∀ p k, s (ix3 2 p k) = ((f p k : ℝ) : EReal)) (k : Fin 1024) :
    accOut x0 x1 x2 x3 x4 x5 s (ix2 2 k)
      = ((∑ p : Fin 16, (f p k + ∑ b : Fin 16, (fun r : Fin 256 => (In.mk (xs r) (ts r) gf gl w wd).part2 k) ⟨b.val * 16 + p.val, by omega⟩) : ℝ) : EReal) := by
  unfold accOut
  refine (hit _ _ _ _ (ix2 0 k) (fun a => match a with
    | ⟨0, _⟩ => rfl
    | ⟨1, _⟩ => by show k.val = 0 + 1 * k.val; omega)).trans ?_
  refine pay4_at _ (X0 := fun p k => f p k + ∑ b : Fin 16, (fun r : Fin 256 => (In.mk (xs r) (ts r) gf gl w wd).part2 k) ⟨b.val * 16 + p.val, by omega⟩) (fun p k => ?_) k
  refine c2_at h _ (fun p k => ?_) p k
  rw [← hs p k]
  show s _ = s _
  refine congrArg s ?_
  funext a; apply Fin.ext
  match a with
  | ⟨0, _⟩ => rfl
  | ⟨1, _⟩ => show 0 + 1 * p.val = p.val; omega
  | ⟨2, _⟩ => show 0 + 1 * k.val = k.val; omega

omit h in
theorem accOutz_at (s : Vec Ideal S3x16x1024 .f32) (r : Fin 8) (hr : 3 ≤ r.val) (k : Fin 1024) :
    accOut x0 x1 x2 x3 x4 x5 s (ix2 r k) = ((0 : ℝ) : EReal) := by
  unfold accOut
  refine (skip _ _ _ _ (0 : Fin 2) (Or.inr (show 2 + 1 ≤ r.val by omega))).trans ?_
  refine (skip _ _ _ _ (0 : Fin 2) (Or.inr (show 1 + 1 ≤ r.val by omega))).trans ?_
  refine (skip _ _ _ _ (0 : Fin 2) (Or.inr (show 0 + 1 ≤ r.val by omega))).trans ?_
  rw [View.canon_cons_unit_lit' inb_S8x1024_S8x1024_0_0 _ _ (by decide)]
  exact pay1_at r k

end Cert.KTile
-- ==== Proof.Blocks.lean ====
module

public import proofs.«01_k».proof.Proof.Gen.KernelIdeal.Value
public import proofs.«01_k».proof.Proof.Point

@[expose] public section

set_option maxRecDepth 16384

noncomputable section

open Idealize.ShloMosaic Idealize.ShloMosaic.TcCoe Idealize.SL.Sem
open Idealize.ShloMosaic.Pipeline (Dat)

namespace Cert.KBlk
open Cert.KernelIdeal Cert.KernelIdeal.Gen Cert.Row Cert.Pt

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0, 0] ∧ t.val < 32 :=
  (by decide +kernel : ∀ t : Fin grid0.N, _)

theorem b0 (c : Dev nD) (t : Fin cfg0.N) (p : Fin 256) (k : Fin 1024) :
    iblk m c 0 t (ix2 p k) = m ((c : Thread nD τ).loc main_arg0) (ix2 ⟨t.val * 256 + p.val, by have := (idx t).2.2.2.2.2.2; omega⟩ k) := by
  blk_ext [iblk, V, idx t]
theorem b1 (c : Dev nD) (t : Fin cfg0.N) (p : Fin 256) (k : Fin 1024) :
    iblk m c 1 t (ix2 p k) = m ((c : Thread nD τ).loc main_arg1) (ix2 ⟨t.val * 256 + p.val, by have := (idx t).2.2.2.2.2.2; omega⟩ k) := by
  blk_ext [iblk, V, idx t]
theorem b2 (c : Dev nD) (t : Fin cfg0.N) (k : Fin 1024) :
    iblk m c 2 t (ix2 0 k) = m ((c : Thread nD τ).loc main_arg2) (ix1 k) := by
  blk_simp [iblk]
  entry_read
  pointwise
  blk_ext [idx t]
theorem b3 (c : Dev nD) (t : Fin cfg0.N) (k : Fin 1024) :
    iblk m c 3 t (ix2 0 k) = m ((c : Thread nD τ).loc main_arg3) (ix1 k) := by
  blk_point [iblk, V, idx t]
theorem b4 (c : Dev nD) (t : Fin cfg0.N) (b : Fin 8) (k : Fin 1024) (j : Fin 704) :
    iblk m c 4 t (ix3 b k j) = m ((c : Thread nD τ).loc main_arg4) (ix2 k (col8 b j)) := by
  blk_simp [iblk]
  entry_read
  pointwise
  blk_ext [idx t]
  rfl
theorem b5 (c : Dev nD) (t : Fin cfg0.N) (b : Fin 4) (j : Fin 704) (k : Fin 1024) :
    iblk m c 5 t (ix3 b j k) = m ((c : Thread nD τ).loc main_arg5) (ix2 (col4 b j) k) := by
  blk_simp [iblk]
  entry_read
  pointwise
  blk_ext [idx t]
  rfl

end Cert.KBlk
-- ==== Proof.Final.lean ====
/- What the arrays of the idealized kernel end holding, entry by entry, over real arguments. -/
module

public import proofs.«01_k».proof.Proof.Tile
public import proofs.«01_k».proof.Proof.Blocks

@[expose] public section

set_option maxRecDepth 16384

noncomputable section

open Idealize.ShloMosaic Idealize.ShloMosaic.TcCoe Idealize.SL.Sem
open Idealize.ShloMosaic.Pipeline (Dat)

namespace Cert.KFin
open Cert.KernelIdeal Cert.KernelIdeal.Gen Cert.Row Cert.Pt Cert.KOut Cert.KTile

variable (m : (ℓ : Loc nD τ sig) → Buf (Elt Ideal) ℓ)

/-- Device `c`'s arguments hold the real arrays `A`. -/
structure Has (A : Arr) (c : Dev nD) : Prop where
  h0 : ∀ i k, m ((c : Thread nD τ).loc main_arg0) (ix2 i k) = ((A.xs i k : ℝ) : EReal)
  h1 : ∀ i k, m ((c : Thread nD τ).loc main_arg1) (ix2 i k) = ((A.ts i k : ℝ) : EReal)
  h2 : ∀ k, m ((c : Thread nD τ).loc main_arg2) (ix1 k) = ((A.gf k : ℝ) : EReal)
  h3 : ∀ k, m ((c : Thread nD τ).loc main_arg3) (ix1 k) = ((A.gl k : ℝ) : EReal)
  h4 : ∀ k j, m ((c : Thread nD τ).loc main_arg4) (ix2 k j) = ((A.w k j : ℝ) : EReal)
  h5 : ∀ j k, m ((c : Thread nD τ).loc main_arg5) (ix2 j k) = ((A.wd j k : ℝ) : EReal)

theorem lt32 (t : Fin cfg0.N) : t.val < 32 := lt_of_lt_of_eq t.isLt N_0

variable {m} {A : Arr} {c : Dev nD} (H : Has m A c)
include H

/-- The blocks a point reads hold that point's rows, and the weights. -/
theorem blk (t : Fin cfg0.N) : Blk (fun p k => A.xs ⟨t.val * 256 + p.val, by have := lt32 t; omega⟩ k)
    (fun p k => A.ts ⟨t.val * 256 + p.val, by have := lt32 t; omega⟩ k) A.gf A.gl A.w A.wd
    (iblk m c 0 t) (iblk m c 1 t) (iblk m c 2 t) (iblk m c 3 t) (iblk m c 4 t) (iblk m c 5 t) where
  h0 p k := (KBlk.b0 m c t p k).trans (H.h0 _ _)
  h1 p k := (KBlk.b1 m c t p k).trans (H.h1 _ _)
  h2 k := (KBlk.b2 m c t k).trans (H.h2 _)
  h3 k := (KBlk.b3 m c t k).trans (H.h3 _)
  h4 b k j := (KBlk.b4 m c t b k j).trans (H.h4 _ _)
  h5 b j k := (KBlk.b5 m c t b j k).trans (H.h5 _ _)

omit H

/-- A row's contribution, by its number. -/
def rowN (g : Fin 8192 → ℝ) (n : ℕ) : ℝ := if h : n < 8192 then g ⟨n, h⟩ else 0

/-- What one accumulator row holds after the first `n` points. -/
def accSum (g : Fin 8192 → ℝ) (n : ℕ) (p : Fin 16) : ℝ := ∑ t ∈ Finset.range n, ∑ b : Fin 16, rowN g (t * 256 + (b.val * 16 + p.val))

theorem range_mul_sum (f : ℕ → ℝ) (a b : ℕ) : ∑ i ∈ Finset.range (a * b), f i = ∑ q ∈ Finset.range a, ∑ r ∈ Finset.range b, f (q * b + r) := by
  induction a with
  | zero => simp
  | succ a ih => rw [Nat.succ_mul, Finset.sum_range_add, ih, Finset.sum_range_succ]

/-- The sixteen rows of the whole accumulation are the sum over all the rows. -/
theorem accSum_all (g : Fin 8192 → ℝ) : ∑ p : Fin 16, accSum g 32 p = ∑ i, g i := by
  have e : ∑ i, g i = ∑ i ∈ Finset.range (32 * 256), rowN g i := by
    rw [Finset.sum_range]
    exact Finset.sum_congr rfl fun i _ => by rw [rowN, dif_pos i.isLt]
  rw [e, range_mul_sum]
  unfold accSum
  rw [Finset.sum_comm]
  refine Finset.sum_congr rfl fun t _ => ?_
  rw [Finset.sum_comm, show (256 : ℕ) = 16 * 16 from rfl, range_mul_sum, Finset.sum_range]
  refine Finset.sum_congr rfl fun b _ => ?_
  rw [Finset.sum_range]

include H

theorem step0 (n : ℕ) (hn : n < 32) (p : Fin 16) (k : Fin 1024) :
    accSum (fun r => (A.row r).part0 k) n p + ∑ b : Fin 16, (fun r : Fin 256 => (In.mk (A.xs ⟨n * 256 + r.val, by omega⟩) (A.ts ⟨n * 256 + r.val, by omega⟩) A.gf A.gl A.w A.wd).part0 k) ⟨b.val * 16 + p.val, by omega⟩
      = accSum (fun r => (A.row r).part0 k) (n + 1) p := by
  rw [accSum, accSum, Finset.sum_range_succ]
  refine congrArg _ (Finset.sum_congr rfl fun b _ => ?_)
  rw [rowN, dif_pos (by omega)]
  rfl

theorem acc0_at : ∀ (n : ℕ) (hn : n < cfg0.N) (p : Fin 16) (k : Fin 1024),
    (outsAt0 m c n hn).2.2.2.2.2.2.2 (ix3 0 p k) = ((accSum (fun r => (A.row r).part0 k) (n + 1) p : ℝ) : EReal)
  | 0, hn, p, k => by
      have e := out13_A m c ⟨0, hn⟩ rfl (show ¬(0 % 32 = 31) by decide)
      refine (congrFun e _).trans ((accs0_at (f := fun p k => accSum (fun r => (A.row r).part0 k) 0 p) (blk H ⟨0, hn⟩) _ _ (fun p k => ?_) p k).trans (congrArg _ (step0 H 0 (by decide) p k)))
      exact KRow.pay5_at 0 p k
  | n + 1, hn, p, k => by
      have hN : n + 1 < 32 := lt_of_lt_of_eq hn N_0
      have ih := acc0_at n (by omega)
      by_cases h1 : n + 1 = 31
      · have e := out13_C m c ⟨n + 1, hn⟩ (show ¬((n + 1) % 32 = 0) by omega) (show (n + 1) % 32 = 31 by omega)
        exact (congrFun e _).trans ((accs0_at (f := fun p k => accSum (fun r => (A.row r).part0 k) (n + 1) p) (blk H ⟨n + 1, hn⟩) _ _ ih p k).trans (congrArg _ (step0 H (n + 1) hN p k)))
      · have e := out13_B m c ⟨n + 1, hn⟩ (show ¬((n + 1) % 32 = 0) by omega) (show ¬((n + 1) % 32 = 31) by omega)
        exact (congrFun e _).trans ((accs0_at (f := fun p k => accSum (fun r => (A.row r).part0 k) (n + 1) p) (blk H ⟨n + 1, hn⟩) _ _ ih p k).trans (congrArg _ (step0 H (n + 1) hN p k)))

theorem step1 (n : ℕ) (hn : n < 32) (p : Fin 16) (k : Fin 1024) :
    accSum (fun r => (A.row r).part1 k) n p + ∑ b : Fin 16, (fun r : Fin 256 => (In.mk (A.xs ⟨n * 256 + r.val, by omega⟩) (A.ts ⟨n * 256 + r.val, by omega⟩) A.gf A.gl A.w A.wd).part1 k) ⟨b.val * 16 + p.val, by omega⟩
      = accSum (fun r => (A.row r).part1 k) (n + 1) p := by
  rw [accSum, accSum, Finset.sum_range_succ]
  refine congrArg _ (Finset.sum_congr rfl fun b _ => ?_)
  rw [rowN, dif_pos (by omega)]
  rfl

theorem acc1_at : ∀ (n : ℕ) (hn : n < cfg0.N) (p : Fin 16) (k : Fin 1024),
    (outsAt0 m c n hn).2.2.2.2.2.2.2 (ix3 1 p k) = ((accSum (fun r => (A.row r).part1 k) (n + 1) p : ℝ) : EReal)
  | 0, hn, p, k => by
      have e := out13_A m c ⟨0, hn⟩ rfl (show ¬(0 % 32 = 31) by decide)
      refine (congrFun e _).trans ((accs1_at (f := fun p k => accSum (fun r => (A.row r).part1 k) 0 p) (blk H ⟨0, hn⟩) _ _ (fun p k => ?_) p k).trans (congrArg _ (step1 H 0 (by decide) p k)))
      exact KRow.pay5_at 1 p k
  | n + 1, hn, p, k => by
      have hN : n + 1 < 32 := lt_of_lt_of_eq hn N_0
      have ih := acc1_at n (by omega)
      by_cases h1 : n + 1 = 31
      · have e := out13_C m c ⟨n + 1, hn⟩ (show ¬((n + 1) % 32 = 0) by omega) (show (n + 1) % 32 = 31 by omega)
        exact (congrFun e _).trans ((accs1_at (f := fun p k => accSum (fun r => (A.row r).part1 k) (n + 1) p) (blk H ⟨n + 1, hn⟩) _ _ ih p k).trans (congrArg _ (step1 H (n + 1) hN p k)))
      · have e := out13_B m c ⟨n + 1, hn⟩ (show ¬((n + 1) % 32 = 0) by omega) (show ¬((n + 1) % 32 = 31) by omega)
        exact (congrFun e _).trans ((accs1_at (f := fun p k => accSum (fun r => (A.row r).part1 k) (n + 1) p) (blk H ⟨n + 1, hn⟩) _ _ ih p k).trans (congrArg _ (step1 H (n + 1) hN p k)))

theorem step2 (n : ℕ) (hn : n < 32) (p : Fin 16) (k : Fin 1024) :
    accSum (fun r => (A.row r).part2 k) n p + ∑ b : Fin 16, (fun r : Fin 256 => (In.mk (A.xs ⟨n * 256 + r.val, by omega⟩) (A.ts ⟨n * 256 + r.val, by omega⟩) A.gf A.gl A.w A.wd).part2 k) ⟨b.val * 16 + p.val, by omega⟩
      = accSum (fun r => (A.row r).part2 k) (n + 1) p := by
  rw [accSum, accSum, Finset.sum_range_succ]
  refine congrArg _ (Finset.sum_congr rfl fun b _ => ?_)
  rw [rowN, dif_pos (by omega)]
  rfl

theorem acc2_at : ∀ (n : ℕ) (hn : n < cfg0.N) (p : Fin 16) (k : Fin 1024),
    (outsAt0 m c n hn).2.2.2.2.2.2.2 (ix3 2 p k) = ((accSum (fun r => (A.row r).part2 k) (n + 1) p : ℝ) : EReal)
  | 0, hn, p, k => by
      have e := out13_A m c ⟨0, hn⟩ rfl (show ¬(0 % 32 = 31) by decide)
      refine (congrFun e _).trans ((accs2_at (f := fun p k => accSum (fun r => (A.row r).part2 k) 0 p) (blk H ⟨0, hn⟩) _ _ (fun p k => ?_) p k).trans (congrArg _ (step2 H 0 (by decide) p k)))
      exact KRow.pay5_at 2 p k
  | n + 1, hn, p, k => by
      have hN : n + 1 < 32 := lt_of_lt_of_eq hn N_0
      have ih := acc2_at n (by omega)
      by_cases h1 : n + 1 = 31
      · have e := out13_C m c ⟨n + 1, hn⟩ (show ¬((n + 1) % 32 = 0) by omega) (show (n + 1) % 32 = 31 by omega)
        exact (congrFun e _).trans ((accs2_at (f := fun p k => accSum (fun r => (A.row r).part2 k) (n + 1) p) (blk H ⟨n + 1, hn⟩) _ _ ih p k).trans (congrArg _ (step2 H (n + 1) hN p k)))
      · have e := out13_B m c ⟨n + 1, hn⟩ (show ¬((n + 1) % 32 = 0) by omega) (show ¬((n + 1) % 32 = 31) by omega)
        exact (congrFun e _).trans ((accs2_at (f := fun p k => accSum (fun r => (A.row r).part2 k) (n + 1) p) (blk H ⟨n + 1, hn⟩) _ _ ih p k).trans (congrArg _ (step2 H (n + 1) hN p k)))

theorem G6_at (i : Fin 8192) (k : Fin 1024) : Value.G6 m c (ix2 i k) = (((A.row i).dx1 k : ℝ) : EReal) := by
  have ht : i.val / 256 < 32 := by omega
  have hp : Value.pt6Of (ix2 i k) = i.val / 256 := by show 1 * (i.val / 256 - 0) + 1 * (k.val / 1024 - 0) = _; omega
  have hl : Value.loc6Of (ix2 i k) = ix2 ⟨i.val % 256, Nat.mod_lt _ (by decide)⟩ k := by
    funext a; apply Fin.ext
    match a with
    | ⟨0, _⟩ => rfl
    | ⟨1, _⟩ => show k.val % 1024 = k.val; omega
  have hN : i.val / 256 < cfg0.N := lt_of_lt_of_eq ht N_0.symm
  unfold Value.G6
  rw [dif_pos (by rw [hp]; exact hN), hl, Value.fold0_congr m c _ _ _ (by omega) hp, ← Value.outsAt0_sweep m c _ hN]
  refine (congrFun (out6 m c ⟨i.val / 256, hN⟩) _).trans ((d1_at (blk H ⟨i.val / 256, hN⟩) _ k).trans (congrArg _ ?_))
  have e : (⟨i.val / 256 * 256 + i.val % 256, by omega⟩ : Fin 8192) = i := Fin.ext (Nat.div_add_mod' i.val 256)
  show (A.row ⟨i.val / 256 * 256 + i.val % 256, _⟩).dx1 k = _
  rw [e]

theorem G7_at (i : Fin 8192) (k : Fin 1024) : Value.G7 m c (ix2 i k) = (((A.row i).dx1 k : ℝ) : EReal) := by
  have ht : i.val / 256 < 32 := by omega
  have hp : Value.pt7Of (ix2 i k) = i.val / 256 := by show 1 * (i.val / 256 - 0) + 1 * (k.val / 1024 - 0) = _; omega
  have hl : Value.loc7Of (ix2 i k) = ix2 ⟨i.val % 256, Nat.mod_lt _ (by decide)⟩ k := by
    funext a; apply Fin.ext
    match a with
    | ⟨0, _⟩ => rfl
    | ⟨1, _⟩ => show k.val % 1024 = k.val; omega
  have hN : i.val / 256 < cfg0.N := lt_of_lt_of_eq ht N_0.symm
  unfold Value.G7
  rw [dif_pos (by rw [hp]; exact hN), hl, Value.fold0_congr m c _ _ _ (by omega) hp, ← Value.outsAt0_sweep m c _ hN]
  refine (congrFun (out7 m c ⟨i.val / 256, hN⟩) _).trans ((d1b_at (blk H ⟨i.val / 256, hN⟩) _ k).trans (congrArg _ ?_))
  have e : (⟨i.val / 256 * 256 + i.val % 256, by omega⟩ : Fin 8192) = i := Fin.ext (Nat.div_add_mod' i.val 256)
  show (A.row ⟨i.val / 256 * 256 + i.val % 256, _⟩).dx1 k = _
  rw [e]

theorem G8_at (i : Fin 8192) (k : Fin 1024) : Value.G8 m c (ix2 i k) = (((A.row i).h2 k : ℝ) : EReal) := by
  have ht : i.val / 256 < 32 := by omega
  have hp : Value.pt8Of (ix2 i k) = i.val / 256 := by show 1 * (i.val / 256 - 0) + 1 * (k.val / 1024 - 0) = _; omega
  have hl : Value.loc8Of (ix2 i k) = ix2 ⟨i.val % 256, Nat.mod_lt _ (by decide)⟩ k := by
    funext a; apply Fin.ext
    match a with
    | ⟨0, _⟩ => rfl
    | ⟨1, _⟩ => show k.val % 1024 = k.val; omega
  have hN : i.val / 256 < cfg0.N := lt_of_lt_of_eq ht N_0.symm
  unfold Value.G8
  rw [dif_pos (by rw [hp]; exact hN), hl, Value.fold0_congr m c _ _ _ (by omega) hp, ← Value.outsAt0_sweep m c _ hN]
  refine (congrFun (out8 m c ⟨i.val / 256, hN⟩) _).trans ((H_at (blk H ⟨i.val / 256, hN⟩) _ k).trans (congrArg _ ?_))
  have e : (⟨i.val / 256 * 256 + i.val % 256, by omega⟩ : Fin 8192) = i := Fin.ext (Nat.div_add_mod' i.val 256)
  show (A.row ⟨i.val / 256 * 256 + i.val % 256, _⟩).h2 k = _
  rw [e]

theorem G11_at (i : Fin 8192) (k : Fin 1024) : Value.G11 m c (ix2 i k) = (((A.row i).dx2 k : ℝ) : EReal) := by
  have ht : i.val / 256 < 32 := by omega
  have hp : Value.pt11Of (ix2 i k) = i.val / 256 := by show 1 * (i.val / 256 - 0) + 1 * (k.val / 1024 - 0) = _; omega
  have hl : Value.loc11Of (ix2 i k) = ix2 ⟨i.val % 256, Nat.mod_lt _ (by decide)⟩ k := by
    funext a; apply Fin.ext
    match a with
    | ⟨0, _⟩ => rfl
    | ⟨1, _⟩ => show k.val % 1024 = k.val; omega
  have hN : i.val / 256 < cfg0.N := lt_of_lt_of_eq ht N_0.symm
  unfold Value.G11
  rw [dif_pos (by rw [hp]; exact hN), hl, Value.fold0_congr m c _ _ _ (by omega) hp, ← Value.outsAt0_sweep m c _ hN]
  refine (congrFun (out11 m c ⟨i.val / 256, hN⟩) _).trans ((db_at (blk H ⟨i.val / 256, hN⟩) _ k).trans (congrArg _ ?_))
  have e : (⟨i.val / 256 * 256 + i.val % 256, by omega⟩ : Fin 8192) = i := Fin.ext (Nat.div_add_mod' i.val 256)
  show (A.row ⟨i.val / 256 * 256 + i.val % 256, _⟩).dx2 k = _
  rw [e]

theorem G9_at (b : Fin 4) (i : Fin 8192) (j : Fin 704) : Value.G9 m c (ix3 b i j) = (((A.row i).act (col4 b j) : ℝ) : EReal) := by
  have ht : i.val / 256 < 32 := by omega
  have hp : Value.pt9Of (ix3 b i j) = i.val / 256 := by show 32 * (b.val / 4 - 0) + 1 * (i.val / 256 - 0) + 1 * (j.val / 704 - 0) = _; omega
  have hl : Value.loc9Of (ix3 b i j) = ix3 b ⟨i.val % 256, Nat.mod_lt _ (by decide)⟩ j := by
    funext a; apply Fin.ext
    match a with
    | ⟨0, _⟩ => show b.val % 4 = b.val; omega
    | ⟨1, _⟩ => rfl
    | ⟨2, _⟩ => show j.val % 704 = j.val; omega
  have hN : i.val / 256 < cfg0.N := lt_of_lt_of_eq ht N_0.symm
  unfold Value.G9
  rw [dif_pos (by rw [hp]; exact hN), hl, Value.fold0_congr m c _ _ _ (by omega) hp, ← Value.outsAt0_sweep m c _ hN]
  refine (congrFun (out9 m c ⟨i.val / 256, hN⟩) _).trans ((act_at (blk H ⟨i.val / 256, hN⟩) b _ j).trans (congrArg _ ?_))
  have e : (⟨i.val / 256 * 256 + i.val % 256, by omega⟩ : Fin 8192) = i := Fin.ext (Nat.div_add_mod' i.val 256)
  show (A.row ⟨i.val / 256 * 256 + i.val % 256, _⟩).act (col4 b j) = _
  rw [e]

theorem G10_at (b : Fin 8) (i : Fin 8192) (j : Fin 704) : Value.G10 m c (ix3 b i j) = (((A.row i).dgu (col8 b j) : ℝ) : EReal) := by
  have ht : i.val / 256 < 32 := by omega
  have hp : Value.pt10Of (ix3 b i j) = i.val / 256 := by show 32 * (b.val / 8 - 0) + 1 * (i.val / 256 - 0) + 1 * (j.val / 704 - 0) = _; omega
  have hl : Value.loc10Of (ix3 b i j) = ix3 b ⟨i.val % 256, Nat.mod_lt _ (by decide)⟩ j := by
    funext a; apply Fin.ext
    match a with
    | ⟨0, _⟩ => show b.val % 8 = b.val; omega
    | ⟨1, _⟩ => rfl
    | ⟨2, _⟩ => show j.val % 704 = j.val; omega
  have hN : i.val / 256 < cfg0.N := lt_of_lt_of_eq ht N_0.symm
  unfold Value.G10
  rw [dif_pos (by rw [hp]; exact hN), hl, Value.fold0_congr m c _ _ _ (by omega) hp, ← Value.outsAt0_sweep m c _ hN]
  refine (congrFun (out10 m c ⟨i.val / 256, hN⟩) _).trans ((dgu_at (blk H ⟨i.val / 256, hN⟩) b _ j).trans (congrArg _ ?_))
  have e : (⟨i.val / 256 * 256 + i.val % 256, by omega⟩ : Fin 8192) = i := Fin.ext (Nat.div_add_mod' i.val 256)
  show (A.row ⟨i.val / 256 * 256 + i.val % 256, _⟩).dgu (col8 b j) = _
  rw [e]

omit H in
/-- The result of the accumulators is what the last point leaves in its block. -/
theorem last_sweep (n : ℕ) (hn : n = 31) (hN : n < cfg0.N) (r : Fin 8) (k : Fin 1024) : Value.G12 m c (ix2 r k) = (outsAt0 m c n hN).2.2.2.2.2.2.1 (ix2 r k) := by
  have hp : Value.pt12Of (ix2 r k) = n := by show 32 * (1 * (r.val / 8 - 0) + 1 * (k.val / 1024 - 0)) + 31 = _; omega
  have hl : Value.loc12Of (ix2 r k) = ix2 r k := by
    funext a; apply Fin.ext
    match a with
    | ⟨0, _⟩ => show r.val % 8 = r.val; omega
    | ⟨1, _⟩ => show k.val % 1024 = k.val; omega
  unfold Value.G12
  rw [dif_pos (by rw [hp]; exact hN), hl, Value.fold0_congr m c _ _ _ (by omega) hp, ← Value.outsAt0_sweep m c _ hN]

omit H in
/-- The last point, whose block the accumulators' result is. -/
theorem last_eq (r : Fin 8) (k : Fin 1024) (n : ℕ) (hn : n = 31) (hN : n < cfg0.N) : Value.G12 m c (ix2 r k) = accOut (iblk m c 0 ⟨n, hN⟩) (iblk m c 1 ⟨n, hN⟩) (iblk m c 2 ⟨n, hN⟩) (iblk m c 3 ⟨n, hN⟩) (iblk m c 4 ⟨n, hN⟩) (iblk m c 5 ⟨n, hN⟩)
    (outsAt0 m c (n - 1) (by omega)).2.2.2.2.2.2.2 (ix2 r k) :=
  (last_sweep n hn hN r k).trans (congrFun (out12_C m c ⟨n, hN⟩ (show ¬(n % 32 = 0) by omega) (show n % 32 = 31 by omega)) _)

theorem G12_0 (k : Fin 1024) : Value.G12 m c (ix2 0 k) = ((∑ i, (A.row i).part0 k : ℝ) : EReal) := by
  obtain ⟨n, hn⟩ : ∃ n : ℕ, n = 30 := ⟨_, rfl⟩
  have hN : n + 1 < cfg0.N := lt_of_lt_of_eq (show n + 1 < 32 by omega) N_0.symm
  refine (last_eq 0 k (n + 1) (by omega) hN).trans ((accOut0_at (f := fun p k => accSum (fun r => (A.row r).part0 k) (n + 1) p) (blk H ⟨n + 1, hN⟩) _ (acc0_at H n (by omega)) k).trans (congrArg _ ?_))
  subst hn
  exact (Finset.sum_congr rfl fun p _ => step0 H 31 (by decide) p k).trans (accSum_all (fun r => (A.row r).part0 k))

theorem G12_1 (k : Fin 1024) : Value.G12 m c (ix2 1 k) = ((∑ i, (A.row i).part1 k : ℝ) : EReal) := by
  obtain ⟨n, hn⟩ : ∃ n : ℕ, n = 30 := ⟨_, rfl⟩
  have hN : n + 1 < cfg0.N := lt_of_lt_of_eq (show n + 1 < 32 by omega) N_0.symm
  refine (last_eq 1 k (n + 1) (by omega) hN).trans ((accOut1_at (f := fun p k => accSum (fun r => (A.row r).part1 k) (n + 1) p) (blk H ⟨n + 1, hN⟩) _ (acc1_at H n (by omega)) k).trans (congrArg _ ?_))
  subst hn
  exact (Finset.sum_congr rfl fun p _ => step1 H 31 (by decide) p k).trans (accSum_all (fun r => (A.row r).part1 k))

theorem G12_2 (k : Fin 1024) : Value.G12 m c (ix2 2 k) = ((∑ i, (A.row i).part2 k : ℝ) : EReal) := by
  obtain ⟨n, hn⟩ : ∃ n : ℕ, n = 30 := ⟨_, rfl⟩
  have hN : n + 1 < cfg0.N := lt_of_lt_of_eq (show n + 1 < 32 by omega) N_0.symm
  refine (last_eq 2 k (n + 1) (by omega) hN).trans ((accOut2_at (f := fun p k => accSum (fun r => (A.row r).part2 k) (n + 1) p) (blk H ⟨n + 1, hN⟩) _ (acc2_at H n (by omega)) k).trans (congrArg _ ?_))
  subst hn
  exact (Finset.sum_congr rfl fun p _ => step2 H 31 (by decide) p k).trans (accSum_all (fun r => (A.row r).part2 k))

theorem G12_at (r : Fin 8) (k : Fin 1024) : Value.G12 m c (ix2 r k)
    = ((if r.val = 0 then ∑ i, (A.row i).part0 k else if r.val = 1 then ∑ i, (A.row i).part1 k
        else if r.val = 2 then ∑ i, (A.row i).part2 k else 0 : ℝ) : EReal) := by
  by_cases h0 : r.val = 0
  · rw [if_pos h0, show r = 0 from Fin.ext h0]; exact G12_0 H k
  rw [if_neg h0]
  by_cases h1 : r.val = 1
  · rw [if_pos h1, show r = 1 from Fin.ext h1]; exact G12_1 H k
  rw [if_neg h1]
  by_cases h2 : r.val = 2
  · rw [if_pos h2, show r = 2 from Fin.ext h2]; exact G12_2 H k
  rw [if_neg h2]
  obtain ⟨n, hn⟩ : ∃ n : ℕ, n = 31 := ⟨_, rfl⟩
  have hN : n < cfg0.N := lt_of_lt_of_eq (show n < 32 by omega) N_0.symm
  exact (last_eq r k n hn hN).trans (accOutz_at _ r (by omega) k)

end Cert.KFin
-- ==== Proof.RefRow.lean ====
/- The reference program's operations, entry by entry, when the arguments are real: each is the row model's value. -/
module

public import proofs.«01_k».proof.Proof.Gen.ReferenceIdeal.Read
public import proofs.«01_k».proof.Proof.RowModel

@[expose] public section

set_option maxRecDepth 16384

noncomputable section

open Idealize.ShloMosaic

namespace Cert.RefRow
open Cert.ReferenceIdeal Cert.ReferenceIdeal.Gen Cert.ReferenceIdeal.Read Cert.Row

/-- The reference's arguments hold the real arrays `A`. -/
structure Args (A : Arr) (x0 x1 : FVec Ideal S8192x1024 .f32) (x2 x3 : FVec Ideal S1024 .f32)
    (x4 : FVec Ideal S1024x5632 .f32) (x5 : FVec Ideal S2816x1024 .f32) : Prop where
  h0 : ∀ i k, x0 (ix2 i k) = ((A.xs i k : ℝ) : EReal)
  h1 : ∀ i k, x1 (ix2 i k) = ((A.ts i k : ℝ) : EReal)
  h2 : ∀ k, x2 (ix1 k) = ((A.gf k : ℝ) : EReal)
  h3 : ∀ k, x3 (ix1 k) = ((A.gl k : ℝ) : EReal)
  h4 : ∀ k j, x4 (ix2 k j) = ((A.w k j : ℝ) : EReal)
  h5 : ∀ j k, x5 (ix2 j k) = ((A.wd j k : ℝ) : EReal)

theorem ne1024 : (1024 : ℝ) ≠ 0 := by norm_num

variable {A : Arr} {x0 x1 : FVec Ideal S8192x1024 .f32} {x2 x3 : FVec Ideal S1024 .f32}
  {x4 : FVec Ideal S1024x5632 .f32} {x5 : FVec Ideal S2816x1024 .f32} (h : Args A x0 x1 x2 x3 x4 x5)
include h

theorem v6_at (i : Fin 8192) : val_main_v6 (F := Ideal) x0 (ix2 i 0) = ((ms (A.xs i) : ℝ) : EReal) := by
  pointwise [val_main_v6, val_main_v5, val_main_v4, val_main_v3, val_main_v2, val_main_v1, val_main_v0, val_main_cst, val_main_cst_0, val_main_cst_1]
  simp only [h.h0, ← EReal.coe_mul, ← EReal.coe_add, coe_sum, div_real _ ne1024, bits_1024, bits_eps, bits_zero, zero_add]
  try rfl
theorem v7_at (i : Fin 8192) : val_main_v7 (F := Ideal) x0 (ix2 i 0) = ((inv (A.xs i) : ℝ) : EReal) := by
  pointwise [val_main_v7]
  rw [v6_at h, rsqrt_real (ms_pos _)]
  try rfl
theorem v10_at (i : Fin 8192) : val_main_v10 (F := Ideal) x0 (ix2 i 0) = ((-(1 / 2) * (inv (A.xs i) / ms (A.xs i)) : ℝ) : EReal) := by
  pointwise [val_main_v10, val_main_v9, val_main_v8, val_main_cst_2]
  simp only [v7_at h, v6_at h, div_real _ (ms_pos _).ne', bits_neg_half, ← EReal.coe_mul]
theorem v12_at (i : Fin 8192) (k : Fin 1024) : val_main_v12 (F := Ideal) x0 (ix2 i k) = ((xhat (A.xs i) k : ℝ) : EReal) := by
  pointwise [val_main_v12, val_main_v11]
  simp only [v7_at h, h.h0, ← EReal.coe_mul]
  try rfl
theorem v15_at (i : Fin 8192) (k : Fin 1024) : val_main_v15 (F := Ideal) x0 x2 (ix2 i k) = (((A.row i).h2 k : ℝ) : EReal) := by
  pointwise [val_main_v15, val_main_v14, val_main_v13]
  simp only [v12_at h, h.h2, ← EReal.coe_mul]
  try rfl
theorem v16_at (i : Fin 8192) (j : Fin 5632) : val_main_v16 (F := Ideal) x0 x2 x4 (ix2 i j) = (((A.row i).gu j : ℝ) : EReal) := by
  pointwise [val_main_v16]
  simp only [v15_at h, h.h4, ← EReal.coe_mul, coe_sum]
  try rfl
theorem v17_at (i : Fin 8192) (j : Fin 2816) : val_main_v17 (F := Ideal) x0 x2 x4 (ix2 i j) = (((A.row i).gu (lo j) : ℝ) : EReal) := by
  pointwise [val_main_v17]
  exact v16_at h i (lo j)
theorem v18_at (i : Fin 8192) (j : Fin 2816) : val_main_v18 (F := Ideal) x0 x2 x4 (ix2 i j) = (((A.row i).gu (hi j) : ℝ) : EReal) := by
  pointwise [val_main_v18]
  exact v16_at h i (hi j)
theorem v19_2_at (i : Fin 8192) (j : Fin 2816) : val_main_v19_2 (F := Ideal) x0 x2 x4 (ix2 i j) = ((sg ((A.row i).gu (lo j)) : ℝ) : EReal) := by
  pointwise [val_main_v19_2, val_main_call0_v4, val_main_call0_cst_0, val_main_call0_v3, val_main_call0_v2, val_main_call0_cst, val_main_call0_v1, val_main_call0_v0]
  simp only [v17_at h, bits_one, ← EReal.coe_neg, Ideal.exp_coe]
  rw [one_real]
  simp only [ ← EReal.coe_add,
    div_real _ (add_pos zero_lt_one (Real.exp_pos _)).ne', one_div]
  try rfl
theorem v19_1_at (i : Fin 8192) (j : Fin 2816) : val_main_v19_1 (F := Ideal) x0 x2 x4 (ix2 i j)
    = ((sg ((A.row i).gu (lo j)) * (1 - sg ((A.row i).gu (lo j))) : ℝ) : EReal) := by
  pointwise [val_main_v19_1, val_main_call0_v7, val_main_call0_v6, val_main_call0_cst_1]
  simp only [v19_2_at h]
  rw [one_real]
  simp only [← EReal.coe_sub, ← EReal.coe_mul]
theorem v19_0_at (i : Fin 8192) (j : Fin 2816) : val_main_v19_0 (F := Ideal) x0 x2 x4 (ix2 i j)
    = (((A.row i).gu (lo j) * sg ((A.row i).gu (lo j)) : ℝ) : EReal) := by
  pointwise [val_main_v19_0]
  simp only [v19_2_at h, v17_at h, ← EReal.coe_mul]
theorem v20_at (i : Fin 8192) (j : Fin 2816) : val_main_v20 (F := Ideal) x0 x2 x4 (ix2 i j) = (((A.row i).act j : ℝ) : EReal) := by
  pointwise [val_main_v20]
  simp only [v19_0_at h, v18_at h, ← EReal.coe_mul]
  try rfl
theorem v22_at (i : Fin 8192) (k : Fin 1024) : val_main_v22 (F := Ideal) x0 x2 x4 x5 (ix2 i k) = (((A.row i).x2 k : ℝ) : EReal) := by
  pointwise [val_main_v22, val_main_v21]
  simp only [v20_at h, h.h0, h.h5, ← EReal.coe_mul, ← EReal.coe_add, coe_sum]
  try rfl
theorem v29_at (i : Fin 8192) : val_main_v29 (F := Ideal) x0 x2 x4 x5 (ix2 i 0) = ((ms (A.row i).x2 : ℝ) : EReal) := by
  pointwise [val_main_v29, val_main_v28, val_main_v27, val_main_v26, val_main_v25, val_main_v24, val_main_v23, val_main_cst_3, val_main_cst_4, val_main_cst_5]
  simp only [v22_at h, ← EReal.coe_mul, ← EReal.coe_add, coe_sum, div_real _ ne1024, bits_1024, bits_eps, bits_zero, zero_add]
  try rfl
theorem v30_at (i : Fin 8192) : val_main_v30 (F := Ideal) x0 x2 x4 x5 (ix2 i 0) = ((inv (A.row i).x2 : ℝ) : EReal) := by
  pointwise [val_main_v30]
  rw [v29_at h, rsqrt_real (ms_pos _)]
  try rfl
theorem v33_at (i : Fin 8192) : val_main_v33 (F := Ideal) x0 x2 x4 x5 (ix2 i 0)
    = ((-(1 / 2) * (inv (A.row i).x2 / ms (A.row i).x2) : ℝ) : EReal) := by
  pointwise [val_main_v33, val_main_v32, val_main_v31, val_main_cst_6]
  simp only [v30_at h, v29_at h, div_real _ (ms_pos _).ne', bits_neg_half, ← EReal.coe_mul]
theorem v35_at (i : Fin 8192) (k : Fin 1024) : val_main_v35 (F := Ideal) x0 x2 x4 x5 (ix2 i k) = ((xhat (A.row i).x2 k : ℝ) : EReal) := by
  pointwise [val_main_v35, val_main_v34]
  simp only [v30_at h, v22_at h, ← EReal.coe_mul]
  try rfl
theorem v39_at (i : Fin 8192) (k : Fin 1024) : val_main_v39 (F := Ideal) x0 x1 x2 x3 x4 x5 (ix2 i k) = (((A.row i).er k : ℝ) : EReal) := by
  pointwise [val_main_v39, val_main_v38, val_main_v37, val_main_v36]
  simp only [v35_at h, h.h3, h.h1, ← EReal.coe_mul, ← EReal.coe_sub]
  try rfl
theorem v53_at (i : Fin 8192) (k : Fin 1024) : val_main_v53 (F := Ideal) x0 x1 x2 x3 x4 x5 (ix2 i k) = (((A.row i).dy k : ℝ) : EReal) := by
  pointwise [val_main_v53, val_main_v52, val_main_v51, val_main_v50, val_main_v49, val_main_v48, val_main_v42, val_main_v41, val_main_cst_7, val_main_cst_12, val_main_cst_13, val_main_cst_14]
  simp only [v39_at h, bits_half, bits_one, bits_two, bits_1024, div_real _ ne1024, ← EReal.coe_mul]
  exact congrArg _ (by rw [In.dy, dyOf]; ring)
theorem v58_at (i : Fin 8192) (k : Fin 1024) : val_main_v58 (F := Ideal) x0 x1 x2 x3 x4 x5 (ix2 i k) = (((A.row i).dy k * A.gl k : ℝ) : EReal) := by
  pointwise [val_main_v58, val_main_v57, val_main_v36]
  simp only [v53_at h, h.h3, ← EReal.coe_mul]
theorem v69_at (i : Fin 8192) (k : Fin 1024) : val_main_v69 (F := Ideal) x0 x1 x2 x3 x4 x5 (ix2 i k)
    = (((∑ l, (A.row i).x2 l * ((A.row i).dy l * A.gl l)) * (-(1 / 2) * (inv (A.row i).x2 / ms (A.row i).x2)) / 1024 : ℝ) : EReal) := by
  pointwise [val_main_v69, val_main_v68, val_main_v67, val_main_v66, val_main_v65, val_main_v62, val_main_v61, val_main_v60, val_main_cst_17, val_main_cst_18, val_main_cst_19]
  simp only [Fin.sum_univ_one, v58_at h, v33_at h, v22_at h, bits_1024, bits_zero, div_real _ ne1024, ← EReal.coe_mul, ← EReal.coe_add, coe_sum, zero_add]
  try rfl
theorem v73_at (i : Fin 8192) (k : Fin 1024) : val_main_v73 (F := Ideal) x0 x1 x2 x3 x4 x5 (ix2 i k) = (((A.row i).dx2 k : ℝ) : EReal) := by
  pointwise [val_main_v73, val_main_v72, val_main_v71, val_main_v70, val_main_v64, val_main_v63]
  simp only [v69_at h, v58_at h, v30_at h, v22_at h, ← EReal.coe_mul, ← EReal.coe_add]
  exact congrArg _ (nback_eq (A.row i).x2 A.gl (A.row i).dy k)
theorem v74_at (i : Fin 8192) (j : Fin 2816) : val_main_v74 (F := Ideal) x0 x1 x2 x3 x4 x5 (ix2 i j) = (((A.row i).da j : ℝ) : EReal) := by
  pointwise [val_main_v74]
  simp only [v73_at h, h.h5, ← EReal.coe_mul, coe_sum]
  try rfl
theorem v75_at (i : Fin 8192) (j : Fin 2816) : val_main_v75 (F := Ideal) x0 x1 x2 x3 x4 x5 (ix2 i j)
    = ((dup ((A.row i).da j) ((A.row i).gu (lo j)) : ℝ) : EReal) := by
  pointwise [val_main_v75]
  simp only [v74_at h, v19_0_at h, ← EReal.coe_mul]
  exact congrArg _ (by rw [dup]; ring)
theorem v77_at (i : Fin 8192) (j : Fin 2816) : val_main_v77 (F := Ideal) x0 x1 x2 x3 x4 x5 (ix2 i j)
    = ((dgate ((A.row i).da j) ((A.row i).gu (lo j)) ((A.row i).gu (hi j)) : ℝ) : EReal) := by
  pointwise [val_main_v77, val_main_call1_v2, val_main_call1_v1, val_main_call1_v0, val_main_v76]
  simp only [v74_at h, v17_at h, v18_at h, v19_2_at h, v19_1_at h, ← EReal.coe_mul, ← EReal.coe_add]
  exact congrArg _ (by rw [dgate]; ring)
theorem v78_at (i : Fin 8192) (j : Fin 5632) : val_main_v78 (F := Ideal) x0 x1 x2 x3 x4 x5 (ix2 i j) = (((A.row i).dgu j : ℝ) : EReal) := by
  pointwise [val_main_v78]
  rw [In.dgu, dguOf]
  split_ifs with hj h1
  · exact v77_at h i ⟨j.val, hj⟩
  · exact v75_at h i ⟨j.val - 2816, by omega⟩
  · exact absurd rfl h1
theorem v79_at (i : Fin 8192) (k : Fin 1024) : val_main_v79 (F := Ideal) x0 x1 x2 x3 x4 x5 (ix2 i k) = (((A.row i).dh2 k : ℝ) : EReal) := by
  pointwise [val_main_v79]
  simp only [v78_at h, h.h4, ← EReal.coe_mul, coe_sum]
  try rfl
theorem v84_at (i : Fin 8192) (k : Fin 1024) : val_main_v84 (F := Ideal) x0 x1 x2 x3 x4 x5 (ix2 i k) = (((A.row i).dh2 k * A.gf k : ℝ) : EReal) := by
  pointwise [val_main_v84, val_main_v83, val_main_v13]
  simp only [v79_at h, h.h2, ← EReal.coe_mul]
theorem v95_at (i : Fin 8192) (k : Fin 1024) : val_main_v95 (F := Ideal) x0 x1 x2 x3 x4 x5 (ix2 i k)
    = (((∑ l, A.xs i l * ((A.row i).dh2 l * A.gf l)) * (-(1 / 2) * (inv (A.xs i) / ms (A.xs i))) / 1024 : ℝ) : EReal) := by
  pointwise [val_main_v95, val_main_v94, val_main_v93, val_main_v92, val_main_v91, val_main_v88, val_main_v87, val_main_v86, val_main_cst_22, val_main_cst_23, val_main_cst_24]
  simp only [Fin.sum_univ_one, v84_at h, v10_at h, h.h0, bits_1024, bits_zero, div_real _ ne1024, ← EReal.coe_mul, ← EReal.coe_add, coe_sum, zero_add]
  try rfl
theorem v100_at (i : Fin 8192) (k : Fin 1024) : val_main_v100 (F := Ideal) x0 x1 x2 x3 x4 x5 (ix2 i k) = (((A.row i).dx1 k : ℝ) : EReal) := by
  pointwise [val_main_v100, val_main_v99, val_main_v98, val_main_v97, val_main_v96, val_main_v90, val_main_v89]
  simp only [v73_at h, v95_at h, v84_at h, v7_at h, h.h0, ← EReal.coe_mul, ← EReal.coe_add]
  exact congrArg _ (congrArg _ (nback_eq (A.xs i) A.gf (A.row i).dh2 k))
theorem v59_at (k : Fin 1024) : val_main_v59 (F := Ideal) x0 x1 x2 x3 x4 x5 (ix1 k) = ((∑ i, (A.row i).part1 k : ℝ) : EReal) := by
  pointwise [val_main_v59, val_main_v56, val_main_v55, val_main_v54, val_main_cst_15, val_main_cst_16]
  simp only [Fin.sum_univ_one, v35_at h, v53_at h, bits_zero, ← EReal.coe_mul, ← EReal.coe_add, coe_sum, zero_add]
  try rfl
theorem v85_at (k : Fin 1024) : val_main_v85 (F := Ideal) x0 x1 x2 x3 x4 x5 (ix1 k) = ((∑ i, (A.row i).part0 k : ℝ) : EReal) := by
  pointwise [val_main_v85, val_main_v82, val_main_v81, val_main_v80, val_main_cst_20, val_main_cst_21]
  simp only [Fin.sum_univ_one, v12_at h, v79_at h, bits_zero, ← EReal.coe_mul, ← EReal.coe_add, coe_sum, zero_add]
  try rfl
theorem v103_at (k : Fin 1024) : val_main_v103 (F := Ideal) x0 x1 x2 x3 x4 x5 (ix1 k) = ((∑ i, (A.row i).part2 k : ℝ) : EReal) := by
  pointwise [val_main_v103, val_main_v102, val_main_v101, val_main_v38, val_main_v37, val_main_v36, val_main_cst_25]
  simp only [v35_at h, h.h1, h.h3, bits_zero, ← EReal.coe_mul, ← EReal.coe_sub, ← EReal.coe_add, coe_sum, zero_add]
  try rfl
/-- The accumulators' array: row 0 the first gain's gradient, row 1 the final gain's, row 2 the squared errors, then zeros. -/
theorem v108_at (r : Fin 8) (k : Fin 1024) : val_main_v108 (F := Ideal) x0 x1 x2 x3 x4 x5 (ix2 r k)
    = ((if r.val = 0 then ∑ i, (A.row i).part0 k else if r.val = 1 then ∑ i, (A.row i).part1 k
        else if r.val = 2 then ∑ i, (A.row i).part2 k else 0 : ℝ) : EReal) := by
  pointwise [val_main_v108, val_main_v107, val_main_v106, val_main_v105, val_main_v104, val_main_cst_26]
  rw [v85_at h, v59_at h, v103_at h]
  split_ifs <;> first | rfl | omega

end Cert.RefRow
-- ==== Proof.Match.lean ====
/- The idealized kernel against the reference: real arguments out of the precondition, and the two programs' results one by one. -/
module

public import proofs.«01_k».proof.Proof.Final
public import proofs.«01_k».proof.Proof.RefRow
public import proofs.«01_k».proof.Proof.Gen.ReferenceIdeal.Run
public import proofs.«01_k».proof.Proof.Gen.KernelIdeal.Value
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Match
open Cert.Row

/-- The witnesses of the precondition's stated facts. -/
instance facts_pre : Cert.Pre_real_entries.Facts where
  bcast_S_S8192x1024 := by decide
  bcast_S_S1024 := by decide
  bcast_S_S1024x5632 := by decide
  bcast_S_S2816x1024 := by decide

/-- An entry of magnitude under infinity is a real number. -/
theorem real_of (x : EReal) (h : (FloatOps.cmpf .olt (FloatOps.hostAbsf (F := Ideal) (φ := .f32) x) (FloatOps.ofBits (F := Ideal) .f32 0x7F800000#32)) = 1#1) :
    x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    simp [Ideal.cmp, hn] at h'
  rw [max_lt_iff] at hlt
  refine (EReal.coe_toReal hlt.1.ne ?_).symm
  intro hb
  rw [hb] at hlt
  simp at hlt

section Kernel
open Cert.KernelIdeal Cert.KernelIdeal.Gen

/-- The real arrays a device's arguments hold. -/
def arr (m : (ℓ : Loc nD τ sig) → Buf (Elt Ideal) ℓ) (c : Dev nD) : Arr where
  xs i k := EReal.toReal (m ((c : Thread nD τ).loc main_arg0) (ix2 i k))
  ts i k := EReal.toReal (m ((c : Thread nD τ).loc main_arg1) (ix2 i k))
  gf k := EReal.toReal (m ((c : Thread nD τ).loc main_arg2) (ix1 k))
  gl k := EReal.toReal (m ((c : Thread nD τ).loc main_arg3) (ix1 k))
  w k j := EReal.toReal (m ((c : Thread nD τ).loc main_arg4) (ix2 k j))
  wd j k := EReal.toReal (m ((c : Thread nD τ).loc main_arg5) (ix2 j k))

theorem has (m : (ℓ : Loc nD τ sig) → Buf (Elt Ideal) ℓ) (h : Cert.Pre_KernelIdeal_real_entries m) (c : Dev nD) : KFin.Has m (arr m c) c := by
  obtain ⟨h0, h1, h2, h3, h4, h5⟩ := h c
  exact ⟨fun i k => real_of _ (congrFun h0 (ix2 i k)), fun i k => real_of _ (congrFun h1 (ix2 i k)), fun k => real_of _ (congrFun h2 (ix1 k)),
    fun k => real_of _ (congrFun h3 (ix1 k)), fun k j => real_of _ (congrFun h4 (ix2 k j)), fun j k => real_of _ (congrFun h5 (ix2 j k))⟩

end Kernel

/-- Arrays of two axes that agree at every pair of coordinates are one. -/
theorem ext2 {α : Type} {a b : ℕ} {f g : (⟨2, ![a, b]⟩ : Shape).Idx → α} (h : ∀ i j, f (ix2 i j) = g (ix2 i j)) : f = g := by
  funext x
  rw [show x = ix2 (x 0) (x 1) from by funext k; match k with | ⟨0, _⟩ => rfl | ⟨1, _⟩ => rfl]
  exact h _ _

/-- Arrays of three axes that agree at every triple of coordinates are one. -/
theorem ext3 {α : Type} {a b c : ℕ} {f g : (⟨3, ![a, b, c]⟩ : Shape).Idx → α} (h : ∀ i j k, f (ix3 i j k) = g (ix3 i j k)) : f = g := by
  funext x
  rw [show x = ix3 (x 0) (x 1) (x 2) from by funext k; match k with | ⟨0, _⟩ => rfl | ⟨1, _⟩ => rfl | ⟨2, _⟩ => rfl]
  exact h _ _ _

section Results
open Cert.ReferenceIdeal.Read Cert.KernelIdeal
variable {m : (ℓ : Loc nD τ sig) → Buf (Elt Ideal) ℓ} {c : Dev nD} {A : Arr} (H : KFin.Has m A c)
  {x0 x1 : FVec Ideal Cert.ReferenceIdeal.S8192x1024 .f32} {x2 x3 : FVec Ideal Cert.ReferenceIdeal.S1024 .f32}
  {x4 : FVec Ideal Cert.ReferenceIdeal.S1024x5632 .f32} {x5 : FVec Ideal Cert.ReferenceIdeal.S2816x1024 .f32}
  (R : RefRow.Args A x0 x1 x2 x3 x4 x5)
include H R

theorem res0 : val_main_v100 (F := Ideal) x0 x1 x2 x3 x4 x5 = Cert.KernelIdeal.Value.G6 m c :=
  ext2 fun i k => (RefRow.v100_at R i k).trans (KFin.G6_at H i k).symm
theorem res1 : val_main_v109 (F := Ideal) x0 x1 x2 x3 x4 x5 = Cert.KernelIdeal.Value.G7 m c :=
  ext2 fun i k => (RefRow.v100_at R i k).trans (KFin.G7_at H i k).symm
theorem res2 : val_main_v110 (F := Ideal) x0 x2 = Cert.KernelIdeal.Value.G8 m c :=
  ext2 fun i k => (RefRow.v15_at R i k).trans (KFin.G8_at H i k).symm
theorem res3 : val_main_v113 (F := Ideal) x0 x2 x4 = Cert.KernelIdeal.Value.G9 m c :=
  ext3 fun b i j => by
    refine Eq.trans ?_ (KFin.G9_at H b i j).symm
    pointwise [val_main_v113, val_main_v112, val_main_v111]
    exact RefRow.v20_at R i (col4 b j)
theorem res4 : val_main_v116 (F := Ideal) x0 x1 x2 x3 x4 x5 = Cert.KernelIdeal.Value.G10 m c :=
  ext3 fun b i j => by
    refine Eq.trans ?_ (KFin.G10_at H b i j).symm
    pointwise [val_main_v116, val_main_v115, val_main_v114]
    exact RefRow.v78_at R i (col8 b j)
theorem res5 : val_main_v117 (F := Ideal) x0 x1 x2 x3 x4 x5 = Cert.KernelIdeal.Value.G11 m c :=
  ext2 fun i k => (RefRow.v73_at R i k).trans (KFin.G11_at H i k).symm
theorem res6 : val_main_v108 (F := Ideal) x0 x1 x2 x3 x4 x5 = Cert.KernelIdeal.Value.G12 m c :=
  ext2 fun r k => (RefRow.v108_at R r k).trans (KFin.G12_at H r k).symm
end Results

/-- The value claim. -/
theorem algebraic : Cert.algebraic_KernelIdeal_ReferenceIdeal_pre_real_entries := by
  intro m g m' g' hpre hargs
  refine ⟨fun c => Cert.KernelIdeal.Value.G6 m c, fun c => Cert.KernelIdeal.Value.G7 m c, fun c => Cert.KernelIdeal.Value.G8 m c, fun c => Cert.KernelIdeal.Value.G9 m c,
    fun c => Cert.KernelIdeal.Value.G10 m c, fun c => Cert.KernelIdeal.Value.G11 m c, fun c => Cert.KernelIdeal.Value.G12 m c, Cert.KernelIdeal.Value.run m g, ?_⟩
  refine (θ_run _ _ _).mono (fun r h c => ?_) (Cert.ReferenceIdeal.Value.run (F := Ideal) m' g')
  obtain ⟨r0, r1, r2, r3, r4, r5, r6, k⟩ := h c
  obtain ⟨a0, a1, a2, a3, a4, a5⟩ := hargs c
  have H := has m hpre c
  have R : RefRow.Args (arr m c) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) :=
    ⟨fun i k => (congrFun a0 _).trans (H.h0 i k), fun i k => (congrFun a1 _).trans (H.h1 i k), fun k => (congrFun a2 _).trans (H.h2 k),
      fun k => (congrFun a3 _).trans (H.h3 k), fun k j => (congrFun a4 _).trans (H.h4 k j), fun j k => (congrFun a5 _).trans (H.h5 j k)⟩
  exact ⟨r0.trans ((Cert.ReferenceIdeal.Read.val_main_v100_eq _).trans (res0 H R)),
    r1.trans ((Cert.ReferenceIdeal.Read.val_main_v109_eq _).trans (res1 H R)),
    r2.trans ((Cert.ReferenceIdeal.Read.val_main_v110_eq _).trans (res2 H R)),
    r3.trans ((Cert.ReferenceIdeal.Read.val_main_v113_eq _).trans (res3 H R)),
    r4.trans ((Cert.ReferenceIdeal.Read.val_main_v116_eq _).trans (res4 H R)),
    r5.trans ((Cert.ReferenceIdeal.Read.val_main_v117_eq _).trans (res5 H R)),
    r6.trans ((Cert.ReferenceIdeal.Read.val_main_v108_eq _).trans (res6 H R)), k⟩

/-- The frame of the reference: host operations alone, over no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0) := by
  refine (θ_run _ _ _).mono (fun r h => ⟨fun c => ?_, sem_eq_zero_of_no_sems rfl r.2⟩) (Cert.ReferenceIdeal.Value.run (F := Ideal) m g)
  obtain ⟨r0, r1, r2, r3, r4, r5, r6, k⟩ := h c
  exact k

end Cert.Match
-- ==== Proof.GuValue.lean ====
/- What the gate-and-up product's launch leaves in its two outputs: the sums of products over all rows. -/
module

public import proofs.«01_k».proof.Proof.GuCert
public import proofs.«01_k».proof.Proof.Shard
public import proofs.«01_k».proof.Proof.Match

@[expose] public section

set_option maxRecDepth 16384

noncomputable section

open Idealize.ShloMosaic Idealize.ShloMosaic.TcCoe Idealize.SL.Sem
open Idealize.ShloMosaic.Pipeline (Dat)

namespace Cert.GateUp
open Cert.KernelGateUpIdeal Cert.KernelGateUpIdeal.Gen Cert.Row

/-- A point's update of the accumulator, at an entry: the sum of products over the point's rows, added to what was held
    unless the point begins a block. -/
theorem pay2_at (i : grid0.Coords) (x : Vec Ideal S1x4096x704 .bf16) (y : Vec Ideal S4096x1024 .bf16) (a : Vec Ideal S704x1024 .f32) (p : Fin 704) (k : Fin 1024) :
    k0_pay2 (F := Ideal) i x y a (ix2 p k) = (∑ s : Fin 4096, x (ix3 0 s p) * y (ix2 s k)) + (if (i 1).val = 0 then 0 else a (ix2 p k)) := by
  pointwise [k0_pay2]
  refine congrArg _ ?_
  have h : ∀ j : Fin 2, Scalar.cmpi .eq (BitVec.ofNat 32 j.val) 0#32 = if j.val = 0 then 1#1 else 0#1 := by decide
  rw [show Scalar.cmpi .eq (BitVec.ofNat 32 (i 1).val) 0#32 = if (i 1).val = 0 then 1#1 else 0#1 from h (i 1)]
  split <;> rfl

theorem pay3_at (a : Vec Ideal S704x1024 .f32) (p : Fin 704) (k : Fin 1024) : k0_pay3 (F := Ideal) a (ix3 0 p k) = a (ix2 p k) := by
  pointwise [k0_pay3]

variable (me : Fin 8) (m : (ℓ : Loc nD τ sig) → Buf (Elt Ideal) ℓ) (ρ : Dev nD → PrngReg)

/-- Where the windows' blocks sit at point `t`. -/
theorem idx (t : Fin (cfgA Ideal me).N) : ((cfgA Ideal me).win 0).index t = ![t.val / 2, t.val % 2, 0] ∧ ((cfgA Ideal me).win 1).index t = ![t.val % 2, 0]
    ∧ ((cfgA Ideal me).win 2).index t = ![0, 0] ∧ ((cfgA Ideal me).win 3).index t = ![t.val / 2, 0, 0] ∧ (crd (F := Ideal) me t 1).val = t.val % 2 :=
  (by decide +kernel : ∀ t : Fin grid0.N, cc0_transform_0 (grid0.coords t) = ![t.val / 2, t.val % 2, 0] ∧ cc0_transform_1 (grid0.coords t) = ![t.val % 2, 0]
    ∧ cc0_transform_2 (grid0.coords t) = ![0, 0] ∧ cc0_transform_3 (grid0.coords t) = ![t.val / 2, 0, 0] ∧ (grid0.coords t 1).val = t.val % 2) t

theorem b0 (c : Dev nD) (t : Fin (cfgA Ideal me).N) (s : Fin 4096) (p : Fin 704) :
    iblk me m ρ c 0 t (ix3 0 s p) = m ((c : Thread nD τ).loc main_arg1) (ix3 ⟨t.val / 2, by have : t.val < 16 := t.isLt; omega⟩ ⟨t.val % 2 * 4096 + s.val, by omega⟩ p) := by
  blk_ext [iblk, idx me t]
theorem b1 (c : Dev nD) (t : Fin (cfgA Ideal me).N) (s : Fin 4096) (k : Fin 1024) :
    iblk me m ρ c 1 t (ix2 s k) = m ((c : Thread nD τ).loc main_arg2) (ix2 ⟨t.val % 2 * 4096 + s.val, by omega⟩ k) := by
  blk_ext [iblk, idx me t]

theorem cov2 : ((cfgA Ideal me).win 2).Covers := (by decide +kernel : ∀ me : Fin 8, ((cfgA Ideal me).win 2).Covers) me
theorem cov3 : ((cfgA Ideal me).win 3).Covers := (by decide +kernel : ∀ me : Fin 8, ((cfgA Ideal me).win 3).Covers) me

/-- An entry of a block of the weights' cotangent, transposed: the sum of products over all rows. -/
def full (A : Vec Ideal S8x8192x704 .bf16) (B : Vec Ideal S8192x1024 .bf16) (b : Fin 8) (p : Fin 704) (k : Fin 1024) : EReal :=
  ∑ s : Fin 8192, A (ix3 b s p) * B (ix2 s k)

/-- The same of the arrays a device's arguments hold. -/
abbrev fullOf (c : Dev nD) := full (m ((c : Thread nD τ).loc main_arg1)) (m ((c : Thread nD τ).loc main_arg2))

/-- Once a block is complete the accumulator holds it. -/
theorem acc_full (c : Dev nD) (b : Fin 8) (p : Fin 704) (k : Fin 1024) : acc me m ρ c (2 * b.val + 2) (ix2 p k) = fullOf m c b p k := by
  let t1 : Fin (cfgA Ideal me).N := (⟨2 * b.val + 1, by omega⟩ : Fin 16)
  let t0 : Fin (cfgA Ideal me).N := (⟨2 * b.val, by omega⟩ : Fin 16)
  rw [show 2 * b.val + 2 = t1.val + 1 from rfl, acc_succ, step, pay2_at, show t1.val = t0.val + 1 from rfl, acc_succ, step, pay2_at]
  have h1 : (crd (F := Ideal) me t1 1).val = 1 := (idx me t1).2.2.2.2.trans (by show (2 * b.val + 1) % 2 = 1; omega)
  have h0 : (crd (F := Ideal) me t0 1).val = 0 := (idx me t0).2.2.2.2.trans (by show (2 * b.val) % 2 = 0; omega)
  rw [h1, h0, if_neg one_ne_zero, if_pos rfl, add_zero, fullOf, full, Shard.sum_halves]
  refine congrArg₂ _ (Finset.sum_congr rfl fun s _ => ?_) (Finset.sum_congr rfl fun s _ => ?_)
  · rw [b0, b1]
    have e2 : t1.val % 2 = 1 := by show (2 * b.val + 1) % 2 = 1; omega
    have e3 : t1.val / 2 = b.val := by show (2 * b.val + 1) / 2 = b.val; omega
    simp only [e2, e3, Fin.eta]
  · rw [b0, b1]
    have e2 : t0.val % 2 = 0 := by show (2 * b.val) % 2 = 0; omega
    have e3 : t0.val / 2 = b.val := by show (2 * b.val) / 2 = b.val; omega
    simp only [e2, e3, Fin.eta]

theorem off_own : ∀ me : Fin 8, k0_off1 (word me) = ![0, 0] := by decide +kernel

/-- The rows the device keeps. -/
theorem own_at (c : Dev nD) (p : Fin 704) (k : Fin 1024) : own me m ρ c (ix2 p k) = fullOf m c me p k := by
  refine Eq.trans ?_ (acc_full me m ρ c me p k)
  refine congrArg (acc me m ρ c (2 * me.val + 2)) (funext fun a => Fin.ext ((ValueKit.rect_emb_unit_val _ _ _ _ a).trans ?_))
  have h := congrFun (off_own me)
  match a with
  | ⟨0, _⟩ => exact (congrArg (· + p.val) (h 0)).trans (Nat.zero_add _)
  | ⟨1, _⟩ => exact (congrArg (· + k.val) (h 1)).trans (Nat.zero_add _)

/-- The first output at the end. -/
theorem out2 (c : Dev nD) : (dats me m ρ 0 c).arrAt 2 (cfgA Ideal me).N = (fun x => fullOf m c me (x 0) (x 1) : Vec Ideal S704x1024 .f32) := by
  refine (dats me m ρ 0 c).arrAt_eq_of_covers 2 _ (cov2 me) fun t hf y => ?_
  blk_simp
  rw [after_2]
  have e : ∀ y : S704x1024.Idx, own me m ρ c y = fullOf m c me (y 0) (y 1) := fun y => by
    rw [← own_at me m ρ c (y 0) (y 1)]
    exact congrArg _ (funext fun a => by match a with | ⟨0, _⟩ => rfl | ⟨1, _⟩ => rfl)
  refine (e y).trans (congrArg₂ (fullOf m c me) (Fin.ext ?_) (Fin.ext ?_))
  · blk_simp [idx me t]
  · blk_simp [idx me t]

/-- The second output at the end. -/
theorem out3 (c : Dev nD) : (dats me m ρ 0 c).arrAt 3 (cfgA Ideal me).N = (fun x => fullOf m c (x 0) (x 1) (x 2) : Vec Ideal S8x704x1024 .bf16) := by
  refine (dats me m ρ 0 c).arrAt_eq_of_covers 3 _ (cov3 me) fun t hf y => ?_
  blk_simp
  rw [after_3]
  have ht : t.val < 16 := t.isLt
  have hodd : t.val % 2 = 1 := of_decide_eq_true ((sched (F := Ideal) me t).2.2.2.symm.trans hf)
  have e : ∀ y : S1x704x1024.Idx, k0_pay3 (acc me m ρ c (t.val + 1)) y = fullOf m c ⟨t.val / 2, by omega⟩ (y 1) (y 2) := fun y => by
    have hy : y = ix3 0 (y 1) (y 2) := funext fun a => by match a with | ⟨0, _⟩ => exact Subsingleton.elim (α := Fin 1) _ _ | ⟨1, _⟩ => rfl | ⟨2, _⟩ => rfl
    have ha := acc_full me m ρ c ⟨t.val / 2, by omega⟩ (y 1) (y 2)
    dsimp only at ha
    rw [show 2 * (t.val / 2) + 2 = t.val + 1 by omega] at ha
    exact (congrArg _ hy).trans ((pay3_at _ (y 1) (y 2)).trans ha)
  refine (e y).trans (congr (congrArg₂ (fullOf m c) (Fin.ext ?_) (Fin.ext ?_)) (Fin.ext ?_))
  · blk_simp [idx me t]
  · blk_simp [idx me t]
  · blk_simp [idx me t]

end Cert.GateUp
-- ==== Proof.GuMatch.lean ====
/- The gate-and-up product against its reference. -/
module

public import proofs.«01_k».proof.Proof.GuValue
public import proofs.«01_k».proof.Proof.Gen.ReferenceGateUpIdeal.Run
public import proofs.«01_k».proof.Proof.Gen.KernelGateUp
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.GateUp
open Cert.Row

/-- The witnesses of the precondition's stated facts. -/
instance facts_pre : Cert.Pre_device_gate_up.Facts where
  bcast_S_S1 := by decide

section Kernel
open Cert.KernelGateUpIdeal Cert.KernelGateUpIdeal.Gen

/-- The precondition names a device, whose word the tables hold. -/
theorem pinned_of {F : FTy → Type} [FloatOps F] (m : (ℓ : Loc nD τ sig) → Buf (Elt F) ℓ)
    (h : ∀ c : Dev nD, Cert.Pre_device_gate_up.fn (F := F) (m ((c.tc : Thread nD τ).loc main_arg0)) (m ((c.tc : Thread nD τ).loc main_arg1)) (m ((c.tc : Thread nD τ).loc main_arg2)) = fun _ => 1#1) :
    ∃ me, Pinned me m := by
  obtain ⟨me, e⟩ := Shard.table_eq (m (((0 : Dev nD) : Thread nD τ).loc main_arg0)) fun y => congrFun (h 0) y
  exact ⟨me, fun c => by obtain rfl : c = 0 := Subsingleton.elim _ _; exact e⟩

end Kernel

/-- The two programs' bodies have the same text. -/
theorem body_same : Cert.KernelGateUp.cc0_dw_gate_up (F := Bits) = Cert.KernelGateUpIdeal.cc0_dw_gate_up (F := Bits) := rfl

theorem defs_same : Cert.KernelGateUp.defs (F := Bits) = Cert.KernelGateUpIdeal.defs (F := Bits) := by
  refine congrArg (Pipeline.defs Cert.KernelGateUpIdeal.pcfgs) (congrArg Defs.onTc (funext fun l => funext fun p => ?_))
  match l, p with
  | ⟨0, _⟩, (t, s) =>
    dsimp only
    rw [body_same]
    rfl

/-- The frame of the kernel: the idealized one's run, at the device's floats. -/
theorem frame_kernel : Cert.quiescent_KernelGateUp := fun m ρ h => by
  obtain ⟨me, hp⟩ := pinned_of (F := Bits) m h
  rw [defs_same]
  exact (θ_run Cert.KernelGateUpIdeal.defs _ _).mono (fun _ h => h) (frame_run (F := Bits) me m ρ hp)

/-- The frame of the idealized kernel. -/
theorem frame_kernel_ideal : Cert.quiescent_KernelGateUpIdeal := fun m ρ h => (pinned_of (F := Ideal) m h).elim fun me hp => frame_run me m ρ hp

/-- The frame of the reference. -/
theorem frame_reference : Cert.quiescent_ReferenceGateUpIdeal := fun m g _ =>
  (θ_run _ _ _).mono (fun r h => ⟨fun c => (h c).2.2, sem_eq_zero_of_no_sems rfl r.2⟩) (Cert.ReferenceGateUpIdeal.Value.run (F := Ideal) m g)

/-- The value claim. -/
theorem algebraic : Cert.algebraic_KernelGateUpIdeal_ReferenceGateUpIdeal := by
  intro m g m' g' hpre hargs
  obtain ⟨me, hp⟩ := pinned_of (F := Ideal) m hpre
  refine ⟨fun c => (fun x => fullOf m c me (x 0) (x 1) : Vec Ideal Cert.KernelGateUpIdeal.S704x1024 .f32),
    fun c => (fun x => fullOf m c (x 0) (x 1) (x 2) : Vec Ideal Cert.KernelGateUpIdeal.S8x704x1024 .bf16), ?_, ?_⟩
  · exact (θ_run _ _ _).mono (fun _ h c => ⟨((h.1 c).1 (2 : Fin 4)).trans (out2 me m g c), ((h.1 c).1 (3 : Fin 4)).trans (out3 me m g c),
      ((h.1 c).2 0).trans (hp c).symm, ((h.1 c).1 (0 : Fin 4)).trans ((dats me m g 0 c).arrAt_in (0 : Fin 4) rfl _), ((h.1 c).1 (1 : Fin 4)).trans ((dats me m g 0 c).arrAt_in (1 : Fin 4) rfl _)⟩) (run_main me m g hp)
  refine (θ_run _ _ _).mono (fun r h c => ?_) (Cert.ReferenceGateUpIdeal.Value.run (F := Ideal) m' g')
  obtain ⟨r0, r1, k⟩ := h c
  obtain ⟨a0, a1, a2⟩ := hargs c
  rw [a0, a1, a2, hp c] at r0
  rw [a1, a2] at r1
  refine ⟨r0.trans (funext fun x => ?_), r1.trans (funext fun x => ?_), k⟩
  · rw [show x = ix2 (x 0) (x 1) from by funext k; match k with | ⟨0, _⟩ => rfl | ⟨1, _⟩ => rfl]
    pointwise []
    refine Eq.trans (Finset.sum_congr rfl fun d _ => ?_) (Shard.sum_own me fun d => fullOf m c d (x 0) (x 1))
    rw [show id (constant (F := Ideal) Cert.ReferenceGateUpIdeal.S_ .f32 0x00000000#32) ix0 = (0 : EReal) from bits_zero.trans EReal.coe_zero]
    rfl
  · rw [show x = ix3 (x 0) (x 1) (x 2) from by funext k; match k with | ⟨0, _⟩ => rfl | ⟨1, _⟩ => rfl | ⟨2, _⟩ => rfl]
    pointwise []
    rfl

end Cert.GateUp
-- ==== Proof.DnValue.lean ====
/- What the down product's launch leaves in its two outputs: the sums of products over all rows. -/
module

public import proofs.«01_k».proof.Proof.DnCert
public import proofs.«01_k».proof.Proof.GuMatch

@[expose] public section

set_option maxRecDepth 16384

noncomputable section

open Idealize.ShloMosaic Idealize.ShloMosaic.TcCoe Idealize.SL.Sem
open Idealize.ShloMosaic.Pipeline (Dat)

namespace Cert.Down
open Cert.KernelDownIdeal Cert.KernelDownIdeal.Gen Cert.Row

/-- A point's update of the accumulator, at an entry: the sum of products over the point's rows, added to what was held
    unless the point begins a block. -/
theorem pay2_at (i : grid0.Coords) (x : Vec Ideal S1x4096x704 .bf16) (y : Vec Ideal S4096x1024 .bf16) (a : Vec Ideal S704x1024 .f32) (p : Fin 704) (k : Fin 1024) :
    k0_pay2 (F := Ideal) i x y a (ix2 p k) = (∑ s : Fin 4096, x (ix3 0 s p) * y (ix2 s k)) + (if (i 1).val = 0 then 0 else a (ix2 p k)) := by
  pointwise [k0_pay2]
  refine congrArg _ ?_
  have h : ∀ j : Fin 2, Scalar.cmpi .eq (BitVec.ofNat 32 j.val) 0#32 = if j.val = 0 then 1#1 else 0#1 := by decide
  rw [show Scalar.cmpi .eq (BitVec.ofNat 32 (i 1).val) 0#32 = if (i 1).val = 0 then 1#1 else 0#1 from h (i 1)]
  split <;> rfl

theorem pay3_at (a : Vec Ideal S704x1024 .f32) (p : Fin 704) (k : Fin 1024) : k0_pay3 (F := Ideal) a (ix3 0 p k) = a (ix2 p k) := by
  pointwise [k0_pay3]

variable (me : Fin 8) (m : (ℓ : Loc nD τ sig) → Buf (Elt Ideal) ℓ) (ρ : Dev nD → PrngReg)

/-- Where the windows' blocks sit at point `t`. -/
theorem idx (t : Fin (cfgA Ideal me).N) : ((cfgA Ideal me).win 0).index t = ![t.val / 2, t.val % 2, 0] ∧ ((cfgA Ideal me).win 1).index t = ![t.val % 2, 0]
    ∧ ((cfgA Ideal me).win 2).index t = ![0, 0] ∧ ((cfgA Ideal me).win 3).index t = ![t.val / 2, 0, 0] ∧ (crd (F := Ideal) me t 1).val = t.val % 2 :=
  (by decide +kernel : ∀ t : Fin grid0.N, cc0_transform_0 (grid0.coords t) = ![t.val / 2, t.val % 2, 0] ∧ cc0_transform_1 (grid0.coords t) = ![t.val % 2, 0]
    ∧ cc0_transform_2 (grid0.coords t) = ![0, 0] ∧ cc0_transform_3 (grid0.coords t) = ![t.val / 2, 0, 0] ∧ (grid0.coords t 1).val = t.val % 2) t

theorem b0 (c : Dev nD) (t : Fin (cfgA Ideal me).N) (s : Fin 4096) (p : Fin 704) :
    iblk me m ρ c 0 t (ix3 0 s p) = m ((c : Thread nD τ).loc main_arg1) (ix3 ⟨t.val / 2, by have : t.val < 8 := t.isLt; omega⟩ ⟨t.val % 2 * 4096 + s.val, by omega⟩ p) := by
  blk_ext [iblk, idx me t]
theorem b1 (c : Dev nD) (t : Fin (cfgA Ideal me).N) (s : Fin 4096) (k : Fin 1024) :
    iblk me m ρ c 1 t (ix2 s k) = m ((c : Thread nD τ).loc main_arg2) (ix2 ⟨t.val % 2 * 4096 + s.val, by omega⟩ k) := by
  blk_ext [iblk, idx me t]

theorem cov2 : ((cfgA Ideal me).win 2).Covers := (by decide +kernel : ∀ me : Fin 8, ((cfgA Ideal me).win 2).Covers) me
theorem cov3 : ((cfgA Ideal me).win 3).Covers := (by decide +kernel : ∀ me : Fin 8, ((cfgA Ideal me).win 3).Covers) me

/-- An entry of a block of the weights' cotangent, transposed: the sum of products over all rows. -/
def full (A : Vec Ideal S4x8192x704 .bf16) (B : Vec Ideal S8192x1024 .bf16) (b : Fin 4) (p : Fin 704) (k : Fin 1024) : EReal :=
  ∑ s : Fin 8192, A (ix3 b s p) * B (ix2 s k)

/-- The same of the arrays a device's arguments hold. -/
abbrev fullOf (c : Dev nD) := full (m ((c : Thread nD τ).loc main_arg1)) (m ((c : Thread nD τ).loc main_arg2))

/-- Once a block is complete the accumulator holds it. -/
theorem acc_full (c : Dev nD) (b : Fin 4) (p : Fin 704) (k : Fin 1024) : acc me m ρ c (2 * b.val + 2) (ix2 p k) = fullOf m c b p k := by
  let t1 : Fin (cfgA Ideal me).N := (⟨2 * b.val + 1, by omega⟩ : Fin 8)
  let t0 : Fin (cfgA Ideal me).N := (⟨2 * b.val, by omega⟩ : Fin 8)
  rw [show 2 * b.val + 2 = t1.val + 1 from rfl, acc_succ, step, pay2_at, show t1.val = t0.val + 1 from rfl, acc_succ, step, pay2_at]
  have h1 : (crd (F := Ideal) me t1 1).val = 1 := (idx me t1).2.2.2.2.trans (by show (2 * b.val + 1) % 2 = 1; omega)
  have h0 : (crd (F := Ideal) me t0 1).val = 0 := (idx me t0).2.2.2.2.trans (by show (2 * b.val) % 2 = 0; omega)
  rw [h1, h0, if_neg one_ne_zero, if_pos rfl, add_zero, fullOf, full, Shard.sum_halves]
  refine congrArg₂ _ (Finset.sum_congr rfl fun s _ => ?_) (Finset.sum_congr rfl fun s _ => ?_)
  · rw [b0, b1]
    have e2 : t1.val % 2 = 1 := by show (2 * b.val + 1) % 2 = 1; omega
    have e3 : t1.val / 2 = b.val := by show (2 * b.val + 1) / 2 = b.val; omega
    simp only [e2, e3, Fin.eta]
  · rw [b0, b1]
    have e2 : t0.val % 2 = 0 := by show (2 * b.val) % 2 = 0; omega
    have e3 : t0.val / 2 = b.val := by show (2 * b.val) / 2 = b.val; omega
    simp only [e2, e3, Fin.eta]

theorem off_own : ∀ me : Fin 8, k0_off1 (word me) = ![352 * (me.val % 2), 0] := by decide +kernel

/-- An entry of a device's rows of the cotangent: half a block. -/
def shard (A : Vec Ideal S4x8192x704 .bf16) (B : Vec Ideal S8192x1024 .bf16) (d : Fin 8) (p : Fin 352) (k : Fin 1024) : EReal :=
  full A B ⟨d.val / 2, by omega⟩ ⟨352 * (d.val % 2) + p.val, by omega⟩ k

/-- The same of the arrays a device's arguments hold. -/
abbrev shardOf (c : Dev nD) := shard (m ((c : Thread nD τ).loc main_arg1)) (m ((c : Thread nD τ).loc main_arg2))

/-- The rows the device keeps. -/
theorem own_at (c : Dev nD) (p : Fin 352) (k : Fin 1024) : own me m ρ c (ix2 p k) = shardOf m c me p k := by
  refine Eq.trans ?_ (acc_full me m ρ c ⟨me.val / 2, by omega⟩ ⟨352 * (me.val % 2) + p.val, by omega⟩ k)
  refine congrArg (acc me m ρ c (2 * (me.val / 2) + 2)) (funext fun a => Fin.ext ((ValueKit.rect_emb_unit_val _ _ _ _ a).trans ?_))
  have h := congrFun (off_own me)
  match a with
  | ⟨0, _⟩ => exact congrArg (· + p.val) (h 0)
  | ⟨1, _⟩ => exact (congrArg (· + k.val) (h 1)).trans (Nat.zero_add _)

/-- The first output at the end. -/
theorem out2 (c : Dev nD) : (dats me m ρ 0 c).arrAt 2 (cfgA Ideal me).N = (fun x => shardOf m c me (x 0) (x 1) : Vec Ideal S352x1024 .f32) := by
  refine (dats me m ρ 0 c).arrAt_eq_of_covers 2 _ (cov2 me) fun t hf y => ?_
  blk_simp
  rw [after_2]
  have e : ∀ y : S352x1024.Idx, own me m ρ c y = shardOf m c me (y 0) (y 1) := fun y => by
    rw [← own_at me m ρ c (y 0) (y 1)]
    exact congrArg _ (funext fun a => by match a with | ⟨0, _⟩ => rfl | ⟨1, _⟩ => rfl)
  refine (e y).trans (congrArg₂ (shardOf m c me) (Fin.ext ?_) (Fin.ext ?_))
  · blk_simp [idx me t]
  · blk_simp [idx me t]

/-- The second output at the end. -/
theorem out3 (c : Dev nD) : (dats me m ρ 0 c).arrAt 3 (cfgA Ideal me).N = (fun x => fullOf m c (x 0) (x 1) (x 2) : Vec Ideal S4x704x1024 .bf16) := by
  refine (dats me m ρ 0 c).arrAt_eq_of_covers 3 _ (cov3 me) fun t hf y => ?_
  blk_simp
  rw [after_3]
  have ht : t.val < 8 := t.isLt
  have hodd : t.val % 2 = 1 := of_decide_eq_true ((sched (F := Ideal) me t).2.2.2.symm.trans hf)
  have e : ∀ y : S1x704x1024.Idx, k0_pay3 (acc me m ρ c (t.val + 1)) y = fullOf m c ⟨t.val / 2, by omega⟩ (y 1) (y 2) := fun y => by
    have hy : y = ix3 0 (y 1) (y 2) := funext fun a => by match a with | ⟨0, _⟩ => exact Subsingleton.elim (α := Fin 1) _ _ | ⟨1, _⟩ => rfl | ⟨2, _⟩ => rfl
    have ha := acc_full me m ρ c ⟨t.val / 2, by omega⟩ (y 1) (y 2)
    dsimp only at ha
    rw [show 2 * (t.val / 2) + 2 = t.val + 1 by omega] at ha
    exact (congrArg _ hy).trans ((pay3_at _ (y 1) (y 2)).trans ha)
  refine (e y).trans (congr (congrArg₂ (fullOf m c) (Fin.ext ?_) (Fin.ext ?_)) (Fin.ext ?_))
  · blk_simp [idx me t]
  · blk_simp [idx me t]
  · blk_simp [idx me t]

end Cert.Down
-- ==== Proof.DnMatch.lean ====
/- The down product against its reference. -/
module

public import proofs.«01_k».proof.Proof.DnValue
public import proofs.«01_k».proof.Proof.Gen.ReferenceDownIdeal.Run
public import proofs.«01_k».proof.Proof.Gen.KernelDown
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Down
open Cert.Row

/-- The witnesses of the precondition's stated facts. -/
instance facts_pre : Cert.Pre_device_down.Facts where
  bcast_S_S1 := by decide

section Kernel
open Cert.KernelDownIdeal Cert.KernelDownIdeal.Gen

/-- The precondition names a device, whose word the tables hold. -/
theorem pinned_of {F : FTy → Type} [FloatOps F] (m : (ℓ : Loc nD τ sig) → Buf (Elt F) ℓ)
    (h : ∀ c : Dev nD, Cert.Pre_device_down.fn (F := F) (m ((c.tc : Thread nD τ).loc main_arg0)) (m ((c.tc : Thread nD τ).loc main_arg1)) (m ((c.tc : Thread nD τ).loc main_arg2)) = fun _ => 1#1) :
    ∃ me, Pinned me m := by
  obtain ⟨me, e⟩ := Shard.table_eq (m (((0 : Dev nD) : Thread nD τ).loc main_arg0)) fun y => congrFun (h 0) y
  exact ⟨me, fun c => by obtain rfl : c = 0 := Subsingleton.elim _ _; exact e⟩

end Kernel

/-- The two programs' bodies have the same text. -/
theorem body_same : Cert.KernelDown.cc0_dw_down (F := Bits) = Cert.KernelDownIdeal.cc0_dw_down (F := Bits) := rfl

theorem defs_same : Cert.KernelDown.defs (F := Bits) = Cert.KernelDownIdeal.defs (F := Bits) := by
  refine congrArg (Pipeline.defs Cert.KernelDownIdeal.pcfgs) (congrArg Defs.onTc (funext fun l => funext fun p => ?_))
  match l, p with
  | ⟨0, _⟩, (t, s) =>
    dsimp only
    rw [body_same]
    rfl

/-- The frame of the kernel: the idealized one's run, at the device's floats. -/
theorem frame_kernel : Cert.quiescent_KernelDown := fun m ρ h => by
  obtain ⟨me, hp⟩ := pinned_of (F := Bits) m h
  rw [defs_same]
  exact (θ_run Cert.KernelDownIdeal.defs _ _).mono (fun _ h => h) (frame_run (F := Bits) me m ρ hp)

/-- The frame of the idealized kernel. -/
theorem frame_kernel_ideal : Cert.quiescent_KernelDownIdeal := fun m ρ h => (pinned_of (F := Ideal) m h).elim fun me hp => frame_run me m ρ hp

/-- The frame of the reference. -/
theorem frame_reference : Cert.quiescent_ReferenceDownIdeal := fun m g _ =>
  (θ_run _ _ _).mono (fun r h => ⟨fun c => (h c).2.2, sem_eq_zero_of_no_sems rfl r.2⟩) (Cert.ReferenceDownIdeal.Value.run (F := Ideal) m g)

/-- A device's row, by number, is a row of half a block. -/
theorem half_at (A : Vec Ideal Cert.KernelDownIdeal.S4x8192x704 .bf16) (d : Fin 8) (s : Fin 8192) (p : Fin 352) (h : (d.val * 352 + p.val) / 704 < 4) (h' : (d.val * 352 + p.val) % 704 < 704) :
    A (ix3 ⟨(d.val * 352 + p.val) / 704, h⟩ s ⟨(d.val * 352 + p.val) % 704, h'⟩) = A (ix3 ⟨d.val / 2, by omega⟩ s ⟨352 * (d.val % 2) + p.val, by omega⟩) :=
  congrArg₂ (fun b q => A (ix3 b s q)) (Fin.ext (show (d.val * 352 + p.val) / 704 = d.val / 2 by omega)) (Fin.ext (show (d.val * 352 + p.val) % 704 = 352 * (d.val % 2) + p.val by omega))

/-- The value claim. -/
theorem algebraic : Cert.algebraic_KernelDownIdeal_ReferenceDownIdeal := by
  intro m g m' g' hpre hargs
  obtain ⟨me, hp⟩ := pinned_of (F := Ideal) m hpre
  refine ⟨fun c => (fun x => shardOf m c me (x 0) (x 1) : Vec Ideal Cert.KernelDownIdeal.S352x1024 .f32),
    fun c => (fun x => fullOf m c (x 0) (x 1) (x 2) : Vec Ideal Cert.KernelDownIdeal.S4x704x1024 .bf16), ?_, ?_⟩
  · exact (θ_run _ _ _).mono (fun _ h c => ⟨((h.1 c).1 (2 : Fin 4)).trans (out2 me m g c), ((h.1 c).1 (3 : Fin 4)).trans (out3 me m g c),
      ((h.1 c).2 0).trans (hp c).symm, ((h.1 c).1 (0 : Fin 4)).trans ((dats me m g 0 c).arrAt_in (0 : Fin 4) rfl _), ((h.1 c).1 (1 : Fin 4)).trans ((dats me m g 0 c).arrAt_in (1 : Fin 4) rfl _)⟩) (run_main me m g hp)
  refine (θ_run _ _ _).mono (fun r h c => ?_) (Cert.ReferenceDownIdeal.Value.run (F := Ideal) m' g')
  obtain ⟨r0, r1, k⟩ := h c
  obtain ⟨a0, a1, a2⟩ := hargs c
  rw [a0, a1, a2, hp c] at r0
  rw [a1, a2] at r1
  refine ⟨r0.trans (funext fun x => ?_), r1.trans (funext fun x => ?_), k⟩
  · rw [show x = ix2 (x 0) (x 1) from by funext k; match k with | ⟨0, _⟩ => rfl | ⟨1, _⟩ => rfl]
    pointwise []
    refine Eq.trans (Finset.sum_congr rfl fun d _ => ?_) (Shard.sum_own me fun d => shardOf m c d (x 0) (x 1))
    rw [show id (constant (F := Ideal) Cert.ReferenceDownIdeal.S_ .f32 0x00000000#32) ix0 = (0 : EReal) from bits_zero.trans EReal.coe_zero]
    unfold shardOf shard full
    refine congrArg (Scalar.select _ · 0) (Finset.sum_congr rfl fun s _ => (mul_comm _ _).trans ?_)
    exact congrArg₂ (HMul.hMul (α := EReal) (β := EReal)) (half_at (m ((c : Thread Cert.KernelDownIdeal.nD Cert.KernelDownIdeal.τ).loc Cert.KernelDownIdeal.main_arg1)) d s (x 0) _ _) rfl
  · rw [show x = ix3 (x 0) (x 1) (x 2) from by funext k; match k with | ⟨0, _⟩ => rfl | ⟨1, _⟩ => rfl | ⟨2, _⟩ => rfl]
    pointwise []
    exact Finset.sum_congr rfl fun _ _ => mul_comm _ _

end Cert.Down
-- ==== Proof.PjValue.lean ====
/- What the projection product's launch leaves in its two outputs: the sums of products over all rows. -/
module

public import proofs.«01_k».proof.Proof.Gen.KernelProjIdeal.Flash
public import Idealize.ShloMosaic.Lib.Pipeline.ValueKit
public import Idealize.ShloMosaic.Lib.VecWindow
public import proofs.«01_k».proof.Proof.DnMatch

@[expose] public section

set_option maxRecDepth 16384

noncomputable section

open Idealize.ShloMosaic Idealize.ShloMosaic.TcCoe Idealize.SL.Sem
open Idealize.ShloMosaic.Pipeline (Dat)

namespace Cert.Proj
open Cert.KernelProjIdeal Cert.KernelProjIdeal.Gen Cert.Row

variable (me : Fin 8) (m : (ℓ : Loc nD τ sig) → Buf (Elt Ideal) ℓ) (ρ : Dev nD → PrngReg) (c : Dev nD)

/-- The two points. -/
abbrev t0 : Fin (cfgA me).N := (⟨0, by decide⟩ : Fin 2)
abbrev t1 : Fin (cfgA me).N := (⟨1, by decide⟩ : Fin 2)

theorem path0 : P0_0 me (t0 me) := (by decide +kernel : ∀ me, P0_0 me (t0 me)) me
theorem path1 : ¬P0_0 me (t1 me) := (by decide +kernel : ∀ me, ¬P0_0 me (t1 me)) me

/-- The accumulator after each point. -/
def acc0 : Vec Ideal S1024x1024 .f32 := k0_pay2 (crd me (t0 me)) (iblk me m ρ c 0 (t0 me)) (iblk me m ρ c 1 (t0 me)) (k0_pay1 (F := Ideal))
def acc1 : Vec Ideal S1024x1024 .f32 := k0_pay2 (crd me (t1 me)) (iblk me m ρ c 0 (t1 me)) (iblk me m ρ c 1 (t1 me)) (acc0 me m ρ c)

/-- The accumulator stored whole: what the whole buffer holds is the last value stored. -/
theorem sc_writes (f : scM0_0.view.ty.Contents (Elt Ideal)) (w : Vec Ideal S1024x1024 .f32) (L : List (View.Piece (Elt Ideal) S1024x1024 .f32)) :
    scM0_0.view.writes (Elt Ideal) f (⟨Rect.unit ![0, 0] S1024x1024.size inb_S1024x1024_S1024x1024_0_0, w⟩ :: L) = w :=
  (View.read_whole (Val := Elt Ideal) cc0_scratch0 _).symm.trans (View.read_writes_full scM0_0.view f inb_S1024x1024_S1024x1024_0_0 w L)

theorem left0 : (traj0 me m ρ c (t0 me).val (t0 me).isLt).2.2 = acc0 me m ρ c := by
  rw [traj0_eq, step0_A _ _ _ _ _ _ (path0 me)]
  frame_out
  rw [sc_writes, View.read_rep, View.read_rep]
  rfl

theorem left1 : (traj0 me m ρ c (t1 me).val (t1 me).isLt).2.1 = k0_pay3 (acc1 me m ρ c) := by
  rw [traj0_eq, step0_B _ _ _ _ _ _ (path1 me)]
  have e : prev0 me m ρ c (t1 me) = traj0 me m ρ c (t0 me).val (t0 me).isLt := rfl
  rw [e, left0]
  frame_out
  rw [View.read_rep, View.read_rep]
  rfl

theorem left2 : (traj0 me m ρ c (t1 me).val (t1 me).isLt).1 = View.ld (acc1 me m ρ c) (Rect.unit (k0_off1 (BitVec.ofNat 32 me.val)) S128x1024.size (k0_off1_inb _ _ _ (hyp0_B_3 me (t1 me) (path1 me)) (hypsR0_B me (t1 me) (path1 me)).2.1 (hypsR0_B me (t1 me) (path1 me)).2.2.1)) := by
  rw [traj0_eq, step0_B _ _ _ _ _ _ (path1 me)]
  have e : prev0 me m ρ c (t1 me) = traj0 me m ρ c (t0 me).val (t0 me).isLt := rfl
  rw [e, left0]
  frame_out
  rw [View.read_rep, View.read_rep]
  rfl

/-- A point's update of the accumulator, at an entry. -/
theorem pay2_at (i : grid0.Coords) (x : Vec Ideal S4096x1024 .bf16) (y : Vec Ideal S4096x1024 .bf16) (a : Vec Ideal S1024x1024 .f32) (p : Fin 1024) (k : Fin 1024) :
    k0_pay2 (F := Ideal) i x y a (ix2 p k) = (∑ s : Fin 4096, x (ix2 s p) * y (ix2 s k)) + (if (i 1).val = 0 then 0 else a (ix2 p k)) := by
  pointwise [k0_pay2]
  refine congrArg _ ?_
  have h : ∀ j : Fin 2, Scalar.cmpi .eq (BitVec.ofNat 32 j.val) 0#32 = if j.val = 0 then 1#1 else 0#1 := by decide
  rw [show Scalar.cmpi .eq (BitVec.ofNat 32 (i 1).val) 0#32 = if (i 1).val = 0 then 1#1 else 0#1 from h (i 1)]
  split <;> rfl

theorem pay3_at (a : Vec Ideal S1024x1024 .f32) (p : Fin 1024) (k : Fin 1024) : k0_pay3 (F := Ideal) a (ix3 0 p k) = a (ix2 p k) := by
  pointwise [k0_pay3]

/-- Where the windows' blocks sit at point `t`. -/
theorem idx (t : Fin (cfgA me).N) : ((cfgA me).win 0).index t = ![t.val, 0] ∧ ((cfgA me).win 1).index t = ![t.val, 0]
    ∧ ((cfgA me).win 2).index t = ![0, 0] ∧ ((cfgA me).win 3).index t = ![0, 0, 0] ∧ (crd me t 1).val = t.val :=
  (by decide +kernel : ∀ t : Fin grid0.N, cc0_transform_0 (grid0.coords t) = ![t.val, 0] ∧ cc0_transform_1 (grid0.coords t) = ![t.val, 0]
    ∧ cc0_transform_2 (grid0.coords t) = ![0, 0] ∧ cc0_transform_3 (grid0.coords t) = ![0, 0, 0] ∧ (grid0.coords t 1).val = t.val) t

theorem b0 (t : Fin (cfgA me).N) (s : Fin 4096) (p : Fin 1024) :
    iblk me m ρ c 0 t (ix2 s p) = m ((c : Thread nD τ).loc main_arg1) (ix2 ⟨t.val * 4096 + s.val, by have : t.val < 2 := t.isLt; omega⟩ p) := by
  blk_ext [iblk, idx me t]
theorem b1 (t : Fin (cfgA me).N) (s : Fin 4096) (k : Fin 1024) :
    iblk me m ρ c 1 t (ix2 s k) = m ((c : Thread nD τ).loc main_arg2) (ix2 ⟨t.val * 4096 + s.val, by have : t.val < 2 := t.isLt; omega⟩ k) := by
  blk_ext [iblk, idx me t]

theorem cov2 : ((cfgA me).win 2).Covers := (by decide +kernel : ∀ me : Fin 8, ((cfgA me).win 2).Covers) me
theorem cov3 : ((cfgA me).win 3).Covers := (by decide +kernel : ∀ me : Fin 8, ((cfgA me).win 3).Covers) me

/-- An entry of the weights' cotangent: the sum of products over all rows. -/
def full (A : Vec Ideal S8192x1024 .bf16) (B : Vec Ideal S8192x1024 .bf16) (p : Fin 1024) (k : Fin 1024) : EReal :=
  ∑ s : Fin 8192, A (ix2 s p) * B (ix2 s k)

/-- The same of the arrays a device's arguments hold. -/
abbrev fullOf := full (m ((c : Thread nD τ).loc main_arg1)) (m ((c : Thread nD τ).loc main_arg2))

/-- A point's update of the accumulator, of what the arguments hold. -/
theorem step_at (t : Fin (cfgA me).N) (a : Vec Ideal S1024x1024 .f32) (A B : Vec Ideal S8192x1024 .bf16) (hA : m ((c : Thread nD τ).loc main_arg1) = A) (hB : m ((c : Thread nD τ).loc main_arg2) = B) (p k : Fin 1024) :
    k0_pay2 (F := Ideal) (crd me t) (iblk me m ρ c 0 t) (iblk me m ρ c 1 t) a (ix2 p k)
      = (∑ s : Fin 4096, A (ix2 ⟨t.val * 4096 + s.val, by have : t.val < 2 := t.isLt; omega⟩ p) * B (ix2 ⟨t.val * 4096 + s.val, by have : t.val < 2 := t.isLt; omega⟩ k)) + (if t.val = 0 then 0 else a (ix2 p k)) := by
  subst hA hB
  refine (pay2_at _ _ _ _ p k).trans (congrArg₂ _ (Finset.sum_congr rfl fun s _ => congrArg₂ _ (b0 me m ρ c t s p) (b1 me m ρ c t s k)) ?_)
  rw [(idx me t).2.2.2.2]

/-- At the end the accumulator holds it. -/
theorem acc_full (p : Fin 1024) (k : Fin 1024) : acc1 me m ρ c (ix2 p k) = fullOf m c p k := by
  rw [acc1, step_at me m ρ c (t1 me) _ _ _ rfl rfl, acc0, step_at me m ρ c (t0 me) _ _ _ rfl rfl, if_neg (show (t1 me).val ≠ 0 from one_ne_zero), if_pos (show (t0 me).val = 0 from rfl), add_zero, fullOf, full, Shard.sum_halves]

theorem off_own : ∀ me : Fin 8, k0_off1 (BitVec.ofNat 32 me.val) = ![128 * me.val, 0] := by decide +kernel

/-- An entry of a device's rows of the cotangent. -/
def shard (A : Vec Ideal S8192x1024 .bf16) (B : Vec Ideal S8192x1024 .bf16) (d : Fin 8) (p : Fin 128) (k : Fin 1024) : EReal :=
  full A B ⟨128 * d.val + p.val, by omega⟩ k

/-- The same of the arrays a device's arguments hold. -/
abbrev shardOf := shard (m ((c : Thread nD τ).loc main_arg1)) (m ((c : Thread nD τ).loc main_arg2))

/-- The rows the device keeps. -/
theorem own_at (p : Fin 128) (k : Fin 1024) : (traj0 me m ρ c (t1 me).val (t1 me).isLt).1 (ix2 p k) = shardOf m c me p k := by
  rw [left2]
  refine Eq.trans ?_ (acc_full me m ρ c ⟨128 * me.val + p.val, by omega⟩ k)
  refine congrArg (acc1 me m ρ c) (funext fun a => Fin.ext ((ValueKit.rect_emb_unit_val _ _ _ _ a).trans ?_))
  have h := congrFun (off_own me)
  match a with
  | ⟨0, _⟩ => exact congrArg (· + p.val) (h 0)
  | ⟨1, _⟩ => exact (congrArg (· + k.val) (h 1)).trans (Nat.zero_add _)

/-- A point that writes back is the second. -/
theorem at_end (t : Fin (cfgA me).N) (w : ¬P0_0 me t) : t = t1 me :=
  (by decide +kernel : ∀ me, ∀ t : Fin (cfgA me).N, ¬P0_0 me t → t = t1 me) me t w

/-- The first output at the end. -/
theorem out2 : (dats me m ρ 0 c).arrAt 2 (cfgA me).N = (fun x => shardOf m c me (x 0) (x 1) : Vec Ideal S128x1024 .f32) := by
  refine (dats me m ρ 0 c).arrAt_eq_of_covers 2 _ (cov2 me) fun t hf y => ?_
  obtain rfl := at_end me t fun q => Bool.false_ne_true ((sched0_A me t q).2.1.symm.trans hf)
  blk_simp
  rw [after0_2]
  have e : ∀ y : S128x1024.Idx, (traj0 me m ρ c (t1 me).val (t1 me).isLt).1 y = shardOf m c me (y 0) (y 1) := fun y => by
    rw [← own_at me m ρ c (y 0) (y 1)]
    exact congrArg _ (funext fun a => by match a with | ⟨0, _⟩ => rfl | ⟨1, _⟩ => rfl)
  refine (e y).trans (congrArg₂ (shardOf m c me) (Fin.ext ?_) (Fin.ext ?_))
  · blk_simp [idx me (t1 me)]
  · blk_simp [idx me (t1 me)]

/-- The second output at the end. -/
theorem out3 : (dats me m ρ 0 c).arrAt 3 (cfgA me).N = (fun x => fullOf m c (x 1) (x 2) : Vec Ideal S1x1024x1024 .bf16) := by
  refine (dats me m ρ 0 c).arrAt_eq_of_covers 3 _ (cov3 me) fun t hf y => ?_
  obtain rfl := at_end me t fun q => Bool.false_ne_true ((sched0_A me t q).2.2.2.2.1.symm.trans hf)
  blk_simp
  rw [after0_3, left1]
  have e : ∀ y : S1x1024x1024.Idx, k0_pay3 (acc1 me m ρ c) y = fullOf m c (y 1) (y 2) := fun y => by
    have hy : y = ix3 0 (y 1) (y 2) := funext fun a => by match a with | ⟨0, _⟩ => exact Subsingleton.elim (α := Fin 1) _ _ | ⟨1, _⟩ => rfl | ⟨2, _⟩ => rfl
    exact (congrArg _ hy).trans ((pay3_at _ (y 1) (y 2)).trans (acc_full me m ρ c (y 1) (y 2)))
  refine (e y).trans (congrArg₂ (fullOf m c) (Fin.ext ?_) (Fin.ext ?_))
  · blk_simp [idx me (t1 me)]
  · blk_simp [idx me (t1 me)]

end Cert.Proj
-- ==== Proof.PjMatch.lean ====
/- The projection product against its reference. -/
module

public import proofs.«01_k».proof.Proof.PjValue
public import proofs.«01_k».proof.Proof.Gen.ReferenceProjIdeal.Run
public import proofs.«01_k».proof.Proof.Gen.KernelProj.Flash
public import proofs.«01_k».proof.Defs
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proj
open Cert.Row

/-- The witnesses of the precondition's stated facts. -/
instance facts_pre : Cert.Pre_device_proj.Facts where
  bcast_S_S1 := by decide

section Kernel
open Cert.KernelProjIdeal Cert.KernelProjIdeal.Gen

/-- The precondition names a device, whose word the tables hold. -/
theorem pinned_of (m : (ℓ : Loc nD τ sig) → Buf (Elt Ideal) ℓ)
    (h : ∀ c : Dev nD, Cert.Pre_device_proj.fn (F := Ideal) (m ((c.tc : Thread nD τ).loc main_arg0)) (m ((c.tc : Thread nD τ).loc main_arg1)) (m ((c.tc : Thread nD τ).loc main_arg2)) = fun _ => 1#1) :
    ∃ me, Pinned me m := by
  obtain ⟨me, e⟩ := Shard.table_eq (m (((0 : Dev nD) : Thread nD τ).loc main_arg0)) fun y => congrFun (h 0) y
  exact ⟨me, fun c => by obtain rfl : c = 0 := Subsingleton.elim _ _; exact e⟩

end Kernel

/-- The frame of the kernel. -/
theorem frame_kernel : Cert.quiescent_KernelProj := fun m ρ h => by
  obtain ⟨me, e⟩ := Shard.table_eq (m (((0 : Dev Cert.KernelProj.nD) : Thread Cert.KernelProj.nD Cert.KernelProj.τ).loc Cert.KernelProj.main_arg0)) fun y => congrFun (h 0) y
  exact Cert.KernelProj.Gen.frame me m ρ fun c => by obtain rfl : c = 0 := Subsingleton.elim _ _; exact e

/-- The frame of the idealized kernel. -/
theorem frame_kernel_ideal : Cert.quiescent_KernelProjIdeal := fun m ρ h => (pinned_of m h).elim fun me hp => Cert.KernelProjIdeal.Gen.frame me m ρ hp

/-- The frame of the reference. -/
theorem frame_reference : Cert.quiescent_ReferenceProjIdeal := fun m g _ =>
  (θ_run _ _ _).mono (fun r h => ⟨fun c => (h c).2.2, sem_eq_zero_of_no_sems rfl r.2⟩) (Cert.ReferenceProjIdeal.Value.run (F := Ideal) m g)

/-- A device's row, by number. -/
theorem row_at (A : Vec Ideal Cert.KernelProjIdeal.S8192x1024 .bf16) (d : Fin 8) (s : Fin 8192) (p : Fin 128) (h : d.val * 128 + p.val < 1024) :
    A (ix2 s ⟨d.val * 128 + p.val, h⟩) = A (ix2 s ⟨128 * d.val + p.val, by omega⟩) :=
  congrArg (fun q => A (ix2 s q)) (Fin.ext (show d.val * 128 + p.val = 128 * d.val + p.val by omega))

/-- The value claim. -/
theorem algebraic : Cert.algebraic_KernelProjIdeal_ReferenceProjIdeal := by
  intro m g m' g' hpre hargs
  obtain ⟨me, hp⟩ := pinned_of m hpre
  refine ⟨fun c => (fun x => shardOf m c me (x 0) (x 1) : Vec Ideal Cert.KernelProjIdeal.S128x1024 .f32),
    fun c => (fun x => fullOf m c (x 1) (x 2) : Vec Ideal Cert.KernelProjIdeal.S1x1024x1024 .bf16), ?_, ?_⟩
  · exact (θ_run _ _ _).mono (fun _ h c => ⟨((h c).1 (2 : Fin 4)).trans (out2 me m g c), ((h c).1 (3 : Fin 4)).trans (out3 me m g c),
      ((h c).2 0).trans (hp c).symm, ((h c).1 (0 : Fin 4)).trans ((Cert.KernelProjIdeal.Gen.dats me m g 0 c).arrAt_in (0 : Fin 4) rfl _), ((h c).1 (1 : Fin 4)).trans ((Cert.KernelProjIdeal.Gen.dats me m g 0 c).arrAt_in (1 : Fin 4) rfl _)⟩) (Cert.KernelProjIdeal.Gen.run_main me m g hp)
  refine (θ_run _ _ _).mono (fun r h c => ?_) (Cert.ReferenceProjIdeal.Value.run (F := Ideal) m' g')
  obtain ⟨r0, r1, k⟩ := h c
  obtain ⟨a0, a1, a2⟩ := hargs c
  rw [a0, a1, a2, hp c] at r0
  rw [a1, a2] at r1
  refine ⟨r0.trans (funext fun x => ?_), r1.trans (funext fun x => ?_), k⟩
  · rw [show x = ix2 (x 0) (x 1) from by funext k; match k with | ⟨0, _⟩ => rfl | ⟨1, _⟩ => rfl]
    pointwise []
    refine Eq.trans (Finset.sum_congr rfl fun d _ => ?_) (Shard.sum_own me fun d => shardOf m c d (x 0) (x 1))
    rw [show id (constant (F := Ideal) Cert.ReferenceProjIdeal.S_ .f32 0x00000000#32) ix0 = (0 : EReal) from bits_zero.trans EReal.coe_zero]
    unfold shardOf shard full
    refine congrArg (Scalar.select _ · 0) (Finset.sum_congr rfl fun s _ => (mul_comm _ _).trans ?_)
    exact congrArg₂ (HMul.hMul (α := EReal) (β := EReal)) (row_at (m ((c : Thread Cert.KernelProjIdeal.nD Cert.KernelProjIdeal.τ).loc Cert.KernelProjIdeal.main_arg1)) d s (x 0) _) rfl
  · rw [show x = ix3 (x 0) (x 1) (x 2) from by funext k; match k with | ⟨0, _⟩ => rfl | ⟨1, _⟩ => rfl | ⟨2, _⟩ => rfl]
    pointwise []
    exact Finset.sum_congr rfl fun _ _ => mul_comm _ _

end Cert.Proj
-- ==== Proof.AdamSmall.lean ====
/- The optimiser call on the packed small arrays against its reference. -/
module

public import proofs.«01_k».proof.Proof.PjMatch
public import proofs.«01_k».proof.Proof.Gen.KernelAdamSmall.Frame
public import proofs.«01_k».proof.Proof.Gen.KernelAdamSmallIdeal.Value
public import proofs.«01_k».proof.Proof.Gen.ReferenceAdamSmallIdeal.Run
public import proofs.«01_k».proof.Defs
public import Idealize.ShloMosaic.Lib.Claim
public import Idealize.ShloMosaic.Lib.Quiescent

@[expose] public section

noncomputable section

open Idealize.ShloMosaic Idealize.ShloMosaic.TcCoe Idealize.SL.Sem

namespace Cert.AdamSmall

/-- The frame of the kernel. -/
theorem frame_kernel : Cert.quiescent_KernelAdamSmall := fun m ρ _ => Cert.KernelAdamSmall.Gen.frame m ρ

/-- The frame of the idealized kernel. -/
theorem frame_kernel_ideal : Cert.quiescent_KernelAdamSmallIdeal := fun m ρ _ => Cert.KernelAdamSmallIdeal.Gen.frame m ρ

/-- The frame of the reference. -/
theorem frame_reference : Cert.quiescent_ReferenceAdamSmallIdeal := fun m g _ =>
  (θ_run _ _ _).mono (fun r h => ⟨fun c => (h c).2.2.2, sem_eq_zero_of_no_sems rfl r.2⟩) (Cert.ReferenceAdamSmallIdeal.Value.run (F := Ideal) m g)

/-- The value claim: the reference's three terms are the kernel's, entry by entry. -/
theorem algebraic : Cert.algebraic_KernelAdamSmallIdeal_ReferenceAdamSmallIdeal := by
  intro m g m' g' _ hargs
  refine ⟨_, _, _, Cert.KernelAdamSmallIdeal.Value.run m g, ?_⟩
  refine (θ_run _ _ _).mono (fun r h c => ?_) (Cert.ReferenceAdamSmallIdeal.Value.run (F := Ideal) m' g')
  obtain ⟨r0, r1, r2, k⟩ := h c
  obtain ⟨a0, a1, a2, a3⟩ := hargs c
  rw [a0, a1, a2, a3] at r0
  rw [a1, a2] at r1
  rw [a1, a3] at r2
  exact ⟨r0, r1, r2, k⟩

end Cert.AdamSmall
-- ==== Proof.AdamConv.lean ====
/- The optimiser call on a device's columns of the convolution taps against its reference. -/
module

public import proofs.«01_k».proof.Proof.AdamSmall
public import proofs.«01_k».proof.Proof.Gen.KernelAdamConv.Frame
public import proofs.«01_k».proof.Proof.Gen.KernelAdamConvIdeal.Value
public import proofs.«01_k».proof.Proof.Gen.ReferenceAdamConvIdeal.Run
public import proofs.«01_k».proof.Defs
public import Idealize.ShloMosaic.Lib.Claim
public import Idealize.ShloMosaic.Lib.Quiescent

@[expose] public section

noncomputable section

open Idealize.ShloMosaic Idealize.ShloMosaic.TcCoe Idealize.SL.Sem

namespace Cert.AdamConv

/-- The frame of the kernel. -/
theorem frame_kernel : Cert.quiescent_KernelAdamConv := fun m ρ _ => Cert.KernelAdamConv.Gen.frame m ρ

/-- The frame of the idealized kernel. -/
theorem frame_kernel_ideal : Cert.quiescent_KernelAdamConvIdeal := fun m ρ _ => Cert.KernelAdamConvIdeal.Gen.frame m ρ

/-- The frame of the reference. -/
theorem frame_reference : Cert.quiescent_ReferenceAdamConvIdeal := fun m g _ =>
  (θ_run _ _ _).mono (fun r h => ⟨fun c => (h c).2.2.2, sem_eq_zero_of_no_sems rfl r.2⟩) (Cert.ReferenceAdamConvIdeal.Value.run (F := Ideal) m g)

/-- The value claim: the reference's three terms are the kernel's, entry by entry. -/
theorem algebraic : Cert.algebraic_KernelAdamConvIdeal_ReferenceAdamConvIdeal := by
  intro m g m' g' _ hargs
  refine ⟨_, _, _, Cert.KernelAdamConvIdeal.Value.run m g, ?_⟩
  refine (θ_run _ _ _).mono (fun r h c => ?_) (Cert.ReferenceAdamConvIdeal.Value.run (F := Ideal) m' g')
  obtain ⟨r0, r1, r2, k⟩ := h c
  obtain ⟨a0, a1, a2, a3⟩ := hargs c
  rw [a0, a1, a2, a3] at r0
  rw [a1, a2] at r1
  rw [a1, a3] at r2
  exact ⟨r0, r1, r2, k⟩

end Cert.AdamConv
-- ==== Proof.AdamPoint.lean ====
/- One entry of the optimiser: the sum of the devices' parts by the table of slots, and the two moments' and the weight's steps. -/
module

public import Idealize.ShloMosaic.Lib.Pointwise
public import proofs.«01_k».proof.Proof.Shard
public import proofs.«01_k».proof.Proof.AdamConv

@[expose] public section

noncomputable section

open Idealize.ShloMosaic

namespace Cert.Adam

/-- What a slot of word `w` adds: the device's own rows, the part received, or nothing. -/
def part (w : BitVec 32) (o r : EReal) : EReal := Scalar.select (Scalar.cmpi .eq w 2#32) o (Scalar.select (Scalar.cmpi .eq w 1#32) r 0)

/-- The eight slots' sum. -/
def parts (T : (⟨1, ![8]⟩ : Shape).Idx → BitVec 32) (o : EReal) (r : Fin 8 → EReal) : EReal := ∑ d, part (T (ix1 d)) o (r d)

/-- The reference's sum: the device's own rows in its place, the others as received. -/
def total (me : BitVec 32) (o : EReal) (r : Fin 8 → EReal) : EReal := ∑ d : Fin 8, Scalar.select (IntOp.cmpi .eq (BitVec.ofNat 32 d.val) me) o (r d)

/-- A slot of the direct exchange. -/
theorem part_direct (d me : BitVec 32) (o r : EReal) :
    part (Scalar.select (IntOp.cmpi .eq (IntOp.xori d me) 0#32) 2#32 1#32) o r = Scalar.select (IntOp.cmpi .eq d me) o r := by
  by_cases h : d = me
  · subst h
    have e : IntOp.xori d d = 0#32 := BitVec.xor_self
    have q : IntOp.cmpi .eq d d = 1#1 := by simp [IntOp.cmpi]
    rw [e, q]; rfl
  · have e : ¬ (IntOp.xori d me = 0#32) := fun q => h (BitVec.xor_eq_zero_iff.mp q)
    have a : IntOp.cmpi .eq (IntOp.xori d me) 0#32 = 0#1 := congrArg BitVec.ofBool (beq_eq_false_iff_ne.mpr e)
    have q : IntOp.cmpi .eq d me = 0#1 := congrArg BitVec.ofBool (beq_eq_false_iff_ne.mpr h)
    rw [a, q]; rfl

/-- The slots of the direct exchange add up to the reference's sum. -/
theorem parts_direct (T : (⟨1, ![8]⟩ : Shape).Idx → BitVec 32) (me : BitVec 32) (o : EReal) (r : Fin 8 → EReal)
    (h : ∀ d : Fin 8, T (ix1 d) = Scalar.select (IntOp.cmpi .eq (IntOp.xori (BitVec.ofNat 32 d.val) me) 0#32) 2#32 1#32) : parts T o r = total me o r :=
  Finset.sum_congr rfl fun d _ => (congrArg (part · o (r d)) (h d)).trans (part_direct _ _ _ _)

section Steps
variable {F : FTy → Type} [FloatOps F]

/-- The first moment's step. -/
def mom1 (g m : F .f32) : F .f32 := FloatOps.addf (FloatOps.mulf (Scalar.ofBits .f32 0x3F666666#32) m) (FloatOps.mulf (Scalar.ofBits .f32 0x3DCCCCCD#32) g)

/-- The second moment's step. -/
def mom2 (g v : F .f32) : F .f32 := FloatOps.addf (FloatOps.mulf (Scalar.ofBits .f32 0x3F7FBE77#32) v) (FloatOps.mulf (Scalar.ofBits .f32 0x3A83126F#32) (FloatOps.mulf g g))

/-- The weight's step. -/
def step (g w m v : F .f32) : F .f32 :=
  FloatOps.mulf (Scalar.ofBits .f32 0xBA83126F#32) (FloatOps.addf
    (FloatOps.divf (FloatOps.divf (mom1 g m) (Scalar.ofBits .f32 0x3F26BD02#32))
      (FloatOps.addf (FloatOps.sqrt (FloatOps.divf (mom2 g v) (Scalar.ofBits .f32 0x3C231ACC#32))) (Scalar.ofBits .f32 0x322BCC77#32)))
    (FloatOps.mulf (Scalar.ofBits .f32 0x3C23D70A#32) w))

end Steps

section Arrays
variable {r c : ℕ}

/-- An array of one float for each row and column, and its index. -/
abbrev Mat (r c : ℕ) := FVec Ideal ⟨2, ![r, c]⟩ .f32

/-- An entry of the gradient. -/
def grad (w : Vec Ideal ⟨1, ![1]⟩ .i32) (A : Mat r c) (B : Vec Ideal ⟨3, ![8, r, c]⟩ .bf16) (p : Fin r) (k : Fin c) : EReal :=
  total (w (ix1 0)) (A (ix2 p k)) fun d => B (ix3 d p k)

/-- The steps' entries, of a gradient's. -/
def moment1 (g : Fin r → Fin c → EReal) (M : Mat r c) (p : Fin r) (k : Fin c) : EReal := mom1 (F := Ideal) (g p k) (M (ix2 p k))
def moment2 (g : Fin r → Fin c → EReal) (U : Mat r c) (p : Fin r) (k : Fin c) : EReal := mom2 (F := Ideal) (g p k) (U (ix2 p k))
def delta (g : Fin r → Fin c → EReal) (W M U : Mat r c) (p : Fin r) (k : Fin c) : EReal := step (F := Ideal) (g p k) (W (ix2 p k)) (M (ix2 p k)) (U (ix2 p k))

/-- The array of given entries. -/
def mat (f : Fin r → Fin c → EReal) : Mat r c := fun x => f (x 0) (x 1)

theorem ix2_eta (x : (⟨2, ![r, c]⟩ : Shape).Idx) : x = ix2 (x 0) (x 1) := by funext k; match k with | ⟨0, _⟩ => rfl | ⟨1, _⟩ => rfl

/-- An array is `mat f` when its entries are `f`. -/
theorem eq_mat (L : Mat r c) (f : Fin r → Fin c → EReal) (h : ∀ p k, L (ix2 p k) = f p k) : L = mat f :=
  funext fun x => (congrArg L (ix2_eta x)).trans (h _ _)

section Reference
variable (h : (⟨0, ![]⟩ : Shape).BroadcastsInDim ⟨2, ![r, c]⟩ (![] : Fin 0 → Fin 2))

/-- The reference's steps, of a gradient. -/
def refMoment1 (G M : Mat r c) : Mat r c :=
  addf (mulf (broadcastInDim _ ![] h (constant ⟨0, ![]⟩ .f32 0x3F666666#32)) M) (mulf (broadcastInDim _ ![] h (constant ⟨0, ![]⟩ .f32 0x3DCCCCCD#32)) G)
def refMoment2 (G U : Mat r c) : Mat r c :=
  addf (mulf (broadcastInDim _ ![] h (constant ⟨0, ![]⟩ .f32 0x3F7FBE77#32)) U) (mulf (broadcastInDim _ ![] h (constant ⟨0, ![]⟩ .f32 0x3A83126F#32)) (mulf G G))
def refDelta (G W M U : Mat r c) : Mat r c :=
  mulf (broadcastInDim _ ![] h (constant ⟨0, ![]⟩ .f32 0xBA83126F#32)) (addf
    (Host.divf (Host.divf (refMoment1 h G M) (broadcastInDim _ ![] h (constant ⟨0, ![]⟩ .f32 0x3F26BD02#32)))
      (addf (Host.sqrt (Host.divf (refMoment2 h G U) (broadcastInDim _ ![] h (constant ⟨0, ![]⟩ .f32 0x3C231ACC#32)))) (broadcastInDim _ ![] h (constant ⟨0, ![]⟩ .f32 0x322BCC77#32))))
    (mulf (broadcastInDim _ ![] h (constant ⟨0, ![]⟩ .f32 0x3C23D70A#32)) W))

/-- They are the kernel's, entry by entry. -/
theorem refMoment1_eq (g : Fin r → Fin c → EReal) (M : Mat r c) : refMoment1 h (mat g) M = mat (moment1 g M) := eq_mat _ _ fun _ _ => rfl
theorem refMoment2_eq (g : Fin r → Fin c → EReal) (U : Mat r c) : refMoment2 h (mat g) U = mat (moment2 g U) := eq_mat _ _ fun _ _ => rfl
theorem refDelta_eq (g : Fin r → Fin c → EReal) (W M U : Mat r c) : refDelta h (mat g) W M U = mat (delta g W M U) := eq_mat _ _ fun _ _ => rfl

/-- The three steps, of a gradient whose entries are known. -/
theorem refSteps_eq {G : Mat r c} {g : Fin r → Fin c → EReal} (e : G = mat g) (W M U : Mat r c) :
    refDelta h G W M U = mat (delta g W M U) ∧ refMoment1 h G M = mat (moment1 g M) ∧ refMoment2 h G U = mat (moment2 g U) := by
  subst e; exact ⟨refDelta_eq h g W M U, refMoment1_eq h g M, refMoment2_eq h g U⟩

end Reference

/-- An array's entries by blocks of rows: a block's entries are those of its rows. -/
theorem block_entry {n : ℕ} (f : Fin r → Fin c → EReal) (row : Fin n → Fin r) (L : Mat n c) (h : ∀ p k, L (ix2 p k) = f (row p) k)
    (y : (⟨2, ![n, c]⟩ : Shape).Idx) (i : Fin r) (j : Fin c) (hi : i.val = (row (y 0)).val) (hj : j.val = (y 1).val) : L y = f i j := by
  obtain rfl : i = row (y 0) := Fin.ext hi
  obtain rfl : j = y 1 := Fin.ext hj
  exact (congrArg L (ix2_eta y)).trans (h (y 0) (y 1))

section Points
variable {n : ℕ} {T : (⟨1, ![8]⟩ : Shape).Idx → BitVec 32} {row : Fin n → Fin r} {x0 x2 x3 x4 o5 o6 o7 o8 : Mat n c} {x1 : Vec Ideal ⟨3, ![8, n, c]⟩ .bf16}
  {A W M U : Mat r c} {B : Vec Ideal ⟨3, ![8, r, c]⟩ .bf16}

/-- What the body leaves of its blocks: the slots' sum, and the steps of it. -/
structure Leaves (T : (⟨1, ![8]⟩ : Shape).Idx → BitVec 32) (x0 : Mat n c) (x1 : Vec Ideal ⟨3, ![8, n, c]⟩ .bf16) (x2 x3 x4 o5 o6 o7 o8 : Mat n c) : Prop where
  sum : ∀ p k, o5 (ix2 p k) = parts T (x0 (ix2 p k)) fun d => x1 (ix3 d p k)
  weight : ∀ p k, o6 (ix2 p k) = step (F := Ideal) (o5 (ix2 p k)) (x2 (ix2 p k)) (x3 (ix2 p k)) (x4 (ix2 p k))
  first : ∀ p k, o7 (ix2 p k) = mom1 (F := Ideal) (o5 (ix2 p k)) (x3 (ix2 p k))
  second : ∀ p k, o8 (ix2 p k) = mom2 (F := Ideal) (o5 (ix2 p k)) (x4 (ix2 p k))

/-- The blocks' entries are those of the arrays' rows. -/
structure Blocks (row : Fin n → Fin r) (x0 : Mat n c) (x1 : Vec Ideal ⟨3, ![8, n, c]⟩ .bf16) (x2 x3 x4 : Mat n c) (A : Mat r c) (B : Vec Ideal ⟨3, ![8, r, c]⟩ .bf16)
    (W M U : Mat r c) : Prop where
  own : ∀ p k, x0 (ix2 p k) = A (ix2 (row p) k)
  received : ∀ d p k, x1 (ix3 d p k) = B (ix3 d (row p) k)
  weights : ∀ p k, x2 (ix2 p k) = W (ix2 (row p) k)
  firsts : ∀ p k, x3 (ix2 p k) = M (ix2 (row p) k)
  seconds : ∀ p k, x4 (ix2 p k) = U (ix2 (row p) k)

/-- So the body leaves the gradient, the weight's change and both moments, at its rows. -/
theorem Leaves.rows (l : Leaves T x0 x1 x2 x3 x4 o5 o6 o7 o8) (b : Blocks row x0 x1 x2 x3 x4 A B W M U) (g : Fin r → Fin c → EReal)
    (hg : ∀ p k, parts T (A (ix2 p k)) (fun d => B (ix3 d p k)) = g p k) :
    (∀ p k, o5 (ix2 p k) = g (row p) k) ∧ (∀ p k, o6 (ix2 p k) = delta g W M U (row p) k) ∧ (∀ p k, o7 (ix2 p k) = moment1 g M (row p) k)
    ∧ ∀ p k, o8 (ix2 p k) = moment2 g U (row p) k := by
  have s : ∀ p k, o5 (ix2 p k) = g (row p) k := fun p k => by rw [l.sum, b.own, funext fun d => b.received d p k, hg]
  refine ⟨s, fun p k => ?_, fun p k => ?_, fun p k => ?_⟩
  · rw [l.weight, s, b.weights, b.firsts, b.seconds]; rfl
  · rw [l.first, s, b.firsts]; rfl
  · rw [l.second, s, b.seconds]; rfl

end Points

end Arrays

section Slots
variable (h1 : (⟨1, ![1]⟩ : Shape).BroadcastsInDim ⟨1, ![8]⟩ (![0] : Fin 1 → Fin 1)) (h0 : (⟨0, ![]⟩ : Shape).BroadcastsInDim ⟨1, ![8]⟩ (![] : Fin 0 → Fin 1))
  (w : Vec Ideal ⟨1, ![1]⟩ .i32)

/-- A word at each slot. -/
def splat (x : BitVec 32) : Vec Ideal ⟨1, ![8]⟩ .i32 := broadcastInDim _ ![] h0 (constantI ⟨0, ![]⟩ 32 x)

/-- The bits in which a slot's number differs from `w`. -/
def flips : Vec Ideal ⟨1, ![8]⟩ .i32 := xori (iotaInDim ⟨1, ![8]⟩ 32 0) (broadcastInDim _ ![0] h1 w)

/-- The device's own slot. -/
def mine : Vec Ideal ⟨1, ![8]⟩ .i1 := cmpi .eq (flips h1 w) (splat h0 0#32)

/-- The direct exchange's table of slots, and its word at a slot. -/
def direct : Vec Ideal ⟨1, ![8]⟩ .i32 := select (mine h1 h0 w) (splat h0 2#32) (splat h0 1#32)

theorem direct_word (d : Fin 8) : direct h1 h0 w (ix1 d) = Scalar.select (IntOp.cmpi .eq (IntOp.xori (BitVec.ofNat 32 d.val) (w (ix1 0))) 0#32) 2#32 1#32 := by
  pointwise [direct, mine, flips, splat]

/-- What a sum by the direct table is. -/
theorem sum_direct (o : EReal) (r : Fin 8 → EReal) : parts (direct h1 h0 w) o r = total (w (ix1 0)) o r := parts_direct _ _ _ _ (direct_word h1 h0 w)

/-- The remainders by two, as the host code takes them. -/
def two : Vec Ideal ⟨0, ![]⟩ .i32 :=
  select (cmpi .eq (id (constantI ⟨0, ![]⟩ 32 2#32)) (constantI ⟨0, ![]⟩ 32 0#32)) (constantI ⟨0, ![]⟩ 32 1#32) (id (constantI ⟨0, ![]⟩ 32 2#32))
def rems : Vec Ideal ⟨1, ![8]⟩ .i32 := Host.remsi (flips h1 w) (broadcastInDim _ ![] h0 two)
def remainders : Vec Ideal ⟨1, ![8]⟩ .i32 :=
  select (andi (cmpi .ne (cmpi .slt (rems h1 h0 w) (splat h0 0#32)) (broadcastInDim _ ![] h0 (cmpi .slt two (constantI ⟨0, ![]⟩ 32 0#32)))) (cmpi .ne (rems h1 h0 w) (splat h0 0#32)))
    (addi (rems h1 h0 w) (broadcastInDim _ ![] h0 two)) (rems h1 h0 w)

/-- The slots filled by the exchange in two levels. -/
def arrives : Vec Ideal ⟨1, ![8]⟩ .i1 := ori (cmpi .eq (flips h1 w) (splat h0 1#32)) (cmpi .eq (remainders h1 h0 w) (splat h0 0#32))

/-- That exchange's table of slots. -/
def twoLevel : Vec Ideal ⟨1, ![8]⟩ .i32 := select (mine h1 h0 w) (splat h0 2#32) (select (arrives h1 h0 w) (splat h0 1#32) (splat h0 0#32))

/-- A slot of that exchange. -/
theorem part_two (b a : BitVec 1) (o r : EReal) : part (Scalar.select b 2#32 (Scalar.select a 1#32 0#32)) o r = Scalar.select b o (Scalar.select a r 0) := by
  have e : ∀ b : BitVec 1, b = 0#1 ∨ b = 1#1 := by decide
  rcases e b with rfl | rfl <;> rcases e a with rfl | rfl <;> rfl

/-- The sum by slots filled in two levels. -/
def total2 (o : EReal) (r : Fin 8 → EReal) : EReal := ∑ d : Fin 8, Scalar.select (mine h1 h0 w (ix1 d)) o (Scalar.select (arrives h1 h0 w (ix1 d)) (r d) 0)

theorem sum_twoLevel (o : EReal) (r : Fin 8 → EReal) : parts (twoLevel h1 h0 w) o r = total2 h1 h0 w o r :=
  Finset.sum_congr rfl fun d _ => part_two (mine h1 h0 w (ix1 d)) (arrives h1 h0 w (ix1 d)) o (r d)

/-- An entry of the gradient summed by it. -/
def grad2 {r c : ℕ} (A : Mat r c) (B : Vec Ideal ⟨3, ![8, r, c]⟩ .bf16) (p : Fin r) (k : Fin c) : EReal :=
  total2 h1 h0 w (A (ix2 p k)) fun d => B (ix3 d p k)

end Slots

section Sums
variable {r c : ℕ} (h1 : (⟨1, ![1]⟩ : Shape).BroadcastsInDim ⟨1, ![8]⟩ (![0] : Fin 1 → Fin 1)) (h0 : (⟨0, ![]⟩ : Shape).BroadcastsInDim ⟨1, ![8]⟩ (![] : Fin 0 → Fin 1))
  (hd : (⟨1, ![8]⟩ : Shape).BroadcastsInDim ⟨3, ![8, 1, 1]⟩ (![0] : Fin 1 → Fin 3)) (hm : (⟨3, ![8, 1, 1]⟩ : Shape).BroadcastsInDim ⟨3, ![8, r, c]⟩ (![0, 1, 2] : Fin 3 → Fin 3))
  (ha : (⟨2, ![r, c]⟩ : Shape).BroadcastsInDim ⟨3, ![8, r, c]⟩ (![1, 2] : Fin 2 → Fin 3)) (hz : (⟨0, ![]⟩ : Shape).BroadcastsInDim ⟨3, ![8, r, c]⟩ (![] : Fin 0 → Fin 3))
  (hr : (⟨3, ![8, r, c]⟩ : Shape).ReducesTo [0] ⟨2, ![r, c]⟩) (hs : 0 < (⟨0, ![]⟩ : Shape).numel) (hb : FTy.bits .bf16 < FTy.bits .f32)
  (w : Vec Ideal ⟨1, ![1]⟩ .i32) (A : Mat r c) (B : FVec Ideal ⟨3, ![8, r, c]⟩ .bf16)

/-- A mask of the slots, spread over their rows and columns. -/
def mask (b : Vec Ideal ⟨1, ![8]⟩ .i1) : Vec Ideal ⟨3, ![8, r, c]⟩ .i1 := broadcastInDim _ ![0, 1, 2] hm (broadcastInDim _ ![0] hd b)

/-- The sum over the slots of `A` where the mask has it and of `X` elsewhere, as the reference computes it. -/
def maskedSum (b : Vec Ideal ⟨1, ![8]⟩ .i1) (X : FVec Ideal ⟨3, ![8, r, c]⟩ .f32) : Mat r c :=
  Host.reduceAdd (select (mask hd hm b) (broadcastInDim _ ![1, 2] ha A) X) (constant ⟨0, ![]⟩ .f32 0x00000000#32) hr hs

theorem maskedSum_entry (b : Vec Ideal ⟨1, ![8]⟩ .i1) (X : FVec Ideal ⟨3, ![8, r, c]⟩ .f32) (p : Fin r) (k : Fin c) :
    maskedSum hd hm ha hr hs A b X (ix2 p k) = ∑ d : Fin 8, Scalar.select (b (ix1 d)) (A (ix2 p k)) (X (ix3 d p k)) := by
  pointwise [maskedSum, mask]
  refine Finset.sum_congr rfl fun d _ => congrArg (fun x => Scalar.select (b (ix1 d)) (A x) (X (ix3 d p k))) ?_
  funext a
  apply Fin.ext
  have hp := p.isLt
  have hk := k.isLt
  match a with
  | ⟨0, _⟩ =>
    by_cases e : r = 1
    · exact (congrArg Fin.val (dif_pos e)).trans (show 0 = p.val by omega)
    · exact congrArg Fin.val (dif_neg e)
  | ⟨1, _⟩ =>
    by_cases e : c = 1
    · exact (congrArg Fin.val (dif_pos e)).trans (show 0 = k.val by omega)
    · exact congrArg Fin.val (dif_neg e)

/-- The reference's gradient by the direct exchange. -/
theorem refGrad_eq : maskedSum hd hm ha hr hs A (cmpi .eq (iotaInDim ⟨1, ![8]⟩ 32 0) (broadcastInDim _ ![0] h1 w)) (extf .f32 B hb) = mat (grad w A B) :=
  eq_mat _ _ fun p k => (maskedSum_entry _ _ _ _ _ _ _ _ p k).trans (by pointwise []; rfl)

/-- The reference's gradient by the exchange in two levels. -/
theorem refGrad2_eq : maskedSum hd hm ha hr hs A (mine h1 h0 w) (select (mask hd hm (arrives h1 h0 w)) (extf .f32 B hb) (broadcastInDim _ ![] hz (constant ⟨0, ![]⟩ .f32 0x00000000#32)))
    = mat (grad2 h1 h0 w A B) :=
  eq_mat _ _ fun p k => (maskedSum_entry _ _ _ _ _ _ _ _ p k).trans (by pointwise [mask]; rfl)

end Sums

end Cert.Adam
-- ==== Proof.AdamDown.lean ====
/- The optimiser call on the down projection's shard: the sum of the devices' parts and the step, against its reference. -/
module

public import proofs.«01_k».proof.Proof.AdamPoint
public import proofs.«01_k».proof.Proof.Gen.ReferenceAdamDownIdeal.Run
public import proofs.«01_k».proof.Proof.Gen.KernelAdamDown.Frame
public import proofs.«01_k».proof.Proof.Gen.KernelAdamDownIdeal.Frame
public import proofs.«01_k».proof.Defs
public import Idealize.ShloMosaic.Lib.Pipeline.ValueKit
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamDown.Ref
open Cert.ReferenceAdamDownIdeal Cert.ReferenceAdamDownIdeal.Gen Cert.Adam
/-- The reference's run: its results of the arguments, entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ∀ (w : Vec Ideal S1 .i32) (A W M U : FVec Ideal S352x1024 .f32) (B : FVec Ideal S8x352x1024 .bf16),
      m ((c.tc : Thread nD τ).loc main_arg0) = w → m ((c.tc : Thread nD τ).loc main_arg1) = A → m ((c.tc : Thread nD τ).loc main_arg2) = B
      → m ((c.tc : Thread nD τ).loc main_arg3) = W → m ((c.tc : Thread nD τ).loc main_arg4) = M → m ((c.tc : Thread nD τ).loc main_arg5) = U →
      r.2.mem ((c.tc : Thread nD τ).loc main_v6) = mat (grad w A B)
      ∧ r.2.mem ((c.tc : Thread nD τ).loc main_v30) = mat (delta (grad w A B) W M U)
      ∧ r.2.mem ((c.tc : Thread nD τ).loc main_v11) = mat (moment1 (grad w A B) M)
      ∧ r.2.mem ((c.tc : Thread nD τ).loc main_v17) = mat (moment2 (grad w A B) U)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c w A W M U B e0 e1 e2 e3 e4 e5 => ?_) (Cert.ReferenceAdamDownIdeal.Value.run (F := Ideal) m ρ)
  obtain ⟨r0, r1, r2, r3, k⟩ := h c
  subst e0 e1 e2 e3 e4 e5
  have e := refGrad_eq bcast_S1_S8_0 bcast_S8_S8x1x1_0 bcast_S8x1x1_S8x352x1024_0_1_2 bcast_S352x1024_S8x352x1024_1_2 reducesTo_S8x352x1024_S352x1024_d0 h_S_ bitsLt_bf16_f32
    (m ((c.tc : Thread nD τ).loc main_arg0)) (m ((c.tc : Thread nD τ).loc main_arg1)) (m ((c.tc : Thread nD τ).loc main_arg2))
  have s := refSteps_eq bcast_S_S352x1024 e (m ((c.tc : Thread nD τ).loc main_arg3)) (m ((c.tc : Thread nD τ).loc main_arg4)) (m ((c.tc : Thread nD τ).loc main_arg5))
  exact ⟨r0.trans e, r1.trans s.1, r2.trans s.2.1, r3.trans s.2.2, k⟩

end Cert.AdamDown.Ref

namespace Cert.AdamDown
open Cert.KernelAdamDownIdeal Cert.KernelAdamDownIdeal.Gen Cert.Row Cert.Adam

variable (m : (ℓ : Loc nD τ sig) → Buf (Elt Ideal) ℓ) (ρ : Dev nD → PrngReg) (hO : Ok m) (c : Dev nD)

/-- The table of slots. -/
theorem slots : tbl m 0 = direct bcast_S1_S8_0 bcast_S_S8 (m ((c : Thread nD τ).loc main_arg0)) := by
  obtain rfl : c = 0 := Subsingleton.elim _ _
  show V m 0 main_v6 = _
  unfold V
  simp only [hostOps0, hostOps0_1, hostOps0_2, List.flatten_cons, List.flatten_nil, List.append_nil, List.cons_append, List.nil_append, StableHlo.TRef.unary, StableHlo.TRef.ternary,
    StableHlo.TRef.toBuf, StableHlo.TRef.ofBuf, cast_eq]
  after_results_simp
  rfl

section Body
variable (i : grid0.Coords) (a2 : Memref sig .tc .vmem S176x1024 .f32) (h2 : a2.IsWhole) (a3 : Memref sig .tc .vmem S8x176x1024 .bf16) (h3 : a3.IsWhole)
  (a4 : Memref sig .tc .vmem S176x1024 .f32) (h4 : a4.IsWhole) (a5 : Memref sig .tc .vmem S176x1024 .f32) (h5 : a5.IsWhole) (a6 : Memref sig .tc .vmem S176x1024 .f32) (h6 : a6.IsWhole)
  (a7 : Memref sig .tc .vmem S176x1024 .f32) (h7 : a7.IsWhole) (a8 : Memref sig .tc .vmem S176x1024 .f32) (h8 : a8.IsWhole) (a9 : Memref sig .tc .vmem S176x1024 .f32) (h9 : a9.IsWhole)
  (a10 : Memref sig .tc .vmem S176x1024 .f32) (h10 : a10.IsWhole)
  (x0 : Vec Ideal S176x1024 .f32) (x1 : Vec Ideal S8x176x1024 .bf16) (x2 x3 x4 : Vec Ideal S176x1024 .f32) (T : TbBuf0 (F := Ideal) c tbM0_0)

/-- What the body leaves at a point. -/
theorem body : Leaves T x0 x1 x2 x3 x4 (out0_A_5 c i a2 h2 a3 h3 a4 h4 a5 h5 a6 h6 a7 h7 a8 h8 a9 h9 a10 h10 x0 x1 x2 x3 x4 T) (out0_A_6 c i a2 h2 a3 h3 a4 h4 a5 h5 a6 h6 a7 h7 a8 h8 a9 h9 a10 h10 x0 x1 x2 x3 x4 T)
    (out0_A_7 c i a2 h2 a3 h3 a4 h4 a5 h5 a6 h6 a7 h7 a8 h8 a9 h9 a10 h10 x0 x1 x2 x3 x4 T) (out0_A_8 c i a2 h2 a3 h3 a4 h4 a5 h5 a6 h6 a7 h7 a8 h8 a9 h9 a10 h10 x0 x1 x2 x3 x4 T) where
  sum p k := by
    unfold out0_A_5
    frame_out
    pointwise [k0_pay1, k0_pay2, k0_pay3, k0_pay4]
    rw [parts, Fin.sum_univ_eight]
    rfl
  weight p k := congrFun (show _ = k0_pay7 (out0_A_5 c i a2 h2 a3 h3 a4 h4 a5 h5 a6 h6 a7 h7 a8 h8 a9 h9 a10 h10 x0 x1 x2 x3 x4 T) x2 x3 x4 by unfold out0_A_5 out0_A_6; frame_out) (ix2 p k)
  first p k := congrFun (show _ = k0_pay5 (out0_A_5 c i a2 h2 a3 h3 a4 h4 a5 h5 a6 h6 a7 h7 a8 h8 a9 h9 a10 h10 x0 x1 x2 x3 x4 T) x3 by unfold out0_A_5 out0_A_7; frame_out) (ix2 p k)
  second p k := congrFun (show _ = k0_pay6 (out0_A_5 c i a2 h2 a3 h3 a4 h4 a5 h5 a6 h6 a7 h7 a8 h8 a9 h9 a10 h10 x0 x1 x2 x3 x4 T) x4 by unfold out0_A_5 out0_A_8; frame_out) (ix2 p k)

end Body

/-- Where the windows' blocks sit at point `t`. -/
theorem idx (t : Fin (cfgM m hO).N) : ((cfgM m hO).win 0).index t = ![t.val, 0] ∧ ((cfgM m hO).win 1).index t = ![0, t.val, 0] ∧ ((cfgM m hO).win 2).index t = ![t.val, 0]
    ∧ ((cfgM m hO).win 3).index t = ![t.val, 0] ∧ ((cfgM m hO).win 4).index t = ![t.val, 0] ∧ ((cfgM m hO).win 5).index t = ![t.val, 0]
    ∧ ((cfgM m hO).win 6).index t = ![t.val, 0] ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- The array's row of a block's row. -/
def row (t : Fin (cfgM m hO).N) (p : Fin 176) : Fin 352 := ⟨t.val * 176 + p.val, by have : t.val < 2 := t.isLt; omega⟩

/-- The blocks at point `t`. -/
theorem blocks (t : Fin (cfgM m hO).N) : Blocks (row m hO t) (iblk m hO c 0 t) (iblk m hO c 1 t) (iblk m hO c 2 t) (iblk m hO c 3 t) (iblk m hO c 4 t)
    (m ((c : Thread nD τ).loc main_arg1)) (m ((c : Thread nD τ).loc main_arg2)) (m ((c : Thread nD τ).loc main_arg3)) (m ((c : Thread nD τ).loc main_arg4)) (m ((c : Thread nD τ).loc main_arg5)) where
  own p k := by rw [← V_main_arg1 m c]; blk_ext [iblk, idx m hO t, row]
  received d p k := by rw [← V_main_arg2 m c]; blk_ext [iblk, idx m hO t, row]
  weights p k := by rw [← V_main_arg3 m c]; blk_ext [iblk, idx m hO t, row]
  firsts p k := by rw [← V_main_arg4 m c]; blk_ext [iblk, idx m hO t, row]
  seconds p k := by rw [← V_main_arg5 m c]; blk_ext [iblk, idx m hO t, row]

/-- The gradient of the arrays a device's arguments hold. -/
abbrev gradOf := grad (m ((c : Thread nD τ).loc main_arg0)) (m ((c : Thread nD τ).loc main_arg1)) (m ((c : Thread nD τ).loc main_arg2))

/-- What the body leaves at point `t`. -/
theorem leaves (t : Fin (cfgM m hO).N) : Leaves (tbl m 0) (iblk m hO c 0 t) (iblk m hO c 1 t) (iblk m hO c 2 t) (iblk m hO c 3 t) (iblk m hO c 4 t)
    (outsAt0 m hO c t).1 (outsAt0 m hO c t).2.1 (outsAt0 m hO c t).2.2.1 (outsAt0 m hO c t).2.2.2 := by
  rw [outsAt0]
  dsimp only
  exact body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- The four results. -/
theorem outs : (dats m hO 0 c).arrAt 5 (cfgM m hO).N = mat (gradOf m c)
    ∧ (dats m hO 0 c).arrAt 6 (cfgM m hO).N = mat (delta (gradOf m c) (m ((c : Thread nD τ).loc main_arg3)) (m ((c : Thread nD τ).loc main_arg4)) (m ((c : Thread nD τ).loc main_arg5)))
    ∧ (dats m hO 0 c).arrAt 7 (cfgM m hO).N = mat (moment1 (gradOf m c) (m ((c : Thread nD τ).loc main_arg4)))
    ∧ (dats m hO 0 c).arrAt 8 (cfgM m hO).N = mat (moment2 (gradOf m c) (m ((c : Thread nD τ).loc main_arg5))) := by
  have l := fun t => (leaves m hO c t).rows (blocks m hO c t) (gradOf m c) fun p k => by rw [slots m c]; exact sum_direct _ _ _ _ _
  refine ⟨(dats m hO 0 c).arrAt_eq_of_covers 5 _ (of_decide_eq_true (by sl_kernel_rfl)) fun t hf y => ?_, (dats m hO 0 c).arrAt_eq_of_covers 6 _ (of_decide_eq_true (by sl_kernel_rfl)) fun t hf y => ?_,
    (dats m hO 0 c).arrAt_eq_of_covers 7 _ (of_decide_eq_true (by sl_kernel_rfl)) fun t hf y => ?_, (dats m hO 0 c).arrAt_eq_of_covers 8 _ (of_decide_eq_true (by sl_kernel_rfl)) fun t hf y => ?_⟩
  all_goals blk_simp
  · rw [after0_5]; exact block_entry _ (row m hO t) _ (l t).1 y _ _ (by blk_simp [idx m hO t]; rfl) (by blk_simp [idx m hO t])
  · rw [after0_6]; exact block_entry _ (row m hO t) _ (l t).2.1 y _ _ (by blk_simp [idx m hO t]; rfl) (by blk_simp [idx m hO t])
  · rw [after0_7]; exact block_entry _ (row m hO t) _ (l t).2.2.1 y _ _ (by blk_simp [idx m hO t]; rfl) (by blk_simp [idx m hO t])
  · rw [after0_8]; exact block_entry _ (row m hO t) _ (l t).2.2.2 y _ _ (by blk_simp [idx m hO t]; rfl) (by blk_simp [idx m hO t])

/-- The frame of the kernel. -/
theorem frame_kernel : Cert.quiescent_KernelAdamDown := fun m ρ _ => Cert.KernelAdamDown.Gen.frame m ρ trivial

/-- The frame of the idealized kernel. -/
theorem frame_kernel_ideal : Cert.quiescent_KernelAdamDownIdeal := fun m ρ _ => Cert.KernelAdamDownIdeal.Gen.frame m ρ trivial

/-- The frame of the reference. -/
theorem frame_reference : Cert.quiescent_ReferenceAdamDownIdeal := fun m g _ =>
  (θ_run _ _ _).mono (fun r h => ⟨fun c => (h c).2.2.2.2, sem_eq_zero_of_no_sems rfl r.2⟩) (Cert.ReferenceAdamDownIdeal.Value.run (F := Ideal) m g)

/-- The value claim. -/
theorem algebraic : Cert.algebraic_KernelAdamDownIdeal_ReferenceAdamDownIdeal := by
  intro m g m' g' _ hargs
  have hO : Ok m := trivial
  refine ⟨_, _, _, _, (θ_run _ _ _).mono (fun _ h c => ⟨((h c).1 (5 : Fin 9)).trans (outs m hO c).1, ((h c).1 (6 : Fin 9)).trans (outs m hO c).2.1,
      ((h c).1 (7 : Fin 9)).trans (outs m hO c).2.2.1, ((h c).1 (8 : Fin 9)).trans (outs m hO c).2.2.2,
      ((h c).2 main_arg0 (by decide : main_arg0 ∈ Pipeline.restRefs sig spec0)).trans (V_main_arg0 m c),
      ((h c).1 (0 : Fin 9)).trans (((dats m hO 0 c).arrAt_in 0 rfl _).trans ((A_eq m hO c 0).trans (V_main_arg1 m c))),
      ((h c).1 (1 : Fin 9)).trans (((dats m hO 0 c).arrAt_in 1 rfl _).trans ((A_eq m hO c 1).trans (V_main_arg2 m c))),
      ((h c).1 (2 : Fin 9)).trans (((dats m hO 0 c).arrAt_in 2 rfl _).trans ((A_eq m hO c 2).trans (V_main_arg3 m c))),
      ((h c).1 (3 : Fin 9)).trans (((dats m hO 0 c).arrAt_in 3 rfl _).trans ((A_eq m hO c 3).trans (V_main_arg4 m c))),
      ((h c).1 (4 : Fin 9)).trans (((dats m hO 0 c).arrAt_in 4 rfl _).trans ((A_eq m hO c 4).trans (V_main_arg5 m c)))⟩) (run_main m g hO), ?_⟩
  refine (θ_run _ _ _).mono (fun r h c => ?_) (Ref.ref_run m' g')
  obtain ⟨a0, a1, a2, a3, a4, a5⟩ := hargs c
  exact h c _ _ _ _ _ _ a0 a1 a2 a3 a4 a5

end Cert.AdamDown
-- ==== Proof.AdamGateUp.lean ====
/- The optimiser call on the gate and up projections's shard: the sum of the devices' parts and the step, against its reference. -/
module

public import proofs.«01_k».proof.Proof.AdamPoint
public import proofs.«01_k».proof.Proof.Gen.ReferenceAdamGateUpIdeal.Run
public import proofs.«01_k».proof.Proof.Gen.KernelAdamGateUp.Frame
public import proofs.«01_k».proof.Proof.Gen.KernelAdamGateUpIdeal.Frame
public import proofs.«01_k».proof.Defs
public import Idealize.ShloMosaic.Lib.Pipeline.ValueKit
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamGateUp.Ref
open Cert.ReferenceAdamGateUpIdeal Cert.ReferenceAdamGateUpIdeal.Gen Cert.Adam
/-- The reference's run: its results of the arguments, entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ∀ (w : Vec Ideal S1 .i32) (A W M U : FVec Ideal S704x1024 .f32) (B : FVec Ideal S8x704x1024 .bf16),
      m ((c.tc : Thread nD τ).loc main_arg0) = w → m ((c.tc : Thread nD τ).loc main_arg1) = A → m ((c.tc : Thread nD τ).loc main_arg2) = B
      → m ((c.tc : Thread nD τ).loc main_arg3) = W → m ((c.tc : Thread nD τ).loc main_arg4) = M → m ((c.tc : Thread nD τ).loc main_arg5) = U →
      r.2.mem ((c.tc : Thread nD τ).loc main_v6) = mat (grad w A B)
      ∧ r.2.mem ((c.tc : Thread nD τ).loc main_v30) = mat (delta (grad w A B) W M U)
      ∧ r.2.mem ((c.tc : Thread nD τ).loc main_v11) = mat (moment1 (grad w A B) M)
      ∧ r.2.mem ((c.tc : Thread nD τ).loc main_v17) = mat (moment2 (grad w A B) U)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c w A W M U B e0 e1 e2 e3 e4 e5 => ?_) (Cert.ReferenceAdamGateUpIdeal.Value.run (F := Ideal) m ρ)
  obtain ⟨r0, r1, r2, r3, k⟩ := h c
  subst e0 e1 e2 e3 e4 e5
  have e := refGrad_eq bcast_S1_S8_0 bcast_S8_S8x1x1_0 bcast_S8x1x1_S8x704x1024_0_1_2 bcast_S704x1024_S8x704x1024_1_2 reducesTo_S8x704x1024_S704x1024_d0 h_S_ bitsLt_bf16_f32
    (m ((c.tc : Thread nD τ).loc main_arg0)) (m ((c.tc : Thread nD τ).loc main_arg1)) (m ((c.tc : Thread nD τ).loc main_arg2))
  have s := refSteps_eq bcast_S_S704x1024 e (m ((c.tc : Thread nD τ).loc main_arg3)) (m ((c.tc : Thread nD τ).loc main_arg4)) (m ((c.tc : Thread nD τ).loc main_arg5))
  exact ⟨r0.trans e, r1.trans s.1, r2.trans s.2.1, r3.trans s.2.2, k⟩

end Cert.AdamGateUp.Ref

namespace Cert.AdamGateUp
open Cert.KernelAdamGateUpIdeal Cert.KernelAdamGateUpIdeal.Gen Cert.Row Cert.Adam

variable (m : (ℓ : Loc nD τ sig) → Buf (Elt Ideal) ℓ) (ρ : Dev nD → PrngReg) (hO : Ok m) (c : Dev nD)

/-- The table of slots. -/
theorem slots : tbl m 0 = direct bcast_S1_S8_0 bcast_S_S8 (m ((c : Thread nD τ).loc main_arg0)) := by
  obtain rfl : c = 0 := Subsingleton.elim _ _
  show V m 0 main_v6 = _
  unfold V
  simp only [hostOps0, hostOps0_1, hostOps0_2, List.flatten_cons, List.flatten_nil, List.append_nil, List.cons_append, List.nil_append, StableHlo.TRef.unary, StableHlo.TRef.ternary,
    StableHlo.TRef.toBuf, StableHlo.TRef.ofBuf, cast_eq]
  after_results_simp
  rfl

section Body
variable (i : grid0.Coords) (a2 : Memref sig .tc .vmem S176x1024 .f32) (h2 : a2.IsWhole) (a3 : Memref sig .tc .vmem S8x176x1024 .bf16) (h3 : a3.IsWhole)
  (a4 : Memref sig .tc .vmem S176x1024 .f32) (h4 : a4.IsWhole) (a5 : Memref sig .tc .vmem S176x1024 .f32) (h5 : a5.IsWhole) (a6 : Memref sig .tc .vmem S176x1024 .f32) (h6 : a6.IsWhole)
  (a7 : Memref sig .tc .vmem S176x1024 .f32) (h7 : a7.IsWhole) (a8 : Memref sig .tc .vmem S176x1024 .f32) (h8 : a8.IsWhole) (a9 : Memref sig .tc .vmem S176x1024 .f32) (h9 : a9.IsWhole)
  (a10 : Memref sig .tc .vmem S176x1024 .f32) (h10 : a10.IsWhole)
  (x0 : Vec Ideal S176x1024 .f32) (x1 : Vec Ideal S8x176x1024 .bf16) (x2 x3 x4 : Vec Ideal S176x1024 .f32) (T : TbBuf0 (F := Ideal) c tbM0_0)

/-- What the body leaves at a point. -/
theorem body : Leaves T x0 x1 x2 x3 x4 (out0_A_5 c i a2 h2 a3 h3 a4 h4 a5 h5 a6 h6 a7 h7 a8 h8 a9 h9 a10 h10 x0 x1 x2 x3 x4 T) (out0_A_6 c i a2 h2 a3 h3 a4 h4 a5 h5 a6 h6 a7 h7 a8 h8 a9 h9 a10 h10 x0 x1 x2 x3 x4 T)
    (out0_A_7 c i a2 h2 a3 h3 a4 h4 a5 h5 a6 h6 a7 h7 a8 h8 a9 h9 a10 h10 x0 x1 x2 x3 x4 T) (out0_A_8 c i a2 h2 a3 h3 a4 h4 a5 h5 a6 h6 a7 h7 a8 h8 a9 h9 a10 h10 x0 x1 x2 x3 x4 T) where
  sum p k := by
    unfold out0_A_5
    frame_out
    pointwise [k0_pay1, k0_pay2, k0_pay3, k0_pay4]
    rw [parts, Fin.sum_univ_eight]
    rfl
  weight p k := congrFun (show _ = k0_pay7 (out0_A_5 c i a2 h2 a3 h3 a4 h4 a5 h5 a6 h6 a7 h7 a8 h8 a9 h9 a10 h10 x0 x1 x2 x3 x4 T) x2 x3 x4 by unfold out0_A_5 out0_A_6; frame_out) (ix2 p k)
  first p k := congrFun (show _ = k0_pay5 (out0_A_5 c i a2 h2 a3 h3 a4 h4 a5 h5 a6 h6 a7 h7 a8 h8 a9 h9 a10 h10 x0 x1 x2 x3 x4 T) x3 by unfold out0_A_5 out0_A_7; frame_out) (ix2 p k)
  second p k := congrFun (show _ = k0_pay6 (out0_A_5 c i a2 h2 a3 h3 a4 h4 a5 h5 a6 h6 a7 h7 a8 h8 a9 h9 a10 h10 x0 x1 x2 x3 x4 T) x4 by unfold out0_A_5 out0_A_8; frame_out) (ix2 p k)

end Body

/-- Where the windows' blocks sit at point `t`. -/
theorem idx (t : Fin (cfgM m hO).N) : ((cfgM m hO).win 0).index t = ![t.val, 0] ∧ ((cfgM m hO).win 1).index t = ![0, t.val, 0] ∧ ((cfgM m hO).win 2).index t = ![t.val, 0]
    ∧ ((cfgM m hO).win 3).index t = ![t.val, 0] ∧ ((cfgM m hO).win 4).index t = ![t.val, 0] ∧ ((cfgM m hO).win 5).index t = ![t.val, 0]
    ∧ ((cfgM m hO).win 6).index t = ![t.val, 0] ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- The array's row of a block's row. -/
def row (t : Fin (cfgM m hO).N) (p : Fin 176) : Fin 704 := ⟨t.val * 176 + p.val, by have : t.val < 4 := t.isLt; omega⟩

/-- The blocks at point `t`. -/
theorem blocks (t : Fin (cfgM m hO).N) : Blocks (row m hO t) (iblk m hO c 0 t) (iblk m hO c 1 t) (iblk m hO c 2 t) (iblk m hO c 3 t) (iblk m hO c 4 t)
    (m ((c : Thread nD τ).loc main_arg1)) (m ((c : Thread nD τ).loc main_arg2)) (m ((c : Thread nD τ).loc main_arg3)) (m ((c : Thread nD τ).loc main_arg4)) (m ((c : Thread nD τ).loc main_arg5)) where
  own p k := by rw [← V_main_arg1 m c]; blk_ext [iblk, idx m hO t, row]
  received d p k := by rw [← V_main_arg2 m c]; blk_ext [iblk, idx m hO t, row]
  weights p k := by rw [← V_main_arg3 m c]; blk_ext [iblk, idx m hO t, row]
  firsts p k := by rw [← V_main_arg4 m c]; blk_ext [iblk, idx m hO t, row]
  seconds p k := by rw [← V_main_arg5 m c]; blk_ext [iblk, idx m hO t, row]

/-- The gradient of the arrays a device's arguments hold. -/
abbrev gradOf := grad (m ((c : Thread nD τ).loc main_arg0)) (m ((c : Thread nD τ).loc main_arg1)) (m ((c : Thread nD τ).loc main_arg2))

/-- What the body leaves at point `t`. -/
theorem leaves (t : Fin (cfgM m hO).N) : Leaves (tbl m 0) (iblk m hO c 0 t) (iblk m hO c 1 t) (iblk m hO c 2 t) (iblk m hO c 3 t) (iblk m hO c 4 t)
    (outsAt0 m hO c t).1 (outsAt0 m hO c t).2.1 (outsAt0 m hO c t).2.2.1 (outsAt0 m hO c t).2.2.2 := by
  rw [outsAt0]
  dsimp only
  exact body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- The four results. -/
theorem outs : (dats m hO 0 c).arrAt 5 (cfgM m hO).N = mat (gradOf m c)
    ∧ (dats m hO 0 c).arrAt 6 (cfgM m hO).N = mat (delta (gradOf m c) (m ((c : Thread nD τ).loc main_arg3)) (m ((c : Thread nD τ).loc main_arg4)) (m ((c : Thread nD τ).loc main_arg5)))
    ∧ (dats m hO 0 c).arrAt 7 (cfgM m hO).N = mat (moment1 (gradOf m c) (m ((c : Thread nD τ).loc main_arg4)))
    ∧ (dats m hO 0 c).arrAt 8 (cfgM m hO).N = mat (moment2 (gradOf m c) (m ((c : Thread nD τ).loc main_arg5))) := by
  have l := fun t => (leaves m hO c t).rows (blocks m hO c t) (gradOf m c) fun p k => by rw [slots m c]; exact sum_direct _ _ _ _ _
  refine ⟨(dats m hO 0 c).arrAt_eq_of_covers 5 _ (of_decide_eq_true (by sl_kernel_rfl)) fun t hf y => ?_, (dats m hO 0 c).arrAt_eq_of_covers 6 _ (of_decide_eq_true (by sl_kernel_rfl)) fun t hf y => ?_,
    (dats m hO 0 c).arrAt_eq_of_covers 7 _ (of_decide_eq_true (by sl_kernel_rfl)) fun t hf y => ?_, (dats m hO 0 c).arrAt_eq_of_covers 8 _ (of_decide_eq_true (by sl_kernel_rfl)) fun t hf y => ?_⟩
  all_goals blk_simp
  · rw [after0_5]; exact block_entry _ (row m hO t) _ (l t).1 y _ _ (by blk_simp [idx m hO t]; rfl) (by blk_simp [idx m hO t])
  · rw [after0_6]; exact block_entry _ (row m hO t) _ (l t).2.1 y _ _ (by blk_simp [idx m hO t]; rfl) (by blk_simp [idx m hO t])
  · rw [after0_7]; exact block_entry _ (row m hO t) _ (l t).2.2.1 y _ _ (by blk_simp [idx m hO t]; rfl) (by blk_simp [idx m hO t])
  · rw [after0_8]; exact block_entry _ (row m hO t) _ (l t).2.2.2 y _ _ (by blk_simp [idx m hO t]; rfl) (by blk_simp [idx m hO t])

/-- The frame of the kernel. -/
theorem frame_kernel : Cert.quiescent_KernelAdamGateUp := fun m ρ _ => Cert.KernelAdamGateUp.Gen.frame m ρ trivial

/-- The frame of the idealized kernel. -/
theorem frame_kernel_ideal : Cert.quiescent_KernelAdamGateUpIdeal := fun m ρ _ => Cert.KernelAdamGateUpIdeal.Gen.frame m ρ trivial

/-- The frame of the reference. -/
theorem frame_reference : Cert.quiescent_ReferenceAdamGateUpIdeal := fun m g _ =>
  (θ_run _ _ _).mono (fun r h => ⟨fun c => (h c).2.2.2.2, sem_eq_zero_of_no_sems rfl r.2⟩) (Cert.ReferenceAdamGateUpIdeal.Value.run (F := Ideal) m g)

/-- The value claim. -/
theorem algebraic : Cert.algebraic_KernelAdamGateUpIdeal_ReferenceAdamGateUpIdeal := by
  intro m g m' g' _ hargs
  have hO : Ok m := trivial
  refine ⟨_, _, _, _, (θ_run _ _ _).mono (fun _ h c => ⟨((h c).1 (5 : Fin 9)).trans (outs m hO c).1, ((h c).1 (6 : Fin 9)).trans (outs m hO c).2.1,
      ((h c).1 (7 : Fin 9)).trans (outs m hO c).2.2.1, ((h c).1 (8 : Fin 9)).trans (outs m hO c).2.2.2,
      ((h c).2 main_arg0 (by decide : main_arg0 ∈ Pipeline.restRefs sig spec0)).trans (V_main_arg0 m c),
      ((h c).1 (0 : Fin 9)).trans (((dats m hO 0 c).arrAt_in 0 rfl _).trans ((A_eq m hO c 0).trans (V_main_arg1 m c))),
      ((h c).1 (1 : Fin 9)).trans (((dats m hO 0 c).arrAt_in 1 rfl _).trans ((A_eq m hO c 1).trans (V_main_arg2 m c))),
      ((h c).1 (2 : Fin 9)).trans (((dats m hO 0 c).arrAt_in 2 rfl _).trans ((A_eq m hO c 2).trans (V_main_arg3 m c))),
      ((h c).1 (3 : Fin 9)).trans (((dats m hO 0 c).arrAt_in 3 rfl _).trans ((A_eq m hO c 3).trans (V_main_arg4 m c))),
      ((h c).1 (4 : Fin 9)).trans (((dats m hO 0 c).arrAt_in 4 rfl _).trans ((A_eq m hO c 4).trans (V_main_arg5 m c)))⟩) (run_main m g hO), ?_⟩
  refine (θ_run _ _ _).mono (fun r h c => ?_) (Ref.ref_run m' g')
  obtain ⟨a0, a1, a2, a3, a4, a5⟩ := hargs c
  exact h c _ _ _ _ _ _ a0 a1 a2 a3 a4 a5

end Cert.AdamGateUp
-- ==== Proof.AdamProj.lean ====
/- The optimiser call on a mixer projection's shard: the sum of the devices' parts and the step, against its reference. -/
module

public import proofs.«01_k».proof.Proof.AdamPoint
public import proofs.«01_k».proof.Proof.Gen.ReferenceAdamProjIdeal.Run
public import proofs.«01_k».proof.Proof.Gen.KernelAdamProj.Frame
public import proofs.«01_k».proof.Proof.Gen.KernelAdamProjIdeal.Frame
public import proofs.«01_k».proof.Defs
public import Idealize.ShloMosaic.Lib.Pipeline.ValueKit
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamProj.Ref
open Cert.ReferenceAdamProjIdeal Cert.ReferenceAdamProjIdeal.Gen Cert.Adam
/-- The reference's run: its results of the arguments, entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ∀ (w : Vec Ideal S1 .i32) (A W M U : FVec Ideal S128x1024 .f32) (B : FVec Ideal S8x128x1024 .bf16),
      m ((c.tc : Thread nD τ).loc main_arg0) = w → m ((c.tc : Thread nD τ).loc main_arg1) = A → m ((c.tc : Thread nD τ).loc main_arg2) = B
      → m ((c.tc : Thread nD τ).loc main_arg3) = W → m ((c.tc : Thread nD τ).loc main_arg4) = M → m ((c.tc : Thread nD τ).loc main_arg5) = U →
      r.2.mem ((c.tc : Thread nD τ).loc main_v6) = mat (grad w A B)
      ∧ r.2.mem ((c.tc : Thread nD τ).loc main_v30) = mat (delta (grad w A B) W M U)
      ∧ r.2.mem ((c.tc : Thread nD τ).loc main_v11) = mat (moment1 (grad w A B) M)
      ∧ r.2.mem ((c.tc : Thread nD τ).loc main_v17) = mat (moment2 (grad w A B) U)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c w A W M U B e0 e1 e2 e3 e4 e5 => ?_) (Cert.ReferenceAdamProjIdeal.Value.run (F := Ideal) m ρ)
  obtain ⟨r0, r1, r2, r3, k⟩ := h c
  subst e0 e1 e2 e3 e4 e5
  have e := refGrad_eq bcast_S1_S8_0 bcast_S8_S8x1x1_0 bcast_S8x1x1_S8x128x1024_0_1_2 bcast_S128x1024_S8x128x1024_1_2 reducesTo_S8x128x1024_S128x1024_d0 h_S_ bitsLt_bf16_f32
    (m ((c.tc : Thread nD τ).loc main_arg0)) (m ((c.tc : Thread nD τ).loc main_arg1)) (m ((c.tc : Thread nD τ).loc main_arg2))
  have s := refSteps_eq bcast_S_S128x1024 e (m ((c.tc : Thread nD τ).loc main_arg3)) (m ((c.tc : Thread nD τ).loc main_arg4)) (m ((c.tc : Thread nD τ).loc main_arg5))
  exact ⟨r0.trans e, r1.trans s.1, r2.trans s.2.1, r3.trans s.2.2, k⟩

end Cert.AdamProj.Ref

namespace Cert.AdamProj
open Cert.KernelAdamProjIdeal Cert.KernelAdamProjIdeal.Gen Cert.Row Cert.Adam

variable (m : (ℓ : Loc nD τ sig) → Buf (Elt Ideal) ℓ) (ρ : Dev nD → PrngReg) (hO : Ok m) (c : Dev nD)

/-- The table of slots. -/
theorem slots : tbl m 0 = direct bcast_S1_S8_0 bcast_S_S8 (m ((c : Thread nD τ).loc main_arg0)) := by
  obtain rfl : c = 0 := Subsingleton.elim _ _
  show V m 0 main_v6 = _
  unfold V
  simp only [hostOps0, hostOps0_1, hostOps0_2, List.flatten_cons, List.flatten_nil, List.append_nil, List.cons_append, List.nil_append, StableHlo.TRef.unary, StableHlo.TRef.ternary,
    StableHlo.TRef.toBuf, StableHlo.TRef.ofBuf, cast_eq]
  after_results_simp
  rfl

section Body
variable (i : grid0.Coords) (a2 : Memref sig .tc .vmem S128x1024 .f32) (h2 : a2.IsWhole) (a3 : Memref sig .tc .vmem S8x128x1024 .bf16) (h3 : a3.IsWhole)
  (a4 : Memref sig .tc .vmem S128x1024 .f32) (h4 : a4.IsWhole) (a5 : Memref sig .tc .vmem S128x1024 .f32) (h5 : a5.IsWhole) (a6 : Memref sig .tc .vmem S128x1024 .f32) (h6 : a6.IsWhole)
  (a7 : Memref sig .tc .vmem S128x1024 .f32) (h7 : a7.IsWhole) (a8 : Memref sig .tc .vmem S128x1024 .f32) (h8 : a8.IsWhole) (a9 : Memref sig .tc .vmem S128x1024 .f32) (h9 : a9.IsWhole)
  (a10 : Memref sig .tc .vmem S128x1024 .f32) (h10 : a10.IsWhole)
  (x0 : Vec Ideal S128x1024 .f32) (x1 : Vec Ideal S8x128x1024 .bf16) (x2 x3 x4 : Vec Ideal S128x1024 .f32) (T : TbBuf0 (F := Ideal) c tbM0_0)

/-- What the body leaves at a point. -/
theorem body : Leaves T x0 x1 x2 x3 x4 (out0_A_5 c i a2 h2 a3 h3 a4 h4 a5 h5 a6 h6 a7 h7 a8 h8 a9 h9 a10 h10 x0 x1 x2 x3 x4 T) (out0_A_6 c i a2 h2 a3 h3 a4 h4 a5 h5 a6 h6 a7 h7 a8 h8 a9 h9 a10 h10 x0 x1 x2 x3 x4 T)
    (out0_A_7 c i a2 h2 a3 h3 a4 h4 a5 h5 a6 h6 a7 h7 a8 h8 a9 h9 a10 h10 x0 x1 x2 x3 x4 T) (out0_A_8 c i a2 h2 a3 h3 a4 h4 a5 h5 a6 h6 a7 h7 a8 h8 a9 h9 a10 h10 x0 x1 x2 x3 x4 T) where
  sum p k := by
    unfold out0_A_5
    frame_out
    pointwise [k0_pay1, k0_pay2, k0_pay3, k0_pay4]
    rw [parts, Fin.sum_univ_eight]
    rfl
  weight p k := congrFun (show _ = k0_pay7 (out0_A_5 c i a2 h2 a3 h3 a4 h4 a5 h5 a6 h6 a7 h7 a8 h8 a9 h9 a10 h10 x0 x1 x2 x3 x4 T) x2 x3 x4 by unfold out0_A_5 out0_A_6; frame_out) (ix2 p k)
  first p k := congrFun (show _ = k0_pay5 (out0_A_5 c i a2 h2 a3 h3 a4 h4 a5 h5 a6 h6 a7 h7 a8 h8 a9 h9 a10 h10 x0 x1 x2 x3 x4 T) x3 by unfold out0_A_5 out0_A_7; frame_out) (ix2 p k)
  second p k := congrFun (show _ = k0_pay6 (out0_A_5 c i a2 h2 a3 h3 a4 h4 a5 h5 a6 h6 a7 h7 a8 h8 a9 h9 a10 h10 x0 x1 x2 x3 x4 T) x4 by unfold out0_A_5 out0_A_8; frame_out) (ix2 p k)

end Body

/-- Where the windows' blocks sit at point `t`. -/
theorem idx (t : Fin (cfgM m hO).N) : ((cfgM m hO).win 0).index t = ![t.val, 0] ∧ ((cfgM m hO).win 1).index t = ![0, t.val, 0] ∧ ((cfgM m hO).win 2).index t = ![t.val, 0]
    ∧ ((cfgM m hO).win 3).index t = ![t.val, 0] ∧ ((cfgM m hO).win 4).index t = ![t.val, 0] ∧ ((cfgM m hO).win 5).index t = ![t.val, 0]
    ∧ ((cfgM m hO).win 6).index t = ![t.val, 0] ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- The array's row of a block's row. -/
def row (t : Fin (cfgM m hO).N) (p : Fin 128) : Fin 128 := ⟨t.val * 128 + p.val, by have : t.val < 1 := t.isLt; omega⟩

/-- The blocks at point `t`. -/
theorem blocks (t : Fin (cfgM m hO).N) : Blocks (row m hO t) (iblk m hO c 0 t) (iblk m hO c 1 t) (iblk m hO c 2 t) (iblk m hO c 3 t) (iblk m hO c 4 t)
    (m ((c : Thread nD τ).loc main_arg1)) (m ((c : Thread nD τ).loc main_arg2)) (m ((c : Thread nD τ).loc main_arg3)) (m ((c : Thread nD τ).loc main_arg4)) (m ((c : Thread nD τ).loc main_arg5)) where
  own p k := by rw [← V_main_arg1 m c]; blk_ext [iblk, idx m hO t, row]
  received d p k := by rw [← V_main_arg2 m c]; blk_ext [iblk, idx m hO t, row]
  weights p k := by rw [← V_main_arg3 m c]; blk_ext [iblk, idx m hO t, row]
  firsts p k := by rw [← V_main_arg4 m c]; blk_ext [iblk, idx m hO t, row]
  seconds p k := by rw [← V_main_arg5 m c]; blk_ext [iblk, idx m hO t, row]

/-- The gradient of the arrays a device's arguments hold. -/
abbrev gradOf := grad (m ((c : Thread nD τ).loc main_arg0)) (m ((c : Thread nD τ).loc main_arg1)) (m ((c : Thread nD τ).loc main_arg2))

/-- What the body leaves at point `t`. -/
theorem leaves (t : Fin (cfgM m hO).N) : Leaves (tbl m 0) (iblk m hO c 0 t) (iblk m hO c 1 t) (iblk m hO c 2 t) (iblk m hO c 3 t) (iblk m hO c 4 t)
    (outsAt0 m hO c t).1 (outsAt0 m hO c t).2.1 (outsAt0 m hO c t).2.2.1 (outsAt0 m hO c t).2.2.2 := by
  rw [outsAt0]
  dsimp only
  exact body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- The four results. -/
theorem outs : (dats m hO 0 c).arrAt 5 (cfgM m hO).N = mat (gradOf m c)
    ∧ (dats m hO 0 c).arrAt 6 (cfgM m hO).N = mat (delta (gradOf m c) (m ((c : Thread nD τ).loc main_arg3)) (m ((c : Thread nD τ).loc main_arg4)) (m ((c : Thread nD τ).loc main_arg5)))
    ∧ (dats m hO 0 c).arrAt 7 (cfgM m hO).N = mat (moment1 (gradOf m c) (m ((c : Thread nD τ).loc main_arg4)))
    ∧ (dats m hO 0 c).arrAt 8 (cfgM m hO).N = mat (moment2 (gradOf m c) (m ((c : Thread nD τ).loc main_arg5))) := by
  have l := fun t => (leaves m hO c t).rows (blocks m hO c t) (gradOf m c) fun p k => by rw [slots m c]; exact sum_direct _ _ _ _ _
  refine ⟨(dats m hO 0 c).arrAt_eq_of_covers 5 _ (of_decide_eq_true (by sl_kernel_rfl)) fun t hf y => ?_, (dats m hO 0 c).arrAt_eq_of_covers 6 _ (of_decide_eq_true (by sl_kernel_rfl)) fun t hf y => ?_,
    (dats m hO 0 c).arrAt_eq_of_covers 7 _ (of_decide_eq_true (by sl_kernel_rfl)) fun t hf y => ?_, (dats m hO 0 c).arrAt_eq_of_covers 8 _ (of_decide_eq_true (by sl_kernel_rfl)) fun t hf y => ?_⟩
  all_goals blk_simp
  · rw [after0_5]; exact block_entry _ (row m hO t) _ (l t).1 y _ _ (by blk_simp [idx m hO t]; rfl) (by blk_simp [idx m hO t])
  · rw [after0_6]; exact block_entry _ (row m hO t) _ (l t).2.1 y _ _ (by blk_simp [idx m hO t]; rfl) (by blk_simp [idx m hO t])
  · rw [after0_7]; exact block_entry _ (row m hO t) _ (l t).2.2.1 y _ _ (by blk_simp [idx m hO t]; rfl) (by blk_simp [idx m hO t])
  · rw [after0_8]; exact block_entry _ (row m hO t) _ (l t).2.2.2 y _ _ (by blk_simp [idx m hO t]; rfl) (by blk_simp [idx m hO t])

/-- The frame of the kernel. -/
theorem frame_kernel : Cert.quiescent_KernelAdamProj := fun m ρ _ => Cert.KernelAdamProj.Gen.frame m ρ trivial

/-- The frame of the idealized kernel. -/
theorem frame_kernel_ideal : Cert.quiescent_KernelAdamProjIdeal := fun m ρ _ => Cert.KernelAdamProjIdeal.Gen.frame m ρ trivial

/-- The frame of the reference. -/
theorem frame_reference : Cert.quiescent_ReferenceAdamProjIdeal := fun m g _ =>
  (θ_run _ _ _).mono (fun r h => ⟨fun c => (h c).2.2.2.2, sem_eq_zero_of_no_sems rfl r.2⟩) (Cert.ReferenceAdamProjIdeal.Value.run (F := Ideal) m g)

/-- The value claim. -/
theorem algebraic : Cert.algebraic_KernelAdamProjIdeal_ReferenceAdamProjIdeal := by
  intro m g m' g' _ hargs
  have hO : Ok m := trivial
  refine ⟨_, _, _, _, (θ_run _ _ _).mono (fun _ h c => ⟨((h c).1 (5 : Fin 9)).trans (outs m hO c).1, ((h c).1 (6 : Fin 9)).trans (outs m hO c).2.1,
      ((h c).1 (7 : Fin 9)).trans (outs m hO c).2.2.1, ((h c).1 (8 : Fin 9)).trans (outs m hO c).2.2.2,
      ((h c).2 main_arg0 (by decide : main_arg0 ∈ Pipeline.restRefs sig spec0)).trans (V_main_arg0 m c),
      ((h c).1 (0 : Fin 9)).trans (((dats m hO 0 c).arrAt_in 0 rfl _).trans ((A_eq m hO c 0).trans (V_main_arg1 m c))),
      ((h c).1 (1 : Fin 9)).trans (((dats m hO 0 c).arrAt_in 1 rfl _).trans ((A_eq m hO c 1).trans (V_main_arg2 m c))),
      ((h c).1 (2 : Fin 9)).trans (((dats m hO 0 c).arrAt_in 2 rfl _).trans ((A_eq m hO c 2).trans (V_main_arg3 m c))),
      ((h c).1 (3 : Fin 9)).trans (((dats m hO 0 c).arrAt_in 3 rfl _).trans ((A_eq m hO c 3).trans (V_main_arg4 m c))),
      ((h c).1 (4 : Fin 9)).trans (((dats m hO 0 c).arrAt_in 4 rfl _).trans ((A_eq m hO c 4).trans (V_main_arg5 m c)))⟩) (run_main m g hO), ?_⟩
  refine (θ_run _ _ _).mono (fun r h c => ?_) (Ref.ref_run m' g')
  obtain ⟨a0, a1, a2, a3, a4, a5⟩ := hargs c
  exact h c _ _ _ _ _ _ a0 a1 a2 a3 a4 a5

end Cert.AdamProj
-- ==== Proof.AdamIn.lean ====
/- The optimiser call on the input projection's shard: the sum of the devices' parts and the step, against its reference. -/
module

public import proofs.«01_k».proof.Proof.AdamPoint
public import proofs.«01_k».proof.Proof.Gen.ReferenceAdamInIdeal.Run
public import proofs.«01_k».proof.Proof.Gen.KernelAdamIn.Frame
public import proofs.«01_k».proof.Proof.Gen.KernelAdamInIdeal.Frame
public import proofs.«01_k».proof.Defs
public import Idealize.ShloMosaic.Lib.Pipeline.ValueKit
public import Idealize.ShloMosaic.Lib.VecWindow
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.AdamIn.Ref
open Cert.ReferenceAdamInIdeal Cert.ReferenceAdamInIdeal.Gen Cert.Adam
/-- The reference's run: its results of the arguments, entry by entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      ∀ (w : Vec Ideal S1 .i32) (A W M U : FVec Ideal S1024x768 .f32) (B : FVec Ideal S8x1024x768 .bf16),
      m ((c.tc : Thread nD τ).loc main_arg0) = w → m ((c.tc : Thread nD τ).loc main_arg1) = A → m ((c.tc : Thread nD τ).loc main_arg2) = B
      → m ((c.tc : Thread nD τ).loc main_arg3) = W → m ((c.tc : Thread nD τ).loc main_arg4) = M → m ((c.tc : Thread nD τ).loc main_arg5) = U →
      r.2.mem ((c.tc : Thread nD τ).loc main_v16) = mat (grad2 bcast_S1_S8_0 bcast_S_S8 w A B)
      ∧ r.2.mem ((c.tc : Thread nD τ).loc main_v40) = mat (delta (grad2 bcast_S1_S8_0 bcast_S_S8 w A B) W M U)
      ∧ r.2.mem ((c.tc : Thread nD τ).loc main_v21) = mat (moment1 (grad2 bcast_S1_S8_0 bcast_S_S8 w A B) M)
      ∧ r.2.mem ((c.tc : Thread nD τ).loc main_v27) = mat (moment2 (grad2 bcast_S1_S8_0 bcast_S_S8 w A B) U)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c w A W M U B e0 e1 e2 e3 e4 e5 => ?_) (Cert.ReferenceAdamInIdeal.Value.run (F := Ideal) m ρ)
  obtain ⟨r0, r1, r2, r3, k⟩ := h c
  subst e0 e1 e2 e3 e4 e5
  have e := refGrad2_eq bcast_S1_S8_0 bcast_S_S8 bcast_S8_S8x1x1_0 bcast_S8x1x1_S8x1024x768_0_1_2 bcast_S1024x768_S8x1024x768_1_2 bcast_S_S8x1024x768 reducesTo_S8x1024x768_S1024x768_d0 h_S_ bitsLt_bf16_f32
    (m ((c.tc : Thread nD τ).loc main_arg0)) (m ((c.tc : Thread nD τ).loc main_arg1)) (m ((c.tc : Thread nD τ).loc main_arg2))
  have s := refSteps_eq bcast_S_S1024x768 e (m ((c.tc : Thread nD τ).loc main_arg3)) (m ((c.tc : Thread nD τ).loc main_arg4)) (m ((c.tc : Thread nD τ).loc main_arg5))
  exact ⟨r0.trans e, r1.trans s.1, r2.trans s.2.1, r3.trans s.2.2, k⟩

end Cert.AdamIn.Ref

namespace Cert.AdamIn
open Cert.KernelAdamInIdeal Cert.KernelAdamInIdeal.Gen Cert.Row Cert.Adam

variable (m : (ℓ : Loc nD τ sig) → Buf (Elt Ideal) ℓ) (ρ : Dev nD → PrngReg) (hO : Ok m) (c : Dev nD)

/-- The table of slots. -/
theorem slots : tbl m 0 = twoLevel bcast_S1_S8_0 bcast_S_S8 (m ((c : Thread nD τ).loc main_arg0)) := by
  obtain rfl : c = 0 := Subsingleton.elim _ _
  show V m 0 main_v13 = _
  unfold V
  simp only [hostOps0, hostOps0_1, hostOps0_2, hostOps0_3, hostOps0_4, hostOps0_5, hostOps0_6, List.flatten_cons, List.flatten_nil, List.append_nil, List.cons_append, List.nil_append, StableHlo.TRef.nullary, StableHlo.TRef.unary, StableHlo.TRef.binary, StableHlo.TRef.ternary,
    StableHlo.TRef.toBuf, StableHlo.TRef.ofBuf, cast_eq]
  after_results_simp
  rfl

section Body
variable (i : grid0.Coords) (a2 : Memref sig .tc .vmem S256x768 .f32) (h2 : a2.IsWhole) (a3 : Memref sig .tc .vmem S8x256x768 .bf16) (h3 : a3.IsWhole)
  (a4 : Memref sig .tc .vmem S256x768 .f32) (h4 : a4.IsWhole) (a5 : Memref sig .tc .vmem S256x768 .f32) (h5 : a5.IsWhole) (a6 : Memref sig .tc .vmem S256x768 .f32) (h6 : a6.IsWhole)
  (a7 : Memref sig .tc .vmem S256x768 .f32) (h7 : a7.IsWhole) (a8 : Memref sig .tc .vmem S256x768 .f32) (h8 : a8.IsWhole) (a9 : Memref sig .tc .vmem S256x768 .f32) (h9 : a9.IsWhole)
  (a10 : Memref sig .tc .vmem S256x768 .f32) (h10 : a10.IsWhole)
  (x0 : Vec Ideal S256x768 .f32) (x1 : Vec Ideal S8x256x768 .bf16) (x2 x3 x4 : Vec Ideal S256x768 .f32) (T : TbBuf0 (F := Ideal) c tbM0_0)

/-- What the body leaves at a point. -/
theorem body : Leaves T x0 x1 x2 x3 x4 (out0_A_5 c i a2 h2 a3 h3 a4 h4 a5 h5 a6 h6 a7 h7 a8 h8 a9 h9 a10 h10 x0 x1 x2 x3 x4 T) (out0_A_6 c i a2 h2 a3 h3 a4 h4 a5 h5 a6 h6 a7 h7 a8 h8 a9 h9 a10 h10 x0 x1 x2 x3 x4 T)
    (out0_A_7 c i a2 h2 a3 h3 a4 h4 a5 h5 a6 h6 a7 h7 a8 h8 a9 h9 a10 h10 x0 x1 x2 x3 x4 T) (out0_A_8 c i a2 h2 a3 h3 a4 h4 a5 h5 a6 h6 a7 h7 a8 h8 a9 h9 a10 h10 x0 x1 x2 x3 x4 T) where
  sum p k := by
    unfold out0_A_5
    frame_out
    pointwise [k0_pay1, k0_pay2, k0_pay3, k0_pay4]
    rw [parts, Fin.sum_univ_eight]
    rfl
  weight p k := congrFun (show _ = k0_pay7 (out0_A_5 c i a2 h2 a3 h3 a4 h4 a5 h5 a6 h6 a7 h7 a8 h8 a9 h9 a10 h10 x0 x1 x2 x3 x4 T) x2 x3 x4 by unfold out0_A_5 out0_A_6; frame_out) (ix2 p k)
  first p k := congrFun (show _ = k0_pay5 (out0_A_5 c i a2 h2 a3 h3 a4 h4 a5 h5 a6 h6 a7 h7 a8 h8 a9 h9 a10 h10 x0 x1 x2 x3 x4 T) x3 by unfold out0_A_5 out0_A_7; frame_out) (ix2 p k)
  second p k := congrFun (show _ = k0_pay6 (out0_A_5 c i a2 h2 a3 h3 a4 h4 a5 h5 a6 h6 a7 h7 a8 h8 a9 h9 a10 h10 x0 x1 x2 x3 x4 T) x4 by unfold out0_A_5 out0_A_8; frame_out) (ix2 p k)

end Body

/-- Where the windows' blocks sit at point `t`. -/
theorem idx (t : Fin (cfgM m hO).N) : ((cfgM m hO).win 0).index t = ![t.val, 0] ∧ ((cfgM m hO).win 1).index t = ![0, t.val, 0] ∧ ((cfgM m hO).win 2).index t = ![t.val, 0]
    ∧ ((cfgM m hO).win 3).index t = ![t.val, 0] ∧ ((cfgM m hO).win 4).index t = ![t.val, 0] ∧ ((cfgM m hO).win 5).index t = ![t.val, 0]
    ∧ ((cfgM m hO).win 6).index t = ![t.val, 0] ∧ ((cfgM m hO).win 7).index t = ![t.val, 0] ∧ ((cfgM m hO).win 8).index t = ![t.val, 0] :=
  (by decide +kernel : ∀ t : Fin grid0.N, cc0_transform_0 (grid0.coords t) = ![t.val, 0] ∧ cc0_transform_1 (grid0.coords t) = ![0, t.val, 0] ∧ cc0_transform_2 (grid0.coords t) = ![t.val, 0]
    ∧ cc0_transform_3 (grid0.coords t) = ![t.val, 0] ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- The array's row of a block's row. -/
def row (t : Fin (cfgM m hO).N) (p : Fin 256) : Fin 1024 := ⟨t.val * 256 + p.val, by have : t.val < 4 := t.isLt; omega⟩

/-- The blocks at point `t`. -/
theorem blocks (t : Fin (cfgM m hO).N) : Blocks (row m hO t) (iblk m hO c 0 t) (iblk m hO c 1 t) (iblk m hO c 2 t) (iblk m hO c 3 t) (iblk m hO c 4 t)
    (m ((c : Thread nD τ).loc main_arg1)) (m ((c : Thread nD τ).loc main_arg2)) (m ((c : Thread nD τ).loc main_arg3)) (m ((c : Thread nD τ).loc main_arg4)) (m ((c : Thread nD τ).loc main_arg5)) where
  own p k := by rw [← V_main_arg1 m c]; blk_ext [iblk, idx m hO t, row]
  received d p k := by rw [← V_main_arg2 m c]; blk_ext [iblk, idx m hO t, row]
  weights p k := by rw [← V_main_arg3 m c]; blk_ext [iblk, idx m hO t, row]
  firsts p k := by rw [← V_main_arg4 m c]; blk_ext [iblk, idx m hO t, row]
  seconds p k := by rw [← V_main_arg5 m c]; blk_ext [iblk, idx m hO t, row]

/-- The gradient of the arrays a device's arguments hold. -/
abbrev gradOf := grad2 bcast_S1_S8_0 bcast_S_S8 (m ((c : Thread nD τ).loc main_arg0)) (m ((c : Thread nD τ).loc main_arg1)) (m ((c : Thread nD τ).loc main_arg2))

/-- What the body leaves at point `t`. -/
theorem leaves (t : Fin (cfgM m hO).N) : Leaves (tbl m 0) (iblk m hO c 0 t) (iblk m hO c 1 t) (iblk m hO c 2 t) (iblk m hO c 3 t) (iblk m hO c 4 t)
    (outsAt0 m hO c t).1 (outsAt0 m hO c t).2.1 (outsAt0 m hO c t).2.2.1 (outsAt0 m hO c t).2.2.2 := by
  rw [outsAt0]
  dsimp only
  exact body c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0)

/-- The four results. -/
theorem outs : (dats m hO 0 c).arrAt 5 (cfgM m hO).N = mat (gradOf m c)
    ∧ (dats m hO 0 c).arrAt 6 (cfgM m hO).N = mat (delta (gradOf m c) (m ((c : Thread nD τ).loc main_arg3)) (m ((c : Thread nD τ).loc main_arg4)) (m ((c : Thread nD τ).loc main_arg5)))
    ∧ (dats m hO 0 c).arrAt 7 (cfgM m hO).N = mat (moment1 (gradOf m c) (m ((c : Thread nD τ).loc main_arg4)))
    ∧ (dats m hO 0 c).arrAt 8 (cfgM m hO).N = mat (moment2 (gradOf m c) (m ((c : Thread nD τ).loc main_arg5))) := by
  have l := fun t => (leaves m hO c t).rows (blocks m hO c t) (gradOf m c) fun p k => by rw [slots m c]; exact sum_twoLevel _ _ _ _ _
  refine ⟨(dats m hO 0 c).arrAt_eq_of_covers 5 _ (of_decide_eq_true (by sl_kernel_rfl)) fun t hf y => ?_, (dats m hO 0 c).arrAt_eq_of_covers 6 _ (of_decide_eq_true (by sl_kernel_rfl)) fun t hf y => ?_,
    (dats m hO 0 c).arrAt_eq_of_covers 7 _ (of_decide_eq_true (by sl_kernel_rfl)) fun t hf y => ?_, (dats m hO 0 c).arrAt_eq_of_covers 8 _ (of_decide_eq_true (by sl_kernel_rfl)) fun t hf y => ?_⟩
  all_goals blk_simp
  · rw [after0_5]; exact block_entry _ (row m hO t) _ (l t).1 y _ _ (by blk_simp [idx m hO t]; rfl) (by blk_simp [idx m hO t])
  · rw [after0_6]; exact block_entry _ (row m hO t) _ (l t).2.1 y _ _ (by blk_simp [idx m hO t]; rfl) (by blk_simp [idx m hO t])
  · rw [after0_7]; exact block_entry _ (row m hO t) _ (l t).2.2.1 y _ _ (by blk_simp [idx m hO t]; rfl) (by blk_simp [idx m hO t])
  · rw [after0_8]; exact block_entry _ (row m hO t) _ (l t).2.2.2 y _ _ (by blk_simp [idx m hO t]; rfl) (by blk_simp [idx m hO t])

/-- The frame of the kernel. -/
theorem frame_kernel : Cert.quiescent_KernelAdamIn := fun m ρ _ => Cert.KernelAdamIn.Gen.frame m ρ trivial

/-- The frame of the idealized kernel. -/
theorem frame_kernel_ideal : Cert.quiescent_KernelAdamInIdeal := fun m ρ _ => Cert.KernelAdamInIdeal.Gen.frame m ρ trivial

/-- The frame of the reference. -/
theorem frame_reference : Cert.quiescent_ReferenceAdamInIdeal := fun m g _ =>
  (θ_run _ _ _).mono (fun r h => ⟨fun c => (h c).2.2.2.2, sem_eq_zero_of_no_sems rfl r.2⟩) (Cert.ReferenceAdamInIdeal.Value.run (F := Ideal) m g)

/-- The value claim. -/
theorem algebraic : Cert.algebraic_KernelAdamInIdeal_ReferenceAdamInIdeal := by
  intro m g m' g' _ hargs
  have hO : Ok m := trivial
  refine ⟨_, _, _, _, (θ_run _ _ _).mono (fun _ h c => ⟨((h c).1 (5 : Fin 9)).trans (outs m hO c).1, ((h c).1 (6 : Fin 9)).trans (outs m hO c).2.1,
      ((h c).1 (7 : Fin 9)).trans (outs m hO c).2.2.1, ((h c).1 (8 : Fin 9)).trans (outs m hO c).2.2.2,
      ((h c).2 main_arg0 (by decide : main_arg0 ∈ Pipeline.restRefs sig spec0)).trans (V_main_arg0 m c),
      ((h c).1 (0 : Fin 9)).trans (((dats m hO 0 c).arrAt_in 0 rfl _).trans ((A_eq m hO c 0).trans (V_main_arg1 m c))),
      ((h c).1 (1 : Fin 9)).trans (((dats m hO 0 c).arrAt_in 1 rfl _).trans ((A_eq m hO c 1).trans (V_main_arg2 m c))),
      ((h c).1 (2 : Fin 9)).trans (((dats m hO 0 c).arrAt_in 2 rfl _).trans ((A_eq m hO c 2).trans (V_main_arg3 m c))),
      ((h c).1 (3 : Fin 9)).trans (((dats m hO 0 c).arrAt_in 3 rfl _).trans ((A_eq m hO c 3).trans (V_main_arg4 m c))),
      ((h c).1 (4 : Fin 9)).trans (((dats m hO 0 c).arrAt_in 4 rfl _).trans ((A_eq m hO c 4).trans (V_main_arg5 m c)))⟩) (run_main m g hO), ?_⟩
  refine (θ_run _ _ _).mono (fun r h c => ?_) (Ref.ref_run m' g')
  obtain ⟨a0, a1, a2, a3, a4, a5⟩ := hargs c
  exact h c _ _ _ _ _ _ a0 a1 a2 a3 a4 a5

end Cert.AdamIn
-- ==== Proof.lean ====
module

public import proofs.«01_k».proof.Defs
public import proofs.«01_k».proof.Proof.Gen.Kernel.Frame
public import proofs.«01_k».proof.Proof.Gen.KernelIdeal.Frame
public import proofs.«01_k».proof.Proof.AdamDown
public import proofs.«01_k».proof.Proof.AdamGateUp
public import proofs.«01_k».proof.Proof.AdamProj
public import proofs.«01_k».proof.Proof.AdamIn

@[expose] public section

noncomputable section

namespace Cert.Proof

open Idealize.ShloMosaic Idealize.SL.Sem

/-- The frame of the kernel, the generated certificate's. -/
theorem frame_kernel : Cert.quiescent_Kernel := fun m ρ _ => Cert.Kernel.Gen.frame m ρ

/-- The frame of the idealized kernel. -/
theorem frame_kernel_ideal : Cert.quiescent_KernelIdeal := fun m ρ _ => Cert.KernelIdeal.Gen.frame m ρ

/-- The frame of the idealized kernel, from real arguments. -/
theorem frame_kernel_ideal_pre : Cert.quiescent_KernelIdeal_pre_real_entries := fun m ρ _ => Cert.KernelIdeal.Gen.frame m ρ

/-- The frame of the reference. -/
theorem frame_reference : Cert.quiescent_ReferenceIdeal := fun m ρ _ => Cert.Match.frame_reference m ρ

/-- The frame of the reference, from real arguments. -/
theorem frame_reference_pre : Cert.quiescent_ReferenceIdeal_pre_real_entries := fun m ρ _ => Cert.Match.frame_reference m ρ

theorem claim : Cert.Claim := ⟨Cert.Kernel.Gen.facts, Cert.KernelIdeal.Gen.facts, Cert.ReferenceIdeal.Gen.facts,
  Cert.KernelGateUp.Gen.facts, Cert.KernelGateUpIdeal.Gen.facts, Cert.ReferenceGateUpIdeal.Gen.facts,
  Cert.KernelDown.Gen.facts, Cert.KernelDownIdeal.Gen.facts, Cert.ReferenceDownIdeal.Gen.facts,
  Cert.KernelProj.Gen.facts, Cert.KernelProjIdeal.Gen.facts, Cert.ReferenceProjIdeal.Gen.facts,
  Cert.KernelAdamSmall.Gen.facts, Cert.KernelAdamSmallIdeal.Gen.facts, Cert.ReferenceAdamSmallIdeal.Gen.facts,
  Cert.KernelAdamConv.Gen.facts, Cert.KernelAdamConvIdeal.Gen.facts, Cert.ReferenceAdamConvIdeal.Gen.facts,
  Cert.KernelAdamDown.Gen.facts, Cert.KernelAdamDownIdeal.Gen.facts, Cert.ReferenceAdamDownIdeal.Gen.facts,
  Cert.KernelAdamGateUp.Gen.facts, Cert.KernelAdamGateUpIdeal.Gen.facts, Cert.ReferenceAdamGateUpIdeal.Gen.facts,
  Cert.KernelAdamProj.Gen.facts, Cert.KernelAdamProjIdeal.Gen.facts, Cert.ReferenceAdamProjIdeal.Gen.facts,
  Cert.KernelAdamIn.Gen.facts, Cert.KernelAdamInIdeal.Gen.facts, Cert.ReferenceAdamInIdeal.Gen.facts,
  Cert.Match.facts_pre, Cert.GateUp.facts_pre, Cert.Down.facts_pre, Cert.Proj.facts_pre,
  frame_kernel, frame_kernel_ideal, frame_kernel_ideal_pre, frame_reference, frame_reference_pre,
  Cert.GateUp.frame_kernel, Cert.GateUp.frame_kernel_ideal, Cert.GateUp.frame_reference, fun m g _ => Cert.GateUp.frame_reference m g trivial,
  Cert.Down.frame_kernel, Cert.Down.frame_kernel_ideal, Cert.Down.frame_reference, fun m g _ => Cert.Down.frame_reference m g trivial,
  Cert.Proj.frame_kernel, Cert.Proj.frame_kernel_ideal, Cert.Proj.frame_reference, fun m g _ => Cert.Proj.frame_reference m g trivial,
  Cert.AdamSmall.frame_kernel, Cert.AdamSmall.frame_kernel_ideal, Cert.AdamSmall.frame_reference,
  Cert.AdamConv.frame_kernel, Cert.AdamConv.frame_kernel_ideal, Cert.AdamConv.frame_reference,
  Cert.AdamDown.frame_kernel, Cert.AdamDown.frame_kernel_ideal, Cert.AdamDown.frame_reference,
  Cert.AdamGateUp.frame_kernel, Cert.AdamGateUp.frame_kernel_ideal, Cert.AdamGateUp.frame_reference,
  Cert.AdamProj.frame_kernel, Cert.AdamProj.frame_kernel_ideal, Cert.AdamProj.frame_reference,
  Cert.AdamIn.frame_kernel, Cert.AdamIn.frame_kernel_ideal, Cert.AdamIn.frame_reference,
  trivial, Cert.Match.algebraic, trivial, Cert.GateUp.algebraic, trivial, Cert.Down.algebraic, trivial, Cert.Proj.algebraic,
  trivial, Cert.AdamSmall.algebraic, trivial, Cert.AdamConv.algebraic, trivial, Cert.AdamDown.algebraic,
  trivial, Cert.AdamGateUp.algebraic, trivial, Cert.AdamProj.algebraic, trivial, Cert.AdamIn.algebraic⟩

end Cert.Proof
